-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj0 (m : (ℓ : Loc Cert.InProj0.nD Cert.InProj0.τ Cert.InProj0.sig) → Buf (Elt Bits) ℓ) : Prop :=
  True

def Pre_InProj0Ideal (m : (ℓ : Loc Cert.InProj0Ideal.nD Cert.InProj0Ideal.τ Cert.InProj0Ideal.sig) → Buf (Elt Ideal) ℓ) : Prop :=
  True

def Pre_ReferenceIn0Ideal (m : (ℓ : Loc Cert.ReferenceIn0Ideal.nD Cert.ReferenceIn0Ideal.τ Cert.ReferenceIn0Ideal.sig) → Buf (Elt Ideal) ℓ) : Prop :=
  True

def Pre_InProj1 (m : (ℓ : Loc Cert.InProj1.nD Cert.InProj1.τ Cert.InProj1.sig) → Buf (Elt Bits) ℓ) : Prop :=
  True

def Pre_InProj1Ideal (m : (ℓ : Loc Cert.InProj1Ideal.nD Cert.InProj1Ideal.τ Cert.InProj1Ideal.sig) → Buf (Elt Ideal) ℓ) : Prop :=
  True

def Pre_ReferenceIn1Ideal (m : (ℓ : Loc Cert.ReferenceIn1Ideal.nD Cert.ReferenceIn1Ideal.τ Cert.ReferenceIn1Ideal.sig) → Buf (Elt Ideal) ℓ) : Prop :=
  True

def Pre_OutProj0 (m : (ℓ : Loc Cert.OutProj0.nD Cert.OutProj0.τ Cert.OutProj0.sig) → Buf (Elt Bits) ℓ) : Prop :=
  True

def Pre_OutProj0Ideal (m : (ℓ : Loc Cert.OutProj0Ideal.nD Cert.OutProj0Ideal.τ Cert.OutProj0Ideal.sig) → Buf (Elt Ideal) ℓ) : Prop :=
  True

def Pre_OutProj0Ideal_finite0 [hPre_finite0 : Cert.Pre_finite0.Facts] (m : (ℓ : Loc Cert.OutProj0Ideal.nD Cert.OutProj0Ideal.τ Cert.OutProj0Ideal.sig) → Buf (Elt Ideal) ℓ) : Prop :=
  ∀ c : Dev Cert.OutProj0Ideal.nD,
    (Cert.Pre_finite0.fn (F := Ideal) (m ((c.tc : Thread Cert.OutProj0Ideal.nD Cert.OutProj0Ideal.τ).loc Cert.OutProj0Ideal.main_arg0)) (m ((c.tc : Thread Cert.OutProj0Ideal.nD Cert.OutProj0Ideal.τ).loc Cert.OutProj0Ideal.main_arg1)) (m ((c.tc : Thread Cert.OutProj0Ideal.nD Cert.OutProj0Ideal.τ).loc Cert.OutProj0Ideal.main_arg2)) (m ((c.tc : Thread Cert.OutProj0Ideal.nD Cert.OutProj0Ideal.τ).loc Cert.OutProj0Ideal.main_arg3)) (m ((c.tc : Thread Cert.OutProj0Ideal.nD Cert.OutProj0Ideal.τ).loc Cert.OutProj0Ideal.main_arg4)) (m ((c.tc : Thread Cert.OutProj0Ideal.nD Cert.OutProj0Ideal.τ).loc Cert.OutProj0Ideal.main_arg5)) (m ((c.tc : Thread Cert.OutProj0Ideal.nD Cert.OutProj0Ideal.τ).loc Cert.OutProj0Ideal.main_arg6)) (m ((c.tc : Thread Cert.OutProj0Ideal.nD Cert.OutProj0Ideal.τ).loc Cert.OutProj0Ideal.main_arg7)) (m ((c.tc : Thread Cert.OutProj0Ideal.nD Cert.OutProj0Ideal.τ).loc Cert.OutProj0Ideal.main_arg8)) (m ((c.tc : Thread Cert.OutProj0Ideal.nD Cert.OutProj0Ideal.τ).loc Cert.OutProj0Ideal.main_arg9))) = (fun _ => 1#1)

def Pre_ReferenceOut0Ideal (m : (ℓ : Loc Cert.ReferenceOut0Ideal.nD Cert.ReferenceOut0Ideal.τ Cert.ReferenceOut0Ideal.sig) → Buf (Elt Ideal) ℓ) : Prop :=
  True

def Pre_ReferenceOut0Ideal_finite0 [hPre_finite0 : Cert.Pre_finite0.Facts] (m : (ℓ : Loc Cert.ReferenceOut0Ideal.nD Cert.ReferenceOut0Ideal.τ Cert.ReferenceOut0Ideal.sig) → Buf (Elt Ideal) ℓ) : Prop :=
  ∀ c : Dev Cert.ReferenceOut0Ideal.nD,
    (Cert.Pre_finite0.fn (F := Ideal) (m ((c.tc : Thread Cert.ReferenceOut0Ideal.nD Cert.ReferenceOut0Ideal.τ).loc Cert.ReferenceOut0Ideal.main_arg0)) (m ((c.tc : Thread Cert.ReferenceOut0Ideal.nD Cert.ReferenceOut0Ideal.τ).loc Cert.ReferenceOut0Ideal.main_arg1)) (m ((c.tc : Thread Cert.ReferenceOut0Ideal.nD Cert.ReferenceOut0Ideal.τ).loc Cert.ReferenceOut0Ideal.main_arg2)) (m ((c.tc : Thread Cert.ReferenceOut0Ideal.nD Cert.ReferenceOut0Ideal.τ).loc Cert.ReferenceOut0Ideal.main_arg3)) (m ((c.tc : Thread Cert.ReferenceOut0Ideal.nD Cert.ReferenceOut0Ideal.τ).loc Cert.ReferenceOut0Ideal.main_arg4)) (m ((c.tc : Thread Cert.ReferenceOut0Ideal.nD Cert.ReferenceOut0Ideal.τ).loc Cert.ReferenceOut0Ideal.main_arg5)) (m ((c.tc : Thread Cert.ReferenceOut0Ideal.nD Cert.ReferenceOut0Ideal.τ).loc Cert.ReferenceOut0Ideal.main_arg6)) (m ((c.tc : Thread Cert.ReferenceOut0Ideal.nD Cert.ReferenceOut0Ideal.τ).loc Cert.ReferenceOut0Ideal.main_arg7)) (m ((c.tc : Thread Cert.ReferenceOut0Ideal.nD Cert.ReferenceOut0Ideal.τ).loc Cert.ReferenceOut0Ideal.main_arg8)) (m ((c.tc : Thread Cert.ReferenceOut0Ideal.nD Cert.ReferenceOut0Ideal.τ).loc Cert.ReferenceOut0Ideal.main_arg9))) = (fun _ => 1#1)

def Pre_OutProj1 (m : (ℓ : Loc Cert.OutProj1.nD Cert.OutProj1.τ Cert.OutProj1.sig) → Buf (Elt Bits) ℓ) : Prop :=
  True

def Pre_OutProj1Ideal (m : (ℓ : Loc Cert.OutProj1Ideal.nD Cert.OutProj1Ideal.τ Cert.OutProj1Ideal.sig) → Buf (Elt Ideal) ℓ) : Prop :=
  True

def Pre_OutProj1Ideal_finite1 [hPre_finite1 : Cert.Pre_finite1.Facts] (m : (ℓ : Loc Cert.OutProj1Ideal.nD Cert.OutProj1Ideal.τ Cert.OutProj1Ideal.sig) → Buf (Elt Ideal) ℓ) : Prop :=
  ∀ c : Dev Cert.OutProj1Ideal.nD,
    (Cert.Pre_finite1.fn (F := Ideal) (m ((c.tc : Thread Cert.OutProj1Ideal.nD Cert.OutProj1Ideal.τ).loc Cert.OutProj1Ideal.main_arg0)) (m ((c.tc : Thread Cert.OutProj1Ideal.nD Cert.OutProj1Ideal.τ).loc Cert.OutProj1Ideal.main_arg1)) (m ((c.tc : Thread Cert.OutProj1Ideal.nD Cert.OutProj1Ideal.τ).loc Cert.OutProj1Ideal.main_arg2)) (m ((c.tc : Thread Cert.OutProj1Ideal.nD Cert.OutProj1Ideal.τ).loc Cert.OutProj1Ideal.main_arg3)) (m ((c.tc : Thread Cert.OutProj1Ideal.nD Cert.OutProj1Ideal.τ).loc Cert.OutProj1Ideal.main_arg4)) (m ((c.tc : Thread Cert.OutProj1Ideal.nD Cert.OutProj1Ideal.τ).loc Cert.OutProj1Ideal.main_arg5)) (m ((c.tc : Thread Cert.OutProj1Ideal.nD Cert.OutProj1Ideal.τ).loc Cert.OutProj1Ideal.main_arg6)) (m ((c.tc : Thread Cert.OutProj1Ideal.nD Cert.OutProj1Ideal.τ).loc Cert.OutProj1Ideal.main_arg7)) (m ((c.tc : Thread Cert.OutProj1Ideal.nD Cert.OutProj1Ideal.τ).loc Cert.OutProj1Ideal.main_arg8)) (m ((c.tc : Thread Cert.OutProj1Ideal.nD Cert.OutProj1Ideal.τ).loc Cert.OutProj1Ideal.main_arg9))) = (fun _ => 1#1)

def Pre_ReferenceOut1Ideal (m : (ℓ : Loc Cert.ReferenceOut1Ideal.nD Cert.ReferenceOut1Ideal.τ Cert.ReferenceOut1Ideal.sig) → Buf (Elt Ideal) ℓ) : Prop :=
  True

def Pre_ReferenceOut1Ideal_finite1 [hPre_finite1 : Cert.Pre_finite1.Facts] (m : (ℓ : Loc Cert.ReferenceOut1Ideal.nD Cert.ReferenceOut1Ideal.τ Cert.ReferenceOut1Ideal.sig) → Buf (Elt Ideal) ℓ) : Prop :=
  ∀ c : Dev Cert.ReferenceOut1Ideal.nD,
    (Cert.Pre_finite1.fn (F := Ideal) (m ((c.tc : Thread Cert.ReferenceOut1Ideal.nD Cert.ReferenceOut1Ideal.τ).loc Cert.ReferenceOut1Ideal.main_arg0)) (m ((c.tc : Thread Cert.ReferenceOut1Ideal.nD Cert.ReferenceOut1Ideal.τ).loc Cert.ReferenceOut1Ideal.main_arg1)) (m ((c.tc : Thread Cert.ReferenceOut1Ideal.nD Cert.ReferenceOut1Ideal.τ).loc Cert.ReferenceOut1Ideal.main_arg2)) (m ((c.tc : Thread Cert.ReferenceOut1Ideal.nD Cert.ReferenceOut1Ideal.τ).loc Cert.ReferenceOut1Ideal.main_arg3)) (m ((c.tc : Thread Cert.ReferenceOut1Ideal.nD Cert.ReferenceOut1Ideal.τ).loc Cert.ReferenceOut1Ideal.main_arg4)) (m ((c.tc : Thread Cert.ReferenceOut1Ideal.nD Cert.ReferenceOut1Ideal.τ).loc Cert.ReferenceOut1Ideal.main_arg5)) (m ((c.tc : Thread Cert.ReferenceOut1Ideal.nD Cert.ReferenceOut1Ideal.τ).loc Cert.ReferenceOut1Ideal.main_arg6)) (m ((c.tc : Thread Cert.ReferenceOut1Ideal.nD Cert.ReferenceOut1Ideal.τ).loc Cert.ReferenceOut1Ideal.main_arg7)) (m ((c.tc : Thread Cert.ReferenceOut1Ideal.nD Cert.ReferenceOut1Ideal.τ).loc Cert.ReferenceOut1Ideal.main_arg8)) (m ((c.tc : Thread Cert.ReferenceOut1Ideal.nD Cert.ReferenceOut1Ideal.τ).loc Cert.ReferenceOut1Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj0 [hInProj0 : Cert.InProj0.Facts] : Prop :=
  ∀ (m : (ℓ : Loc Cert.InProj0.nD Cert.InProj0.τ Cert.InProj0.sig) → Buf (Elt Bits) ℓ) (g : Dev Cert.InProj0.nD → PrngReg), Pre_InProj0 m →
    θ_run (Cert.InProj0.defs (F := Bits)) (onTc (τ := Cert.InProj0.τ) (Cert.InProj0.main (F := Bits))) ⟨m, fun _ => 0, g⟩ (fun r => (∀ c : Dev Cert.InProj0.nD,
      r.2.mem ((c.tc : Thread Cert.InProj0.nD Cert.InProj0.τ).loc Cert.InProj0.main_arg0) = m ((c.tc : Thread Cert.InProj0.nD Cert.InProj0.τ).loc Cert.InProj0.main_arg0)
      ∧ r.2.mem ((c.tc : Thread Cert.InProj0.nD Cert.InProj0.τ).loc Cert.InProj0.main_arg1) = m ((c.tc : Thread Cert.InProj0.nD Cert.InProj0.τ).loc Cert.InProj0.main_arg1))
      ∧ r.2.sem = fun _ => 0)

def quiescent_InProj0Ideal [hInProj0Ideal : Cert.InProj0Ideal.Facts] : Prop :=
  ∀ (m : (ℓ : Loc Cert.InProj0Ideal.nD Cert.InProj0Ideal.τ Cert.InProj0Ideal.sig) → Buf (Elt Ideal) ℓ) (g : Dev Cert.InProj0Ideal.nD → PrngReg), Pre_InProj0Ideal m →
    θ_run (Cert.InProj0Ideal.defs (F := Ideal)) (onTc (τ := Cert.InProj0Ideal.τ) (Cert.InProj0Ideal.main (F := Ideal))) ⟨m, fun _ => 0, g⟩ (fun r => (∀ c : Dev Cert.InProj0Ideal.nD,
      r.2.mem ((c.tc : Thread Cert.InProj0Ideal.nD Cert.InProj0Ideal.τ).loc Cert.InProj0Ideal.main_arg0) = m ((c.tc : Thread Cert.InProj0Ideal.nD Cert.InProj0Ideal.τ).loc Cert.InProj0Ideal.main_arg0)
      ∧ r.2.mem ((c.tc : Thread Cert.InProj0Ideal.nD Cert.InProj0Ideal.τ).loc Cert.InProj0Ideal.main_arg1) = m ((c.tc : Thread Cert.InProj0Ideal.nD Cert.InProj0Ideal.τ).loc Cert.InProj0Ideal.main_arg1))
      ∧ r.2.sem = fun _ => 0)

def quiescent_ReferenceIn0Ideal [hReferenceIn0Ideal : Cert.ReferenceIn0Ideal.Facts] : Prop :=
  ∀ (m : (ℓ : Loc Cert.ReferenceIn0Ideal.nD Cert.ReferenceIn0Ideal.τ Cert.ReferenceIn0Ideal.sig) → Buf (Elt Ideal) ℓ) (g : Dev Cert.ReferenceIn0Ideal.nD → PrngReg), Pre_ReferenceIn0Ideal m →
    θ_run (Cert.ReferenceIn0Ideal.defs (F := Ideal)) (onTc (τ := Cert.ReferenceIn0Ideal.τ) (Cert.ReferenceIn0Ideal.main (F := Ideal))) ⟨m, fun _ => 0, g⟩ (fun r => (∀ c : Dev Cert.ReferenceIn0Ideal.nD,
      r.2.mem ((c.tc : Thread Cert.ReferenceIn0Ideal.nD Cert.ReferenceIn0Ideal.τ).loc Cert.ReferenceIn0Ideal.main_arg0) = m ((c.tc : Thread Cert.ReferenceIn0Ideal.nD Cert.ReferenceIn0Ideal.τ).loc Cert.ReferenceIn0Ideal.main_arg0)
      ∧ r.2.mem ((c.tc : Thread Cert.ReferenceIn0Ideal.nD Cert.ReferenceIn0Ideal.τ).loc Cert.ReferenceIn0Ideal.main_arg1) = m ((c.tc : Thread Cert.ReferenceIn0Ideal.nD Cert.ReferenceIn0Ideal.τ).loc Cert.ReferenceIn0Ideal.main_arg1))
      ∧ r.2.sem = fun _ => 0)

def quiescent_InProj1 [hInProj1 : Cert.InProj1.Facts] : Prop :=
  ∀ (m : (ℓ : Loc Cert.InProj1.nD Cert.InProj1.τ Cert.InProj1.sig) → Buf (Elt Bits) ℓ) (g : Dev Cert.InProj1.nD → PrngReg), Pre_InProj1 m →
    θ_run (Cert.InProj1.defs (F := Bits)) (onTc (τ := Cert.InProj1.τ) (Cert.InProj1.main (F := Bits))) ⟨m, fun _ => 0, g⟩ (fun r => (∀ c : Dev Cert.InProj1.nD,
      r.2.mem ((c.tc : Thread Cert.InProj1.nD Cert.InProj1.τ).loc Cert.InProj1.main_arg0) = m ((c.tc : Thread Cert.InProj1.nD Cert.InProj1.τ).loc Cert.InProj1.main_arg0)
      ∧ r.2.mem ((c.tc : Thread Cert.InProj1.nD Cert.InProj1.τ).loc Cert.InProj1.main_arg1) = m ((c.tc : Thread Cert.InProj1.nD Cert.InProj1.τ).loc Cert.InProj1.main_arg1))
      ∧ r.2.sem = fun _ => 0)

def quiescent_InProj1Ideal [hInProj1Ideal : Cert.InProj1Ideal.Facts] : Prop :=
  ∀ (m : (ℓ : Loc Cert.InProj1Ideal.nD Cert.InProj1Ideal.τ Cert.InProj1Ideal.sig) → Buf (Elt Ideal) ℓ) (g : Dev Cert.InProj1Ideal.nD → PrngReg), Pre_InProj1Ideal m →
    θ_run (Cert.InProj1Ideal.defs (F := Ideal)) (onTc (τ := Cert.InProj1Ideal.τ) (Cert.InProj1Ideal.main (F := Ideal))) ⟨m, fun _ => 0, g⟩ (fun r => (∀ c : Dev Cert.InProj1Ideal.nD,
      r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
      ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1))
      ∧ r.2.sem = fun _ => 0)

def quiescent_ReferenceIn1Ideal [hReferenceIn1Ideal : Cert.ReferenceIn1Ideal.Facts] : Prop :=
  ∀ (m : (ℓ : Loc Cert.ReferenceIn1Ideal.nD Cert.ReferenceIn1Ideal.τ Cert.ReferenceIn1Ideal.sig) → Buf (Elt Ideal) ℓ) (g : Dev Cert.ReferenceIn1Ideal.nD → PrngReg), Pre_ReferenceIn1Ideal m →
    θ_run (Cert.ReferenceIn1Ideal.defs (F := Ideal)) (onTc (τ := Cert.ReferenceIn1Ideal.τ) (Cert.ReferenceIn1Ideal.main (F := Ideal))) ⟨m, fun _ => 0, g⟩ (fun r => (∀ c : Dev Cert.ReferenceIn1Ideal.nD,
      r.2.mem ((c.tc : Thread Cert.ReferenceIn1Ideal.nD Cert.ReferenceIn1Ideal.τ).loc Cert.ReferenceIn1Ideal.main_arg0) = m ((c.tc : Thread Cert.ReferenceIn1Ideal.nD Cert.ReferenceIn1Ideal.τ).loc Cert.ReferenceIn1Ideal.main_arg0)
      ∧ r.2.mem ((c.tc : Thread Cert.ReferenceIn1Ideal.nD Cert.ReferenceIn1Ideal.τ).loc Cert.ReferenceIn1Ideal.main_arg1) = m ((c.tc : Thread Cert.ReferenceIn1Ideal.nD Cert.ReferenceIn1Ideal.τ).loc Cert.ReferenceIn1Ideal.main_arg1))
      ∧ r.2.sem = fun _ => 0)

def quiescent_OutProj0 [hOutProj0 : Cert.OutProj0.Facts] : Prop :=
  ∀ (m : (ℓ : Loc Cert.OutProj0.nD Cert.OutProj0.τ Cert.OutProj0.sig) → Buf (Elt Bits) ℓ) (g : Dev Cert.OutProj0.nD → PrngReg), Pre_OutProj0 m →
    θ_run (Cert.OutProj0.defs (F := Bits)) (onTc (τ := Cert.OutProj0.τ) (Cert.OutProj0.main (F := Bits))) ⟨m, fun _ => 0, g⟩ (fun r => (∀ c : Dev Cert.OutProj0.nD,
      r.2.mem ((c.tc : Thread Cert.OutProj0.nD Cert.OutProj0.τ).loc Cert.OutProj0.main_arg0) = m ((c.tc : Thread Cert.OutProj0.nD Cert.OutProj0.τ).loc Cert.OutProj0.main_arg0)
      ∧ r.2.mem ((c.tc : Thread Cert.OutProj0.nD Cert.OutProj0.τ).loc Cert.OutProj0.main_arg1) = m ((c.tc : Thread Cert.OutProj0.nD Cert.OutProj0.τ).loc Cert.OutProj0.main_arg1)
      ∧ r.2.mem ((c.tc : Thread Cert.OutProj0.nD Cert.OutProj0.τ).loc Cert.OutProj0.main_arg2) = m ((c.tc : Thread Cert.OutProj0.nD Cert.OutProj0.τ).loc Cert.OutProj0.main_arg2)
      ∧ r.2.mem ((c.tc : Thread Cert.OutProj0.nD Cert.OutProj0.τ).loc Cert.OutProj0.main_arg3) = m ((c.tc : Thread Cert.OutProj0.nD Cert.OutProj0.τ).loc Cert.OutProj0.main_arg3)
      ∧ r.2.mem ((c.tc : Thread Cert.OutProj0.nD Cert.OutProj0.τ).loc Cert.OutProj0.main_arg4) = m ((c.tc : Thread Cert.OutProj0.nD Cert.OutProj0.τ).loc Cert.OutProj0.main_arg4)
      ∧ r.2.mem ((c.tc : Thread Cert.OutProj0.nD Cert.OutProj0.τ).loc Cert.OutProj0.main_arg5) = m ((c.tc : Thread Cert.OutProj0.nD Cert.OutProj0.τ).loc Cert.OutProj0.main_arg5)
      ∧ r.2.mem ((c.tc : Thread Cert.OutProj0.nD Cert.OutProj0.τ).loc Cert.OutProj0.main_arg6) = m ((c.tc : Thread Cert.OutProj0.nD Cert.OutProj0.τ).loc Cert.OutProj0.main_arg6)
      ∧ r.2.mem ((c.tc : Thread Cert.OutProj0.nD Cert.OutProj0.τ).loc Cert.OutProj0.main_arg7) = m ((c.tc : Thread Cert.OutProj0.nD Cert.OutProj0.τ).loc Cert.OutProj0.main_arg7)
      ∧ r.2.mem ((c.tc : Thread Cert.OutProj0.nD Cert.OutProj0.τ).loc Cert.OutProj0.main_arg8) = m ((c.tc : Thread Cert.OutProj0.nD Cert.OutProj0.τ).loc Cert.OutProj0.main_arg8)
      ∧ r.2.mem ((c.tc : Thread Cert.OutProj0.nD Cert.OutProj0.τ).loc Cert.OutProj0.main_arg9) = m ((c.tc : Thread Cert.OutProj0.nD Cert.OutProj0.τ).loc Cert.OutProj0.main_arg9))
      ∧ r.2.sem = fun _ => 0)

def quiescent_OutProj0Ideal [hOutProj0Ideal : Cert.OutProj0Ideal.Facts] : Prop :=
  ∀ (m : (ℓ : Loc Cert.OutProj0Ideal.nD Cert.OutProj0Ideal.τ Cert.OutProj0Ideal.sig) → Buf (Elt Ideal) ℓ) (g : Dev Cert.OutProj0Ideal.nD → PrngReg), Pre_OutProj0Ideal m →
    θ_run (Cert.OutProj0Ideal.defs (F := Ideal)) (onTc (τ := Cert.OutProj0Ideal.τ) (Cert.OutProj0Ideal.main (F := Ideal))) ⟨m, fun _ => 0, g⟩ (fun r => (∀ c : Dev Cert.OutProj0Ideal.nD,
      r.2.mem ((c.tc : Thread Cert.OutProj0Ideal.nD Cert.OutProj0Ideal.τ).loc Cert.OutProj0Ideal.main_arg0) = m ((c.tc : Thread Cert.OutProj0Ideal.nD Cert.OutProj0Ideal.τ).loc Cert.OutProj0Ideal.main_arg0)
      ∧ r.2.mem ((c.tc : Thread Cert.OutProj0Ideal.nD Cert.OutProj0Ideal.τ).loc Cert.OutProj0Ideal.main_arg1) = m ((c.tc : Thread Cert.OutProj0Ideal.nD Cert.OutProj0Ideal.τ).loc Cert.OutProj0Ideal.main_arg1)
      ∧ r.2.mem ((c.tc : Thread Cert.OutProj0Ideal.nD Cert.OutProj0Ideal.τ).loc Cert.OutProj0Ideal.main_arg2) = m ((c.tc : Thread Cert.OutProj0Ideal.nD Cert.OutProj0Ideal.τ).loc Cert.OutProj0Ideal.main_arg2)
      ∧ r.2.mem ((c.tc : Thread Cert.OutProj0Ideal.nD Cert.OutProj0Ideal.τ).loc Cert.OutProj0Ideal.main_arg3) = m ((c.tc : Thread Cert.OutProj0Ideal.nD Cert.OutProj0Ideal.τ).loc Cert.OutProj0Ideal.main_arg3)
      ∧ r.2.mem ((c.tc : Thread Cert.OutProj0Ideal.nD Cert.OutProj0Ideal.τ).loc Cert.OutProj0Ideal.main_arg4) = m ((c.tc : Thread Cert.OutProj0Ideal.nD Cert.OutProj0Ideal.τ).loc Cert.OutProj0Ideal.main_arg4)
      ∧ r.2.mem ((c.tc : Thread Cert.OutProj0Ideal.nD Cert.OutProj0Ideal.τ).loc Cert.OutProj0Ideal.main_arg5) = m ((c.tc : Thread Cert.OutProj0Ideal.nD Cert.OutProj0Ideal.τ).loc Cert.OutProj0Ideal.main_arg5)
      ∧ r.2.mem ((c.tc : Thread Cert.OutProj0Ideal.nD Cert.OutProj0Ideal.τ).loc Cert.OutProj0Ideal.main_arg6) = m ((c.tc : Thread Cert.OutProj0Ideal.nD Cert.OutProj0Ideal.τ).loc Cert.OutProj0Ideal.main_arg6)
      ∧ r.2.mem ((c.tc : Thread Cert.OutProj0Ideal.nD Cert.OutProj0Ideal.τ).loc Cert.OutProj0Ideal.main_arg7) = m ((c.tc : Thread Cert.OutProj0Ideal.nD Cert.OutProj0Ideal.τ).loc Cert.OutProj0Ideal.main_arg7)
      ∧ r.2.mem ((c.tc : Thread Cert.OutProj0Ideal.nD Cert.OutProj0Ideal.τ).loc Cert.OutProj0Ideal.main_arg8) = m ((c.tc : Thread Cert.OutProj0Ideal.nD Cert.OutProj0Ideal.τ).loc Cert.OutProj0Ideal.main_arg8)
      ∧ r.2.mem ((c.tc : Thread Cert.OutProj0Ideal.nD Cert.OutProj0Ideal.τ).loc Cert.OutProj0Ideal.main_arg9) = m ((c.tc : Thread Cert.OutProj0Ideal.nD Cert.OutProj0Ideal.τ).loc Cert.OutProj0Ideal.main_arg9))
      ∧ r.2.sem = fun _ => 0)

def quiescent_OutProj0Ideal_pre_finite0 [hOutProj0Ideal : Cert.OutProj0Ideal.Facts] [hPre_finite0 : Cert.Pre_finite0.Facts] : Prop :=
  ∀ (m : (ℓ : Loc Cert.OutProj0Ideal.nD Cert.OutProj0Ideal.τ Cert.OutProj0Ideal.sig) → Buf (Elt Ideal) ℓ) (g : Dev Cert.OutProj0Ideal.nD → PrngReg), Pre_OutProj0Ideal_finite0 m →
    θ_run (Cert.OutProj0Ideal.defs (F := Ideal)) (onTc (τ := Cert.OutProj0Ideal.τ) (Cert.OutProj0Ideal.main (F := Ideal))) ⟨m, fun _ => 0, g⟩ (fun r => (∀ c : Dev Cert.OutProj0Ideal.nD,
      r.2.mem ((c.tc : Thread Cert.OutProj0Ideal.nD Cert.OutProj0Ideal.τ).loc Cert.OutProj0Ideal.main_arg0) = m ((c.tc : Thread Cert.OutProj0Ideal.nD Cert.OutProj0Ideal.τ).loc Cert.OutProj0Ideal.main_arg0)
      ∧ r.2.mem ((c.tc : Thread Cert.OutProj0Ideal.nD Cert.OutProj0Ideal.τ).loc Cert.OutProj0Ideal.main_arg1) = m ((c.tc : Thread Cert.OutProj0Ideal.nD Cert.OutProj0Ideal.τ).loc Cert.OutProj0Ideal.main_arg1)
      ∧ r.2.mem ((c.tc : Thread Cert.OutProj0Ideal.nD Cert.OutProj0Ideal.τ).loc Cert.OutProj0Ideal.main_arg2) = m ((c.tc : Thread Cert.OutProj0Ideal.nD Cert.OutProj0Ideal.τ).loc Cert.OutProj0Ideal.main_arg2)
      ∧ r.2.mem ((c.tc : Thread Cert.OutProj0Ideal.nD Cert.OutProj0Ideal.τ).loc Cert.OutProj0Ideal.main_arg3) = m ((c.tc : Thread Cert.OutProj0Ideal.nD Cert.OutProj0Ideal.τ).loc Cert.OutProj0Ideal.main_arg3)
      ∧ r.2.mem ((c.tc : Thread Cert.OutProj0Ideal.nD Cert.OutProj0Ideal.τ).loc Cert.OutProj0Ideal.main_arg4) = m ((c.tc : Thread Cert.OutProj0Ideal.nD Cert.OutProj0Ideal.τ).loc Cert.OutProj0Ideal.main_arg4)
      ∧ r.2.mem ((c.tc : Thread Cert.OutProj0Ideal.nD Cert.OutProj0Ideal.τ).loc Cert.OutProj0Ideal.main_arg5) = m ((c.tc : Thread Cert.OutProj0Ideal.nD Cert.OutProj0Ideal.τ).loc Cert.OutProj0Ideal.main_arg5)
      ∧ r.2.mem ((c.tc : Thread Cert.OutProj0Ideal.nD Cert.OutProj0Ideal.τ).loc Cert.OutProj0Ideal.main_arg6) = m ((c.tc : Thread Cert.OutProj0Ideal.nD Cert.OutProj0Ideal.τ).loc Cert.OutProj0Ideal.main_arg6)
      ∧ r.2.mem ((c.tc : Thread Cert.OutProj0Ideal.nD Cert.OutProj0Ideal.τ).loc Cert.OutProj0Ideal.main_arg7) = m ((c.tc : Thread Cert.OutProj0Ideal.nD Cert.OutProj0Ideal.τ).loc Cert.OutProj0Ideal.main_arg7)
      ∧ r.2.mem ((c.tc : Thread Cert.OutProj0Ideal.nD Cert.OutProj0Ideal.τ).loc Cert.OutProj0Ideal.main_arg8) = m ((c.tc : Thread Cert.OutProj0Ideal.nD Cert.OutProj0Ideal.τ).loc Cert.OutProj0Ideal.main_arg8)
      ∧ r.2.mem ((c.tc : Thread Cert.OutProj0Ideal.nD Cert.OutProj0Ideal.τ).loc Cert.OutProj0Ideal.main_arg9) = m ((c.tc : Thread Cert.OutProj0Ideal.nD Cert.OutProj0Ideal.τ).loc Cert.OutProj0Ideal.main_arg9))
      ∧ r.2.sem = fun _ => 0)

def quiescent_ReferenceOut0Ideal [hReferenceOut0Ideal : Cert.ReferenceOut0Ideal.Facts] : Prop :=
  ∀ (m : (ℓ : Loc Cert.ReferenceOut0Ideal.nD Cert.ReferenceOut0Ideal.τ Cert.ReferenceOut0Ideal.sig) → Buf (Elt Ideal) ℓ) (g : Dev Cert.ReferenceOut0Ideal.nD → PrngReg), Pre_ReferenceOut0Ideal m →
    θ_run (Cert.ReferenceOut0Ideal.defs (F := Ideal)) (onTc (τ := Cert.ReferenceOut0Ideal.τ) (Cert.ReferenceOut0Ideal.main (F := Ideal))) ⟨m, fun _ => 0, g⟩ (fun r => (∀ c : Dev Cert.ReferenceOut0Ideal.nD,
      r.2.mem ((c.tc : Thread Cert.ReferenceOut0Ideal.nD Cert.ReferenceOut0Ideal.τ).loc Cert.ReferenceOut0Ideal.main_arg0) = m ((c.tc : Thread Cert.ReferenceOut0Ideal.nD Cert.ReferenceOut0Ideal.τ).loc Cert.ReferenceOut0Ideal.main_arg0)
      ∧ r.2.mem ((c.tc : Thread Cert.ReferenceOut0Ideal.nD Cert.ReferenceOut0Ideal.τ).loc Cert.ReferenceOut0Ideal.main_arg1) = m ((c.tc : Thread Cert.ReferenceOut0Ideal.nD Cert.ReferenceOut0Ideal.τ).loc Cert.ReferenceOut0Ideal.main_arg1)
      ∧ r.2.mem ((c.tc : Thread Cert.ReferenceOut0Ideal.nD Cert.ReferenceOut0Ideal.τ).loc Cert.ReferenceOut0Ideal.main_arg2) = m ((c.tc : Thread Cert.ReferenceOut0Ideal.nD Cert.ReferenceOut0Ideal.τ).loc Cert.ReferenceOut0Ideal.main_arg2)
      ∧ r.2.mem ((c.tc : Thread Cert.ReferenceOut0Ideal.nD Cert.ReferenceOut0Ideal.τ).loc Cert.ReferenceOut0Ideal.main_arg3) = m ((c.tc : Thread Cert.ReferenceOut0Ideal.nD Cert.ReferenceOut0Ideal.τ).loc Cert.ReferenceOut0Ideal.main_arg3)
      ∧ r.2.mem ((c.tc : Thread Cert.ReferenceOut0Ideal.nD Cert.ReferenceOut0Ideal.τ).loc Cert.ReferenceOut0Ideal.main_arg4) = m ((c.tc : Thread Cert.ReferenceOut0Ideal.nD Cert.ReferenceOut0Ideal.τ).loc Cert.ReferenceOut0Ideal.main_arg4)
      ∧ r.2.mem ((c.tc : Thread Cert.ReferenceOut0Ideal.nD Cert.ReferenceOut0Ideal.τ).loc Cert.ReferenceOut0Ideal.main_arg5) = m ((c.tc : Thread Cert.ReferenceOut0Ideal.nD Cert.ReferenceOut0Ideal.τ).loc Cert.ReferenceOut0Ideal.main_arg5)
      ∧ r.2.mem ((c.tc : Thread Cert.ReferenceOut0Ideal.nD Cert.ReferenceOut0Ideal.τ).loc Cert.ReferenceOut0Ideal.main_arg6) = m ((c.tc : Thread Cert.ReferenceOut0Ideal.nD Cert.ReferenceOut0Ideal.τ).loc Cert.ReferenceOut0Ideal.main_arg6)
      ∧ r.2.mem ((c.tc : Thread Cert.ReferenceOut0Ideal.nD Cert.ReferenceOut0Ideal.τ).loc Cert.ReferenceOut0Ideal.main_arg7) = m ((c.tc : Thread Cert.ReferenceOut0Ideal.nD Cert.ReferenceOut0Ideal.τ).loc Cert.ReferenceOut0Ideal.main_arg7)
      ∧ r.2.mem ((c.tc : Thread Cert.ReferenceOut0Ideal.nD Cert.ReferenceOut0Ideal.τ).loc Cert.ReferenceOut0Ideal.main_arg8) = m ((c.tc : Thread Cert.ReferenceOut0Ideal.nD Cert.ReferenceOut0Ideal.τ).loc Cert.ReferenceOut0Ideal.main_arg8)
      ∧ r.2.mem ((c.tc : Thread Cert.ReferenceOut0Ideal.nD Cert.ReferenceOut0Ideal.τ).loc Cert.ReferenceOut0Ideal.main_arg9) = m ((c.tc : Thread Cert.ReferenceOut0Ideal.nD Cert.ReferenceOut0Ideal.τ).loc Cert.ReferenceOut0Ideal.main_arg9))
      ∧ r.2.sem = fun _ => 0)

def quiescent_ReferenceOut0Ideal_pre_finite0 [hReferenceOut0Ideal : Cert.ReferenceOut0Ideal.Facts] [hPre_finite0 : Cert.Pre_finite0.Facts] : Prop :=
  ∀ (m : (ℓ : Loc Cert.ReferenceOut0Ideal.nD Cert.ReferenceOut0Ideal.τ Cert.ReferenceOut0Ideal.sig) → Buf (Elt Ideal) ℓ) (g : Dev Cert.ReferenceOut0Ideal.nD → PrngReg), Pre_ReferenceOut0Ideal_finite0 m →
    θ_run (Cert.ReferenceOut0Ideal.defs (F := Ideal)) (onTc (τ := Cert.ReferenceOut0Ideal.τ) (Cert.ReferenceOut0Ideal.main (F := Ideal))) ⟨m, fun _ => 0, g⟩ (fun r => (∀ c : Dev Cert.ReferenceOut0Ideal.nD,
      r.2.mem ((c.tc : Thread Cert.ReferenceOut0Ideal.nD Cert.ReferenceOut0Ideal.τ).loc Cert.ReferenceOut0Ideal.main_arg0) = m ((c.tc : Thread Cert.ReferenceOut0Ideal.nD Cert.ReferenceOut0Ideal.τ).loc Cert.ReferenceOut0Ideal.main_arg0)
      ∧ r.2.mem ((c.tc : Thread Cert.ReferenceOut0Ideal.nD Cert.ReferenceOut0Ideal.τ).loc Cert.ReferenceOut0Ideal.main_arg1) = m ((c.tc : Thread Cert.ReferenceOut0Ideal.nD Cert.ReferenceOut0Ideal.τ).loc Cert.ReferenceOut0Ideal.main_arg1)
      ∧ r.2.mem ((c.tc : Thread Cert.ReferenceOut0Ideal.nD Cert.ReferenceOut0Ideal.τ).loc Cert.ReferenceOut0Ideal.main_arg2) = m ((c.tc : Thread Cert.ReferenceOut0Ideal.nD Cert.ReferenceOut0Ideal.τ).loc Cert.ReferenceOut0Ideal.main_arg2)
      ∧ r.2.mem ((c.tc : Thread Cert.ReferenceOut0Ideal.nD Cert.ReferenceOut0Ideal.τ).loc Cert.ReferenceOut0Ideal.main_arg3) = m ((c.tc : Thread Cert.ReferenceOut0Ideal.nD Cert.ReferenceOut0Ideal.τ).loc Cert.ReferenceOut0Ideal.main_arg3)
      ∧ r.2.mem ((c.tc : Thread Cert.ReferenceOut0Ideal.nD Cert.ReferenceOut0Ideal.τ).loc Cert.ReferenceOut0Ideal.main_arg4) = m ((c.tc : Thread Cert.ReferenceOut0Ideal.nD Cert.ReferenceOut0Ideal.τ).loc Cert.ReferenceOut0Ideal.main_arg4)
      ∧ r.2.mem ((c.tc : Thread Cert.ReferenceOut0Ideal.nD Cert.ReferenceOut0Ideal.τ).loc Cert.ReferenceOut0Ideal.main_arg5) = m ((c.tc : Thread Cert.ReferenceOut0Ideal.nD Cert.ReferenceOut0Ideal.τ).loc Cert.ReferenceOut0Ideal.main_arg5)
      ∧ r.2.mem ((c.tc : Thread Cert.ReferenceOut0Ideal.nD Cert.ReferenceOut0Ideal.τ).loc Cert.ReferenceOut0Ideal.main_arg6) = m ((c.tc : Thread Cert.ReferenceOut0Ideal.nD Cert.ReferenceOut0Ideal.τ).loc Cert.ReferenceOut0Ideal.main_arg6)
      ∧ r.2.mem ((c.tc : Thread Cert.ReferenceOut0Ideal.nD Cert.ReferenceOut0Ideal.τ).loc Cert.ReferenceOut0Ideal.main_arg7) = m ((c.tc : Thread Cert.ReferenceOut0Ideal.nD Cert.ReferenceOut0Ideal.τ).loc Cert.ReferenceOut0Ideal.main_arg7)
      ∧ r.2.mem ((c.tc : Thread Cert.ReferenceOut0Ideal.nD Cert.ReferenceOut0Ideal.τ).loc Cert.ReferenceOut0Ideal.main_arg8) = m ((c.tc : Thread Cert.ReferenceOut0Ideal.nD Cert.ReferenceOut0Ideal.τ).loc Cert.ReferenceOut0Ideal.main_arg8)
      ∧ r.2.mem ((c.tc : Thread Cert.ReferenceOut0Ideal.nD Cert.ReferenceOut0Ideal.τ).loc Cert.ReferenceOut0Ideal.main_arg9) = m ((c.tc : Thread Cert.ReferenceOut0Ideal.nD Cert.ReferenceOut0Ideal.τ).loc Cert.ReferenceOut0Ideal.main_arg9))
      ∧ r.2.sem = fun _ => 0)

def quiescent_OutProj1 [hOutProj1 : Cert.OutProj1.Facts] : Prop :=
  ∀ (m : (ℓ : Loc Cert.OutProj1.nD Cert.OutProj1.τ Cert.OutProj1.sig) → Buf (Elt Bits) ℓ) (g : Dev Cert.OutProj1.nD → PrngReg), Pre_OutProj1 m →
    θ_run (Cert.OutProj1.defs (F := Bits)) (onTc (τ := Cert.OutProj1.τ) (Cert.OutProj1.main (F := Bits))) ⟨m, fun _ => 0, g⟩ (fun r => (∀ c : Dev Cert.OutProj1.nD,
      r.2.mem ((c.tc : Thread Cert.OutProj1.nD Cert.OutProj1.τ).loc Cert.OutProj1.main_arg0) = m ((c.tc : Thread Cert.OutProj1.nD Cert.OutProj1.τ).loc Cert.OutProj1.main_arg0)
      ∧ r.2.mem ((c.tc : Thread Cert.OutProj1.nD Cert.OutProj1.τ).loc Cert.OutProj1.main_arg1) = m ((c.tc : Thread Cert.OutProj1.nD Cert.OutProj1.τ).loc Cert.OutProj1.main_arg1)
      ∧ r.2.mem ((c.tc : Thread Cert.OutProj1.nD Cert.OutProj1.τ).loc Cert.OutProj1.main_arg2) = m ((c.tc : Thread Cert.OutProj1.nD Cert.OutProj1.τ).loc Cert.OutProj1.main_arg2)
      ∧ r.2.mem ((c.tc : Thread Cert.OutProj1.nD Cert.OutProj1.τ).loc Cert.OutProj1.main_arg3) = m ((c.tc : Thread Cert.OutProj1.nD Cert.OutProj1.τ).loc Cert.OutProj1.main_arg3)
      ∧ r.2.mem ((c.tc : Thread Cert.OutProj1.nD Cert.OutProj1.τ).loc Cert.OutProj1.main_arg4) = m ((c.tc : Thread Cert.OutProj1.nD Cert.OutProj1.τ).loc Cert.OutProj1.main_arg4)
      ∧ r.2.mem ((c.tc : Thread Cert.OutProj1.nD Cert.OutProj1.τ).loc Cert.OutProj1.main_arg5) = m ((c.tc : Thread Cert.OutProj1.nD Cert.OutProj1.τ).loc Cert.OutProj1.main_arg5)
      ∧ r.2.mem ((c.tc : Thread Cert.OutProj1.nD Cert.OutProj1.τ).loc Cert.OutProj1.main_arg6) = m ((c.tc : Thread Cert.OutProj1.nD Cert.OutProj1.τ).loc Cert.OutProj1.main_arg6)
      ∧ r.2.mem ((c.tc : Thread Cert.OutProj1.nD Cert.OutProj1.τ).loc Cert.OutProj1.main_arg7) = m ((c.tc : Thread Cert.OutProj1.nD Cert.OutProj1.τ).loc Cert.OutProj1.main_arg7)
      ∧ r.2.mem ((c.tc : Thread Cert.OutProj1.nD Cert.OutProj1.τ).loc Cert.OutProj1.main_arg8) = m ((c.tc : Thread Cert.OutProj1.nD Cert.OutProj1.τ).loc Cert.OutProj1.main_arg8)
      ∧ r.2.mem ((c.tc : Thread Cert.OutProj1.nD Cert.OutProj1.τ).loc Cert.OutProj1.main_arg9) = m ((c.tc : Thread Cert.OutProj1.nD Cert.OutProj1.τ).loc Cert.OutProj1.main_arg9))
      ∧ r.2.sem = fun _ => 0)

def quiescent_OutProj1Ideal [hOutProj1Ideal : Cert.OutProj1Ideal.Facts] : Prop :=
  ∀ (m : (ℓ : Loc Cert.OutProj1Ideal.nD Cert.OutProj1Ideal.τ Cert.OutProj1Ideal.sig) → Buf (Elt Ideal) ℓ) (g : Dev Cert.OutProj1Ideal.nD → PrngReg), Pre_OutProj1Ideal m →
    θ_run (Cert.OutProj1Ideal.defs (F := Ideal)) (onTc (τ := Cert.OutProj1Ideal.τ) (Cert.OutProj1Ideal.main (F := Ideal))) ⟨m, fun _ => 0, g⟩ (fun r => (∀ c : Dev Cert.OutProj1Ideal.nD,
      r.2.mem ((c.tc : Thread Cert.OutProj1Ideal.nD Cert.OutProj1Ideal.τ).loc Cert.OutProj1Ideal.main_arg0) = m ((c.tc : Thread Cert.OutProj1Ideal.nD Cert.OutProj1Ideal.τ).loc Cert.OutProj1Ideal.main_arg0)
      ∧ r.2.mem ((c.tc : Thread Cert.OutProj1Ideal.nD Cert.OutProj1Ideal.τ).loc Cert.OutProj1Ideal.main_arg1) = m ((c.tc : Thread Cert.OutProj1Ideal.nD Cert.OutProj1Ideal.τ).loc Cert.OutProj1Ideal.main_arg1)
      ∧ r.2.mem ((c.tc : Thread Cert.OutProj1Ideal.nD Cert.OutProj1Ideal.τ).loc Cert.OutProj1Ideal.main_arg2) = m ((c.tc : Thread Cert.OutProj1Ideal.nD Cert.OutProj1Ideal.τ).loc Cert.OutProj1Ideal.main_arg2)
      ∧ r.2.mem ((c.tc : Thread Cert.OutProj1Ideal.nD Cert.OutProj1Ideal.τ).loc Cert.OutProj1Ideal.main_arg3) = m ((c.tc : Thread Cert.OutProj1Ideal.nD Cert.OutProj1Ideal.τ).loc Cert.OutProj1Ideal.main_arg3)
      ∧ r.2.mem ((c.tc : Thread Cert.OutProj1Ideal.nD Cert.OutProj1Ideal.τ).loc Cert.OutProj1Ideal.main_arg4) = m ((c.tc : Thread Cert.OutProj1Ideal.nD Cert.OutProj1Ideal.τ).loc Cert.OutProj1Ideal.main_arg4)
      ∧ r.2.mem ((c.tc : Thread Cert.OutProj1Ideal.nD Cert.OutProj1Ideal.τ).loc Cert.OutProj1Ideal.main_arg5) = m ((c.tc : Thread Cert.OutProj1Ideal.nD Cert.OutProj1Ideal.τ).loc Cert.OutProj1Ideal.main_arg5)
      ∧ r.2.mem ((c.tc : Thread Cert.OutProj1Ideal.nD Cert.OutProj1Ideal.τ).loc Cert.OutProj1Ideal.main_arg6) = m ((c.tc : Thread Cert.OutProj1Ideal.nD Cert.OutProj1Ideal.τ).loc Cert.OutProj1Ideal.main_arg6)
      ∧ r.2.mem ((c.tc : Thread Cert.OutProj1Ideal.nD Cert.OutProj1Ideal.τ).loc Cert.OutProj1Ideal.main_arg7) = m ((c.tc : Thread Cert.OutProj1Ideal.nD Cert.OutProj1Ideal.τ).loc Cert.OutProj1Ideal.main_arg7)
      ∧ r.2.mem ((c.tc : Thread Cert.OutProj1Ideal.nD Cert.OutProj1Ideal.τ).loc Cert.OutProj1Ideal.main_arg8) = m ((c.tc : Thread Cert.OutProj1Ideal.nD Cert.OutProj1Ideal.τ).loc Cert.OutProj1Ideal.main_arg8)
      ∧ r.2.mem ((c.tc : Thread Cert.OutProj1Ideal.nD Cert.OutProj1Ideal.τ).loc Cert.OutProj1Ideal.main_arg9) = m ((c.tc : Thread Cert.OutProj1Ideal.nD Cert.OutProj1Ideal.τ).loc Cert.OutProj1Ideal.main_arg9))
      ∧ r.2.sem = fun _ => 0)

def quiescent_OutProj1Ideal_pre_finite1 [hOutProj1Ideal : Cert.OutProj1Ideal.Facts] [hPre_finite1 : Cert.Pre_finite1.Facts] : Prop :=
  ∀ (m : (ℓ : Loc Cert.OutProj1Ideal.nD Cert.OutProj1Ideal.τ Cert.OutProj1Ideal.sig) → Buf (Elt Ideal) ℓ) (g : Dev Cert.OutProj1Ideal.nD → PrngReg), Pre_OutProj1Ideal_finite1 m →
    θ_run (Cert.OutProj1Ideal.defs (F := Ideal)) (onTc (τ := Cert.OutProj1Ideal.τ) (Cert.OutProj1Ideal.main (F := Ideal))) ⟨m, fun _ => 0, g⟩ (fun r => (∀ c : Dev Cert.OutProj1Ideal.nD,
      r.2.mem ((c.tc : Thread Cert.OutProj1Ideal.nD Cert.OutProj1Ideal.τ).loc Cert.OutProj1Ideal.main_arg0) = m ((c.tc : Thread Cert.OutProj1Ideal.nD Cert.OutProj1Ideal.τ).loc Cert.OutProj1Ideal.main_arg0)
      ∧ r.2.mem ((c.tc : Thread Cert.OutProj1Ideal.nD Cert.OutProj1Ideal.τ).loc Cert.OutProj1Ideal.main_arg1) = m ((c.tc : Thread Cert.OutProj1Ideal.nD Cert.OutProj1Ideal.τ).loc Cert.OutProj1Ideal.main_arg1)
      ∧ r.2.mem ((c.tc : Thread Cert.OutProj1Ideal.nD Cert.OutProj1Ideal.τ).loc Cert.OutProj1Ideal.main_arg2) = m ((c.tc : Thread Cert.OutProj1Ideal.nD Cert.OutProj1Ideal.τ).loc Cert.OutProj1Ideal.main_arg2)
      ∧ r.2.mem ((c.tc : Thread Cert.OutProj1Ideal.nD Cert.OutProj1Ideal.τ).loc Cert.OutProj1Ideal.main_arg3) = m ((c.tc : Thread Cert.OutProj1Ideal.nD Cert.OutProj1Ideal.τ).loc Cert.OutProj1Ideal.main_arg3)
      ∧ r.2.mem ((c.tc : Thread Cert.OutProj1Ideal.nD Cert.OutProj1Ideal.τ).loc Cert.OutProj1Ideal.main_arg4) = m ((c.tc : Thread Cert.OutProj1Ideal.nD Cert.OutProj1Ideal.τ).loc Cert.OutProj1Ideal.main_arg4)
      ∧ r.2.mem ((c.tc : Thread Cert.OutProj1Ideal.nD Cert.OutProj1Ideal.τ).loc Cert.OutProj1Ideal.main_arg5) = m ((c.tc : Thread Cert.OutProj1Ideal.nD Cert.OutProj1Ideal.τ).loc Cert.OutProj1Ideal.main_arg5)
      ∧ r.2.mem ((c.tc : Thread Cert.OutProj1Ideal.nD Cert.OutProj1Ideal.τ).loc Cert.OutProj1Ideal.main_arg6) = m ((c.tc : Thread Cert.OutProj1Ideal.nD Cert.OutProj1Ideal.τ).loc Cert.OutProj1Ideal.main_arg6)
      ∧ r.2.mem ((c.tc : Thread Cert.OutProj1Ideal.nD Cert.OutProj1Ideal.τ).loc Cert.OutProj1Ideal.main_arg7) = m ((c.tc : Thread Cert.OutProj1Ideal.nD Cert.OutProj1Ideal.τ).loc Cert.OutProj1Ideal.main_arg7)
      ∧ r.2.mem ((c.tc : Thread Cert.OutProj1Ideal.nD Cert.OutProj1Ideal.τ).loc Cert.OutProj1Ideal.main_arg8) = m ((c.tc : Thread Cert.OutProj1Ideal.nD Cert.OutProj1Ideal.τ).loc Cert.OutProj1Ideal.main_arg8)
      ∧ r.2.mem ((c.tc : Thread Cert.OutProj1Ideal.nD Cert.OutProj1Ideal.τ).loc Cert.OutProj1Ideal.main_arg9) = m ((c.tc : Thread Cert.OutProj1Ideal.nD Cert.OutProj1Ideal.τ).loc Cert.OutProj1Ideal.main_arg9))
      ∧ r.2.sem = fun _ => 0)

def quiescent_ReferenceOut1Ideal [hReferenceOut1Ideal : Cert.ReferenceOut1Ideal.Facts] : Prop :=
  ∀ (m : (ℓ : Loc Cert.ReferenceOut1Ideal.nD Cert.ReferenceOut1Ideal.τ Cert.ReferenceOut1Ideal.sig) → Buf (Elt Ideal) ℓ) (g : Dev Cert.ReferenceOut1Ideal.nD → PrngReg), Pre_ReferenceOut1Ideal m →
    θ_run (Cert.ReferenceOut1Ideal.defs (F := Ideal)) (onTc (τ := Cert.ReferenceOut1Ideal.τ) (Cert.ReferenceOut1Ideal.main (F := Ideal))) ⟨m, fun _ => 0, g⟩ (fun r => (∀ c : Dev Cert.ReferenceOut1Ideal.nD,
      r.2.mem ((c.tc : Thread Cert.ReferenceOut1Ideal.nD Cert.ReferenceOut1Ideal.τ).loc Cert.ReferenceOut1Ideal.main_arg0) = m ((c.tc : Thread Cert.ReferenceOut1Ideal.nD Cert.ReferenceOut1Ideal.τ).loc Cert.ReferenceOut1Ideal.main_arg0)
      ∧ r.2.mem ((c.tc : Thread Cert.ReferenceOut1Ideal.nD Cert.ReferenceOut1Ideal.τ).loc Cert.ReferenceOut1Ideal.main_arg1) = m ((c.tc : Thread Cert.ReferenceOut1Ideal.nD Cert.ReferenceOut1Ideal.τ).loc Cert.ReferenceOut1Ideal.main_arg1)
      ∧ r.2.mem ((c.tc : Thread Cert.ReferenceOut1Ideal.nD Cert.ReferenceOut1Ideal.τ).loc Cert.ReferenceOut1Ideal.main_arg2) = m ((c.tc : Thread Cert.ReferenceOut1Ideal.nD Cert.ReferenceOut1Ideal.τ).loc Cert.ReferenceOut1Ideal.main_arg2)
      ∧ r.2.mem ((c.tc : Thread Cert.ReferenceOut1Ideal.nD Cert.ReferenceOut1Ideal.τ).loc Cert.ReferenceOut1Ideal.main_arg3) = m ((c.tc : Thread Cert.ReferenceOut1Ideal.nD Cert.ReferenceOut1Ideal.τ).loc Cert.ReferenceOut1Ideal.main_arg3)
      ∧ r.2.mem ((c.tc : Thread Cert.ReferenceOut1Ideal.nD Cert.ReferenceOut1Ideal.τ).loc Cert.ReferenceOut1Ideal.main_arg4) = m ((c.tc : Thread Cert.ReferenceOut1Ideal.nD Cert.ReferenceOut1Ideal.τ).loc Cert.ReferenceOut1Ideal.main_arg4)
      ∧ r.2.mem ((c.tc : Thread Cert.ReferenceOut1Ideal.nD Cert.ReferenceOut1Ideal.τ).loc Cert.ReferenceOut1Ideal.main_arg5) = m ((c.tc : Thread Cert.ReferenceOut1Ideal.nD Cert.ReferenceOut1Ideal.τ).loc Cert.ReferenceOut1Ideal.main_arg5)
      ∧ r.2.mem ((c.tc : Thread Cert.ReferenceOut1Ideal.nD Cert.ReferenceOut1Ideal.τ).loc Cert.ReferenceOut1Ideal.main_arg6) = m ((c.tc : Thread Cert.ReferenceOut1Ideal.nD Cert.ReferenceOut1Ideal.τ).loc Cert.ReferenceOut1Ideal.main_arg6)
      ∧ r.2.mem ((c.tc : Thread Cert.ReferenceOut1Ideal.nD Cert.ReferenceOut1Ideal.τ).loc Cert.ReferenceOut1Ideal.main_arg7) = m ((c.tc : Thread Cert.ReferenceOut1Ideal.nD Cert.ReferenceOut1Ideal.τ).loc Cert.ReferenceOut1Ideal.main_arg7)
      ∧ r.2.mem ((c.tc : Thread Cert.ReferenceOut1Ideal.nD Cert.ReferenceOut1Ideal.τ).loc Cert.ReferenceOut1Ideal.main_arg8) = m ((c.tc : Thread Cert.ReferenceOut1Ideal.nD Cert.ReferenceOut1Ideal.τ).loc Cert.ReferenceOut1Ideal.main_arg8)
      ∧ r.2.mem ((c.tc : Thread Cert.ReferenceOut1Ideal.nD Cert.ReferenceOut1Ideal.τ).loc Cert.ReferenceOut1Ideal.main_arg9) = m ((c.tc : Thread Cert.ReferenceOut1Ideal.nD Cert.ReferenceOut1Ideal.τ).loc Cert.ReferenceOut1Ideal.main_arg9))
      ∧ r.2.sem = fun _ => 0)

def quiescent_ReferenceOut1Ideal_pre_finite1 [hReferenceOut1Ideal : Cert.ReferenceOut1Ideal.Facts] [hPre_finite1 : Cert.Pre_finite1.Facts] : Prop :=
  ∀ (m : (ℓ : Loc Cert.ReferenceOut1Ideal.nD Cert.ReferenceOut1Ideal.τ Cert.ReferenceOut1Ideal.sig) → Buf (Elt Ideal) ℓ) (g : Dev Cert.ReferenceOut1Ideal.nD → PrngReg), Pre_ReferenceOut1Ideal_finite1 m →
    θ_run (Cert.ReferenceOut1Ideal.defs (F := Ideal)) (onTc (τ := Cert.ReferenceOut1Ideal.τ) (Cert.ReferenceOut1Ideal.main (F := Ideal))) ⟨m, fun _ => 0, g⟩ (fun r => (∀ c : Dev Cert.ReferenceOut1Ideal.nD,
      r.2.mem ((c.tc : Thread Cert.ReferenceOut1Ideal.nD Cert.ReferenceOut1Ideal.τ).loc Cert.ReferenceOut1Ideal.main_arg0) = m ((c.tc : Thread Cert.ReferenceOut1Ideal.nD Cert.ReferenceOut1Ideal.τ).loc Cert.ReferenceOut1Ideal.main_arg0)
      ∧ r.2.mem ((c.tc : Thread Cert.ReferenceOut1Ideal.nD Cert.ReferenceOut1Ideal.τ).loc Cert.ReferenceOut1Ideal.main_arg1) = m ((c.tc : Thread Cert.ReferenceOut1Ideal.nD Cert.ReferenceOut1Ideal.τ).loc Cert.ReferenceOut1Ideal.main_arg1)
      ∧ r.2.mem ((c.tc : Thread Cert.ReferenceOut1Ideal.nD Cert.ReferenceOut1Ideal.τ).loc Cert.ReferenceOut1Ideal.main_arg2) = m ((c.tc : Thread Cert.ReferenceOut1Ideal.nD Cert.ReferenceOut1Ideal.τ).loc Cert.ReferenceOut1Ideal.main_arg2)
      ∧ r.2.mem ((c.tc : Thread Cert.ReferenceOut1Ideal.nD Cert.ReferenceOut1Ideal.τ).loc Cert.ReferenceOut1Ideal.main_arg3) = m ((c.tc : Thread Cert.ReferenceOut1Ideal.nD Cert.ReferenceOut1Ideal.τ).loc Cert.ReferenceOut1Ideal.main_arg3)
      ∧ r.2.mem ((c.tc : Thread Cert.ReferenceOut1Ideal.nD Cert.ReferenceOut1Ideal.τ).loc Cert.ReferenceOut1Ideal.main_arg4) = m ((c.tc : Thread Cert.ReferenceOut1Ideal.nD Cert.ReferenceOut1Ideal.τ).loc Cert.ReferenceOut1Ideal.main_arg4)
      ∧ r.2.mem ((c.tc : Thread Cert.ReferenceOut1Ideal.nD Cert.ReferenceOut1Ideal.τ).loc Cert.ReferenceOut1Ideal.main_arg5) = m ((c.tc : Thread Cert.ReferenceOut1Ideal.nD Cert.ReferenceOut1Ideal.τ).loc Cert.ReferenceOut1Ideal.main_arg5)
      ∧ r.2.mem ((c.tc : Thread Cert.ReferenceOut1Ideal.nD Cert.ReferenceOut1Ideal.τ).loc Cert.ReferenceOut1Ideal.main_arg6) = m ((c.tc : Thread Cert.ReferenceOut1Ideal.nD Cert.ReferenceOut1Ideal.τ).loc Cert.ReferenceOut1Ideal.main_arg6)
      ∧ r.2.mem ((c.tc : Thread Cert.ReferenceOut1Ideal.nD Cert.ReferenceOut1Ideal.τ).loc Cert.ReferenceOut1Ideal.main_arg7) = m ((c.tc : Thread Cert.ReferenceOut1Ideal.nD Cert.ReferenceOut1Ideal.τ).loc Cert.ReferenceOut1Ideal.main_arg7)
      ∧ r.2.mem ((c.tc : Thread Cert.ReferenceOut1Ideal.nD Cert.ReferenceOut1Ideal.τ).loc Cert.ReferenceOut1Ideal.main_arg8) = m ((c.tc : Thread Cert.ReferenceOut1Ideal.nD Cert.ReferenceOut1Ideal.τ).loc Cert.ReferenceOut1Ideal.main_arg8)
      ∧ r.2.mem ((c.tc : Thread Cert.ReferenceOut1Ideal.nD Cert.ReferenceOut1Ideal.τ).loc Cert.ReferenceOut1Ideal.main_arg9) = m ((c.tc : Thread Cert.ReferenceOut1Ideal.nD Cert.ReferenceOut1Ideal.τ).loc Cert.ReferenceOut1Ideal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj0_InProj0Ideal : Prop :=
  True

def algebraic_InProj0Ideal_ReferenceIn0Ideal [hInProj0Ideal : Cert.InProj0Ideal.Facts] [hReferenceIn0Ideal : Cert.ReferenceIn0Ideal.Facts] : Prop :=
  ∀ (m : (ℓ : Loc Cert.InProj0Ideal.nD Cert.InProj0Ideal.τ Cert.InProj0Ideal.sig) → Buf (Elt Ideal) ℓ) (g : Dev Cert.InProj0Ideal.nD → PrngReg)
    (m' : (ℓ : Loc Cert.ReferenceIn0Ideal.nD Cert.ReferenceIn0Ideal.τ Cert.ReferenceIn0Ideal.sig) → Buf (Elt Ideal) ℓ) (g' : Dev Cert.ReferenceIn0Ideal.nD → PrngReg), Pre_InProj0Ideal m →
    (∀ c : Dev Cert.InProj0Ideal.nD,
      m' ((c.tc : Thread Cert.ReferenceIn0Ideal.nD Cert.ReferenceIn0Ideal.τ).loc Cert.ReferenceIn0Ideal.main_arg0) = m ((c.tc : Thread Cert.InProj0Ideal.nD Cert.InProj0Ideal.τ).loc Cert.InProj0Ideal.main_arg0)
      ∧ m' ((c.tc : Thread Cert.ReferenceIn0Ideal.nD Cert.ReferenceIn0Ideal.τ).loc Cert.ReferenceIn0Ideal.main_arg1) = m ((c.tc : Thread Cert.InProj0Ideal.nD Cert.InProj0Ideal.τ).loc Cert.InProj0Ideal.main_arg1)) →
    ∃ (v0 : (c : Dev Cert.InProj0Ideal.nD) → Buf (Elt Ideal) ((c.tc : Thread Cert.InProj0Ideal.nD Cert.InProj0Ideal.τ).loc Cert.InProj0Ideal.main_v0)),
      θ_run (Cert.InProj0Ideal.defs (F := Ideal)) (onTc (τ := Cert.InProj0Ideal.τ) (Cert.InProj0Ideal.main (F := Ideal))) ⟨m, fun _ => 0, g⟩ (fun r => ∀ c : Dev Cert.InProj0Ideal.nD,
          r.2.mem ((c.tc : Thread Cert.InProj0Ideal.nD Cert.InProj0Ideal.τ).loc Cert.InProj0Ideal.main_v0) = v0 c
          ∧ r.2.mem ((c.tc : Thread Cert.InProj0Ideal.nD Cert.InProj0Ideal.τ).loc Cert.InProj0Ideal.main_arg0) = m ((c.tc : Thread Cert.InProj0Ideal.nD Cert.InProj0Ideal.τ).loc Cert.InProj0Ideal.main_arg0)
          ∧ r.2.mem ((c.tc : Thread Cert.InProj0Ideal.nD Cert.InProj0Ideal.τ).loc Cert.InProj0Ideal.main_arg1) = m ((c.tc : Thread Cert.InProj0Ideal.nD Cert.InProj0Ideal.τ).loc Cert.InProj0Ideal.main_arg1))
      ∧ θ_run (Cert.ReferenceIn0Ideal.defs (F := Ideal)) (onTc (τ := Cert.ReferenceIn0Ideal.τ) (Cert.ReferenceIn0Ideal.main (F := Ideal))) ⟨m', fun _ => 0, g'⟩ (fun r => ∀ c : Dev Cert.ReferenceIn0Ideal.nD,
          r.2.mem ((c.tc : Thread Cert.ReferenceIn0Ideal.nD Cert.ReferenceIn0Ideal.τ).loc Cert.ReferenceIn0Ideal.main_v5) = v0 c
          ∧ r.2.mem ((c.tc : Thread Cert.ReferenceIn0Ideal.nD Cert.ReferenceIn0Ideal.τ).loc Cert.ReferenceIn0Ideal.main_arg0) = m' ((c.tc : Thread Cert.ReferenceIn0Ideal.nD Cert.ReferenceIn0Ideal.τ).loc Cert.ReferenceIn0Ideal.main_arg0)
          ∧ r.2.mem ((c.tc : Thread Cert.ReferenceIn0Ideal.nD Cert.ReferenceIn0Ideal.τ).loc Cert.ReferenceIn0Ideal.main_arg1) = m' ((c.tc : Thread Cert.ReferenceIn0Ideal.nD Cert.ReferenceIn0Ideal.τ).loc Cert.ReferenceIn0Ideal.main_arg1))

def preserves_InProj1_InProj1Ideal : Prop :=
  True

def algebraic_InProj1Ideal_ReferenceIn1Ideal [hInProj1Ideal : Cert.InProj1Ideal.Facts] [hReferenceIn1Ideal : Cert.ReferenceIn1Ideal.Facts] : Prop :=
  ∀ (m : (ℓ : Loc Cert.InProj1Ideal.nD Cert.InProj1Ideal.τ Cert.InProj1Ideal.sig) → Buf (Elt Ideal) ℓ) (g : Dev Cert.InProj1Ideal.nD → PrngReg)
    (m' : (ℓ : Loc Cert.ReferenceIn1Ideal.nD Cert.ReferenceIn1Ideal.τ Cert.ReferenceIn1Ideal.sig) → Buf (Elt Ideal) ℓ) (g' : Dev Cert.ReferenceIn1Ideal.nD → PrngReg), Pre_InProj1Ideal m →
    (∀ c : Dev Cert.InProj1Ideal.nD,
      m' ((c.tc : Thread Cert.ReferenceIn1Ideal.nD Cert.ReferenceIn1Ideal.τ).loc Cert.ReferenceIn1Ideal.main_arg0) = m ((c.tc : Thread Cert.InProj1Ideal.nD Cert.InProj1Ideal.τ).loc Cert.InProj1Ideal.main_arg0)
      ∧ m' ((c.tc : Thread Cert.ReferenceIn1Ideal.nD Cert.ReferenceIn1Ideal.τ).loc Cert.ReferenceIn1Ideal.main_arg1) = m ((c.tc : Thread Cert.InProj1Ideal.nD Cert.InProj1Ideal.τ).loc Cert.InProj1Ideal.main_arg1)) →
    ∃ (v0 : (c : Dev Cert.InProj1Ideal.nD) → Buf (Elt Ideal) ((c.tc : Thread Cert.InProj1Ideal.nD Cert.InProj1Ideal.τ).loc Cert.InProj1Ideal.main_v0)),
      θ_run (Cert.InProj1Ideal.defs (F := Ideal)) (onTc (τ := Cert.InProj1Ideal.τ) (Cert.InProj1Ideal.main (F := Ideal))) ⟨m, fun _ => 0, g⟩ (fun r => ∀ c : Dev Cert.InProj1Ideal.nD,
          r.2.mem ((c.tc : Thread Cert.InProj1Ideal.nD Cert.InProj1Ideal.τ).loc Cert.InProj1Ideal.main_v0) = v0 c
          ∧ r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
          ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1))
      ∧ θ_run (Cert.ReferenceIn1Ideal.defs (F := Ideal)) (onTc (τ := Cert.ReferenceIn1Ideal.τ) (Cert.ReferenceIn1Ideal.main (F := Ideal))) ⟨m', fun _ => 0, g'⟩ (fun r => ∀ c : Dev Cert.ReferenceIn1Ideal.nD,
          r.2.mem ((c.tc : Thread Cert.ReferenceIn1Ideal.nD Cert.ReferenceIn1Ideal.τ).loc Cert.ReferenceIn1Ideal.main_v5) = v0 c
          ∧ r.2.mem ((c.tc : Thread Cert.ReferenceIn1Ideal.nD Cert.ReferenceIn1Ideal.τ).loc Cert.ReferenceIn1Ideal.main_arg0) = m' ((c.tc : Thread Cert.ReferenceIn1Ideal.nD Cert.ReferenceIn1Ideal.τ).loc Cert.ReferenceIn1Ideal.main_arg0)
          ∧ r.2.mem ((c.tc : Thread Cert.ReferenceIn1Ideal.nD Cert.ReferenceIn1Ideal.τ).loc Cert.ReferenceIn1Ideal.main_arg1) = m' ((c.tc : Thread Cert.ReferenceIn1Ideal.nD Cert.ReferenceIn1Ideal.τ).loc Cert.ReferenceIn1Ideal.main_arg1))

def preserves_OutProj0_OutProj0Ideal : Prop :=
  True

def algebraic_OutProj0Ideal_ReferenceOut0Ideal_pre_finite0 [hOutProj0Ideal : Cert.OutProj0Ideal.Facts] [hReferenceOut0Ideal : Cert.ReferenceOut0Ideal.Facts] [hPre_finite0 : Cert.Pre_finite0.Facts] : Prop :=
  ∀ (m : (ℓ : Loc Cert.OutProj0Ideal.nD Cert.OutProj0Ideal.τ Cert.OutProj0Ideal.sig) → Buf (Elt Ideal) ℓ) (g : Dev Cert.OutProj0Ideal.nD → PrngReg)
    (m' : (ℓ : Loc Cert.ReferenceOut0Ideal.nD Cert.ReferenceOut0Ideal.τ Cert.ReferenceOut0Ideal.sig) → Buf (Elt Ideal) ℓ) (g' : Dev Cert.ReferenceOut0Ideal.nD → PrngReg), Pre_OutProj0Ideal_finite0 m →
    (∀ c : Dev Cert.OutProj0Ideal.nD,
      m' ((c.tc : Thread Cert.ReferenceOut0Ideal.nD Cert.ReferenceOut0Ideal.τ).loc Cert.ReferenceOut0Ideal.main_arg0) = m ((c.tc : Thread Cert.OutProj0Ideal.nD Cert.OutProj0Ideal.τ).loc Cert.OutProj0Ideal.main_arg0)
      ∧ m' ((c.tc : Thread Cert.ReferenceOut0Ideal.nD Cert.ReferenceOut0Ideal.τ).loc Cert.ReferenceOut0Ideal.main_arg1) = m ((c.tc : Thread Cert.OutProj0Ideal.nD Cert.OutProj0Ideal.τ).loc Cert.OutProj0Ideal.main_arg1)
      ∧ m' ((c.tc : Thread Cert.ReferenceOut0Ideal.nD Cert.ReferenceOut0Ideal.τ).loc Cert.ReferenceOut0Ideal.main_arg2) = m ((c.tc : Thread Cert.OutProj0Ideal.nD Cert.OutProj0Ideal.τ).loc Cert.OutProj0Ideal.main_arg2)
      ∧ m' ((c.tc : Thread Cert.ReferenceOut0Ideal.nD Cert.ReferenceOut0Ideal.τ).loc Cert.ReferenceOut0Ideal.main_arg3) = m ((c.tc : Thread Cert.OutProj0Ideal.nD Cert.OutProj0Ideal.τ).loc Cert.OutProj0Ideal.main_arg3)
      ∧ m' ((c.tc : Thread Cert.ReferenceOut0Ideal.nD Cert.ReferenceOut0Ideal.τ).loc Cert.ReferenceOut0Ideal.main_arg4) = m ((c.tc : Thread Cert.OutProj0Ideal.nD Cert.OutProj0Ideal.τ).loc Cert.OutProj0Ideal.main_arg4)
      ∧ m' ((c.tc : Thread Cert.ReferenceOut0Ideal.nD Cert.ReferenceOut0Ideal.τ).loc Cert.ReferenceOut0Ideal.main_arg5) = m ((c.tc : Thread Cert.OutProj0Ideal.nD Cert.OutProj0Ideal.τ).loc Cert.OutProj0Ideal.main_arg5)
      ∧ m' ((c.tc : Thread Cert.ReferenceOut0Ideal.nD Cert.ReferenceOut0Ideal.τ).loc Cert.ReferenceOut0Ideal.main_arg6) = m ((c.tc : Thread Cert.OutProj0Ideal.nD Cert.OutProj0Ideal.τ).loc Cert.OutProj0Ideal.main_arg6)
      ∧ m' ((c.tc : Thread Cert.ReferenceOut0Ideal.nD Cert.ReferenceOut0Ideal.τ).loc Cert.ReferenceOut0Ideal.main_arg7) = m ((c.tc : Thread Cert.OutProj0Ideal.nD Cert.OutProj0Ideal.τ).loc Cert.OutProj0Ideal.main_arg7)
      ∧ m' ((c.tc : Thread Cert.ReferenceOut0Ideal.nD Cert.ReferenceOut0Ideal.τ).loc Cert.ReferenceOut0Ideal.main_arg8) = m ((c.tc : Thread Cert.OutProj0Ideal.nD Cert.OutProj0Ideal.τ).loc Cert.OutProj0Ideal.main_arg8)
      ∧ m' ((c.tc : Thread Cert.ReferenceOut0Ideal.nD Cert.ReferenceOut0Ideal.τ).loc Cert.ReferenceOut0Ideal.main_arg9) = m ((c.tc : Thread Cert.OutProj0Ideal.nD Cert.OutProj0Ideal.τ).loc Cert.OutProj0Ideal.main_arg9)) →
    ∃ (v0 : (c : Dev Cert.OutProj0Ideal.nD) → Buf (Elt Ideal) ((c.tc : Thread Cert.OutProj0Ideal.nD Cert.OutProj0Ideal.τ).loc Cert.OutProj0Ideal.main_v24_0)) (v1 : (c : Dev Cert.OutProj0Ideal.nD) → Buf (Elt Ideal) ((c.tc : Thread Cert.OutProj0Ideal.nD Cert.OutProj0Ideal.τ).loc Cert.OutProj0Ideal.main_v24_1)) (v2 : (c : Dev Cert.OutProj0Ideal.nD) → Buf (Elt Ideal) ((c.tc : Thread Cert.OutProj0Ideal.nD Cert.OutProj0Ideal.τ).loc Cert.OutProj0Ideal.main_v24_2)),
      θ_run (Cert.OutProj0Ideal.defs (F := Ideal)) (onTc (τ := Cert.OutProj0Ideal.τ) (Cert.OutProj0Ideal.main (F := Ideal))) ⟨m, fun _ => 0, g⟩ (fun r => ∀ c : Dev Cert.OutProj0Ideal.nD,
          r.2.mem ((c.tc : Thread Cert.OutProj0Ideal.nD Cert.OutProj0Ideal.τ).loc Cert.OutProj0Ideal.main_v24_0) = v0 c
          ∧ r.2.mem ((c.tc : Thread Cert.OutProj0Ideal.nD Cert.OutProj0Ideal.τ).loc Cert.OutProj0Ideal.main_v24_1) = v1 c
          ∧ r.2.mem ((c.tc : Thread Cert.OutProj0Ideal.nD Cert.OutProj0Ideal.τ).loc Cert.OutProj0Ideal.main_v24_2) = v2 c
          ∧ r.2.mem ((c.tc : Thread Cert.OutProj0Ideal.nD Cert.OutProj0Ideal.τ).loc Cert.OutProj0Ideal.main_arg0) = m ((c.tc : Thread Cert.OutProj0Ideal.nD Cert.OutProj0Ideal.τ).loc Cert.OutProj0Ideal.main_arg0)
          ∧ r.2.mem ((c.tc : Thread Cert.OutProj0Ideal.nD Cert.OutProj0Ideal.τ).loc Cert.OutProj0Ideal.main_arg1) = m ((c.tc : Thread Cert.OutProj0Ideal.nD Cert.OutProj0Ideal.τ).loc Cert.OutProj0Ideal.main_arg1)
          ∧ r.2.mem ((c.tc : Thread Cert.OutProj0Ideal.nD Cert.OutProj0Ideal.τ).loc Cert.OutProj0Ideal.main_arg2) = m ((c.tc : Thread Cert.OutProj0Ideal.nD Cert.OutProj0Ideal.τ).loc Cert.OutProj0Ideal.main_arg2)
          ∧ r.2.mem ((c.tc : Thread Cert.OutProj0Ideal.nD Cert.OutProj0Ideal.τ).loc Cert.OutProj0Ideal.main_arg3) = m ((c.tc : Thread Cert.OutProj0Ideal.nD Cert.OutProj0Ideal.τ).loc Cert.OutProj0Ideal.main_arg3)
          ∧ r.2.mem ((c.tc : Thread Cert.OutProj0Ideal.nD Cert.OutProj0Ideal.τ).loc Cert.OutProj0Ideal.main_arg4) = m ((c.tc : Thread Cert.OutProj0Ideal.nD Cert.OutProj0Ideal.τ).loc Cert.OutProj0Ideal.main_arg4)
          ∧ r.2.mem ((c.tc : Thread Cert.OutProj0Ideal.nD Cert.OutProj0Ideal.τ).loc Cert.OutProj0Ideal.main_arg5) = m ((c.tc : Thread Cert.OutProj0Ideal.nD Cert.OutProj0Ideal.τ).loc Cert.OutProj0Ideal.main_arg5)
          ∧ r.2.mem ((c.tc : Thread Cert.OutProj0Ideal.nD Cert.OutProj0Ideal.τ).loc Cert.OutProj0Ideal.main_arg6) = m ((c.tc : Thread Cert.OutProj0Ideal.nD Cert.OutProj0Ideal.τ).loc Cert.OutProj0Ideal.main_arg6)
          ∧ r.2.mem ((c.tc : Thread Cert.OutProj0Ideal.nD Cert.OutProj0Ideal.τ).loc Cert.OutProj0Ideal.main_arg7) = m ((c.tc : Thread Cert.OutProj0Ideal.nD Cert.OutProj0Ideal.τ).loc Cert.OutProj0Ideal.main_arg7)
          ∧ r.2.mem ((c.tc : Thread Cert.OutProj0Ideal.nD Cert.OutProj0Ideal.τ).loc Cert.OutProj0Ideal.main_arg8) = m ((c.tc : Thread Cert.OutProj0Ideal.nD Cert.OutProj0Ideal.τ).loc Cert.OutProj0Ideal.main_arg8)
          ∧ r.2.mem ((c.tc : Thread Cert.OutProj0Ideal.nD Cert.OutProj0Ideal.τ).loc Cert.OutProj0Ideal.main_arg9) = m ((c.tc : Thread Cert.OutProj0Ideal.nD Cert.OutProj0Ideal.τ).loc Cert.OutProj0Ideal.main_arg9))
      ∧ θ_run (Cert.ReferenceOut0Ideal.defs (F := Ideal)) (onTc (τ := Cert.ReferenceOut0Ideal.τ) (Cert.ReferenceOut0Ideal.main (F := Ideal))) ⟨m', fun _ => 0, g'⟩ (fun r => ∀ c : Dev Cert.ReferenceOut0Ideal.nD,
          r.2.mem ((c.tc : Thread Cert.ReferenceOut0Ideal.nD Cert.ReferenceOut0Ideal.τ).loc Cert.ReferenceOut0Ideal.main_v5) = v0 c
          ∧ r.2.mem ((c.tc : Thread Cert.ReferenceOut0Ideal.nD Cert.ReferenceOut0Ideal.τ).loc Cert.ReferenceOut0Ideal.main_v38) = v1 c
          ∧ r.2.mem ((c.tc : Thread Cert.ReferenceOut0Ideal.nD Cert.ReferenceOut0Ideal.τ).loc Cert.ReferenceOut0Ideal.main_v39) = v2 c
          ∧ r.2.mem ((c.tc : Thread Cert.ReferenceOut0Ideal.nD Cert.ReferenceOut0Ideal.τ).loc Cert.ReferenceOut0Ideal.main_arg0) = m' ((c.tc : Thread Cert.ReferenceOut0Ideal.nD Cert.ReferenceOut0Ideal.τ).loc Cert.ReferenceOut0Ideal.main_arg0)
          ∧ r.2.mem ((c.tc : Thread Cert.ReferenceOut0Ideal.nD Cert.ReferenceOut0Ideal.τ).loc Cert.ReferenceOut0Ideal.main_arg1) = m' ((c.tc : Thread Cert.ReferenceOut0Ideal.nD Cert.ReferenceOut0Ideal.τ).loc Cert.ReferenceOut0Ideal.main_arg1)
          ∧ r.2.mem ((c.tc : Thread Cert.ReferenceOut0Ideal.nD Cert.ReferenceOut0Ideal.τ).loc Cert.ReferenceOut0Ideal.main_arg2) = m' ((c.tc : Thread Cert.ReferenceOut0Ideal.nD Cert.ReferenceOut0Ideal.τ).loc Cert.ReferenceOut0Ideal.main_arg2)
          ∧ r.2.mem ((c.tc : Thread Cert.ReferenceOut0Ideal.nD Cert.ReferenceOut0Ideal.τ).loc Cert.ReferenceOut0Ideal.main_arg3) = m' ((c.tc : Thread Cert.ReferenceOut0Ideal.nD Cert.ReferenceOut0Ideal.τ).loc Cert.ReferenceOut0Ideal.main_arg3)
          ∧ r.2.mem ((c.tc : Thread Cert.ReferenceOut0Ideal.nD Cert.ReferenceOut0Ideal.τ).loc Cert.ReferenceOut0Ideal.main_arg4) = m' ((c.tc : Thread Cert.ReferenceOut0Ideal.nD Cert.ReferenceOut0Ideal.τ).loc Cert.ReferenceOut0Ideal.main_arg4)
          ∧ r.2.mem ((c.tc : Thread Cert.ReferenceOut0Ideal.nD Cert.ReferenceOut0Ideal.τ).loc Cert.ReferenceOut0Ideal.main_arg5) = m' ((c.tc : Thread Cert.ReferenceOut0Ideal.nD Cert.ReferenceOut0Ideal.τ).loc Cert.ReferenceOut0Ideal.main_arg5)
          ∧ r.2.mem ((c.tc : Thread Cert.ReferenceOut0Ideal.nD Cert.ReferenceOut0Ideal.τ).loc Cert.ReferenceOut0Ideal.main_arg6) = m' ((c.tc : Thread Cert.ReferenceOut0Ideal.nD Cert.ReferenceOut0Ideal.τ).loc Cert.ReferenceOut0Ideal.main_arg6)
          ∧ r.2.mem ((c.tc : Thread Cert.ReferenceOut0Ideal.nD Cert.ReferenceOut0Ideal.τ).loc Cert.ReferenceOut0Ideal.main_arg7) = m' ((c.tc : Thread Cert.ReferenceOut0Ideal.nD Cert.ReferenceOut0Ideal.τ).loc Cert.ReferenceOut0Ideal.main_arg7)
          ∧ r.2.mem ((c.tc : Thread Cert.ReferenceOut0Ideal.nD Cert.ReferenceOut0Ideal.τ).loc Cert.ReferenceOut0Ideal.main_arg8) = m' ((c.tc : Thread Cert.ReferenceOut0Ideal.nD Cert.ReferenceOut0Ideal.τ).loc Cert.ReferenceOut0Ideal.main_arg8)
          ∧ r.2.mem ((c.tc : Thread Cert.ReferenceOut0Ideal.nD Cert.ReferenceOut0Ideal.τ).loc Cert.ReferenceOut0Ideal.main_arg9) = m' ((c.tc : Thread Cert.ReferenceOut0Ideal.nD Cert.ReferenceOut0Ideal.τ).loc Cert.ReferenceOut0Ideal.main_arg9))

def preserves_OutProj1_OutProj1Ideal : Prop :=
  True

def algebraic_OutProj1Ideal_ReferenceOut1Ideal_pre_finite1 [hOutProj1Ideal : Cert.OutProj1Ideal.Facts] [hReferenceOut1Ideal : Cert.ReferenceOut1Ideal.Facts] [hPre_finite1 : Cert.Pre_finite1.Facts] : Prop :=
  ∀ (m : (ℓ : Loc Cert.OutProj1Ideal.nD Cert.OutProj1Ideal.τ Cert.OutProj1Ideal.sig) → Buf (Elt Ideal) ℓ) (g : Dev Cert.OutProj1Ideal.nD → PrngReg)
    (m' : (ℓ : Loc Cert.ReferenceOut1Ideal.nD Cert.ReferenceOut1Ideal.τ Cert.ReferenceOut1Ideal.sig) → Buf (Elt Ideal) ℓ) (g' : Dev Cert.ReferenceOut1Ideal.nD → PrngReg), Pre_OutProj1Ideal_finite1 m →
    (∀ c : Dev Cert.OutProj1Ideal.nD,
      m' ((c.tc : Thread Cert.ReferenceOut1Ideal.nD Cert.ReferenceOut1Ideal.τ).loc Cert.ReferenceOut1Ideal.main_arg0) = m ((c.tc : Thread Cert.OutProj1Ideal.nD Cert.OutProj1Ideal.τ).loc Cert.OutProj1Ideal.main_arg0)
      ∧ m' ((c.tc : Thread Cert.ReferenceOut1Ideal.nD Cert.ReferenceOut1Ideal.τ).loc Cert.ReferenceOut1Ideal.main_arg1) = m ((c.tc : Thread Cert.OutProj1Ideal.nD Cert.OutProj1Ideal.τ).loc Cert.OutProj1Ideal.main_arg1)
      ∧ m' ((c.tc : Thread Cert.ReferenceOut1Ideal.nD Cert.ReferenceOut1Ideal.τ).loc Cert.ReferenceOut1Ideal.main_arg2) = m ((c.tc : Thread Cert.OutProj1Ideal.nD Cert.OutProj1Ideal.τ).loc Cert.OutProj1Ideal.main_arg2)
      ∧ m' ((c.tc : Thread Cert.ReferenceOut1Ideal.nD Cert.ReferenceOut1Ideal.τ).loc Cert.ReferenceOut1Ideal.main_arg3) = m ((c.tc : Thread Cert.OutProj1Ideal.nD Cert.OutProj1Ideal.τ).loc Cert.OutProj1Ideal.main_arg3)
      ∧ m' ((c.tc : Thread Cert.ReferenceOut1Ideal.nD Cert.ReferenceOut1Ideal.τ).loc Cert.ReferenceOut1Ideal.main_arg4) = m ((c.tc : Thread Cert.OutProj1Ideal.nD Cert.OutProj1Ideal.τ).loc Cert.OutProj1Ideal.main_arg4)
      ∧ m' ((c.tc : Thread Cert.ReferenceOut1Ideal.nD Cert.ReferenceOut1Ideal.τ).loc Cert.ReferenceOut1Ideal.main_arg5) = m ((c.tc : Thread Cert.OutProj1Ideal.nD Cert.OutProj1Ideal.τ).loc Cert.OutProj1Ideal.main_arg5)
      ∧ m' ((c.tc : Thread Cert.ReferenceOut1Ideal.nD Cert.ReferenceOut1Ideal.τ).loc Cert.ReferenceOut1Ideal.main_arg6) = m ((c.tc : Thread Cert.OutProj1Ideal.nD Cert.OutProj1Ideal.τ).loc Cert.OutProj1Ideal.main_arg6)
      ∧ m' ((c.tc : Thread Cert.ReferenceOut1Ideal.nD Cert.ReferenceOut1Ideal.τ).loc Cert.ReferenceOut1Ideal.main_arg7) = m ((c.tc : Thread Cert.OutProj1Ideal.nD Cert.OutProj1Ideal.τ).loc Cert.OutProj1Ideal.main_arg7)
      ∧ m' ((c.tc : Thread Cert.ReferenceOut1Ideal.nD Cert.ReferenceOut1Ideal.τ).loc Cert.ReferenceOut1Ideal.main_arg8) = m ((c.tc : Thread Cert.OutProj1Ideal.nD Cert.OutProj1Ideal.τ).loc Cert.OutProj1Ideal.main_arg8)
      ∧ m' ((c.tc : Thread Cert.ReferenceOut1Ideal.nD Cert.ReferenceOut1Ideal.τ).loc Cert.ReferenceOut1Ideal.main_arg9) = m ((c.tc : Thread Cert.OutProj1Ideal.nD Cert.OutProj1Ideal.τ).loc Cert.OutProj1Ideal.main_arg9)) →
    ∃ (v0 : (c : Dev Cert.OutProj1Ideal.nD) → Buf (Elt Ideal) ((c.tc : Thread Cert.OutProj1Ideal.nD Cert.OutProj1Ideal.τ).loc Cert.OutProj1Ideal.main_v24_0)) (v1 : (c : Dev Cert.OutProj1Ideal.nD) → Buf (Elt Ideal) ((c.tc : Thread Cert.OutProj1Ideal.nD Cert.OutProj1Ideal.τ).loc Cert.OutProj1Ideal.main_v24_1)) (v2 : (c : Dev Cert.OutProj1Ideal.nD) → Buf (Elt Ideal) ((c.tc : Thread Cert.OutProj1Ideal.nD Cert.OutProj1Ideal.τ).loc Cert.OutProj1Ideal.main_v24_2)),
      θ_run (Cert.OutProj1Ideal.defs (F := Ideal)) (onTc (τ := Cert.OutProj1Ideal.τ) (Cert.OutProj1Ideal.main (F := Ideal))) ⟨m, fun _ => 0, g⟩ (fun r => ∀ c : Dev Cert.OutProj1Ideal.nD,
          r.2.mem ((c.tc : Thread Cert.OutProj1Ideal.nD Cert.OutProj1Ideal.τ).loc Cert.OutProj1Ideal.main_v24_0) = v0 c
          ∧ r.2.mem ((c.tc : Thread Cert.OutProj1Ideal.nD Cert.OutProj1Ideal.τ).loc Cert.OutProj1Ideal.main_v24_1) = v1 c
          ∧ r.2.mem ((c.tc : Thread Cert.OutProj1Ideal.nD Cert.OutProj1Ideal.τ).loc Cert.OutProj1Ideal.main_v24_2) = v2 c
          ∧ r.2.mem ((c.tc : Thread Cert.OutProj1Ideal.nD Cert.OutProj1Ideal.τ).loc Cert.OutProj1Ideal.main_arg0) = m ((c.tc : Thread Cert.OutProj1Ideal.nD Cert.OutProj1Ideal.τ).loc Cert.OutProj1Ideal.main_arg0)
          ∧ r.2.mem ((c.tc : Thread Cert.OutProj1Ideal.nD Cert.OutProj1Ideal.τ).loc Cert.OutProj1Ideal.main_arg1) = m ((c.tc : Thread Cert.OutProj1Ideal.nD Cert.OutProj1Ideal.τ).loc Cert.OutProj1Ideal.main_arg1)
          ∧ r.2.mem ((c.tc : Thread Cert.OutProj1Ideal.nD Cert.OutProj1Ideal.τ).loc Cert.OutProj1Ideal.main_arg2) = m ((c.tc : Thread Cert.OutProj1Ideal.nD Cert.OutProj1Ideal.τ).loc Cert.OutProj1Ideal.main_arg2)
          ∧ r.2.mem ((c.tc : Thread Cert.OutProj1Ideal.nD Cert.OutProj1Ideal.τ).loc Cert.OutProj1Ideal.main_arg3) = m ((c.tc : Thread Cert.OutProj1Ideal.nD Cert.OutProj1Ideal.τ).loc Cert.OutProj1Ideal.main_arg3)
          ∧ r.2.mem ((c.tc : Thread Cert.OutProj1Ideal.nD Cert.OutProj1Ideal.τ).loc Cert.OutProj1Ideal.main_arg4) = m ((c.tc : Thread Cert.OutProj1Ideal.nD Cert.OutProj1Ideal.τ).loc Cert.OutProj1Ideal.main_arg4)
          ∧ r.2.mem ((c.tc : Thread Cert.OutProj1Ideal.nD Cert.OutProj1Ideal.τ).loc Cert.OutProj1Ideal.main_arg5) = m ((c.tc : Thread Cert.OutProj1Ideal.nD Cert.OutProj1Ideal.τ).loc Cert.OutProj1Ideal.main_arg5)
          ∧ r.2.mem ((c.tc : Thread Cert.OutProj1Ideal.nD Cert.OutProj1Ideal.τ).loc Cert.OutProj1Ideal.main_arg6) = m ((c.tc : Thread Cert.OutProj1Ideal.nD Cert.OutProj1Ideal.τ).loc Cert.OutProj1Ideal.main_arg6)
          ∧ r.2.mem ((c.tc : Thread Cert.OutProj1Ideal.nD Cert.OutProj1Ideal.τ).loc Cert.OutProj1Ideal.main_arg7) = m ((c.tc : Thread Cert.OutProj1Ideal.nD Cert.OutProj1Ideal.τ).loc Cert.OutProj1Ideal.main_arg7)
          ∧ r.2.mem ((c.tc : Thread Cert.OutProj1Ideal.nD Cert.OutProj1Ideal.τ).loc Cert.OutProj1Ideal.main_arg8) = m ((c.tc : Thread Cert.OutProj1Ideal.nD Cert.OutProj1Ideal.τ).loc Cert.OutProj1Ideal.main_arg8)
          ∧ r.2.mem ((c.tc : Thread Cert.OutProj1Ideal.nD Cert.OutProj1Ideal.τ).loc Cert.OutProj1Ideal.main_arg9) = m ((c.tc : Thread Cert.OutProj1Ideal.nD Cert.OutProj1Ideal.τ).loc Cert.OutProj1Ideal.main_arg9))
      ∧ θ_run (Cert.ReferenceOut1Ideal.defs (F := Ideal)) (onTc (τ := Cert.ReferenceOut1Ideal.τ) (Cert.ReferenceOut1Ideal.main (F := Ideal))) ⟨m', fun _ => 0, g'⟩ (fun r => ∀ c : Dev Cert.ReferenceOut1Ideal.nD,
          r.2.mem ((c.tc : Thread Cert.ReferenceOut1Ideal.nD Cert.ReferenceOut1Ideal.τ).loc Cert.ReferenceOut1Ideal.main_v5) = v0 c
          ∧ r.2.mem ((c.tc : Thread Cert.ReferenceOut1Ideal.nD Cert.ReferenceOut1Ideal.τ).loc Cert.ReferenceOut1Ideal.main_v38) = v1 c
          ∧ r.2.mem ((c.tc : Thread Cert.ReferenceOut1Ideal.nD Cert.ReferenceOut1Ideal.τ).loc Cert.ReferenceOut1Ideal.main_v39) = v2 c
          ∧ r.2.mem ((c.tc : Thread Cert.ReferenceOut1Ideal.nD Cert.ReferenceOut1Ideal.τ).loc Cert.ReferenceOut1Ideal.main_arg0) = m' ((c.tc : Thread Cert.ReferenceOut1Ideal.nD Cert.ReferenceOut1Ideal.τ).loc Cert.ReferenceOut1Ideal.main_arg0)
          ∧ r.2.mem ((c.tc : Thread Cert.ReferenceOut1Ideal.nD Cert.ReferenceOut1Ideal.τ).loc Cert.ReferenceOut1Ideal.main_arg1) = m' ((c.tc : Thread Cert.ReferenceOut1Ideal.nD Cert.ReferenceOut1Ideal.τ).loc Cert.ReferenceOut1Ideal.main_arg1)
          ∧ r.2.mem ((c.tc : Thread Cert.ReferenceOut1Ideal.nD Cert.ReferenceOut1Ideal.τ).loc Cert.ReferenceOut1Ideal.main_arg2) = m' ((c.tc : Thread Cert.ReferenceOut1Ideal.nD Cert.ReferenceOut1Ideal.τ).loc Cert.ReferenceOut1Ideal.main_arg2)
          ∧ r.2.mem ((c.tc : Thread Cert.ReferenceOut1Ideal.nD Cert.ReferenceOut1Ideal.τ).loc Cert.ReferenceOut1Ideal.main_arg3) = m' ((c.tc : Thread Cert.ReferenceOut1Ideal.nD Cert.ReferenceOut1Ideal.τ).loc Cert.ReferenceOut1Ideal.main_arg3)
          ∧ r.2.mem ((c.tc : Thread Cert.ReferenceOut1Ideal.nD Cert.ReferenceOut1Ideal.τ).loc Cert.ReferenceOut1Ideal.main_arg4) = m' ((c.tc : Thread Cert.ReferenceOut1Ideal.nD Cert.ReferenceOut1Ideal.τ).loc Cert.ReferenceOut1Ideal.main_arg4)
          ∧ r.2.mem ((c.tc : Thread Cert.ReferenceOut1Ideal.nD Cert.ReferenceOut1Ideal.τ).loc Cert.ReferenceOut1Ideal.main_arg5) = m' ((c.tc : Thread Cert.ReferenceOut1Ideal.nD Cert.ReferenceOut1Ideal.τ).loc Cert.ReferenceOut1Ideal.main_arg5)
          ∧ r.2.mem ((c.tc : Thread Cert.ReferenceOut1Ideal.nD Cert.ReferenceOut1Ideal.τ).loc Cert.ReferenceOut1Ideal.main_arg6) = m' ((c.tc : Thread Cert.ReferenceOut1Ideal.nD Cert.ReferenceOut1Ideal.τ).loc Cert.ReferenceOut1Ideal.main_arg6)
          ∧ r.2.mem ((c.tc : Thread Cert.ReferenceOut1Ideal.nD Cert.ReferenceOut1Ideal.τ).loc Cert.ReferenceOut1Ideal.main_arg7) = m' ((c.tc : Thread Cert.ReferenceOut1Ideal.nD Cert.ReferenceOut1Ideal.τ).loc Cert.ReferenceOut1Ideal.main_arg7)
          ∧ r.2.mem ((c.tc : Thread Cert.ReferenceOut1Ideal.nD Cert.ReferenceOut1Ideal.τ).loc Cert.ReferenceOut1Ideal.main_arg8) = m' ((c.tc : Thread Cert.ReferenceOut1Ideal.nD Cert.ReferenceOut1Ideal.τ).loc Cert.ReferenceOut1Ideal.main_arg8)
          ∧ r.2.mem ((c.tc : Thread Cert.ReferenceOut1Ideal.nD Cert.ReferenceOut1Ideal.τ).loc Cert.ReferenceOut1Ideal.main_arg9) = m' ((c.tc : Thread Cert.ReferenceOut1Ideal.nD Cert.ReferenceOut1Ideal.τ).loc Cert.ReferenceOut1Ideal.main_arg9))

def Claim : Prop :=
  ∃ (hKernel : Cert.Kernel.Facts) (hKernelIdeal : Cert.KernelIdeal.Facts) (hReferenceIdeal : Cert.ReferenceIdeal.Facts) (hInProj0 : Cert.InProj0.Facts) (hInProj0Ideal : Cert.InProj0Ideal.Facts) (hReferenceIn0Ideal : Cert.ReferenceIn0Ideal.Facts) (hInProj1 : Cert.InProj1.Facts) (hInProj1Ideal : Cert.InProj1Ideal.Facts) (hReferenceIn1Ideal : Cert.ReferenceIn1Ideal.Facts) (hOutProj0 : Cert.OutProj0.Facts) (hOutProj0Ideal : Cert.OutProj0Ideal.Facts) (hReferenceOut0Ideal : Cert.ReferenceOut0Ideal.Facts) (hOutProj1 : Cert.OutProj1.Facts) (hOutProj1Ideal : Cert.OutProj1Ideal.Facts) (hReferenceOut1Ideal : Cert.ReferenceOut1Ideal.Facts) (hPre_in_range : Cert.Pre_in_range.Facts) (hPre_finite0 : Cert.Pre_finite0.Facts) (hPre_finite1 : Cert.Pre_finite1.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_InProj0 (hInProj0 := hInProj0)
    ∧ quiescent_InProj0Ideal (hInProj0Ideal := hInProj0Ideal)
    ∧ quiescent_ReferenceIn0Ideal (hReferenceIn0Ideal := hReferenceIn0Ideal)
    ∧ quiescent_InProj1 (hInProj1 := hInProj1)
    ∧ quiescent_InProj1Ideal (hInProj1Ideal := hInProj1Ideal)
    ∧ quiescent_ReferenceIn1Ideal (hReferenceIn1Ideal := hReferenceIn1Ideal)
    ∧ quiescent_OutProj0 (hOutProj0 := hOutProj0)
    ∧ quiescent_OutProj0Ideal (hOutProj0Ideal := hOutProj0Ideal)
    ∧ quiescent_OutProj0Ideal_pre_finite0 (hOutProj0Ideal := hOutProj0Ideal) (hPre_finite0 := hPre_finite0)
    ∧ quiescent_ReferenceOut0Ideal (hReferenceOut0Ideal := hReferenceOut0Ideal)
    ∧ quiescent_ReferenceOut0Ideal_pre_finite0 (hReferenceOut0Ideal := hReferenceOut0Ideal) (hPre_finite0 := hPre_finite0)
    ∧ quiescent_OutProj1 (hOutProj1 := hOutProj1)
    ∧ quiescent_OutProj1Ideal (hOutProj1Ideal := hOutProj1Ideal)
    ∧ quiescent_OutProj1Ideal_pre_finite1 (hOutProj1Ideal := hOutProj1Ideal) (hPre_finite1 := hPre_finite1)
    ∧ quiescent_ReferenceOut1Ideal (hReferenceOut1Ideal := hReferenceOut1Ideal)
    ∧ quiescent_ReferenceOut1Ideal_pre_finite1 (hReferenceOut1Ideal := hReferenceOut1Ideal) (hPre_finite1 := hPre_finite1)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_InProj0_InProj0Ideal
    ∧ algebraic_InProj0Ideal_ReferenceIn0Ideal (hInProj0Ideal := hInProj0Ideal) (hReferenceIn0Ideal := hReferenceIn0Ideal)
    ∧ preserves_InProj1_InProj1Ideal
    ∧ algebraic_InProj1Ideal_ReferenceIn1Ideal (hInProj1Ideal := hInProj1Ideal) (hReferenceIn1Ideal := hReferenceIn1Ideal)
    ∧ preserves_OutProj0_OutProj0Ideal
    ∧ algebraic_OutProj0Ideal_ReferenceOut0Ideal_pre_finite0 (hOutProj0Ideal := hOutProj0Ideal) (hReferenceOut0Ideal := hReferenceOut0Ideal) (hPre_finite0 := hPre_finite0)
    ∧ preserves_OutProj1_OutProj1Ideal
    ∧ algebraic_OutProj1Ideal_ReferenceOut1Ideal_pre_finite1 (hOutProj1Ideal := hOutProj1Ideal) (hReferenceOut1Ideal := hReferenceOut1Ideal) (hPre_finite1 := hPre_finite1)
-- ==== Pre_finite0.lean ====
abbrev S16384x512 : Shape := ⟨2, ![16384, 512]⟩
abbrev S16384x1024 : Shape := ⟨2, ![16384, 1024]⟩
abbrev S16384x2048 : Shape := ⟨2, ![16384, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S1x2048 : Shape := ⟨2, ![1, 2048]⟩
abbrev S_ : Shape := ⟨0, ![]⟩
abbrev S1x2048x4 : Shape := ⟨3, ![1, 2048, 4]⟩
abbrev S1x2048x32 : Shape := ⟨3, ![1, 2048, 32]⟩

class Facts : Prop where
  slices_S2x2048_S1x2048_0_0 : S2x2048.Slices ![0, 0] S1x2048
  bcast_S_S1x2048 : S_.BroadcastsInDim S1x2048 (![] : Fin 0 → Fin S1x2048.rank)
  reducesTo_S1x2048_S_d0_1 : S1x2048.ReducesTo [0, 1] S_
  h_S_ : 0 < S_.numel
  slices_S2x2048x4_S1x2048x4_0_0_0 : S2x2048x4.Slices ![0, 0, 0] S1x2048x4
  bcast_S_S1x2048x4 : S_.BroadcastsInDim S1x2048x4 (![] : Fin 0 → Fin S1x2048x4.rank)
  reducesTo_S1x2048x4_S_d0_1_2 : S1x2048x4.ReducesTo [0, 1, 2] S_
  slices_S2x2048x32_S1x2048x32_0_0_0 : S2x2048x32.Slices ![0, 0, 0] S1x2048x32
  bcast_S_S1x2048x32 : S_.BroadcastsInDim S1x2048x32 (![] : Fin 0 → Fin S1x2048x32.rank)
  reducesTo_S1x2048x32_S_d0_1_2 : S1x2048x32.ReducesTo [0, 1, 2] S_

variable [Facts]

def fn {F : FTy → Type} [FloatOps F] (main_arg0 : FVec F S16384x512 .bf16) (main_arg1 : FVec F S16384x1024 .bf16) (main_arg2 : FVec F S16384x512 .bf16) (main_arg3 : FVec F S16384x2048 .f32) (main_arg4 : FVec F S2x2048x2048 .f32) (main_arg5 : FVec F S2x2048 .f32) (main_arg6 : FVec F S2x2048x4 .f32) (main_arg7 : FVec F S2x4 .f32) (main_arg8 : FVec F S2x2048x32 .f32) (main_arg9 : FVec F S2x32 .f32) : IVec S_ 1 :=
  let main_v0 : FVec F S1x2048 .f32 := (extractStridedSlice S1x2048 ![0, 0] · slices_S2x2048_S1x2048_0_0) main_arg5
  let main_v1 : FVec F S1x2048 .f32 := Host.absf main_v0
  let main_cst : FVec F S_ .f32 := constant S_ .f32 0x7F800000#32
  let main_v2 : FVec F S1x2048 .f32 := broadcastInDim S1x2048 ![] bcast_S_S1x2048 main_cst
  let main_v3 : IVec S1x2048 1 := cmpf .olt main_v1 main_v2
  let main_c : IVec S_ 1 := constantI S_ 1 1#1
  let main_v4 : IVec S_ 1 := (fun x v => Host.reduce IntOp.andi x v reducesTo_S1x2048_S_d0_1 h_S_) main_v3 main_c
  let main_v5 : FVec F S1x2048x4 .f32 := (extractStridedSlice S1x2048x4 ![0, 0, 0] · slices_S2x2048x4_S1x2048x4_0_0_0) main_arg6
  let main_v6 : FVec F S1x2048x4 .f32 := Host.absf main_v5
  let main_cst_0 : FVec F S_ .f32 := constant S_ .f32 0x7F800000#32
  let main_v7 : FVec F S1x2048x4 .f32 := broadcastInDim S1x2048x4 ![] bcast_S_S1x2048x4 main_cst_0
  let main_v8 : IVec S1x2048x4 1 := cmpf .olt main_v6 main_v7
  let main_c_1 : IVec S_ 1 := constantI S_ 1 1#1
  let main_v9 : IVec S_ 1 := (fun x v => Host.reduce IntOp.andi x v reducesTo_S1x2048x4_S_d0_1_2 h_S_) main_v8 main_c_1
  let main_v10 : IVec S_ 1 := andi main_v4 main_v9
  let main_v11 : FVec F S1x2048x32 .f32 := (extractStridedSlice S1x2048x32 ![0, 0, 0] · slices_S2x2048x32_S1x2048x32_0_0_0) main_arg8
  let main_v12 : FVec F S1x2048x32 .f32 := Host.absf main_v11
  let main_cst_2 : FVec F S_ .f32 := constant S_ .f32 0x7F800000#32
  let main_v13 : FVec F S1x2048x32 .f32 := broadcastInDim S1x2048x32 ![] bcast_S_S1x2048x32 main_cst_2
  let main_v14 : IVec S1x2048x32 1 := cmpf .olt main_v12 main_v13
  let main_c_3 : IVec S_ 1 := constantI S_ 1 1#1
  let main_v15 : IVec S_ 1 := (fun x v => Host.reduce IntOp.andi x v reducesTo_S1x2048x32_S_d0_1_2 h_S_) main_v14 main_c_3
  let main_v16 : IVec S_ 1 := andi main_v10 main_v15
  main_v16
-- ==== Pre_finite1.lean ====
abbrev S16384x512 : Shape := ⟨2, ![16384, 512]⟩
abbrev S16384x1024 : Shape := ⟨2, ![16384, 1024]⟩
abbrev S16384x2048 : Shape := ⟨2, ![16384, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S1x2048 : Shape := ⟨2, ![1, 2048]⟩
abbrev S_ : Shape := ⟨0, ![]⟩
abbrev S1x2048x4 : Shape := ⟨3, ![1, 2048, 4]⟩
abbrev S1x2048x32 : Shape := ⟨3, ![1, 2048, 32]⟩

class Facts : Prop where
  slices_S2x2048_S1x2048_1_0 : S2x2048.Slices ![1, 0] S1x2048
  bcast_S_S1x2048 : S_.BroadcastsInDim S1x2048 (![] : Fin 0 → Fin S1x2048.rank)
  reducesTo_S1x2048_S_d0_1 : S1x2048.ReducesTo [0, 1] S_
  h_S_ : 0 < S_.numel
  slices_S2x2048x4_S1x2048x4_1_0_0 : S2x2048x4.Slices ![1, 0, 0] S1x2048x4
  bcast_S_S1x2048x4 : S_.BroadcastsInDim S1x2048x4 (![] : Fin 0 → Fin S1x2048x4.rank)
  reducesTo_S1x2048x4_S_d0_1_2 : S1x2048x4.ReducesTo [0, 1, 2] S_
  slices_S2x2048x32_S1x2048x32_1_0_0 : S2x2048x32.Slices ![1, 0, 0] S1x2048x32
  bcast_S_S1x2048x32 : S_.BroadcastsInDim S1x2048x32 (![] : Fin 0 → Fin S1x2048x32.rank)
  reducesTo_S1x2048x32_S_d0_1_2 : S1x2048x32.ReducesTo [0, 1, 2] S_

variable [Facts]

def fn {F : FTy → Type} [FloatOps F] (main_arg0 : FVec F S16384x512 .bf16) (main_arg1 : FVec F S16384x1024 .bf16) (main_arg2 : FVec F S16384x512 .bf16) (main_arg3 : FVec F S16384x2048 .f32) (main_arg4 : FVec F S2x2048x2048 .f32) (main_arg5 : FVec F S2x2048 .f32) (main_arg6 : FVec F S2x2048x4 .f32) (main_arg7 : FVec F S2x4 .f32) (main_arg8 : FVec F S2x2048x32 .f32) (main_arg9 : FVec F S2x32 .f32) : IVec S_ 1 :=
  let main_v0 : FVec F S1x2048 .f32 := (extractStridedSlice S1x2048 ![1, 0] · slices_S2x2048_S1x2048_1_0) main_arg5
  let main_v1 : FVec F S1x2048 .f32 := Host.absf main_v0
  let main_cst : FVec F S_ .f32 := constant S_ .f32 0x7F800000#32
  let main_v2 : FVec F S1x2048 .f32 := broadcastInDim S1x2048 ![] bcast_S_S1x2048 main_cst
  let main_v3 : IVec S1x2048 1 := cmpf .olt main_v1 main_v2
  let main_c : IVec S_ 1 := constantI S_ 1 1#1
  let main_v4 : IVec S_ 1 := (fun x v => Host.reduce IntOp.andi x v reducesTo_S1x2048_S_d0_1 h_S_) main_v3 main_c
  let main_v5 : FVec F S1x2048x4 .f32 := (extractStridedSlice S1x2048x4 ![1, 0, 0] · slices_S2x2048x4_S1x2048x4_1_0_0) main_arg6
  let main_v6 : FVec F S1x2048x4 .f32 := Host.absf main_v5
  let main_cst_0 : FVec F S_ .f32 := constant S_ .f32 0x7F800000#32
  let main_v7 : FVec F S1x2048x4 .f32 := broadcastInDim S1x2048x4 ![] bcast_S_S1x2048x4 main_cst_0
  let main_v8 : IVec S1x2048x4 1 := cmpf .olt main_v6 main_v7
  let main_c_1 : IVec S_ 1 := constantI S_ 1 1#1
  let main_v9 : IVec S_ 1 := (fun x v => Host.reduce IntOp.andi x v reducesTo_S1x2048x4_S_d0_1_2 h_S_) main_v8 main_c_1
  let main_v10 : IVec S_ 1 := andi main_v4 main_v9
  let main_v11 : FVec F S1x2048x32 .f32 := (extractStridedSlice S1x2048x32 ![1, 0, 0] · slices_S2x2048x32_S1x2048x32_1_0_0) main_arg8
  let main_v12 : FVec F S1x2048x32 .f32 := Host.absf main_v11
  let main_cst_2 : FVec F S_ .f32 := constant S_ .f32 0x7F800000#32
  let main_v13 : FVec F S1x2048x32 .f32 := broadcastInDim S1x2048x32 ![] bcast_S_S1x2048x32 main_cst_2
  let main_v14 : IVec S1x2048x32 1 := cmpf .olt main_v12 main_v13
  let main_c_3 : IVec S_ 1 := constantI S_ 1 1#1
  let main_v15 : IVec S_ 1 := (fun x v => Host.reduce IntOp.andi x v reducesTo_S1x2048x32_S_d0_1_2 h_S_) main_v14 main_c_3
  let main_v16 : IVec S_ 1 := andi main_v10 main_v15
  main_v16
-- ==== Pre_in_range.lean ====
abbrev S16384x6912 : Shape := ⟨2, ![16384, 6912]⟩
abbrev S2x512 : Shape := ⟨2, ![2, 512]⟩
abbrev S16384x1536 : Shape := ⟨2, ![16384, 1536]⟩
abbrev S_ : Shape := ⟨0, ![]⟩
abbrev S16384x512 : Shape := ⟨2, ![16384, 512]⟩

class Facts : Prop where
  slices_S16384x6912_S16384x1536_0_4608 : S16384x6912.Slices ![0, 4608] S16384x1536
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  slices_S16384x6912_S16384x512_0_5120 : S16384x6912.Slices ![0, 5120] S16384x512
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x6912 .f32) (main_arg1 : FVec F S2x512 .f32) (main_arg2 : FVec F S2x512 .f32) : IVec S_ 1 :=
  let main_v0 : FVec F S16384x1536 .f32 := (extractStridedSlice S16384x1536 ![0, 4608] · slices_S16384x6912_S16384x1536_0_4608) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_c : IVec S_ 1 := constantI S_ 1 1#1
  let main_v4 : IVec S_ 1 := (fun x v => Host.reduce IntOp.andi x v reducesTo_S16384x1536_S_d0_1 h_S_) main_v3 main_c
  let main_v5 : FVec F S2x512 .f32 := Host.absf main_arg1
  let main_cst_0 : FVec F S_ .f32 := constant S_ .f32 0x7F800000#32
  let main_v6 : FVec F S2x512 .f32 := broadcastInDim S2x512 ![] bcast_S_S2x512 main_cst_0
  let main_v7 : IVec S2x512 1 := cmpf .olt main_v5 main_v6
  let main_c_1 : IVec S_ 1 := constantI S_ 1 1#1
  let main_v8 : IVec S_ 1 := (fun x v => Host.reduce IntOp.andi x v reducesTo_S2x512_S_d0_1 h_S_) main_v7 main_c_1
  let main_v9 : IVec S_ 1 := andi main_v4 main_v8
  let main_v10 : FVec F S16384x512 .f32 := (extractStridedSlice S16384x512 ![0, 5120] · slices_S16384x6912_S16384x512_0_5120) main_arg0
  let main_cst_2 : FVec F S_ .f32 := constant S_ .f32 0x42800000#32
  let main_v11 : FVec F S16384x512 .f32 := broadcastInDim S16384x512 ![] bcast_S_S16384x512 main_cst_2
  let main_v12 : IVec S16384x512 1 := cmpf .ole main_v10 main_v11
  let main_c_3 : IVec S_ 1 := constantI S_ 1 1#1
  let main_v13 : IVec S_ 1 := (fun x v => Host.reduce IntOp.andi x v reducesTo_S16384x512_S_d0_1 h_S_) main_v12 main_c_3
  let main_v14 : IVec S_ 1 := andi main_v9 main_v13
  main_v14
-- ==== Kernel.lean ====
abbrev S16384x6912 : Shape := ⟨2, ![16384, 6912]⟩
abbrev S2x512 : Shape := ⟨2, ![2, 512]⟩
abbrev S1x512 : Shape := ⟨2, ![1, 512]⟩
abbrev S512 : Shape := ⟨1, ![512]⟩
abbrev S16384x512 : Shape := ⟨2, ![16384, 512]⟩
abbrev S2048x512 : Shape := ⟨2, ![2048, 512]⟩
abbrev S4x128x128 : Shape := ⟨3, ![4, 128, 128]⟩
abbrev S128x512 : Shape := ⟨2, ![128, 512]⟩
abbrev S128x128 : Shape := ⟨2, ![128, 128]⟩
abbrev S8x512 : Shape := ⟨2, ![8, 512]⟩
abbrev S16x512 : Shape := ⟨2, ![16, 512]⟩
abbrev S32x512 : Shape := ⟨2, ![32, 512]⟩
abbrev S64x512 : Shape := ⟨2, ![64, 512]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S16384x6912, .f32⟩
  | .hbm, ⟨1, _⟩ => ⟨S2x512, .f32⟩
  | .hbm, ⟨2, _⟩ => ⟨S2x512, .f32⟩
  | .hbm, ⟨3, _⟩ => ⟨S1x512, .f32⟩
  | .hbm, ⟨4, _⟩ => ⟨S512, .f32⟩
  | .hbm, ⟨5, _⟩ => ⟨S1x512, .f32⟩
  | .hbm, ⟨6, _⟩ => ⟨S16384x512, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S4x128x128, .f32⟩
  | .local _ .vmem, ⟨13, _⟩ => ⟨S128x512, .f32⟩
  | _, _ => ⟨S16384x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v40 : BitVec 32 := Scalar.addi c0_i32 c16_i32
  let c1_i32 : BitVec 32 := 1#32
  ⟨c0_i32, v40, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v41 : BitVec 32 := Scalar.muli arg10 c128_i32
  v41
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v41 : BitVec 32 := Scalar.muli arg10 c128_i32
  let v42 : BitVec 32 := v41
  let v43 : Index := Scalar.indexCast v42
  let c0_10 : Index := 0#32
  ![v43.toNat, 0]
def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x6912 : Shape := ⟨2, ![16384, 6912]⟩
abbrev S2x512 : Shape := ⟨2, ![2, 512]⟩
abbrev S_ : Shape := ⟨0, ![]⟩
abbrev S512 : Shape := ⟨1, ![512]⟩
abbrev S1x512 : Shape := ⟨2, ![1, 512]⟩
abbrev S16384x512 : Shape := ⟨2, ![16384, 512]⟩
abbrev S8x2048x512 : Shape := ⟨3, ![8, 2048, 512]⟩
abbrev S8x2048x4x128 : Shape := ⟨4, ![8, 2048, 4, 128]⟩
abbrev S1x1x512 : Shape := ⟨3, ![1, 1, 512]⟩
abbrev S64x64 : Shape := ⟨2, ![64, 64]⟩
abbrev S64x64x1 : Shape := ⟨3, ![64, 64, 1]⟩
abbrev S8x4x128x128 : Shape := ⟨4, ![8, 4, 128, 128]⟩
abbrev S8x32x64x4x128 : Shape := ⟨5, ![8, 32, 64, 4, 128]⟩
abbrev S32x8x4x64x128 : Shape := ⟨5, ![32, 8, 4, 64, 128]⟩
abbrev S1x8x4x64x128 : Shape := ⟨5, ![1, 8, 4, 64, 128]⟩
abbrev S8x4x64x128 : Shape := ⟨4, ![8, 4, 64, 128]⟩
abbrev S8x4x1x128 : Shape := ⟨4, ![8, 4, 1, 128]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S8x4x64x64 : Shape := ⟨4, ![8, 4, 64, 64]⟩
abbrev S8x4x128x1 : Shape := ⟨4, ![8, 4, 128, 1]⟩
abbrev S8x2048x4 : Shape := ⟨3, ![8, 2048, 4]⟩
abbrev S8x2048x4x1 : Shape := ⟨4, ![8, 2048, 4, 1]⟩

abbrev nBuf : Space → Nat
  | .hbm => 251
  | .vmem => 0
  | .smem => 0
  | _ => 0

abbrev hbmTy0_0 (i : Nat) : BufTy := match i % 128 with
  | 0 => ⟨S16384x6912, .f32⟩
  | 1 => ⟨S2x512, .f32⟩
  | 2 => ⟨S2x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S1x512, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S16384x512, .f32⟩
  | 29 => ⟨S8x2048x512, .f32⟩
  | 30 => ⟨S16384x512, .f32⟩
  | 31 => ⟨S8x2048x512, .f32⟩
  | 32 => ⟨S16384x512, .f32⟩
  | 33 => ⟨S8x2048x512, .f32⟩
  | 34 => ⟨S16384x512, .f32⟩
  | 35 => ⟨S8x2048x512, .f32⟩
  | 36 => ⟨S1x512, .f32⟩
  | 37 => ⟨S512, .f32⟩
  | 38 => ⟨S1x512, .f32⟩
  | 39 => ⟨S512, .f32⟩
  | 40 => ⟨S8x2048x512, .f32⟩
  | 41 => ⟨S8x2048x512, .f32⟩
  | 42 => ⟨S_, .f32⟩
  | 43 => ⟨S8x2048x512, .f32⟩
  | 44 => ⟨S8x2048x512, .f32⟩
  | 45 => ⟨S_, .f32⟩
  | 46 => ⟨S8x2048x512, .f32⟩
  | 47 => ⟨S8x2048x512, .f32⟩
  | 48 => ⟨S8x2048x512, .f32⟩
  | 49 => ⟨S8x2048x4x128, .f32⟩
  | 50 => ⟨S_, .f32⟩
  | 51 => ⟨S8x2048x4x128, .f32⟩
  | 52 => ⟨S8x2048x4x128, .f32⟩
  | 53 => ⟨S_, .f32⟩
  | 54 => ⟨S512, .f32⟩
  | 55 => ⟨S512, .f32⟩
  | 56 => ⟨S512, .f32⟩
  | 57 => ⟨S512, .f32⟩
  | 58 => ⟨S512, .f32⟩
  | 59 => ⟨S8x2048x512, .f32⟩
  | 60 => ⟨S_, .f32⟩
  | 61 => ⟨S8x2048x512, .f32⟩
  | 62 => ⟨S8x2048x512, .f32⟩
  | 63 => ⟨S8x2048x512, .f32⟩
  | 64 => ⟨S8x2048x512, .f32⟩
  | 65 => ⟨S8x2048x512, .i1⟩
  | 66 => ⟨S8x2048x512, .f32⟩
  | 67 => ⟨S8x2048x512, .f32⟩
  | 68 => ⟨S8x2048x512, .f32⟩
  | 69 => ⟨S8x2048x512, .f32⟩
  | 70 => ⟨S8x2048x512, .f32⟩
  | 71 => ⟨S8x2048x512, .f32⟩
  | 72 => ⟨S8x2048x512, .f32⟩
  | 73 => ⟨S8x2048x512, .f32⟩
  | 74 => ⟨S8x2048x512, .f32⟩
  | 75 => ⟨S1x1x512, .f32⟩
  | 76 => ⟨S8x2048x512, .f32⟩
  | 77 => ⟨S8x2048x512, .f32⟩
  | 78 => ⟨S1x1x512, .f32⟩
  | 79 => ⟨S8x2048x512, .f32⟩
  | 80 => ⟨S8x2048x512, .f32⟩
  | 81 => ⟨S8x2048x512, .f32⟩
  | 82 => ⟨S8x2048x512, .f32⟩
  | 83 => ⟨S8x2048x512, .i1⟩
  | 84 => ⟨S8x2048x512, .f32⟩
  | 85 => ⟨S8x2048x512, .f32⟩
  | 86 => ⟨S8x2048x512, .f32⟩
  | 87 => ⟨S8x2048x512, .f32⟩
  | 88 => ⟨S8x2048x512, .f32⟩
  | 89 => ⟨S8x2048x512, .f32⟩
  | 90 => ⟨S8x2048x512, .f32⟩
  | 91 => ⟨S8x2048x512, .f32⟩
  | 92 => ⟨S_, .f32⟩
  | 93 => ⟨S512, .f32⟩
  | 94 => ⟨S512, .f32⟩
  | 95 => ⟨S8x2048x512, .f32⟩
  | 96 => ⟨S8x2048x512, .f32⟩
  | 97 => ⟨S8x2048x512, .f32⟩
  | 98 => ⟨S_, .f32⟩
  | 99 => ⟨S8x2048x512, .f32⟩
  | 100 => ⟨S8x2048x512, .f32⟩
  | 101 => ⟨S_, .f32⟩
  | 102 => ⟨S8x2048x512, .f32⟩
  | 103 => ⟨S8x2048x512, .f32⟩
  | 104 => ⟨S1x1x512, .f32⟩
  | 105 => ⟨S8x2048x512, .f32⟩
  | 106 => ⟨S8x2048x512, .f32⟩
  | 107 => ⟨S8x2048x4x128, .f32⟩
  | 108 => ⟨S8x2048x4x128, .f32⟩
  | 109 => ⟨S8x2048x4x128, .f32⟩
  | 110 => ⟨S_, .i1⟩
  | 111 => ⟨S64x64, .i1⟩
  | 112 => ⟨S64x64, .i32⟩
  | 113 => ⟨S_, .i32⟩
  | 114 => ⟨S64x64, .i32⟩
  | 115 => ⟨S64x64, .i32⟩
  | 116 => ⟨S64x64, .i32⟩
  | 117 => ⟨S64x64, .i1⟩
  | 118 => ⟨S_, .i1⟩
  | 119 => ⟨S64x64, .i1⟩
  | 120 => ⟨S64x64, .i1⟩
  | 121 => ⟨S64x64x1, .i1⟩
  | 122 => ⟨S_, .f32⟩
  | 123 => ⟨S8x4x128x128, .f32⟩
  | 124 => ⟨S8x32x64x4x128, .f32⟩
  | 125 => ⟨S32x8x4x64x128, .f32⟩
  | 126 => ⟨S8x32x64x4x128, .f32⟩
  | 127 => ⟨S32x8x4x64x128, .f32⟩
  | _ => ⟨S16384x6912, .f32⟩

abbrev hbmTy0_1 (i : Nat) : BufTy := match i % 128 with
  | 0 => ⟨S8x32x64x4x128, .f32⟩
  | 1 => ⟨S32x8x4x64x128, .f32⟩
  | 2 => ⟨S8x32x64x4x128, .f32⟩
  | 3 => ⟨S32x8x4x64x128, .f32⟩
  | 4 => ⟨S_, .f32⟩
  | 5 => ⟨S32x8x4x64x128, .f32⟩
  | 6 => ⟨S_, .i32⟩
  | 7 => ⟨S32x8x4x64x128, .f32⟩
  | 8 => ⟨S32x8x4x64x128, .f32⟩
  | 9 => ⟨S32x8x4x64x128, .f32⟩
  | 10 => ⟨S32x8x4x64x128, .f32⟩
  | 11 => ⟨S64x64x1, .i1⟩
  | 12 => ⟨S_, .i32⟩
  | 13 => ⟨S8x4x128x128, .f32⟩
  | 14 => ⟨S32x8x4x64x128, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S1x8x4x64x128, .f32⟩
  | 22 => ⟨S8x4x64x128, .f32⟩
  | 23 => ⟨S_, .i32⟩
  | 24 => ⟨S_, .i32⟩
  | 25 => ⟨S_, .i32⟩
  | 26 => ⟨S_, .i32⟩
  | 27 => ⟨S1x8x4x64x128, .f32⟩
  | 28 => ⟨S8x4x64x128, .f32⟩
  | 29 => ⟨S_, .i32⟩
  | 30 => ⟨S_, .i32⟩
  | 31 => ⟨S_, .i32⟩
  | 32 => ⟨S_, .i32⟩
  | 33 => ⟨S1x8x4x64x128, .f32⟩
  | 34 => ⟨S8x4x64x128, .f32⟩
  | 35 => ⟨S_, .i32⟩
  | 36 => ⟨S_, .i32⟩
  | 37 => ⟨S_, .i32⟩
  | 38 => ⟨S_, .i32⟩
  | 39 => ⟨S1x8x4x64x128, .f32⟩
  | 40 => ⟨S8x4x64x128, .f32⟩
  | 41 => ⟨S_, .f32⟩
  | 42 => ⟨S_, .f32⟩
  | 43 => ⟨S8x4x64x128, .f32⟩
  | 44 => ⟨S8x4x1x128, .f32⟩
  | 45 => ⟨S8x4x64x1x128, .f32⟩
  | 46 => ⟨S8x4x1x64x128, .f32⟩
  | 47 => ⟨S8x4x64x64x128, .f32⟩
  | 48 => ⟨S8x4x64x64x128, .f32⟩
  | 49 => ⟨S8x4x64x64x128, .f32⟩
  | 50 => ⟨S_, .f32⟩
  | 51 => ⟨S_, .f32⟩
  | 52 => ⟨S8x4x64x64x128, .i1⟩
  | 53 => ⟨S8x4x64x64x128, .f32⟩
  | 54 => ⟨S8x4x64x64x128, .f32⟩
  | 55 => ⟨S8x4x64x64x128, .f32⟩
  | 56 => ⟨S_, .f32⟩
  | 57 => ⟨S_, .f32⟩
  | 58 => ⟨S8x4x64x64x128, .i1⟩
  | 59 => ⟨S8x4x64x64x128, .f32⟩
  | 60 => ⟨S8x4x64x64x128, .f32⟩
  | 61 => ⟨S8x4x64x1x128, .f32⟩
  | 62 => ⟨S8x4x1x64x128, .f32⟩
  | 63 => ⟨S8x4x64x64x128, .f32⟩
  | 64 => ⟨S8x4x64x64x128, .f32⟩
  | 65 => ⟨S8x4x64x64x128, .f32⟩
  | 66 => ⟨S8x4x64x64x128, .f32⟩
  | 67 => ⟨S_, .f32⟩
  | 68 => ⟨S8x4x64x64, .f32⟩
  | 69 => ⟨S8x4x64x128, .f32⟩
  | 70 => ⟨S8x4x64x128, .f32⟩
  | 71 => ⟨S8x4x64x128, .f32⟩
  | 72 => ⟨S8x4x64x128, .f32⟩
  | 73 => ⟨S8x4x64x128, .f32⟩
  | 74 => ⟨S8x4x1x128, .f32⟩
  | 75 => ⟨S8x4x128x1, .f32⟩
  | 76 => ⟨S8x4x128x128, .f32⟩
  | 77 => ⟨S8x4x128x128, .f32⟩
  | 78 => ⟨S8x4x64x128, .f32⟩
  | 79 => ⟨S8x4x64x128, .f32⟩
  | 80 => ⟨S8x4x64x128, .f32⟩
  | 81 => ⟨S8x4x64x128, .f32⟩
  | 82 => ⟨S8x4x128x128, .f32⟩
  | 83 => ⟨S8x4x128x128, .f32⟩
  | 84 => ⟨S1x8x4x64x128, .f32⟩
  | 85 => ⟨S_, .i32⟩
  | 86 => ⟨S_, .i32⟩
  | 87 => ⟨S_, .i32⟩
  | 88 => ⟨S_, .i32⟩
  | 89 => ⟨S32x8x4x64x128, .f32⟩
  | 90 => ⟨S_, .i32⟩
  | 91 => ⟨S_, .i32⟩
  | 92 => ⟨S8x32x64x4x128, .f32⟩
  | 93 => ⟨S8x2048x4x128, .f32⟩
  | 94 => ⟨S8x2048x4x128, .f32⟩
  | 95 => ⟨S_, .f32⟩
  | 96 => ⟨S8x2048x4, .f32⟩
  | 97 => ⟨S8x2048x4x1, .f32⟩
  | 98 => ⟨S_, .f32⟩
  | 99 => ⟨S8x2048x4x1, .f32⟩
  | 100 => ⟨S8x2048x4x1, .f32⟩
  | 101 => ⟨S_, .f32⟩
  | 102 => ⟨S8x2048x4x1, .f32⟩
  | 103 => ⟨S8x2048x4x1, .f32⟩
  | 104 => ⟨S8x2048x4x1, .f32⟩
  | 105 => ⟨S8x2048x4x128, .f32⟩
  | 106 => ⟨S8x2048x4x128, .f32⟩
  | 107 => ⟨S8x2048x512, .f32⟩
  | 108 => ⟨S1x1x512, .f32⟩
  | 109 => ⟨S8x2048x512, .f32⟩
  | 110 => ⟨S8x2048x512, .f32⟩
  | 111 => ⟨S8x2048x512, .f32⟩
  | 112 => ⟨S8x2048x512, .f32⟩
  | 113 => ⟨S_, .f32⟩
  | 114 => ⟨S8x2048x512, .f32⟩
  | 115 => ⟨S8x2048x512, .f32⟩
  | 116 => ⟨S_, .f32⟩
  | 117 => ⟨S8x2048x512, .f32⟩
  | 118 => ⟨S8x2048x512, .f32⟩
  | 119 => ⟨S8x2048x512, .f32⟩
  | 120 => ⟨S8x2048x512, .f32⟩
  | 121 => ⟨S16384x512, .f32⟩
  | 122 => ⟨S16384x512, .bf16⟩
  | _ => ⟨S16384x6912, .f32⟩

abbrev hbmTy (i : Nat) : BufTy := match i / 128 with
  | 0 => hbmTy0_0 i
  | 1 => hbmTy0_1 i
  | _ => ⟨S16384x6912, .f32⟩

abbrev bufTy : (tb : Table) → Fin (tcTables nBuf tb) → BufTy
  | .hbm, ⟨i, _⟩ => hbmTy i
  | _, _ => ⟨S16384x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call2_v0 : Ref sig .tc := ⟨.hbm, 59, rfl⟩
abbrev main_call2_call0_cst : Ref sig .tc := ⟨.hbm, 60, rfl⟩
abbrev main_call2_call0_v0 : Ref sig .tc := ⟨.hbm, 61, rfl⟩
abbrev main_call2_call0_v1 : Ref sig .tc := ⟨.hbm, 62, rfl⟩
abbrev main_call2_call0_v2 : Ref sig .tc := ⟨.hbm, 63, rfl⟩
abbrev main_call2_call0_v3 : Ref sig .tc := ⟨.hbm, 64, rfl⟩
abbrev main_call2_call0_v4 : Ref sig .tc := ⟨.hbm, 65, rfl⟩
abbrev main_call2_call0_v5 : Ref sig .tc := ⟨.hbm, 66, rfl⟩
abbrev main_call2_call0_v6 : Ref sig .tc := ⟨.hbm, 67, rfl⟩
abbrev main_call2_call0_v7 : Ref sig .tc := ⟨.hbm, 68, rfl⟩
abbrev main_call2_call0_v8 : Ref sig .tc := ⟨.hbm, 69, rfl⟩
abbrev main_call2_call0_v9 : Ref sig .tc := ⟨.hbm, 70, rfl⟩
abbrev main_call2_call0_v10 : Ref sig .tc := ⟨.hbm, 71, rfl⟩
abbrev main_call2_call0_v11 : Ref sig .tc := ⟨.hbm, 72, rfl⟩
abbrev main_call2_v1 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_6 : Ref sig .tc := ⟨.hbm, 98, rfl⟩
abbrev main_v63 : Ref sig .tc := ⟨.hbm, 99, rfl⟩
abbrev main_v64 : Ref sig .tc := ⟨.hbm, 100, rfl⟩
abbrev main_cst_7 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c : Ref sig .tc := ⟨.hbm, 110, rfl⟩
abbrev main_v73 : Ref sig .tc := ⟨.hbm, 111, rfl⟩
abbrev main_call3_v0 : Ref sig .tc := ⟨.hbm, 112, rfl⟩
abbrev main_call3_c : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_0 : Ref sig .tc := ⟨.hbm, 118, rfl⟩
abbrev main_call3_v5 : Ref sig .tc := ⟨.hbm, 119, rfl⟩
abbrev main_v74 : Ref sig .tc := ⟨.hbm, 120, rfl⟩
abbrev main_v75 : Ref sig .tc := ⟨.hbm, 121, rfl⟩
abbrev main_cst_8 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_9 : Ref sig .tc := ⟨.hbm, 132, rfl⟩
abbrev main_v85 : Ref sig .tc := ⟨.hbm, 133, rfl⟩
abbrev main_c_10 : Ref sig .tc := ⟨.hbm, 134, rfl⟩
abbrev main_v86_0 : Ref sig .tc := ⟨.hbm, 135, rfl⟩
abbrev main_v86_1 : Ref sig .tc := ⟨.hbm, 136, rfl⟩
abbrev main_v86_2 : Ref sig .tc := ⟨.hbm, 137, rfl⟩
abbrev main_v86_3 : Ref sig .tc := ⟨.hbm, 138, rfl⟩
abbrev main_v86_4 : Ref sig .tc := ⟨.hbm, 139, rfl⟩
abbrev main_v86_5 : Ref sig .tc := ⟨.hbm, 140, rfl⟩
abbrev main_v86_6 : Ref sig .tc := ⟨.hbm, 141, rfl⟩
abbrev main_v86_7 : Ref sig .tc := ⟨.hbm, 142, rfl⟩
abbrev main_while0c_c_21 : Ref sig .tc := ⟨.hbm, 143, rfl⟩
abbrev main_while0c_v107 : Ref sig .tc := ⟨.hbm, 144, rfl⟩
abbrev main_while0b_call4_c : Ref sig .tc := ⟨.hbm, 145, rfl⟩
abbrev main_while0b_call4_c_0 : Ref sig .tc := ⟨.hbm, 146, rfl⟩
abbrev main_while0b_call4_c_1 : Ref sig .tc := ⟨.hbm, 147, rfl⟩
abbrev main_while0b_call4_c_2 : Ref sig .tc := ⟨.hbm, 148, rfl⟩
abbrev main_while0b_call4_v0 : Ref sig .tc := ⟨.hbm, 149, rfl⟩
abbrev main_while0b_v107 : Ref sig .tc := ⟨.hbm, 150, rfl⟩
abbrev main_while0b_call5_c : Ref sig .tc := ⟨.hbm, 151, rfl⟩
abbrev main_while0b_call5_c_0 : Ref sig .tc := ⟨.hbm, 152, rfl⟩
abbrev main_while0b_call5_c_1 : Ref sig .tc := ⟨.hbm, 153, rfl⟩
abbrev main_while0b_call5_c_2 : Ref sig .tc := ⟨.hbm, 154, rfl⟩
abbrev main_while0b_call5_v0 : Ref sig .tc := ⟨.hbm, 155, rfl⟩
abbrev main_while0b_v108 : Ref sig .tc := ⟨.hbm, 156, rfl⟩
abbrev main_while0b_call6_c : Ref sig .tc := ⟨.hbm, 157, rfl⟩
abbrev main_while0b_call6_c_0 : Ref sig .tc := ⟨.hbm, 158, rfl⟩
abbrev main_while0b_call6_c_1 : Ref sig .tc := ⟨.hbm, 159, rfl⟩
abbrev main_while0b_call6_c_2 : Ref sig .tc := ⟨.hbm, 160, rfl⟩
abbrev main_while0b_call6_v0 : Ref sig .tc := ⟨.hbm, 161, rfl⟩
abbrev main_while0b_v109 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_v0 : Ref sig .tc := ⟨.hbm, 167, rfl⟩
abbrev main_while0b_v110 : Ref sig .tc := ⟨.hbm, 168, rfl⟩
abbrev main_while0b_call8_call0_cst : Ref sig .tc := ⟨.hbm, 169, rfl⟩
abbrev main_while0b_call8_call0_v0 : Ref sig .tc := ⟨.hbm, 170, rfl⟩
abbrev main_while0b_v111 : Ref sig .tc := ⟨.hbm, 171, rfl⟩
abbrev main_while0b_v112 : Ref sig .tc := ⟨.hbm, 172, rfl⟩
abbrev main_while0b_v113 : Ref sig .tc := ⟨.hbm, 173, rfl⟩
abbrev main_while0b_v114 : Ref sig .tc := ⟨.hbm, 174, rfl⟩
abbrev main_while0b_v115 : Ref sig .tc := ⟨.hbm, 175, rfl⟩
abbrev main_while0b_v116 : Ref sig .tc := ⟨.hbm, 176, rfl⟩
abbrev main_while0b_v117 : Ref sig .tc := ⟨.hbm, 177, rfl⟩
abbrev main_while0b_cst_21 : Ref sig .tc := ⟨.hbm, 178, rfl⟩
abbrev main_while0b_call9_v0 : Ref sig .tc := ⟨.hbm, 179, rfl⟩
abbrev main_while0b_call9_v1 : Ref sig .tc := ⟨.hbm, 180, rfl⟩
abbrev main_while0b_call9_v2 : Ref sig .tc := ⟨.hbm, 181, rfl⟩
abbrev main_while0b_v118 : Ref sig .tc := ⟨.hbm, 182, rfl⟩
abbrev main_while0b_v119 : Ref sig .tc := ⟨.hbm, 183, rfl⟩
abbrev main_while0b_cst_22 : Ref sig .tc := ⟨.hbm, 184, rfl⟩
abbrev main_while0b_call10_v0 : Ref sig .tc := ⟨.hbm, 185, rfl⟩
abbrev main_while0b_call10_v1 : Ref sig .tc := ⟨.hbm, 186, rfl⟩
abbrev main_while0b_call10_v2 : Ref sig .tc := ⟨.hbm, 187, rfl⟩
abbrev main_while0b_v120 : Ref sig .tc := ⟨.hbm, 188, rfl⟩
abbrev main_while0b_v121 : Ref sig .tc := ⟨.hbm, 189, rfl⟩
abbrev main_while0b_v122 : Ref sig .tc := ⟨.hbm, 190, rfl⟩
abbrev main_while0b_v123 : Ref sig .tc := ⟨.hbm, 191, rfl⟩
abbrev main_while0b_v124 : Ref sig .tc := ⟨.hbm, 192, rfl⟩
abbrev main_while0b_v125 : Ref sig .tc := ⟨.hbm, 193, rfl⟩
abbrev main_while0b_v126 : Ref sig .tc := ⟨.hbm, 194, rfl⟩
abbrev main_while0b_cst_23 : Ref sig .tc := ⟨.hbm, 195, rfl⟩
abbrev main_while0b_v127 : Ref sig .tc := ⟨.hbm, 196, rfl⟩
abbrev main_while0b_v128 : Ref sig .tc := ⟨.hbm, 197, rfl⟩
abbrev main_while0b_v129 : Ref sig .tc := ⟨.hbm, 198, rfl⟩
abbrev main_while0b_v130 : Ref sig .tc := ⟨.hbm, 199, rfl⟩
abbrev main_while0b_v131 : Ref sig .tc := ⟨.hbm, 200, rfl⟩
abbrev main_while0b_v132 : Ref sig .tc := ⟨.hbm, 201, rfl⟩
abbrev main_while0b_v133 : Ref sig .tc := ⟨.hbm, 202, rfl⟩
abbrev main_while0b_v134 : Ref sig .tc := ⟨.hbm, 203, rfl⟩
abbrev main_while0b_v135 : Ref sig .tc := ⟨.hbm, 204, rfl⟩
abbrev main_while0b_v136 : Ref sig .tc := ⟨.hbm, 205, rfl⟩
abbrev main_while0b_v137 : Ref sig .tc := ⟨.hbm, 206, rfl⟩
abbrev main_while0b_v138 : Ref sig .tc := ⟨.hbm, 207, rfl⟩
abbrev main_while0b_v139 : Ref sig .tc := ⟨.hbm, 208, rfl⟩
abbrev main_while0b_v140 : Ref sig .tc := ⟨.hbm, 209, rfl⟩
abbrev main_while0b_v141 : Ref sig .tc := ⟨.hbm, 210, rfl⟩
abbrev main_while0b_v142 : Ref sig .tc := ⟨.hbm, 211, rfl⟩
abbrev main_while0b_call11_v0 : Ref sig .tc := ⟨.hbm, 212, rfl⟩
abbrev main_while0b_call11_c : Ref sig .tc := ⟨.hbm, 213, rfl⟩
abbrev main_while0b_call11_c_0 : Ref sig .tc := ⟨.hbm, 214, rfl⟩
abbrev main_while0b_call11_c_1 : Ref sig .tc := ⟨.hbm, 215, rfl⟩
abbrev main_while0b_call11_c_2 : Ref sig .tc := ⟨.hbm, 216, rfl⟩
abbrev main_while0b_v143 : Ref sig .tc := ⟨.hbm, 217, rfl⟩
abbrev main_while0b_c_24 : Ref sig .tc := ⟨.hbm, 218, rfl⟩
abbrev main_while0b_v144 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_cst_11 : Ref sig .tc := ⟨.hbm, 223, rfl⟩
abbrev main_v90 : Ref sig .tc := ⟨.hbm, 224, rfl⟩
abbrev main_v91 : Ref sig .tc := ⟨.hbm, 225, rfl⟩
abbrev main_cst_12 : Ref sig .tc := ⟨.hbm, 226, rfl⟩
abbrev main_v92 : Ref sig .tc := ⟨.hbm, 227, rfl⟩
abbrev main_v93 : Ref sig .tc := ⟨.hbm, 228, rfl⟩
abbrev main_cst_13 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_call12_v0 : Ref sig .tc := ⟨.hbm, 239, rfl⟩
abbrev main_call12_v1 : Ref sig .tc := ⟨.hbm, 240, rfl⟩
abbrev main_call12_cst : Ref sig .tc := ⟨.hbm, 241, rfl⟩
abbrev main_call12_v2 : Ref sig .tc := ⟨.hbm, 242, rfl⟩
abbrev main_call12_v3 : Ref sig .tc := ⟨.hbm, 243, rfl⟩
abbrev main_call12_cst_0 : Ref sig .tc := ⟨.hbm, 244, rfl⟩
abbrev main_call12_v4 : Ref sig .tc := ⟨.hbm, 245, rfl⟩
abbrev main_call12_v5 : Ref sig .tc := ⟨.hbm, 246, rfl⟩
abbrev main_v103 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩

abbrev nD : Nat := 1
abbrev τ : Topo := Topo.v7x

variable {F : FTy → Type} [FloatOps F]

abbrev main_while0_count : Scf.Loop 32 := ⟨0#32, 32#32, 1#32⟩
-- ==== InProj0.lean ====
abbrev S16384x2048 : Shape := ⟨2, ![16384, 2048]⟩
abbrev S2x6912x2048 : Shape := ⟨3, ![2, 6912, 2048]⟩
abbrev S16384x6912 : Shape := ⟨2, ![16384, 6912]⟩
abbrev S1024x2048 : Shape := ⟨2, ![1024, 2048]⟩
abbrev S1x2304x2048 : Shape := ⟨3, ![1, 2304, 2048]⟩
abbrev S1024x2304 : Shape := ⟨2, ![1024, 2304]⟩
abbrev S2304x2048 : Shape := ⟨2, ![2304, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x6912x2048, .bf16⟩
  | .hbm, ⟨2, _⟩ => ⟨S16384x6912, .f32⟩
  | .local _ .vmem, ⟨0, _⟩ => ⟨S1024x2048, .bf16⟩
  | .local _ .vmem, ⟨1, _⟩ => ⟨S1024x2048, .bf16⟩
  | .local _ .vmem, ⟨2, _⟩ => ⟨S1x2304x2048, .bf16⟩
  | .local _ .vmem, ⟨3, _⟩ => ⟨S1x2304x2048, .bf16⟩
  | .local _ .vmem, ⟨4, _⟩ => ⟨S1024x2304, .f32⟩
  | .local _ .vmem, ⟨5, _⟩ => ⟨S1024x2304, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIn0Ideal.lean ====
abbrev S16384x2048 : Shape := ⟨2, ![16384, 2048]⟩
abbrev S2x6912x2048 : Shape := ⟨3, ![2, 6912, 2048]⟩
abbrev S2x2048x6912 : Shape := ⟨3, ![2, 2048, 6912]⟩
abbrev S1x2048x6912 : Shape := ⟨3, ![1, 2048, 6912]⟩
abbrev S2048x6912 : Shape := ⟨2, ![2048, 6912]⟩
abbrev S16384x6912 : Shape := ⟨2, ![16384, 6912]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x6912x2048, .bf16⟩
  | .hbm, ⟨2, _⟩ => ⟨S2x2048x6912, .bf16⟩
  | .hbm, ⟨3, _⟩ => ⟨S16384x2048, .f32⟩
  | .hbm, ⟨4, _⟩ => ⟨S1x2048x6912, .bf16⟩
  | .hbm, ⟨5, _⟩ => ⟨S2048x6912, .bf16⟩
  | .hbm, ⟨6, _⟩ => ⟨S2048x6912, .f32⟩
  | .hbm, ⟨7, _⟩ => ⟨S16384x6912, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InProj1.lean ====
abbrev S16384x2048 : Shape := ⟨2, ![16384, 2048]⟩
abbrev S2x6912x2048 : Shape := ⟨3, ![2, 6912, 2048]⟩
abbrev S16384x6912 : Shape := ⟨2, ![16384, 6912]⟩
abbrev S1024x2048 : Shape := ⟨2, ![1024, 2048]⟩
abbrev S1x2304x2048 : Shape := ⟨3, ![1, 2304, 2048]⟩
abbrev S1024x2304 : Shape := ⟨2, ![1024, 2304]⟩
abbrev S2304x2048 : Shape := ⟨2, ![2304, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x6912x2048, .bf16⟩
  | .hbm, ⟨2, _⟩ => ⟨S16384x6912, .f32⟩
  | .local _ .vmem, ⟨0, _⟩ => ⟨S1024x2048, .bf16⟩
  | .local _ .vmem, ⟨1, _⟩ => ⟨S1024x2048, .bf16⟩
  | .local _ .vmem, ⟨2, _⟩ => ⟨S1x2304x2048, .bf16⟩
  | .local _ .vmem, ⟨3, _⟩ => ⟨S1x2304x2048, .bf16⟩
  | .local _ .vmem, ⟨4, _⟩ => ⟨S1024x2304, .f32⟩
  | .local _ .vmem, ⟨5, _⟩ => ⟨S1024x2304, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIn1Ideal.lean ====
abbrev S16384x2048 : Shape := ⟨2, ![16384, 2048]⟩
abbrev S2x6912x2048 : Shape := ⟨3, ![2, 6912, 2048]⟩
abbrev S2x2048x6912 : Shape := ⟨3, ![2, 2048, 6912]⟩
abbrev S1x2048x6912 : Shape := ⟨3, ![1, 2048, 6912]⟩
abbrev S2048x6912 : Shape := ⟨2, ![2048, 6912]⟩
abbrev S16384x6912 : Shape := ⟨2, ![16384, 6912]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x6912x2048, .bf16⟩
  | .hbm, ⟨2, _⟩ => ⟨S2x2048x6912, .bf16⟩
  | .hbm, ⟨3, _⟩ => ⟨S16384x2048, .f32⟩
  | .hbm, ⟨4, _⟩ => ⟨S1x2048x6912, .bf16⟩
  | .hbm, ⟨5, _⟩ => ⟨S2048x6912, .bf16⟩
  | .hbm, ⟨6, _⟩ => ⟨S2048x6912, .f32⟩
  | .hbm, ⟨7, _⟩ => ⟨S16384x6912, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj0.lean ====
abbrev S16384x512 : Shape := ⟨2, ![16384, 512]⟩
abbrev S16384x1024 : Shape := ⟨2, ![16384, 1024]⟩
abbrev S16384x2048 : Shape := ⟨2, ![16384, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S1x2048x4 : Shape := ⟨3, ![1, 2048, 4]⟩
abbrev S2048x4 : Shape := ⟨2, ![2048, 4]⟩
abbrev S1x2048x32 : Shape := ⟨3, ![1, 2048, 32]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S2048x256 : Shape := ⟨2, ![2048, 256]⟩
abbrev S1x4 : Shape := ⟨2, ![1, 4]⟩
abbrev S4 : Shape := ⟨1, ![4]⟩
abbrev S1x32 : Shape := ⟨2, ![1, 32]⟩
abbrev S32 : Shape := ⟨1, ![32]⟩
abbrev S36 : Shape := ⟨1, ![36]⟩
abbrev S1x36 : Shape := ⟨2, ![1, 36]⟩
abbrev S1x128 : Shape := ⟨2, ![1, 128]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S16384x128 : Shape := ⟨2, ![16384, 128]⟩
abbrev S512x512 : Shape := ⟨2, ![512, 512]⟩
abbrev S512x1024 : Shape := ⟨2, ![512, 1024]⟩
abbrev S512x2048 : Shape := ⟨2, ![512, 2048]⟩
abbrev S512x128 : Shape := ⟨2, ![512, 128]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 41
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2x2048x2048, .f32⟩
  | .hbm, ⟨5, _⟩ => ⟨S2x2048, .f32⟩
  | .hbm, ⟨6, _⟩ => ⟨S2x2048x4, .f32⟩
  | .hbm, ⟨7, _⟩ => ⟨S2x4, .f32⟩
  | .hbm, ⟨8, _⟩ => ⟨S2x2048x32, .f32⟩
  | .hbm, ⟨9, _⟩ => ⟨S2x32, .f32⟩
  | .hbm, ⟨10, _⟩ => ⟨S1x2048x4, .f32⟩
  | .hbm, ⟨11, _⟩ => ⟨S2048x4, .f32⟩
  | .hbm, ⟨12, _⟩ => ⟨S1x2048x32, .f32⟩
  | .hbm, ⟨13, _⟩ => ⟨S2048x32, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S2048x256, .bf16⟩
  | .hbm, ⟨23, _⟩ => ⟨S1x4, .f32⟩
  | .hbm, ⟨24, _⟩ => ⟨S4, .f32⟩
  | .hbm, ⟨25, _⟩ => ⟨S1x32, .f32⟩
  | .hbm, ⟨26, _⟩ => ⟨S32, .f32⟩
  | .hbm, ⟨27, _⟩ => ⟨S36, .f32⟩
  | .hbm, ⟨28, _⟩ => ⟨S1x36, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S1x2048x2048, .f32⟩
  | .hbm, ⟨33, _⟩ => ⟨S2048x2048, .f32⟩
  | .hbm, ⟨34, _⟩ => ⟨S2048x2048, .bf16⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S16384x2048, .f32⟩
  | .hbm, ⟨39, _⟩ => ⟨S16384x2048, .bf16⟩
  | .hbm, ⟨40, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S2048x256, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x128, .f32⟩
  | .local _ .vmem, ⟨17, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOut0Ideal.lean ====
abbrev S16384x512 : Shape := ⟨2, ![16384, 512]⟩
abbrev S16384x1024 : Shape := ⟨2, ![16384, 1024]⟩
abbrev S16384x2048 : Shape := ⟨2, ![16384, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x4 : Shape := ⟨3, ![1, 2048, 4]⟩
abbrev S2048x4 : Shape := ⟨2, ![2048, 4]⟩
abbrev S16384x4 : Shape := ⟨2, ![16384, 4]⟩
abbrev S1x4 : Shape := ⟨2, ![1, 4]⟩
abbrev S4 : Shape := ⟨1, ![4]⟩
abbrev S1x2048x32 : Shape := ⟨3, ![1, 2048, 32]⟩
abbrev S2048x32 : Shape := ⟨2, ![2048, 32]⟩
abbrev S16384x32 : Shape := ⟨2, ![16384, 32]⟩
abbrev S1x32 : Shape := ⟨2, ![1, 32]⟩
abbrev S32 : Shape := ⟨1, ![32]⟩
abbrev S16384x36 : Shape := ⟨2, ![16384, 36]⟩
abbrev S16384x128 : Shape := ⟨2, ![16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2x2048x2048, .f32⟩
  | .hbm, ⟨5, _⟩ => ⟨S2x2048, .f32⟩
  | .hbm, ⟨6, _⟩ => ⟨S2x2048x4, .f32⟩
  | .hbm, ⟨7, _⟩ => ⟨S2x4, .f32⟩
  | .hbm, ⟨8, _⟩ => ⟨S2x2048x32, .f32⟩
  | .hbm, ⟨9, _⟩ => ⟨S2x32, .f32⟩
  | .hbm, ⟨10, _⟩ => ⟨S16384x2048, .bf16⟩
  | .hbm, ⟨11, _⟩ => ⟨S16384x2048, .f32⟩
  | .hbm, ⟨12, _⟩ => ⟨S1x2048x2048, .f32⟩
  | .hbm, ⟨13, _⟩ => ⟨S2048x2048, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S1x2048x4, .f32⟩
  | .hbm, ⟨35, _⟩ => ⟨S2048x4, .f32⟩
  | .hbm, ⟨36, _⟩ => ⟨S16384x4, .f32⟩
  | .hbm, ⟨37, _⟩ => ⟨S1x4, .f32⟩
  | .hbm, ⟨38, _⟩ => ⟨S4, .f32⟩
  | .hbm, ⟨39, _⟩ => ⟨S1x4, .f32⟩
  | .hbm, ⟨40, _⟩ => ⟨S16384x4, .f32⟩
  | .hbm, ⟨41, _⟩ => ⟨S16384x4, .f32⟩
  | .hbm, ⟨42, _⟩ => ⟨S1x2048x32, .f32⟩
  | .hbm, ⟨43, _⟩ => ⟨S2048x32, .f32⟩
  | .hbm, ⟨44, _⟩ => ⟨S16384x32, .f32⟩
  | .hbm, ⟨45, _⟩ => ⟨S1x32, .f32⟩
  | .hbm, ⟨46, _⟩ => ⟨S32, .f32⟩
  | .hbm, ⟨47, _⟩ => ⟨S1x32, .f32⟩
  | .hbm, ⟨48, _⟩ => ⟨S16384x32, .f32⟩
  | .hbm, ⟨49, _⟩ => ⟨S16384x32, .f32⟩
  | .hbm, ⟨50, _⟩ => ⟨S16384x36, .f32⟩
  | .hbm, ⟨51, _⟩ => ⟨S16384x2048, .bf16⟩
  | .hbm, ⟨52, _⟩ => ⟨S_, .i32⟩
  | .hbm, ⟨53, _⟩ => ⟨S_, .f32⟩
  | .hbm, ⟨54, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== OutProj1.lean ====
abbrev S16384x512 : Shape := ⟨2, ![16384, 512]⟩
abbrev S16384x1024 : Shape := ⟨2, ![16384, 1024]⟩
abbrev S16384x2048 : Shape := ⟨2, ![16384, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S1x2048x4 : Shape := ⟨3, ![1, 2048, 4]⟩
abbrev S2048x4 : Shape := ⟨2, ![2048, 4]⟩
abbrev S1x2048x32 : Shape := ⟨3, ![1, 2048, 32]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S2048x256 : Shape := ⟨2, ![2048, 256]⟩
abbrev S1x4 : Shape := ⟨2, ![1, 4]⟩
abbrev S4 : Shape := ⟨1, ![4]⟩
abbrev S1x32 : Shape := ⟨2, ![1, 32]⟩
abbrev S32 : Shape := ⟨1, ![32]⟩
abbrev S36 : Shape := ⟨1, ![36]⟩
abbrev S1x36 : Shape := ⟨2, ![1, 36]⟩
abbrev S1x128 : Shape := ⟨2, ![1, 128]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S16384x128 : Shape := ⟨2, ![16384, 128]⟩
abbrev S512x512 : Shape := ⟨2, ![512, 512]⟩
abbrev S512x1024 : Shape := ⟨2, ![512, 1024]⟩
abbrev S512x2048 : Shape := ⟨2, ![512, 2048]⟩
abbrev S512x128 : Shape := ⟨2, ![512, 128]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 41
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2x2048x2048, .f32⟩
  | .hbm, ⟨5, _⟩ => ⟨S2x2048, .f32⟩
  | .hbm, ⟨6, _⟩ => ⟨S2x2048x4, .f32⟩
  | .hbm, ⟨7, _⟩ => ⟨S2x4, .f32⟩
  | .hbm, ⟨8, _⟩ => ⟨S2x2048x32, .f32⟩
  | .hbm, ⟨9, _⟩ => ⟨S2x32, .f32⟩
  | .hbm, ⟨10, _⟩ => ⟨S1x2048x4, .f32⟩
  | .hbm, ⟨11, _⟩ => ⟨S2048x4, .f32⟩
  | .hbm, ⟨12, _⟩ => ⟨S1x2048x32, .f32⟩
  | .hbm, ⟨13, _⟩ => ⟨S2048x32, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S2048x256, .bf16⟩
  | .hbm, ⟨23, _⟩ => ⟨S1x4, .f32⟩
  | .hbm, ⟨24, _⟩ => ⟨S4, .f32⟩
  | .hbm, ⟨25, _⟩ => ⟨S1x32, .f32⟩
  | .hbm, ⟨26, _⟩ => ⟨S32, .f32⟩
  | .hbm, ⟨27, _⟩ => ⟨S36, .f32⟩
  | .hbm, ⟨28, _⟩ => ⟨S1x36, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S1x2048x2048, .f32⟩
  | .hbm, ⟨33, _⟩ => ⟨S2048x2048, .f32⟩
  | .hbm, ⟨34, _⟩ => ⟨S2048x2048, .bf16⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S16384x2048, .f32⟩
  | .hbm, ⟨39, _⟩ => ⟨S16384x2048, .bf16⟩
  | .hbm, ⟨40, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S2048x256, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x128, .f32⟩
  | .local _ .vmem, ⟨17, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOut1Ideal.lean ====
abbrev S16384x512 : Shape := ⟨2, ![16384, 512]⟩
abbrev S16384x1024 : Shape := ⟨2, ![16384, 1024]⟩
abbrev S16384x2048 : Shape := ⟨2, ![16384, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x4 : Shape := ⟨3, ![1, 2048, 4]⟩
abbrev S2048x4 : Shape := ⟨2, ![2048, 4]⟩
abbrev S16384x4 : Shape := ⟨2, ![16384, 4]⟩
abbrev S1x4 : Shape := ⟨2, ![1, 4]⟩
abbrev S4 : Shape := ⟨1, ![4]⟩
abbrev S1x2048x32 : Shape := ⟨3, ![1, 2048, 32]⟩
abbrev S2048x32 : Shape := ⟨2, ![2048, 32]⟩
abbrev S16384x32 : Shape := ⟨2, ![16384, 32]⟩
abbrev S1x32 : Shape := ⟨2, ![1, 32]⟩
abbrev S32 : Shape := ⟨1, ![32]⟩
abbrev S16384x36 : Shape := ⟨2, ![16384, 36]⟩
abbrev S16384x128 : Shape := ⟨2, ![16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2x2048x2048, .f32⟩
  | .hbm, ⟨5, _⟩ => ⟨S2x2048, .f32⟩
  | .hbm, ⟨6, _⟩ => ⟨S2x2048x4, .f32⟩
  | .hbm, ⟨7, _⟩ => ⟨S2x4, .f32⟩
  | .hbm, ⟨8, _⟩ => ⟨S2x2048x32, .f32⟩
  | .hbm, ⟨9, _⟩ => ⟨S2x32, .f32⟩
  | .hbm, ⟨10, _⟩ => ⟨S16384x2048, .bf16⟩
  | .hbm, ⟨11, _⟩ => ⟨S16384x2048, .f32⟩
  | .hbm, ⟨12, _⟩ => ⟨S1x2048x2048, .f32⟩
  | .hbm, ⟨13, _⟩ => ⟨S2048x2048, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S1x2048x4, .f32⟩
  | .hbm, ⟨35, _⟩ => ⟨S2048x4, .f32⟩
  | .hbm, ⟨36, _⟩ => ⟨S16384x4, .f32⟩
  | .hbm, ⟨37, _⟩ => ⟨S1x4, .f32⟩
  | .hbm, ⟨38, _⟩ => ⟨S4, .f32⟩
  | .hbm, ⟨39, _⟩ => ⟨S1x4, .f32⟩
  | .hbm, ⟨40, _⟩ => ⟨S16384x4, .f32⟩
  | .hbm, ⟨41, _⟩ => ⟨S16384x4, .f32⟩
  | .hbm, ⟨42, _⟩ => ⟨S1x2048x32, .f32⟩
  | .hbm, ⟨43, _⟩ => ⟨S2048x32, .f32⟩
  | .hbm, ⟨44, _⟩ => ⟨S16384x32, .f32⟩
  | .hbm, ⟨45, _⟩ => ⟨S1x32, .f32⟩
  | .hbm, ⟨46, _⟩ => ⟨S32, .f32⟩
  | .hbm, ⟨47, _⟩ => ⟨S1x32, .f32⟩
  | .hbm, ⟨48, _⟩ => ⟨S16384x32, .f32⟩
  | .hbm, ⟨49, _⟩ => ⟨S16384x32, .f32⟩
  | .hbm, ⟨50, _⟩ => ⟨S16384x36, .f32⟩
  | .hbm, ⟨51, _⟩ => ⟨S16384x2048, .bf16⟩
  | .hbm, ⟨52, _⟩ => ⟨S_, .i32⟩
  | .hbm, ⟨53, _⟩ => ⟨S_, .f32⟩
  | .hbm, ⟨54, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Trip.lean ====
/-
  One trip of the kernel's loop over the chunks of a sequence, and the loop: what the output window and the state
  scratch hold after any number of trips, as functions of the contents of the input windows.
-/
module

public import proofs.«01_k».proof.Proof.Gen.KernelIdeal.Skeleton
public import proofs.«01_k».proof.Proof.Gen.KernelIdeal.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What a trip works on: the input windows at their contents, the output window, the state scratch and the scratch of
    the running sums at any. -/
abbrev Res (c : Dev nD) (arg1 : Memref sig .tc .vmem S2048x512 .f32) (arg2 : Memref sig .tc .vmem S2048x512 .f32) (arg3 : Memref sig .tc .vmem S2048x512 .f32) (arg4 : Memref sig .tc .vmem S2048x512 .f32) (arg6 : Memref sig .tc .vmem S1x512 .f32) (arg7 : Memref sig .tc .vmem S2048x512 .bf16) (arg8 : Memref sig .tc .vmem S4x128x128 .f32) (arg9 : Memref sig .tc .vmem S128x512 .f32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (f7 : BufTy.Contents (Elt F) arg7.view.ty) (f8 : BufTy.Contents (Elt F) arg8.view.ty) (f9 : BufTy.Contents (Elt F) arg9.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- One trip: it writes one block of rows of the output window and the four heads' states, and leaves some contents in
    the scratch of the running sums. The pieces written are functions of the state it finds. -/
def trip (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (k : Fin k0_t1_loop.trips) :
    Σ' (L7 : BufTy.Contents (Elt F) arg8.view.ty → List (View.Piece (Elt F) S2048x512 .bf16)),
      { L8 : BufTy.Contents (Elt F) arg8.view.ty → List (View.Piece (Elt F) S4x128x128 .f32) //
        ∀ (E : Set ℕ) (f7 : BufTy.Contents (Elt F) arg7.view.ty) (f8 : BufTy.Contents (Elt F) arg8.view.ty) (f9 : BufTy.Contents (Elt F) arg9.view.ty),
          Res (F := F) c arg1 arg2 arg3 arg4 arg6 arg7 arg8 arg9 X1 X2 X3 X4 X6 f7 f8 f9
          ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 v0 v35 k PUnit.unit)
              (fun _ => iprop(∃ g9, Res (F := F) c arg1 arg2 arg3 arg4 arg6 arg7 arg8 arg9 X1 X2 X3 X4 X6 (arg7.view.writes (Elt F) f7 (L7 f8)) (arg8.view.writes (Elt F) f8 (L8 f8)) g9)) } := by
  have hk : k.val < 16 := Nat.lt_of_lt_of_le k.isLt k0_t1_abs.2.1
  refine ⟨?_, ?_, fun E f7 f8 f9 => ?run⟩
  case run =>
    unfold k0_t1_body
    iintro ⟨H1, H2, H3, H4, H6, H7, H8, H9⟩
    sl_exec
    sl_step
    iexists _
    sl_close

/-- The state scratch before trip `k`, from `G` before the first. -/
def st8 (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (G : BufTy.Contents (Elt F) arg8.view.ty) : ℕ → BufTy.Contents (Elt F) arg8.view.ty
  | 0 => G
  | k + 1 => if h : k < k0_t1_loop.trips then
      arg8.view.writes (Elt F) (st8 i arg1 harg1 arg2 harg2 arg3 harg3 arg4 harg4 arg5 harg5 arg6 harg6 arg7 harg7 arg8 harg8 arg9 harg9 v0 v35 X1 X2 X3 X4 X6 G k)
        ((trip (F := F) Variants.none 0 none i arg1 harg1 arg2 harg2 arg3 harg3 arg4 harg4 arg5 harg5 arg6 harg6 arg7 harg7 arg8 harg8 arg9 harg9 v0 v35 X1 X2 X3 X4 X6 ⟨k, h⟩).2.1 (st8 i arg1 harg1 arg2 harg2 arg3 harg3 arg4 harg4 arg5 harg5 arg6 harg6 arg7 harg7 arg8 harg8 arg9 harg9 v0 v35 X1 X2 X3 X4 X6 G k))
    else st8 i arg1 harg1 arg2 harg2 arg3 harg3 arg4 harg4 arg5 harg5 arg6 harg6 arg7 harg7 arg8 harg8 arg9 harg9 v0 v35 X1 X2 X3 X4 X6 G k

/-- The output window before trip `k`, from `G7` before the first. -/
def st7 (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (G7 : BufTy.Contents (Elt F) arg7.view.ty) (G : BufTy.Contents (Elt F) arg8.view.ty) : ℕ → BufTy.Contents (Elt F) arg7.view.ty
  | 0 => G7
  | k + 1 => if h : k < k0_t1_loop.trips then
      arg7.view.writes (Elt F) (st7 i arg1 harg1 arg2 harg2 arg3 harg3 arg4 harg4 arg5 harg5 arg6 harg6 arg7 harg7 arg8 harg8 arg9 harg9 v0 v35 X1 X2 X3 X4 X6 G7 G k)
        ((trip (F := F) Variants.none 0 none i arg1 harg1 arg2 harg2 arg3 harg3 arg4 harg4 arg5 harg5 arg6 harg6 arg7 harg7 arg8 harg8 arg9 harg9 v0 v35 X1 X2 X3 X4 X6 ⟨k, h⟩).1 (st8 i arg1 harg1 arg2 harg2 arg3 harg3 arg4 harg4 arg5 harg5 arg6 harg6 arg7 harg7 arg8 harg8 arg9 harg9 v0 v35 X1 X2 X3 X4 X6 G k))
    else st7 i arg1 harg1 arg2 harg2 arg3 harg3 arg4 harg4 arg5 harg5 arg6 harg6 arg7 harg7 arg8 harg8 arg9 harg9 v0 v35 X1 X2 X3 X4 X6 G7 G k

theorem st8_succ (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (G : BufTy.Contents (Elt F) arg8.view.ty) (k : Fin k0_t1_loop.trips) :
    st8 i arg1 harg1 arg2 harg2 arg3 harg3 arg4 harg4 arg5 harg5 arg6 harg6 arg7 harg7 arg8 harg8 arg9 harg9 v0 v35 X1 X2 X3 X4 X6 G (k.val + 1) = arg8.view.writes (Elt F) (st8 i arg1 harg1 arg2 harg2 arg3 harg3 arg4 harg4 arg5 harg5 arg6 harg6 arg7 harg7 arg8 harg8 arg9 harg9 v0 v35 X1 X2 X3 X4 X6 G k.val)
      ((trip (F := F) Variants.none c none i arg1 harg1 arg2 harg2 arg3 harg3 arg4 harg4 arg5 harg5 arg6 harg6 arg7 harg7 arg8 harg8 arg9 harg9 v0 v35 X1 X2 X3 X4 X6 k).2.1 (st8 i arg1 harg1 arg2 harg2 arg3 harg3 arg4 harg4 arg5 harg5 arg6 harg6 arg7 harg7 arg8 harg8 arg9 harg9 v0 v35 X1 X2 X3 X4 X6 G k.val)) := by
  rw [st8, dif_pos k.isLt]; rfl

theorem st7_succ (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (G7 : BufTy.Contents (Elt F) arg7.view.ty) (G : BufTy.Contents (Elt F) arg8.view.ty) (k : Fin k0_t1_loop.trips) :
    st7 i arg1 harg1 arg2 harg2 arg3 harg3 arg4 harg4 arg5 harg5 arg6 harg6 arg7 harg7 arg8 harg8 arg9 harg9 v0 v35 X1 X2 X3 X4 X6 G7 G (k.val + 1) = arg7.view.writes (Elt F) (st7 i arg1 harg1 arg2 harg2 arg3 harg3 arg4 harg4 arg5 harg5 arg6 harg6 arg7 harg7 arg8 harg8 arg9 harg9 v0 v35 X1 X2 X3 X4 X6 G7 G k.val)
      ((trip (F := F) Variants.none c none i arg1 harg1 arg2 harg2 arg3 harg3 arg4 harg4 arg5 harg5 arg6 harg6 arg7 harg7 arg8 harg8 arg9 harg9 v0 v35 X1 X2 X3 X4 X6 k).1 (st8 i arg1 harg1 arg2 harg2 arg3 harg3 arg4 harg4 arg5 harg5 arg6 harg6 arg7 harg7 arg8 harg8 arg9 harg9 v0 v35 X1 X2 X3 X4 X6 G k.val)) := by
  rw [st7, dif_pos k.isLt]; rfl

set_option warn.classDefReducibility false in
/-- The loop over the chunks by its invariant: before trip `k` the output window holds `st7 k`, the state scratch `st8 k`. -/
@[sl_loop] def loopInv (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (G7 : BufTy.Contents (Elt F) arg7.view.ty) (G : BufTy.Contents (Elt F) arg8.view.ty) :
    Idealize.ShloMosaic.LoopInv (M := 𝕄) Idealize.ShloMosaic.frame (wpE (defs₀ (F := F)) Variants.none (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 v0 v35) where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (∃ f, (arg7.view.loc (c : Thread nD τ) ↦[arg7.view.set]{fullShare} f) ∗ ⌜f = st7 i arg1 harg1 arg2 harg2 arg3 harg3 arg4 harg4 arg5 harg5 arg6 harg6 arg7 harg7 arg8 harg8 arg9 harg9 v0 v35 X1 X2 X3 X4 X6 G7 G k⌝) ∗ (∃ f, (arg8.view.loc (c : Thread nD τ) ↦[arg8.view.set]{fullShare} f) ∗ ⌜f = st8 i arg1 harg1 arg2 harg2 arg3 harg3 arg4 harg4 arg5 harg5 arg6 harg6 arg7 harg7 arg8 harg8 arg9 harg9 v0 v35 X1 X2 X3 X4 X6 G k⌝) ∗ (∃ f, (arg9.view.loc (c : Thread nD τ) ↦[arg9.view.set]{fullShare} f)))
  step k acc := by
    iintro ⟨H1, H2, H3, H4, H6, ⟨%f7, H7, %h7⟩, ⟨%f8, H8, %h8⟩, ⟨%f9, H9⟩⟩
    iapply (wp_wand_r Idealize.ShloMosaic.frame (wpE (defs₀ (F := F)) Variants.none (c : Thread nD τ) none) E)
    isplitl [H1 H2 H3 H4 H6 H7 H8 H9]
    · iapply ((trip (F := F) Variants.none c none i arg1 harg1 arg2 harg2 arg3 harg3 arg4 harg4 arg5 harg5 arg6 harg6 arg7 harg7 arg8 harg8 arg9 harg9 v0 v35 X1 X2 X3 X4 X6 k).2.2 E f7 f8 f9)
      isplitl [H1]; · iexact H1
      isplitl [H2]; · iexact H2
      isplitl [H3]; · iexact H3
      isplitl [H4]; · iexact H4
      isplitl [H6]; · iexact H6
      isplitl [H7]; · iexact H7
      isplitl [H8]; · iexact H8
      iexact H9
    · iintro %_ ⟨%g9, H1, H2, H3, H4, H6, H7, H8, H9⟩
      isplitl [H1]; · iexact H1
      isplitl [H2]; · iexact H2
      isplitl [H3]; · iexact H3
      isplitl [H4]; · iexact H4
      isplitl [H6]; · iexact H6
      rw [st7_succ c, st8_succ c]
      isplitl [H7]
      · iexists _; isplitl [H7]; · iexact H7
        ipureintro; rw [h7, h8]
      isplitl [H8]
      · iexists _; isplitl [H8]; · iexact H8
        ipureintro; rw [h8]
      iexists _; iexact H9

end Cert.KernelIdeal.Hand

end
-- ==== Proof.Body.lean ====
/-
  The kernel's body at a grid point, the pipeline's run over the grid, and the frame: the arguments end unchanged and every
  counter at zero.
-/
module

public import proofs.«01_k».proof.Proof.Trip
public import Idealize.ShloMosaic.Lib.Pipeline.TableIdle
public import Idealize.ShloMosaic.Lib.WritesUnit
public import Idealize.ShloMosaic.Lib.ValueIdxCore

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The state scratch as the body resets it: zero everywhere. -/
def G0 (arg8 : Memref sig .tc .vmem S4x128x128 .f32) : BufTy.Contents (Elt F) arg8.view.ty :=
  arg8.view.writes (Elt F) arg8.view.junk [⟨Rect.unit (s := S4x128x128) ![0, 0, 0] S4x128x128.size inb_S4x128x128_S4x128x128_0_0_0, k0_pay108 (F := F)⟩]

/-- The row numbers of a chunk. -/
abbrev rowIota : IVec S128x512 32 := iota .tc S128x512 32 [0] iota_S128x512_d0_w32

theorem trips16 : k0_t1_loop.trips = 16 := by decide

/-- The body from any contents of its buffers: it leaves the input windows as they are and the output window at what the
    sixteen trips wrote, the state starting at zero. -/
theorem kernelRun (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
    ⊢ wp frame (wpE (defs₀ (F := F)) Variants.none (c : Thread nD τ) none) E (cc0_hgrn2 (F := F) i arg1 harg1 arg2 harg2 arg3 harg3 arg4 harg4 arg5 harg5 arg6 harg6 arg7 harg7 arg8 harg8 arg9 harg9)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (st7 i arg1 harg1 arg2 harg2 arg3 harg3 arg4 harg4 arg5 harg5 arg6 harg6 arg7 harg7 arg8 harg8 arg9 harg9 (arg5.view.readAt (Elt F) (Rect.unit (s := S2x512) ![0, 0] S2x512.size inb_S2x512_S2x512_0_0).toLoadRect X5) rowIota X1 X2 X3 X4 X6 f7 (G0 (F := F) arg8) k0_t1_loop.trips)) ∗ (∃ f, (arg8.view.loc (c : Thread nD τ) ↦[arg8.view.set]{fullShare} f)) ∗ (∃ f, (arg9.view.loc (c : Thread nD τ) ↦[arg9.view.set]{fullShare} f)))) := by
  rw [cc0_hgrn2_eq_skeleton]
  unfold cc0_hgrn2_skel
  iintro ⟨H1, H2, H3, H4, H5, H6, H7, H8, H9⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

/-- What trip `k` writes into its 128 rows of the output window, finding the state at `f8`. -/
abbrev outTrip (arg1 arg2 arg3 arg4 : Memref sig .tc .vmem S2048x512 .f32) (arg6 : Memref sig .tc .vmem S1x512 .f32) (arg8 : Memref sig .tc .vmem S4x128x128 .f32) (arg9 : Memref sig .tc .vmem S128x512 .f32) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (k : Fin k0_t1_loop.trips) (f8 : BufTy.Contents (Elt F) arg8.view.ty) : Vec F S128x512 .bf16 :=
  trip.sl.v600 arg1 arg2 arg3 arg4 arg6 arg8 arg9 v0 v35 X1 X2 X3 X4 X6 k f8

/-- The trip's one piece of the output window. -/
theorem trip_L7 (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (k : Fin k0_t1_loop.trips) (f8 : BufTy.Contents (Elt F) arg8.view.ty) :
    (trip (F := F) Variants.none 0 none i arg1 harg1 arg2 harg2 arg3 harg3 arg4 harg4 arg5 harg5 arg6 harg6 arg7 harg7 arg8 harg8 arg9 harg9 v0 v35 X1 X2 X3 X4 X6 k).1 f8
      = [⟨Rect.unit (s := S2048x512) (k0_off1 k) S128x512.size (k0_off1_inb k), outTrip arg1 arg2 arg3 arg4 arg6 arg8 arg9 v0 v35 X1 X2 X3 X4 X6 k f8⟩] := rfl

/-- The chunk of a row, and the row within its chunk. -/
def chunkOf (y : S2048x512.Idx) : Fin k0_t1_loop.trips := ⟨(y 0).val / 128, by rw [trips16]; have := (y 0).isLt; simp at this; omega⟩
def rowIn (y : S2048x512.Idx) : S128x512.Idx := Idealize.ShloMosaic.ValueIdx.ix2 (n0 := 128) (n1 := 512) ⟨(y 0).val % 128, Nat.mod_lt _ (by decide)⟩ (y 1)

/-- The output block at a grid point, row by row: what the trip of the row's chunk wrote there. -/
def outBlk (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) : S2048x512.Idx → Elt F .bf16 := fun y =>
  outTrip arg1 arg2 arg3 arg4 arg6 arg8 arg9 v0 v35 X1 X2 X3 X4 X6 (chunkOf y) (st8 i arg1 harg1 arg2 harg2 arg3 harg3 arg4 harg4 arg5 harg5 arg6 harg6 arg7 harg7 arg8 harg8 arg9 harg9 v0 v35 X1 X2 X3 X4 X6 (G0 (F := F) arg8) (chunkOf y).val) (rowIn y)

/-- Before trip `k` the rows of the earlier chunks are final and the others as found. -/
theorem st7_read (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (G7 : BufTy.Contents (Elt F) arg7.view.ty) (y : S2048x512.Idx) :
    ∀ k : ℕ, k ≤ k0_t1_loop.trips → arg7.view.read (Elt F) (st7 i arg1 harg1 arg2 harg2 arg3 harg3 arg4 harg4 arg5 harg5 arg6 harg6 arg7 harg7 arg8 harg8 arg9 harg9 v0 v35 X1 X2 X3 X4 X6 G7 (G0 (F := F) arg8) k) y
      = if (y 0).val < 128 * k then outBlk i arg1 harg1 arg2 harg2 arg3 harg3 arg4 harg4 arg5 harg5 arg6 harg6 arg7 harg7 arg8 harg8 arg9 harg9 v0 v35 X1 X2 X3 X4 X6 y else arg7.view.read (Elt F) G7 y := by
  intro k
  induction k with
  | zero => intro _; rw [if_neg (by omega)]; rfl
  | succ k ih =>
    intro hk
    have hk' : k < k0_t1_loop.trips := hk
    rw [st7_succ 0 i arg1 harg1 arg2 harg2 arg3 harg3 arg4 harg4 arg5 harg5 arg6 harg6 arg7 harg7 arg8 harg8 arg9 harg9 v0 v35 X1 X2 X3 X4 X6 G7 (G0 (F := F) arg8) ⟨k, hk'⟩, trip_L7]
    by_cases hin : 128 * k ≤ (y 0).val ∧ (y 0).val < 128 * (k + 1)
    · rw [if_pos hin.2]
      have hc : chunkOf y = ⟨k, hk'⟩ := Fin.ext (by show (y 0).val / 128 = k; omega)
      refine (View.read_writes_cons_unit_of_mem arg7.view _ _ _ _ y (rowIn y) (k0_off1_eq ⟨k, hk'⟩) ?_).trans ?_
      · intro a
        match a with
        | ⟨0, _⟩ => show (y 0).val = 128 * k + (y 0).val % 128; omega
        | ⟨1, _⟩ => show (y 1).val = 0 + (y 1).val; omega
      · unfold outBlk; rw [hc]
    · refine (View.read_writes_cons_unit_of_not_mem arg7.view _ _ _ _ y (k0_off1_eq ⟨k, hk'⟩) 0 ?_).trans ?_
      · show (y 0).val < 128 * k ∨ 128 * k + 128 ≤ (y 0).val
        omega
      · refine (ih (by omega)).trans ?_
        by_cases h1 : (y 0).val < 128 * k
        · rw [if_pos h1, if_pos (by omega)]
        · rw [if_neg h1, if_neg (by omega)]

/-- After the last trip the window holds the output block, whatever it held before. -/
theorem st7_final (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole) (v0 : Vec F S2x512 .f32) (v35 : IVec S128x512 32) (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (G7 : BufTy.Contents (Elt F) arg7.view.ty) :
    arg7.view.read (Elt F) (st7 i arg1 harg1 arg2 harg2 arg3 harg3 arg4 harg4 arg5 harg5 arg6 harg6 arg7 harg7 arg8 harg8 arg9 harg9 v0 v35 X1 X2 X3 X4 X6 G7 (G0 (F := F) arg8) k0_t1_loop.trips) = outBlk i arg1 harg1 arg2 harg2 arg3 harg3 arg4 harg4 arg5 harg5 arg6 harg6 arg7 harg7 arg8 harg8 arg9 harg9 v0 v35 X1 X2 X3 X4 X6 :=
  funext fun y => (st7_read i arg1 harg1 arg2 harg2 arg3 harg3 arg4 harg4 arg5 harg5 arg6 harg6 arg7 harg7 arg8 harg8 arg9 harg9 v0 v35 X1 X2 X3 X4 X6 G7 y _ le_rfl).trans (if_pos (by rw [trips16]; have := (y 0).isLt; simpa using this))

/-! ## The pipeline's proof data -/

variable (m : (ℓ : Loc nD τ sig) → Buf (Elt F) ℓ) (ρ : Dev nD → PrngReg)

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .bf16 := win0_6.stage (cfg0.slots t 6)
abbrev hs0_6 (t : Fin cfg0.N) : (ms0_6 t).IsWhole := hstage0_6 ((cfg0.slots t 6).cast nbuf0_6)
/-- The state scratch and the scratch of the running sums. -/
abbrev scM0 : Memref sig .tc .vmem S4x128x128 .f32 := Memref.whole cc0_scratch0
abbrev scM1 : Memref sig .tc .vmem S128x512 .f32 := Memref.whole cc0_scratch1

/-- What the body leaves in the output's buffer at point `t`: the output block of the point's input blocks. -/
def outAt (c : Dev nD) (t : Fin cfg0.N) : S2048x512.Idx → Elt F .bf16 :=
  outBlk (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
    ((ms0_4 t).view.readAt (Elt F) (Rect.unit (s := S2x512) ![0, 0] S2x512.size inb_S2x512_S2x512_0_0).toLoadRect ((ms0_4 t).view.rep (iblk m c 4 t))) rowIota
    ((ms0_0 t).view.rep (X0_0 m c t)) ((ms0_1 t).view.rep (X0_1 m c t)) ((ms0_2 t).view.rep (X0_2 m c t)) ((ms0_3 t).view.rep (X0_3 m c t)) ((ms0_5 t).view.rep (iblk m c 5 t))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = X0_0 m c t := before0_0_of m (dats m 0 c) (A_eq m c 0) (after0_0 m c) t d
theorem before0_1 (c : Dev nD) (t : Fin cfg0.N) (d) : (dats m 0 c).before 1 t d = X0_1 m c t := before0_1_of m (dats m 0 c) (A_eq m c 1) (after0_1 m c) t d
theorem before0_2 (c : Dev nD) (t : Fin cfg0.N) (d) : (dats m 0 c).before 2 t d = X0_2 m c t := before0_2_of m (dats m 0 c) (A_eq m c 2) (after0_2 m c) t d
theorem before0_3 (c : Dev nD) (t : Fin cfg0.N) (d) : (dats m 0 c).before 3 t d = X0_3 m c t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- The body's invariant: the two scratches at some contents, and the generator register. -/
theorem Phi_eq (c : Dev nD) :
    (Pipeline.ΦA spec0 c : sProp 𝕄)
      = iprop(iprop((∃ f, (scM0.view.loc (c : Thread nD τ) ↦[scM0.view.set]{fullShare} f)) ∗ (∃ f, (scM1.view.loc (c : Thread nD τ) ↦[scM1.view.set]{fullShare} f))) ∗ (∃ r, prngReg c r)) := by
  unfold Pipeline.ΦA
  rw [scopedRest0_eq]
  simp only [scM0, scM1, Memref.view_whole, View.set_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point, from the windows' blocks to the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6]
  rw [show (dats m 0 c).Φ t.castSucc = Pipeline.ΦA spec0 c from rfl, Phi_eq]
  iintro ⟨⟨⟨⟨%g8, HS0⟩, ⟨%g9, HS1⟩⟩, Hg⟩, Ho, ⟨%d0, H0⟩, ⟨%d1, H1⟩, ⟨%d2, H2⟩, ⟨%d3, H3⟩, ⟨%d4, H4⟩, ⟨%d5, H5⟩, ⟨%d6, H6⟩⟩
  ihave K0 := (rep_of_owns (c : Thread nD τ) (ms0_0 t) fullShare _) $$ H0
  ihave K1 := (rep_of_owns (c : Thread nD τ) (ms0_1 t) fullShare _) $$ H1
  ihave K2 := (rep_of_owns (c : Thread nD τ) (ms0_2 t) fullShare _) $$ H2
  ihave K3 := (rep_of_owns (c : Thread nD τ) (ms0_3 t) fullShare _) $$ H3
  ihave K4 := (rep_of_owns (c : Thread nD τ) (ms0_4 t) fullShare _) $$ H4
  ihave K5 := (rep_of_owns (c : Thread nD τ) (ms0_5 t) fullShare _) $$ H5
  ihave K6 := (rep_of_owns (c : Thread nD τ) (ms0_6 t) fullShare _) $$ H6
  iapply (wp_wand_r Idealize.ShloMosaic.frame (wpE (defs₀ (F := F)) Variants.none (c : Thread nD τ) none) Set.univ)
  isplitl [K0 K1 K2 K3 K4 K5 K6 HS0 HS1]
  · iapply (kernelRun (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) _ _ _ _ _ _ _ g8 g9)
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [HS0]; · iexact HS0
    iexact HS1
  · iintro %_ ⟨K0, K1, K2, K3, K4, K5, K6, HS0, HS1⟩
    isplitl [HS0 HS1 Hg]
    · isplitl [HS0 HS1]
      · isplitl [HS0]; · iexact HS0
        iexact HS1
      iexact Hg
    isplitl [Ho]; · iexact Ho
    isplitl [K0]; · iapply (owns_of_rep (c : Thread nD τ) (ms0_0 t) fullShare _); iexact K0
    isplitl [K1]; · iapply (owns_of_rep (c : Thread nD τ) (ms0_1 t) fullShare _); iexact K1
    isplitl [K2]; · iapply (owns_of_rep (c : Thread nD τ) (ms0_2 t) fullShare _); iexact K2
    isplitl [K3]; · iapply (owns_of_rep (c : Thread nD τ) (ms0_3 t) fullShare _); iexact K3
    isplitl [K4]; · iapply (owns_of_rep (c : Thread nD τ) (ms0_4 t) fullShare _); iexact K4
    isplitl [K5]; · iapply (owns_of_rep (c : Thread nD τ) (ms0_5 t) fullShare _); iexact K5
    unfold owns
    iexists _
    isplitr
    swap; · iexact K6
    ipureintro; exact st7_final _ _ _ _ _ _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs, every window's array ends at what the pipeline's points left in it, and every counter at zero. -/
theorem run_main : θ_run defs (onTc (τ := τ) (main (F := F))) (s₀ m ρ) (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hΦ := fun _ _ => rfl) (Q' := fun r => Pipeline.FramePost cfgs (dats m) 0 (V m) r ∧ r.2.sem = fun _ => 0)

/-- The frame: the three arguments end unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 3).trans (((dats m 0 c).arrAt_in 3 rfl _).trans ((A_eq m c 3).trans (V_main_arg0 m c))),
      ((h.1 c).1 4).trans (((dats m 0 c).arrAt_in 4 rfl _).trans ((A_eq m c 4).trans (V_main_arg1 m c))),
      ((h.1 c).2 main_arg2 (Pipeline.mem_restRefs_of main_arg2 (by decide) (by decide))).trans (V_main_arg2 m c)⟩, h.2⟩) (run_main m ρ)

end Cert.KernelIdeal.Hand

end
-- ==== Proof.Math.lean ====
/-
  The recurrence over the reals, for one sequence and one head: the state and the output in closed form, how a chunk of any
  size carries the state forward and gives its outputs, and the scalar facts about the gates.
-/
module

public import Idealize.ShloMosaic.PureOps.Ideal
public import Idealize.ShloMosaic.PureOps

@[expose] public section

noncomputable section

namespace Cert.Spec

open Finset

variable (q k lf v : ℕ → Fin 128 → ℝ)

/-- The sum of the log-decays of the first `t` steps. -/
def P (t : ℕ) (c : Fin 128) : ℝ := ∑ s ∈ range t, lf s c

/-- The state after the first `T` steps. -/
def state (T : ℕ) (c d : Fin 128) : ℝ := ∑ j ∈ range T, k j c * Real.exp (P lf T c - P lf (j + 1) c) * v j d

/-- The output of step `t`. -/
def out (t : ℕ) (d : Fin 128) : ℝ := ∑ c, q t c * state k lf v (t + 1) c d

/-- The sum of the log-decays of a chunk beginning at `T`, through its row `r`. -/
def cum (T r : ℕ) (c : Fin 128) : ℝ := ∑ s ∈ range (r + 1), lf (T + s) c

theorem P_add (T r : ℕ) (c : Fin 128) : P lf (T + r) c = P lf T c + ∑ s ∈ range r, lf (T + s) c := by
  unfold P; exact Finset.sum_range_add _ _ _

theorem cum_eq (T r : ℕ) (c : Fin 128) : cum lf T r c = P lf (T + r + 1) c - P lf T c := by
  rw [Nat.add_assoc, P_add]; unfold cum; ring

theorem cum_anti (h : ∀ s c, lf s c ≤ 0) (T : ℕ) (c : Fin 128) {r r' : ℕ} (hr : r ≤ r') : cum lf T r' c ≤ cum lf T r c := by
  unfold cum
  have hsub : range (r + 1) ⊆ range (r' + 1) := by intro x; simp only [mem_range]; omega
  rw [← Finset.sum_sdiff hsub]
  have : ∑ x ∈ range (r' + 1) \ range (r + 1), lf (T + x) c ≤ 0 := Finset.sum_nonpos fun s _ => h _ _
  linarith

theorem state_zero (c d : Fin 128) : state k lf v 0 c d = 0 := by simp [state]

/-- A chunk carries the state forward: the old state decays, and the chunk's rows are added. -/
theorem state_add (T C : ℕ) (hC : 0 < C) (c d : Fin 128) :
    state k lf v (T + C) c d = Real.exp (cum lf T (C - 1) c) * state k lf v T c d
      + ∑ r : Fin C, k (T + r) c * Real.exp (cum lf T (C - 1) c - cum lf T r c) * v (T + r) d := by
  have hc : cum lf T (C - 1) c = P lf (T + C) c - P lf T c := by
    rw [cum_eq]; congr 2; omega
  unfold state
  rw [Finset.sum_range_add, Finset.mul_sum, Fin.sum_univ_eq_sum_range (fun r => k (T + r) c * Real.exp (cum lf T (C - 1) c - cum lf T r c) * v (T + r) d)]
  congr 1
  · refine Finset.sum_congr rfl fun j _ => ?_
    rw [hc, show P lf (T + C) c - P lf (j + 1) c = (P lf (T + C) c - P lf T c) + (P lf T c - P lf (j + 1) c) by ring, Real.exp_add]
    ring
  · refine Finset.sum_congr rfl fun r _ => ?_
    rw [hc, cum_eq]
    congr 3
    ring

/-- A chunk's output at a row: the scores within the chunk against its values, and the state the chunk begins with. -/
theorem out_add (T C : ℕ) (r : Fin C) (d : Fin 128) :
    out q k lf v (T + r) d
      = (∑ r' : Fin C, (if r'.val ≤ r.val then ∑ c, q (T + r) c * k (T + r') c * Real.exp (cum lf T r c - cum lf T r' c) else 0) * v (T + r') d)
        + ∑ c, q (T + r) c * Real.exp (cum lf T r c) * state k lf v T c d := by
  unfold out
  have h1 : ∀ c, state k lf v (T + r + 1) c d = Real.exp (cum lf T r c) * state k lf v T c d
      + ∑ r' ∈ range (r.val + 1), k (T + r') c * Real.exp (cum lf T r c - cum lf T r' c) * v (T + r') d := by
    intro c
    have h := state_add k lf v T (r.val + 1) (Nat.succ_pos _) c d
    rw [Fin.sum_univ_eq_sum_range (fun r' => k (T + r') c * Real.exp (cum lf T (r.val + 1 - 1) c - cum lf T r' c) * v (T + r') d)] at h
    exact h
  have h2 : (∑ r' : Fin C, (if r'.val ≤ r.val then ∑ c, q (T + r) c * k (T + r') c * Real.exp (cum lf T r c - cum lf T r' c) else 0) * v (T + r') d)
      = ∑ r' ∈ range (r.val + 1), (∑ c, q (T + r) c * k (T + r') c * Real.exp (cum lf T r c - cum lf T r' c)) * v (T + r') d := by
    rw [Fin.sum_univ_eq_sum_range (fun r' => (if r' ≤ r.val then ∑ c, q (T + r) c * k (T + r') c * Real.exp (cum lf T r c - cum lf T r' c) else 0) * v (T + r') d)]
    have hsub : range (r.val + 1) ⊆ range C := by intro x; simp only [mem_range]; have := r.isLt; omega
    rw [← Finset.sum_subset hsub (fun x _ hx => by
      simp only [mem_range] at hx
      rw [if_neg (by omega), zero_mul])]
    refine Finset.sum_congr rfl fun x hx => ?_
    simp only [mem_range] at hx
    rw [if_pos (by omega)]
  rw [h2]
  simp only [h1, mul_add, Finset.sum_add_distrib, Finset.mul_sum, Finset.sum_mul]
  rw [Finset.sum_comm (s := Finset.univ) (t := range (r.val + 1))]
  rw [add_comm]
  congr 1
  · refine Finset.sum_congr rfl fun x _ => Finset.sum_congr rfl fun c _ => ?_
    ring
  · refine Finset.sum_congr rfl fun c _ => ?_
    ring

/-! ## The scalars -/

def sg (x : ℝ) : ℝ := 1 / (1 + Real.exp (-x))

theorem sg_pos (x : ℝ) : 0 < sg x := by unfold sg; positivity
theorem one_add_exp_pos (x : ℝ) : 0 < 1 + Real.exp x := by positivity
theorem sg_le_one (x : ℝ) : sg x ≤ 1 := by
  unfold sg; rw [div_le_one (one_add_exp_pos _)]; linarith [Real.exp_pos (-x)]

/-- The share of the second of two lower bounds. -/
def lb (a b : ℝ) : ℝ := Real.exp (b - max a b) / (Real.exp (a - max a b) + Real.exp (b - max a b))

theorem lb_pos (a b : ℝ) : 0 < lb a b := by unfold lb; positivity
theorem lb_lt_one (a b : ℝ) : lb a b < 1 := by
  unfold lb; rw [div_lt_one (by positivity)]; linarith [Real.exp_pos (a - max a b)]

/-- The floor of the logarithm's argument, as the reference writes it in 32 bits. -/
def eps : ℝ := 10633824 * ((2:ℝ) ^ 123)⁻¹

theorem eps_pos : 0 < eps := by unfold eps; positivity
theorem eps_le : eps ≤ 1.001e-30 := by unfold eps; norm_num

/-- The log-decay of a gate value. -/
def lfv (a b f : ℝ) : ℝ := Real.log (max (lb a b) eps + (1 - lb a b) * sg f)

/-- The key of a gate value. -/
def kkv (a b f : ℝ) : ℝ := (1 - lb a b) * sg (-f)

theorem arg_pos (a b f : ℝ) : 0 < max (lb a b) eps + (1 - lb a b) * sg f := by
  have h1 := lb_pos a b
  have h2 := lb_lt_one a b
  have h3 := sg_pos f
  have h4 : lb a b ≤ max (lb a b) eps := le_max_left _ _
  have h5 : 0 < (1 - lb a b) * sg f := mul_pos (by linarith) h3
  linarith

theorem eps_add_sg (f : ℝ) (hf : f ≤ 64) : eps + sg f ≤ 1 := by
  have h1 : sg f ≤ sg 64 := by
    unfold sg
    apply one_div_le_one_div_of_le (one_add_exp_pos _)
    have : Real.exp (-64) ≤ Real.exp (-f) := Real.exp_le_exp.mpr (by linarith)
    linarith
  have he : Real.exp (-64) ≥ 1e-28 := by
    have h : Real.exp 1 ≤ 2.7183 := by
      refine (Real.exp_bound' (x := 1) (by norm_num) le_rfl (n := 7) (by norm_num)).trans ?_
      simp only [Finset.sum_range_succ, Finset.sum_range_zero, Nat.factorial]
      norm_num
    have h2 : Real.exp (-64) = (Real.exp 1 ^ 64)⁻¹ := by
      rw [← Real.exp_nat_mul, ← Real.exp_neg]; norm_num
    rw [h2]
    have h3 : Real.exp 1 ^ 64 ≤ (2.7183 : ℝ) ^ 64 := pow_le_pow_left₀ (Real.exp_pos _).le h _
    have h4 : (2.7183 : ℝ) ^ 64 ≤ 1e28 := by norm_num
    have h5 : Real.exp 1 ^ 64 ≤ 1e28 := h3.trans h4
    have h6 : (1e28 : ℝ)⁻¹ ≤ (Real.exp 1 ^ 64)⁻¹ := inv_anti₀ (by positivity) h5
    have h7 : (1e28 : ℝ)⁻¹ = 1e-28 := by norm_num
    linarith
  have hs : sg 64 ≤ 1 - 1e-29 := by
    unfold sg
    rw [div_le_iff₀ (one_add_exp_pos _)]
    nlinarith [he]
  have := eps_le
  have h9 : (1.001e-30 : ℝ) ≤ 1e-29 := by norm_num
  linarith

theorem lfv_nonpos (a b f : ℝ) (hf : f ≤ 64) : lfv a b f ≤ 0 := by
  unfold lfv
  refine Real.log_nonpos (arg_pos a b f).le ?_
  have h1 := lb_pos a b
  have h2 := lb_lt_one a b
  have h3 := sg_pos f
  have h4 := sg_le_one f
  have h5 := eps_add_sg f hf
  rcases le_total (lb a b) eps with h | h
  · rw [max_eq_right h]; nlinarith
  · rw [max_eq_left h]; nlinarith

/-- The reference's sum of two exponentials' logarithm. -/
theorem logaddexp (x y : ℝ) : max x y + Real.log (1 + Real.exp (-|x - y|)) = Real.log (Real.exp x + Real.exp y) := by
  rcases le_total x y with h | h
  · rw [max_eq_right h, abs_of_nonpos (by linarith)]
    rw [show Real.exp x + Real.exp y = Real.exp y * (1 + Real.exp (-(-(x - y)))) by
      rw [mul_add, ← Real.exp_add]; ring_nf]
    rw [Real.log_mul (Real.exp_pos _).ne' (one_add_exp_pos _).ne', Real.log_exp]
  · rw [max_eq_left h, abs_of_nonneg (by linarith)]
    rw [show Real.exp x + Real.exp y = Real.exp x * (1 + Real.exp (-(x - y))) by
      rw [mul_add, ← Real.exp_add]; ring_nf]
    rw [Real.log_mul (Real.exp_pos _).ne' (one_add_exp_pos _).ne', Real.log_exp]

theorem softplus (x : ℝ) : max x 0 + Real.log (1 + Real.exp (-|x - 0|)) = Real.log (1 + Real.exp x) := by
  rw [logaddexp, Real.exp_zero, add_comm]

/-- The reference's log-decay is the same one. -/
theorem lfv_ref (a b f : ℝ) :
    max (Real.log (max (lb a b) eps)) (Real.log (1 - lb a b) + -(max (-f) 0 + Real.log (1 + Real.exp (-|-f - 0|))))
      + Real.log (1 + Real.exp (-|Real.log (max (lb a b) eps) - (Real.log (1 - lb a b) + -(max (-f) 0 + Real.log (1 + Real.exp (-|-f - 0|))))|))
      = lfv a b f := by
  rw [logaddexp, softplus]
  have h1 : 0 < max (lb a b) eps := lt_of_lt_of_le (lb_pos a b) (le_max_left _ _)
  have h2 : 0 < 1 - lb a b := by linarith [lb_lt_one a b]
  rw [Real.exp_log h1, Real.exp_add, Real.exp_log h2, Real.exp_neg, Real.exp_log (one_add_exp_pos _)]
  unfold lfv sg
  rw [one_div]

/-- The stable form of the logistic, from the exponential of the negated absolute value. -/
theorem sg_abs_pos (f : ℝ) (h : 0 ≤ f) : 1 / (1 + Real.exp (-|f|)) = sg f := by unfold sg; rw [abs_of_nonneg h]
theorem sg_abs_neg (f : ℝ) (h : f < 0) : Real.exp (-|f|) * (1 / (1 + Real.exp (-|f|))) = sg f := by
  unfold sg; rw [abs_of_neg h, neg_neg]
  have : Real.exp (-f) = (Real.exp f)⁻¹ := Real.exp_neg f
  rw [this]
  have := Real.exp_pos f
  field_simp
  ring
theorem sg_abs_pos' (f : ℝ) (h : 0 ≤ f) : Real.exp (-|f|) * (1 / (1 + Real.exp (-|f|))) = sg (-f) := by
  rcases h.eq_or_lt with h | h
  · subst h; simp [sg]
  · have := sg_abs_neg (-f) (by linarith); rwa [abs_neg] at this
theorem sg_abs_neg' (f : ℝ) (h : f < 0) : 1 / (1 + Real.exp (-|f|)) = sg (-f) := by
  have := sg_abs_pos (-f) (by linarith); rwa [abs_neg] at this

/-- Two rows, each scaled by its distance from a row between them, meet at the decay from the one to the other. -/
theorem exp_between (a b m : ℝ) (h1 : a ≤ m) (h2 : m ≤ b) : Real.exp (min (a - m) (0 - (a - m))) * Real.exp (min (b - m) (0 - (b - m))) = Real.exp (a - b) := by
  rw [min_eq_left (by linarith), min_eq_right (by linarith), ← Real.exp_add]; ring_nf

end Cert.Spec

end
-- ==== Proof.Stage.lean ====
/-
  The pieces of a chunk at exact arithmetic: what the level selection names, a level's scaled product, the row a level
  measures distances from, and the scores they make together.
-/
module

public import proofs.«01_k».proof.Proof.Math
public import proofs.«01_k».proof.Proof.Gen.KernelIdeal.Skeleton
public import Idealize.ShloMosaic.Lib.Pointwise
public import Idealize.ShloMosaic.Lib.Pipeline.ReadBack
public import Idealize.ShloMosaic.Lib.Pipeline.Value

@[expose] public section

set_option maxRecDepth 16384
set_option maxHeartbeats 1000000

noncomputable section

namespace Cert.KernelIdeal.Val

open Cert.KernelIdeal Cert.KernelIdeal.Gen Cert.Spec
open Idealize.ShloMosaic Idealize.ShloMosaic.Tactic

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The constants -/

theorem ofBits_zero : Ideal.ofBits .f32 0x00000000#32 = ((0:ℝ):EReal) := by simp [Ideal.ofBits, Ideal.ieee]
theorem ofBits_one : Ideal.ofBits .f32 0x3F800000#32 = ((1:ℝ):EReal) := by
  simp [Ideal.ofBits, Ideal.ieee, -EReal.coe_mul]; norm_num
theorem ofBits_eps : Ideal.ofBits .f32 0x0DA24260#32 = ((eps:ℝ):EReal) := by
  simp [Ideal.ofBits, Ideal.ieee, -EReal.coe_mul, eps]
/-- The scale of the queries, as written in 32 bits. -/
def scale : ℝ := 11863283 * ((2:ℝ) ^ 27)⁻¹
theorem ofBits_scale : Ideal.ofBits .f32 0x3DB504F3#32 = ((scale:ℝ):EReal) := by
  simp [Ideal.ofBits, Ideal.ieee, -EReal.coe_mul, scale]
theorem log2e : Named.named (F := Ideal) Cert.KernelIdeal.κ "log2e" (φ := .f32) 0x3FB8AA3B#32 = (((Real.log 2)⁻¹ : ℝ) : EReal) :=
  IdealRules.named_const.ideal_named_scalar _ _ _ _ rfl

theorem log2_ne : Real.log 2 ≠ 0 := (Real.log_pos (by norm_num)).ne'

theorem exp2_scaled (x : ℝ) : Ideal.exp2 ((x * (Real.log 2)⁻¹ : ℝ) : EReal) = ((Real.exp x : ℝ) : EReal) := by
  rw [Ideal.exp2_coe, Real.rpow_eq_pow, Real.rpow_def_of_pos (by norm_num)]
  congr 2
  have := log2_ne
  field_simp

/-! ## The levels -/

/-- The level of a pair of rows: the place of their row numbers' highest differing bit where the first is later, and none elsewhere. -/
def lvlN (i j : Fin 128) : BitVec 32 :=
  if j < i then 31#32 - IntOp.ctlz (BitVec.ofNat 32 i.val ^^^ BitVec.ofNat 32 j.val) else 4294967295#32

/-- The row level `lv` measures the distances of row `i` from. -/
def refrow (lv : ℕ) (i : Fin 128) : Fin 128 := Fin.ofNat 128 (i.val / 2 ^ (lv + 1) * 2 ^ (lv + 1) + 2 ^ lv - 1)

theorem lvlN_lt : ∀ i j : Fin 128, j < i → ∃ lv : Fin 7, lvlN i j = BitVec.ofNat 32 lv.val ∧ refrow lv.val i = refrow lv.val j ∧ j ≤ refrow lv.val j ∧ refrow lv.val j ≤ i := by
  decide +kernel
theorem lvlN_ge (i j : Fin 128) (h : ¬ j < i) : lvlN i j = 4294967295#32 := if_neg h

set_option backward.isDefEq.respectTransparency false in
theorem pay106 (i j : Fin 128) : k0_pay106 (ix2 i j) = lvlN i j := by
  have h : ∀ i j : Fin 128, Scalar.select (IntOp.cmpi .sgt (BitVec.ofNat 32 i.val) (BitVec.ofNat 32 j.val)) (31#32 - IntOp.ctlz (BitVec.ofNat 32 i.val ^^^ BitVec.ofNat 32 j.val)) 4294967295#32 = lvlN i j := by
    decide +kernel
  rw [← h]
  unfold k0_pay106
  pointwise
  rfl

end Cert.KernelIdeal.Val

end
-- ==== Proof.Scores.lean ====
/-
  The products of a chunk at exact arithmetic: a level's decays, its scaled product, and the scores the levels make together.
-/
module

public import proofs.«01_k».proof.Proof.Stage

@[expose] public section

set_option maxRecDepth 16384
set_option maxHeartbeats 1000000

noncomputable section

namespace Cert.KernelIdeal.Val

open Cert.KernelIdeal Cert.KernelIdeal.Gen Cert.Spec
open Idealize.ShloMosaic Idealize.ShloMosaic.Tactic

/-- Lane `κ` of the head whose lanes begin at `o`. -/
def lane (o : ℕ) (κ : Fin 128) : Fin 512 := Fin.ofNat 512 (o + κ.val)

theorem emin (a b : ℝ) : min (a : EReal) (b : EReal) = ((min a b : ℝ) : EReal) := (EReal.coe_strictMono.monotone.map_min).symm
theorem emax (a b : ℝ) : max (a : EReal) (b : EReal) = ((max a b : ℝ) : EReal) := (EReal.coe_strictMono.monotone.map_max).symm

theorem select_eq {α : Type} {w : ℕ} (a b : BitVec w) (x y : α) : Scalar.select (IntOp.cmpi CmpIPredicate.eq a b) x y = if a = b then x else y := by
  by_cases h : a = b
  · simp [Scalar.select, IntOp.cmpi, h]
  · have hb : (a == b) = false := by simpa using h
    simp [Scalar.select, IntOp.cmpi, h, hb]

section
set_option backward.isDefEq.respectTransparency false

theorem slice_stage (o : ℕ) (ho : o + 128 ≤ 512) {φ : FTy} (hs : S128x512.Slices ![0, o] S128x128) (x : FVec Ideal S128x512 φ) (i κ : Fin 128) :
    extractStridedSlice S128x128 ![0, o] x hs (ix2 i κ) = x (ix2 i (lane o κ)) := by
  pointwise
  congr 1
  have := κ.isLt
  congr 1 <;> apply Fin.ext <;> simp [lane, Fin.ofNat] <;> omega

/-- The product of one head's lanes of two arrays, row against row. -/
theorem dot_stage (x y : FVec Ideal S128x128 .bf16) (X Y : Fin 128 → Fin 128 → ℝ)
    (hx : ∀ i κ, x (ix2 i κ) = ((X i κ : ℝ) : EReal)) (hy : ∀ i κ, y (ix2 i κ) = ((Y i κ : ℝ) : EReal)) (i j : Fin 128) :
    matmul dot_S128x128_S128x128_S128x128_1_1_0_0_n_n none x y (constant S128x128 FTy.f32 0#32) (ix2 i j)
      = ((∑ κ, X i κ * Y j κ : ℝ) : EReal) := by
  pointwise
  simp only [hx, hy, ← EReal.coe_mul, coe_sum]

/-- The product of the first's rows with the second's columns. -/
theorem dot_stage_nn (x y : FVec Ideal S128x128 .bf16) (X Y : Fin 128 → Fin 128 → ℝ)
    (hx : ∀ i κ, x (ix2 i κ) = ((X i κ : ℝ) : EReal)) (hy : ∀ i κ, y (ix2 i κ) = ((Y i κ : ℝ) : EReal)) (i j : Fin 128) :
    matmul dot_S128x128_S128x128_S128x128_1_0_0_1_n_n none x y (constant S128x128 FTy.f32 0#32) (ix2 i j)
      = ((∑ κ, X i κ * Y κ j : ℝ) : EReal) := by
  pointwise
  simp only [hx, hy, ← EReal.coe_mul, coe_sum]

/-- The product of the first's columns with the second's columns. -/
theorem dot_stage_tn (x y : FVec Ideal S128x128 .bf16) (X Y : Fin 128 → Fin 128 → ℝ)
    (hx : ∀ i κ, x (ix2 i κ) = ((X i κ : ℝ) : EReal)) (hy : ∀ i κ, y (ix2 i κ) = ((Y i κ : ℝ) : EReal)) (i j : Fin 128) :
    matmul dot_S128x128_S128x128_S128x128_0_0_1_1_n_n none x y (constant S128x128 FTy.f32 0#32) (ix2 i j)
      = ((∑ κ, X κ i * Y κ j : ℝ) : EReal) := by
  pointwise
  simp only [hx, hy, ← EReal.coe_mul, coe_sum]

/-- The decay a level gives a row: the exponential of the row's distance from the level's row. -/
theorem e_stage (r3 rf : FVec Ideal S128x512 .f32) (C M : Fin 128 → Fin 512 → ℝ)
    (h3 : ∀ i l, r3 (ix2 i l) = ((C i l * (Real.log 2)⁻¹ : ℝ) : EReal)) (hm : ∀ i l, rf (ix2 i l) = ((M i l * (Real.log 2)⁻¹ : ℝ) : EReal)) (i : Fin 128) (l : Fin 512) :
    exp2 (minimumf (subf r3 rf) (subf (broadcast S128x512 (FloatOps.ofBits (F := Ideal) FTy.f32 0#32)) (subf r3 rf))) (ix2 i l)
      = ((Real.exp (min (C i l - M i l) (0 - (C i l - M i l))) : ℝ) : EReal) := by
  pointwise
  simp only [h3, hm]
  have hl : (0:ℝ) ≤ (Real.log 2)⁻¹ := inv_nonneg.mpr (Real.log_nonneg (by norm_num))
  rw [show (0 : EReal) = ((0:ℝ):EReal) from rfl, ← EReal.coe_sub, ← EReal.coe_sub, emin, ← sub_mul,
    show 0 - (C i l - M i l) * (Real.log 2)⁻¹ = (0 - (C i l - M i l)) * (Real.log 2)⁻¹ by ring, ← min_mul_of_nonneg _ _ hl]
  show Ideal.exp2 _ = _
  exact exp2_scaled _

/-- The selection of a level's product. -/
theorem sel_stage (lv : BitVec 32) (sc prev : FVec Ideal S128x128 .f32) (i j : Fin 128) :
    select (cmpi CmpIPredicate.eq k0_pay106 (broadcast S128x128 lv)) sc prev (ix2 i j) = if lvlN i j = lv then sc (ix2 i j) else prev (ix2 i j) := by
  pointwise
  rw [pay106, select_eq]

theorem diag_stage (sc : FVec Ideal S128x128 .f32) (i j : Fin 128) :
    select k0_pay107 sc (broadcast S128x128 (FloatOps.ofBits (F := Ideal) FTy.f32 0#32)) (ix2 i j) = if i = j then sc (ix2 i j) else ((0:ℝ):EReal) := by
  have h2 : ∀ i j : Fin 128, (BitVec.ofNat 32 i.val = BitVec.ofNat 32 j.val) = (i = j) := by decide +kernel
  unfold k0_pay107
  pointwise
  rw [select_eq]
  simp only [h2]
  rfl

end

/-- The scores: at or below the diagonal the products decayed from the one row to the other, above it zero. -/
theorem scores (Q K C : Fin 128 → Fin 128 → ℝ) (hC : ∀ κ (i j : Fin 128), i ≤ j → C j κ ≤ C i κ)
    (E : ℕ → Fin 128 → Fin 128 → ℝ) (hE : ∀ lv i κ, E lv i κ = Real.exp (min (C i κ - C (refrow lv i) κ) (0 - (C i κ - C (refrow lv i) κ))))
    (s : ℕ → Fin 128 → Fin 128 → EReal)
    (h0 : ∀ i j, s 0 i j = if i = j then ((∑ κ, Q i κ * K j κ : ℝ) : EReal) else ((0:ℝ):EReal))
    (hs : ∀ lv, lv < 7 → ∀ i j, s (lv + 1) i j = if lvlN i j = BitVec.ofNat 32 lv then ((∑ κ, (Q i κ * E lv i κ) * (K j κ * E lv j κ) : ℝ) : EReal) else s lv i j)
    (i j : Fin 128) :
    s 7 i j = ((if j.val ≤ i.val then ∑ κ, Q i κ * K j κ * Real.exp (C i κ - C j κ) else 0 : ℝ) : EReal) := by
  by_cases hji : j < i
  · obtain ⟨lv, h1, h2, h3, h4⟩ := lvlN_lt i j hji
    have hinj : ∀ a b : Fin 7, BitVec.ofNat 32 a.val = BitVec.ofNat 32 b.val → a = b := by decide
    have key : ∀ n, n ≤ 7 → lv.val < n → s n i j = ((∑ κ, (Q i κ * E lv i κ) * (K j κ * E lv j κ) : ℝ) : EReal) := by
      intro n
      induction n with
      | zero => intro _ h; omega
      | succ n ih =>
        intro hn hl
        rw [hs n (by omega)]
        split
        · next h =>
          have : lv = (⟨n, by omega⟩ : Fin 7) := hinj _ _ (h1.symm.trans h)
          rw [this]
        · next h =>
          refine ih (by omega) ?_
          rcases Nat.lt_or_ge lv.val n with h' | h'
          · exact h'
          · exfalso
            have : lv.val = n := by omega
            rw [← this] at h; exact h h1
    rw [key 7 le_rfl lv.isLt, if_pos (by exact hji.le)]
    congr 1
    refine Finset.sum_congr rfl fun κ _ => ?_
    have he : E lv i κ * E lv j κ = Real.exp (C i κ - C j κ) := by
      rw [hE, hE, h2]
      exact exp_between _ _ _ (hC κ _ _ h4) (hC κ _ _ h3)
    rw [← he]; ring
  · have h7 : ∀ n, n ≤ 7 → s n i j = s 0 i j := by
      intro n
      induction n with
      | zero => intro _; rfl
      | succ n ih =>
        intro hn
        rw [hs n (by omega), if_neg, ih (by omega)]
        rw [lvlN_ge i j hji]
        have : ∀ a : Fin 7, ¬ (4294967295#32 = BitVec.ofNat 32 a.val) := by decide
        exact this ⟨n, by omega⟩
    rw [h7 7 le_rfl, h0]
    by_cases hij : i = j
    · subst hij; simp
    · rw [if_neg hij, if_neg (by intro h; exact hij (le_antisymm (not_lt.mp hji) h))]

end Cert.KernelIdeal.Val

end
-- ==== Proof.Prep.lean ====
/-
  The kernel's gates at exact arithmetic: the queries, keys and running log-decays of a chunk as real numbers.
-/
module

public import proofs.«01_k».proof.Proof.Scores

@[expose] public section

set_option maxRecDepth 16384
set_option maxHeartbeats 1000000

noncomputable section

namespace Cert.KernelIdeal.Val

open Cert.KernelIdeal Cert.KernelIdeal.Gen Cert.Spec
open Idealize.ShloMosaic Idealize.ShloMosaic.Tactic

/-- The query of a projected value. -/
def qqv (x : ℝ) : ℝ := x * sg x * scale

theorem edivc (x y : ℝ) (h : y ≠ 0) : Ideal.div (x : EReal) (y : EReal) = ((x / y : ℝ) : EReal) := by
  rw [Ideal.div_coe h, ← EReal.coe_mul]; congr 1; ring

theorem c0 : (0 : EReal) = ((0:ℝ):EReal) := rfl
theorem c1 : (1 : EReal) = ((1:ℝ):EReal) := rfl

theorem sum_upto (i n : ℕ) (hi : i < n) (g : ℕ → ℝ) : (∑ z : Fin n, if z.val ≤ i then g z.val else 0) = ∑ s ∈ Finset.range (i + 1), g s := by
  rw [Fin.sum_univ_eq_sum_range (fun z => if z ≤ i then g z else 0)]
  have hsub : Finset.range (i + 1) ⊆ Finset.range n := by intro x; simp only [Finset.mem_range]; omega
  rw [← Finset.sum_subset hsub (fun x _ hx => by simp only [Finset.mem_range] at hx; rw [if_neg (by omega)])]
  refine Finset.sum_congr rfl fun x hx => ?_
  simp only [Finset.mem_range] at hx
  rw [if_pos (by omega)]

section
set_option backward.isDefEq.respectTransparency false

theorem pay1 (x : FVec Ideal S128x512 .f32) (X : Fin 128 → Fin 512 → ℝ) (hx : ∀ i l, x (ix2 i l) = ((X i l : ℝ) : EReal)) (i : Fin 128) (l : Fin 512) :
    k0_pay1 (F := Ideal) x (ix2 i l) = ((qqv (X i l) : ℝ) : EReal) := by
  unfold k0_pay1
  pointwise
  simp only [hx]
  rw [show (0 : EReal) = ((0:ℝ):EReal) from rfl, show (1 : EReal) = ((1:ℝ):EReal) from rfl, ofBits_scale, ← EReal.coe_sub]
  simp only [zero_sub, Ideal.exp_coe, ← EReal.coe_add, Ideal.exp_def]
  rw [edivc _ _ (one_add_exp_pos _).ne', ← EReal.coe_mul, ← EReal.coe_mul]
  rfl

theorem pay102 (v0 : FVec Ideal S2x512 .f32) (a b : Fin 512 → ℝ) (ha : ∀ l, v0 (ix2 0 l) = ((a l : ℝ) : EReal)) (hb : ∀ l, v0 (ix2 1 l) = ((b l : ℝ) : EReal)) (l : Fin 512) :
    k0_pay102 (F := Ideal) v0 (ix2 0 l) = ((lb (a l) (b l) : ℝ) : EReal) := by
  unfold k0_pay102
  pointwise
  simp only [ha, hb]
  have h1 := (add_pos (Real.exp_pos (a l - max (a l) (b l))) (Real.exp_pos (b l - max (a l) (b l)))).ne'
  simp only [c0, emax, ← EReal.coe_sub, Ideal.exp_coe, ← EReal.coe_add, edivc _ _ h1]
  congr 1
  rw [add_sub_cancel_left]
  exact max_eq_left (lb_pos (a l) (b l)).le

theorem pay2 (x : FVec Ideal S128x512 .f32) (X : Fin 128 → Fin 512 → ℝ) (hx : ∀ i l, x (ix2 i l) = ((X i l : ℝ) : EReal)) (i : Fin 128) (l : Fin 512) :
    k0_pay2 (F := Ideal) x (ix2 i l) = ((Real.exp (-|X i l|) : ℝ) : EReal) := by
  unfold k0_pay2
  pointwise
  rw [hx, c0]
  show Ideal.exp (((0:ℝ):EReal) - max ((X i l : ℝ) : EReal) (-((X i l : ℝ) : EReal))) = _
  rw [← EReal.coe_neg, emax, ← EReal.coe_sub, Ideal.exp_coe, zero_sub]
  rfl

theorem pay3 (x : FVec Ideal S128x512 .f32) (X : Fin 128 → Fin 512 → ℝ) (hx : ∀ i l, x (ix2 i l) = ((X i l : ℝ) : EReal)) (i : Fin 128) (l : Fin 512) :
    k0_pay3 (F := Ideal) x (ix2 i l) = ((1 / (1 + Real.exp (-|X i l|)) : ℝ) : EReal) := by
  unfold k0_pay3
  pointwise
  simp only [pay2 x X hx]
  rw [c1, ← EReal.coe_add, edivc _ _ (one_add_exp_pos _).ne']

theorem pay5 (v0 : FVec Ideal S2x512 .f32) (a b : Fin 512 → ℝ) (ha : ∀ l, v0 (ix2 0 l) = ((a l : ℝ) : EReal)) (hb : ∀ l, v0 (ix2 1 l) = ((b l : ℝ) : EReal))
    (x : FVec Ideal S128x512 .f32) (X : Fin 128 → Fin 512 → ℝ) (hx : ∀ i l, x (ix2 i l) = ((X i l : ℝ) : EReal)) (i : Fin 128) (l : Fin 512) :
    k0_pay5 (F := Ideal) (k0_pay104 v0) x (ix2 i l) = ((kkv (a l) (b l) (X i l) : ℝ) : EReal) := by
  unfold k0_pay5 k0_pay104 k0_pay4
  pointwise
  simp only [pay2 x X hx, pay3 x X hx, pay102 v0 a b ha hb, hx]
  have h0 : ((0:EReal) ≤ ((X i l : ℝ) : EReal)) ↔ 0 ≤ X i l := by rw [c0, EReal.coe_le_coe_iff]
  rw [c1, ← EReal.coe_sub]
  unfold kkv
  split
  · next h => rw [← EReal.coe_mul, ← EReal.coe_mul, sg_abs_pos' _ (h0.mp h)]
  · next h => rw [← EReal.coe_mul, sg_abs_neg' _ (not_le.mp (fun h' => h (h0.mpr h')))]

theorem pay7 (v0 : FVec Ideal S2x512 .f32) (a b : Fin 512 → ℝ) (ha : ∀ l, v0 (ix2 0 l) = ((a l : ℝ) : EReal)) (hb : ∀ l, v0 (ix2 1 l) = ((b l : ℝ) : EReal))
    (x : FVec Ideal S128x512 .f32) (f : ℕ → Fin 512 → ℝ) (T : ℕ) (hx : ∀ i l, x (ix2 i l) = ((f (T + i.val) l : ℝ) : EReal)) (i : Fin 128) (l : Fin 512) :
    k0_pay7 (F := Ideal) (k0_pay103 v0) (k0_pay104 v0) k0_pay105 x (ix2 i l) = (((∑ s ∈ Finset.range (i.val + 1), lfv (a l) (b l) (f (T + s) l)) * (Real.log 2)⁻¹ : ℝ) : EReal) := by
  unfold k0_pay7 k0_pay103 k0_pay104 k0_pay105 k0_pay4
  pointwise
  simp only [pay2 x _ hx, pay3 x _ hx, pay102 v0 a b ha hb, hx]
  have key : ∀ z : Fin 128, Ideal.log (max ((lb (a l) (b l) : ℝ) : EReal) (Ideal.ofBits FTy.f32 228737632#32) +
              (1 - ((lb (a l) (b l) : ℝ) : EReal)) *
                if (0:EReal) ≤ ((f (T + z.val) l : ℝ) : EReal) then ((1 / (1 + Real.exp (-|f (T + z.val) l|)) : ℝ) : EReal)
                else ((Real.exp (-|f (T + z.val) l|) : ℝ) : EReal) * ((1 / (1 + Real.exp (-|f (T + z.val) l|)) : ℝ) : EReal)) = ((lfv (a l) (b l) (f (T + z.val) l) : ℝ) : EReal) := by
    intro z
    have h0 : ((0:EReal) ≤ ((f (T + z.val) l : ℝ) : EReal)) ↔ 0 ≤ f (T + z.val) l := by rw [c0, EReal.coe_le_coe_iff]
    have hs : (if (0:EReal) ≤ ((f (T + z.val) l : ℝ) : EReal) then ((1 / (1 + Real.exp (-|f (T + z.val) l|)) : ℝ) : EReal)
                else ((Real.exp (-|f (T + z.val) l|) : ℝ) : EReal) * ((1 / (1 + Real.exp (-|f (T + z.val) l|)) : ℝ) : EReal)) = ((sg (f (T + z.val) l) : ℝ) : EReal) := by
      split
      · next h => rw [sg_abs_pos _ (h0.mp h)]
      · next h => rw [← EReal.coe_mul, sg_abs_neg _ (not_le.mp (fun h' => h (h0.mpr h')))]
    rw [hs, c1, ofBits_eps, emax, ← EReal.coe_sub, ← EReal.coe_mul, ← EReal.coe_add, Ideal.log_coe, if_neg (not_le.mpr (arg_pos _ _ _))]
    rfl
  have hsel : ∀ z : Fin 128, ∀ y : EReal, Scalar.select (IntOp.cmpi CmpIPredicate.sge (BitVec.ofNat 32 i.val) (BitVec.ofNat 32 z.val)) y 0 = if z.val ≤ i.val then y else ((0:ℝ):EReal) := by
    have hd : ∀ i z : Fin 128, IntOp.cmpi CmpIPredicate.sge (BitVec.ofNat 32 i.val) (BitVec.ofNat 32 z.val) = BitVec.ofBool (decide (z.val ≤ i.val)) := by decide +kernel
    intro z y
    rw [hd i z, c0]
    by_cases h : z.val ≤ i.val <;> simp [Scalar.select, h]
  simp only [key, hsel]
  rw [log2e]
  have hsum : (∑ z : Fin 128, (if z.val ≤ i.val then ((lfv (a l) (b l) (f (T + z.val) l) : ℝ) : EReal) else ((0:ℝ):EReal)))
      = ((∑ s ∈ Finset.range (i.val + 1), lfv (a l) (b l) (f (T + s) l) : ℝ) : EReal) := by
    have h1 : ∀ z : Fin 128, (if z.val ≤ i.val then ((lfv (a l) (b l) (f (T + z.val) l) : ℝ) : EReal) else ((0:ℝ):EReal)) = (((if z.val ≤ i.val then lfv (a l) (b l) (f (T + z.val) l) else 0) : ℝ) : EReal) := by
      intro z; split <;> rfl
    simp only [h1, coe_sum]
    congr 1
    exact sum_upto i.val 128 i.isLt (fun s => lfv (a l) (b l) (f (T + s) l))
  rw [hsum, ← EReal.coe_mul]

end

end Cert.KernelIdeal.Val

end
-- ==== Proof.Refs.lean ====
/-
  The rows the levels measure their distances from: at level `lv` row `i`'s is row `refrow lv i` of the running sums.
-/
module

public import proofs.«01_k».proof.Proof.Prep
public import proofs.«01_k».proof.Proof.Body

@[expose] public section

set_option maxRecDepth 16384
set_option maxHeartbeats 1000000

noncomputable section

namespace Cert.KernelIdeal.Val

open Cert.KernelIdeal Cert.KernelIdeal.Gen Cert.KernelIdeal.Hand Cert.Spec
open Idealize.ShloMosaic Idealize.ShloMosaic.Tactic

/-- A row of the scratch of the running sums, read after the one store of the whole. -/
theorem row_read (arg9 : Memref sig .tc .vmem S128x512 .f32) (r3 : FVec Ideal S128x512 .f32) (n : ℕ) (hn : n < 128)
    (inb : ∀ a, (![0, 0] : Fin 2 → ℕ) a + S128x512.size a ≤ S128x512.size a) (inb' : ∀ a, (![n, 0] : Fin 2 → ℕ) a + S1x512.size a ≤ S128x512.size a)
    (hc : S128x512.ShapeCasts S128x512) (z : (Rect.unit (s := S128x512) ![n, 0] S1x512.size inb').shape.Idx) :
    arg9.view.readCov (Val := Elt Ideal) [⟨Rect.unit (s := S128x512) ![0, 0] S128x512.size inb, shapeCast S128x512 r3 hc⟩] (Rect.unit (s := S128x512) ![n, 0] S1x512.size inb').toLoadRect z
      = r3 (ix2 (Fin.ofNat 128 n) (z 1)) := by
  rw [View.readCov_fill arg9.view inb _ [] _ (by intro a; match a with | ⟨0, _⟩ => rfl | ⟨1, _⟩ => rfl)]
  show shapeCast S128x512 r3 hc ((Rect.unit (s := S128x512) ![n, 0] S1x512.size inb').idx z) = _
  have he : (Rect.unit (s := S128x512) ![n, 0] S1x512.size inb').idx z = ix2 (Fin.ofNat 128 n) (z 1) := by
    funext a
    match a with
    | ⟨0, _⟩ =>
      apply Fin.ext
      have h0 : (z 0).val < 1 := (z 0).isLt
      show n + 1 * (z 0).val = n % 128
      omega
    | ⟨1, _⟩ =>
      apply Fin.ext
      show 0 + 1 * (z 1).val = (z 1).val
      omega
  rw [he]
  pointwise

section
set_option backward.isDefEq.respectTransparency false

theorem ref0 (arg2 : Memref sig .tc .vmem S2048x512 .f32) (v0 : Vec Ideal S2x512 .f32) (X2 : BufTy.Contents (Elt Ideal) arg2.view.ty) (k : Fin k0_t1_loop.trips) (i : Fin 128) (l : Fin 512) :
    trip.sl.v115 (F := Ideal) arg2 v0 rowIota X2 k (ix2 i l) = trip.sl.r_3 (F := Ideal) arg2 v0 X2 k (ix2 (refrow 0 i) l) := by
  unfold trip.sl.v115 trip.sl.v113 trip.sl.v114 trip.sl.v111 trip.sl.v110 rowIota
  generalize trip.sl.r_3 (F := Ideal) arg2 v0 X2 k = r3
  pointwise
  have h : ∀ i : Fin 128, (if IntOp.andi (BitVec.ofNat 32 i.val) 1#32 = 1#32 then (⟨(i.val + 128 - 1) % 128, Nat.mod_lt _ (by decide)⟩ : Fin 128) else i) = refrow 0 i := by decide +kernel
  rw [← h i]
  simp only [select_eq]
  split_ifs <;> rfl

theorem ref1 (arg2 : Memref sig .tc .vmem S2048x512 .f32) (v0 : Vec Ideal S2x512 .f32) (X2 : BufTy.Contents (Elt Ideal) arg2.view.ty) (k : Fin k0_t1_loop.trips) (i : Fin 128) (l : Fin 512) :
    trip.sl.v162 (F := Ideal) arg2 v0 rowIota X2 k (ix2 i l) = trip.sl.r_3 (F := Ideal) arg2 v0 X2 k (ix2 (refrow 1 i) l) := by
  unfold trip.sl.v162 trip.sl.v152 trip.sl.v153 trip.sl.v161 trip.sl.v160 trip.sl.v159 trip.sl.v157 trip.sl.v156 trip.sl.v155 trip.sl.v151 trip.sl.v150 trip.sl.v149 trip.sl.v114 trip.sl.v110 rowIota
  generalize trip.sl.r_3 (F := Ideal) arg2 v0 X2 k = r3
  pointwise
  have h : ∀ i : Fin 128, (if IntOp.andi (BitVec.ofNat 32 i.val) 3#32 = 0#32 then (⟨(i.val + 128 - 127) % 128, Nat.mod_lt _ (by decide)⟩ : Fin 128) else if IntOp.andi (BitVec.ofNat 32 i.val) 3#32 = 1#32 then i else if IntOp.andi (BitVec.ofNat 32 i.val) 3#32 = 2#32 then (⟨(i.val + 128 - 1) % 128, Nat.mod_lt _ (by decide)⟩ : Fin 128) else (⟨(i.val + 128 - 2) % 128, Nat.mod_lt _ (by decide)⟩ : Fin 128)) = refrow 1 i := by decide +kernel
  rw [← h i]
  simp only [select_eq]
  split_ifs <;> rfl

/-- A row over 8 rows. -/
theorem bc8 (w : FVec Ideal S1x512 .f32) (hc : S1x512.ShapeCasts S1x512) (hb : S1x512.Broadcasts S8x512) (y : S8x512.Idx) : broadcastTo S8x512 (shapeCast S1x512 w hc) hb y = w (ix2 0 (y 1)) := by
  rw [eq_ix2 y]
  pointwise

/-- A row over 16 rows. -/
theorem bc16 (w : FVec Ideal S1x512 .f32) (hc : S1x512.ShapeCasts S1x512) (hb : S1x512.Broadcasts S16x512) (y : S16x512.Idx) : broadcastTo S16x512 (shapeCast S1x512 w hc) hb y = w (ix2 0 (y 1)) := by
  rw [eq_ix2 y]
  pointwise

/-- A row over 32 rows. -/
theorem bc32 (w : FVec Ideal S1x512 .f32) (hc : S1x512.ShapeCasts S1x512) (hb : S1x512.Broadcasts S32x512) (y : S32x512.Idx) : broadcastTo S32x512 (shapeCast S1x512 w hc) hb y = w (ix2 0 (y 1)) := by
  rw [eq_ix2 y]
  pointwise

/-- A row over 64 rows. -/
theorem bc64 (w : FVec Ideal S1x512 .f32) (hc : S1x512.ShapeCasts S1x512) (hb : S1x512.Broadcasts S64x512) (y : S64x512.Idx) : broadcastTo S64x512 (shapeCast S1x512 w hc) hb y = w (ix2 0 (y 1)) := by
  rw [eq_ix2 y]
  pointwise

/-- A row over 128 rows. -/
theorem bc128 (w : FVec Ideal S1x512 .f32) (hc : S1x512.ShapeCasts S1x512) (hb : S1x512.Broadcasts S128x512) (y : S128x512.Idx) : broadcastTo S128x512 (shapeCast S1x512 w hc) hb y = w (ix2 0 (y 1)) := by
  rw [eq_ix2 y]
  pointwise

theorem row_v196 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v196 (F := Ideal) arg2 arg9 v0 X2 k z = trip.sl.r_3 (F := Ideal) arg2 v0 X2 k (ix2 (Fin.ofNat 128 3) (z 1)) := by
  unfold trip.sl.v196 trip.sl.H9_1 trip.sl.v87
  exact row_read arg9 (trip.sl.r_3 (F := Ideal) arg2 v0 X2 k) 3 (by decide) _ _ _ z

theorem piece_v198 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v198 (F := Ideal) arg2 arg9 v0 X2 k = fun y => trip.sl.r_3 (F := Ideal) arg2 v0 X2 k (ix2 (Fin.ofNat 128 3) (y 1)) := by
  funext y
  unfold trip.sl.v198 trip.sl.v197
  exact (bc8 _ _ _ y).trans (row_v196 arg2 arg9 v0 X2 k _)

theorem row_v199 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v199 (F := Ideal) arg2 arg9 v0 X2 k z = trip.sl.r_3 (F := Ideal) arg2 v0 X2 k (ix2 (Fin.ofNat 128 11) (z 1)) := by
  unfold trip.sl.v199 trip.sl.H9_1 trip.sl.v87
  exact row_read arg9 (trip.sl.r_3 (F := Ideal) arg2 v0 X2 k) 11 (by decide) _ _ _ z

theorem piece_v201 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v201 (F := Ideal) arg2 arg9 v0 X2 k = fun y => trip.sl.r_3 (F := Ideal) arg2 v0 X2 k (ix2 (Fin.ofNat 128 11) (y 1)) := by
  funext y
  unfold trip.sl.v201 trip.sl.v200
  exact (bc8 _ _ _ y).trans (row_v199 arg2 arg9 v0 X2 k _)

theorem row_v202 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v202 (F := Ideal) arg2 arg9 v0 X2 k z = trip.sl.r_3 (F := Ideal) arg2 v0 X2 k (ix2 (Fin.ofNat 128 19) (z 1)) := by
  unfold trip.sl.v202 trip.sl.H9_1 trip.sl.v87
  exact row_read arg9 (trip.sl.r_3 (F := Ideal) arg2 v0 X2 k) 19 (by decide) _ _ _ z

theorem piece_v204 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v204 (F := Ideal) arg2 arg9 v0 X2 k = fun y => trip.sl.r_3 (F := Ideal) arg2 v0 X2 k (ix2 (Fin.ofNat 128 19) (y 1)) := by
  funext y
  unfold trip.sl.v204 trip.sl.v203
  exact (bc8 _ _ _ y).trans (row_v202 arg2 arg9 v0 X2 k _)

theorem row_v205 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v205 (F := Ideal) arg2 arg9 v0 X2 k z = trip.sl.r_3 (F := Ideal) arg2 v0 X2 k (ix2 (Fin.ofNat 128 27) (z 1)) := by
  unfold trip.sl.v205 trip.sl.H9_1 trip.sl.v87
  exact row_read arg9 (trip.sl.r_3 (F := Ideal) arg2 v0 X2 k) 27 (by decide) _ _ _ z

theorem piece_v207 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v207 (F := Ideal) arg2 arg9 v0 X2 k = fun y => trip.sl.r_3 (F := Ideal) arg2 v0 X2 k (ix2 (Fin.ofNat 128 27) (y 1)) := by
  funext y
  unfold trip.sl.v207 trip.sl.v206
  exact (bc8 _ _ _ y).trans (row_v205 arg2 arg9 v0 X2 k _)

theorem row_v208 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v208 (F := Ideal) arg2 arg9 v0 X2 k z = trip.sl.r_3 (F := Ideal) arg2 v0 X2 k (ix2 (Fin.ofNat 128 35) (z 1)) := by
  unfold trip.sl.v208 trip.sl.H9_1 trip.sl.v87
  exact row_read arg9 (trip.sl.r_3 (F := Ideal) arg2 v0 X2 k) 35 (by decide) _ _ _ z

theorem piece_v210 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v210 (F := Ideal) arg2 arg9 v0 X2 k = fun y => trip.sl.r_3 (F := Ideal) arg2 v0 X2 k (ix2 (Fin.ofNat 128 35) (y 1)) := by
  funext y
  unfold trip.sl.v210 trip.sl.v209
  exact (bc8 _ _ _ y).trans (row_v208 arg2 arg9 v0 X2 k _)

theorem row_v211 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v211 (F := Ideal) arg2 arg9 v0 X2 k z = trip.sl.r_3 (F := Ideal) arg2 v0 X2 k (ix2 (Fin.ofNat 128 43) (z 1)) := by
  unfold trip.sl.v211 trip.sl.H9_1 trip.sl.v87
  exact row_read arg9 (trip.sl.r_3 (F := Ideal) arg2 v0 X2 k) 43 (by decide) _ _ _ z

theorem piece_v213 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v213 (F := Ideal) arg2 arg9 v0 X2 k = fun y => trip.sl.r_3 (F := Ideal) arg2 v0 X2 k (ix2 (Fin.ofNat 128 43) (y 1)) := by
  funext y
  unfold trip.sl.v213 trip.sl.v212
  exact (bc8 _ _ _ y).trans (row_v211 arg2 arg9 v0 X2 k _)

theorem row_v214 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v214 (F := Ideal) arg2 arg9 v0 X2 k z = trip.sl.r_3 (F := Ideal) arg2 v0 X2 k (ix2 (Fin.ofNat 128 51) (z 1)) := by
  unfold trip.sl.v214 trip.sl.H9_1 trip.sl.v87
  exact row_read arg9 (trip.sl.r_3 (F := Ideal) arg2 v0 X2 k) 51 (by decide) _ _ _ z

theorem piece_v216 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v216 (F := Ideal) arg2 arg9 v0 X2 k = fun y => trip.sl.r_3 (F := Ideal) arg2 v0 X2 k (ix2 (Fin.ofNat 128 51) (y 1)) := by
  funext y
  unfold trip.sl.v216 trip.sl.v215
  exact (bc8 _ _ _ y).trans (row_v214 arg2 arg9 v0 X2 k _)

theorem row_v217 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v217 (F := Ideal) arg2 arg9 v0 X2 k z = trip.sl.r_3 (F := Ideal) arg2 v0 X2 k (ix2 (Fin.ofNat 128 59) (z 1)) := by
  unfold trip.sl.v217 trip.sl.H9_1 trip.sl.v87
  exact row_read arg9 (trip.sl.r_3 (F := Ideal) arg2 v0 X2 k) 59 (by decide) _ _ _ z

theorem piece_v219 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v219 (F := Ideal) arg2 arg9 v0 X2 k = fun y => trip.sl.r_3 (F := Ideal) arg2 v0 X2 k (ix2 (Fin.ofNat 128 59) (y 1)) := by
  funext y
  unfold trip.sl.v219 trip.sl.v218
  exact (bc8 _ _ _ y).trans (row_v217 arg2 arg9 v0 X2 k _)

theorem row_v220 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v220 (F := Ideal) arg2 arg9 v0 X2 k z = trip.sl.r_3 (F := Ideal) arg2 v0 X2 k (ix2 (Fin.ofNat 128 67) (z 1)) := by
  unfold trip.sl.v220 trip.sl.H9_1 trip.sl.v87
  exact row_read arg9 (trip.sl.r_3 (F := Ideal) arg2 v0 X2 k) 67 (by decide) _ _ _ z

theorem piece_v222 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v222 (F := Ideal) arg2 arg9 v0 X2 k = fun y => trip.sl.r_3 (F := Ideal) arg2 v0 X2 k (ix2 (Fin.ofNat 128 67) (y 1)) := by
  funext y
  unfold trip.sl.v222 trip.sl.v221
  exact (bc8 _ _ _ y).trans (row_v220 arg2 arg9 v0 X2 k _)

theorem row_v223 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v223 (F := Ideal) arg2 arg9 v0 X2 k z = trip.sl.r_3 (F := Ideal) arg2 v0 X2 k (ix2 (Fin.ofNat 128 75) (z 1)) := by
  unfold trip.sl.v223 trip.sl.H9_1 trip.sl.v87
  exact row_read arg9 (trip.sl.r_3 (F := Ideal) arg2 v0 X2 k) 75 (by decide) _ _ _ z

theorem piece_v225 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v225 (F := Ideal) arg2 arg9 v0 X2 k = fun y => trip.sl.r_3 (F := Ideal) arg2 v0 X2 k (ix2 (Fin.ofNat 128 75) (y 1)) := by
  funext y
  unfold trip.sl.v225 trip.sl.v224
  exact (bc8 _ _ _ y).trans (row_v223 arg2 arg9 v0 X2 k _)

theorem row_v226 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v226 (F := Ideal) arg2 arg9 v0 X2 k z = trip.sl.r_3 (F := Ideal) arg2 v0 X2 k (ix2 (Fin.ofNat 128 83) (z 1)) := by
  unfold trip.sl.v226 trip.sl.H9_1 trip.sl.v87
  exact row_read arg9 (trip.sl.r_3 (F := Ideal) arg2 v0 X2 k) 83 (by decide) _ _ _ z

theorem piece_v228 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v228 (F := Ideal) arg2 arg9 v0 X2 k = fun y => trip.sl.r_3 (F := Ideal) arg2 v0 X2 k (ix2 (Fin.ofNat 128 83) (y 1)) := by
  funext y
  unfold trip.sl.v228 trip.sl.v227
  exact (bc8 _ _ _ y).trans (row_v226 arg2 arg9 v0 X2 k _)

theorem row_v229 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v229 (F := Ideal) arg2 arg9 v0 X2 k z = trip.sl.r_3 (F := Ideal) arg2 v0 X2 k (ix2 (Fin.ofNat 128 91) (z 1)) := by
  unfold trip.sl.v229 trip.sl.H9_1 trip.sl.v87
  exact row_read arg9 (trip.sl.r_3 (F := Ideal) arg2 v0 X2 k) 91 (by decide) _ _ _ z

theorem piece_v231 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v231 (F := Ideal) arg2 arg9 v0 X2 k = fun y => trip.sl.r_3 (F := Ideal) arg2 v0 X2 k (ix2 (Fin.ofNat 128 91) (y 1)) := by
  funext y
  unfold trip.sl.v231 trip.sl.v230
  exact (bc8 _ _ _ y).trans (row_v229 arg2 arg9 v0 X2 k _)

theorem row_v232 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v232 (F := Ideal) arg2 arg9 v0 X2 k z = trip.sl.r_3 (F := Ideal) arg2 v0 X2 k (ix2 (Fin.ofNat 128 99) (z 1)) := by
  unfold trip.sl.v232 trip.sl.H9_1 trip.sl.v87
  exact row_read arg9 (trip.sl.r_3 (F := Ideal) arg2 v0 X2 k) 99 (by decide) _ _ _ z

theorem piece_v234 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v234 (F := Ideal) arg2 arg9 v0 X2 k = fun y => trip.sl.r_3 (F := Ideal) arg2 v0 X2 k (ix2 (Fin.ofNat 128 99) (y 1)) := by
  funext y
  unfold trip.sl.v234 trip.sl.v233
  exact (bc8 _ _ _ y).trans (row_v232 arg2 arg9 v0 X2 k _)

theorem row_v235 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v235 (F := Ideal) arg2 arg9 v0 X2 k z = trip.sl.r_3 (F := Ideal) arg2 v0 X2 k (ix2 (Fin.ofNat 128 107) (z 1)) := by
  unfold trip.sl.v235 trip.sl.H9_1 trip.sl.v87
  exact row_read arg9 (trip.sl.r_3 (F := Ideal) arg2 v0 X2 k) 107 (by decide) _ _ _ z

theorem piece_v237 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v237 (F := Ideal) arg2 arg9 v0 X2 k = fun y => trip.sl.r_3 (F := Ideal) arg2 v0 X2 k (ix2 (Fin.ofNat 128 107) (y 1)) := by
  funext y
  unfold trip.sl.v237 trip.sl.v236
  exact (bc8 _ _ _ y).trans (row_v235 arg2 arg9 v0 X2 k _)

theorem row_v238 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v238 (F := Ideal) arg2 arg9 v0 X2 k z = trip.sl.r_3 (F := Ideal) arg2 v0 X2 k (ix2 (Fin.ofNat 128 115) (z 1)) := by
  unfold trip.sl.v238 trip.sl.H9_1 trip.sl.v87
  exact row_read arg9 (trip.sl.r_3 (F := Ideal) arg2 v0 X2 k) 115 (by decide) _ _ _ z

theorem piece_v240 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v240 (F := Ideal) arg2 arg9 v0 X2 k = fun y => trip.sl.r_3 (F := Ideal) arg2 v0 X2 k (ix2 (Fin.ofNat 128 115) (y 1)) := by
  funext y
  unfold trip.sl.v240 trip.sl.v239
  exact (bc8 _ _ _ y).trans (row_v238 arg2 arg9 v0 X2 k _)

theorem row_v241 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v241 (F := Ideal) arg2 arg9 v0 X2 k z = trip.sl.r_3 (F := Ideal) arg2 v0 X2 k (ix2 (Fin.ofNat 128 123) (z 1)) := by
  unfold trip.sl.v241 trip.sl.H9_1 trip.sl.v87
  exact row_read arg9 (trip.sl.r_3 (F := Ideal) arg2 v0 X2 k) 123 (by decide) _ _ _ z

theorem piece_v243 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v243 (F := Ideal) arg2 arg9 v0 X2 k = fun y => trip.sl.r_3 (F := Ideal) arg2 v0 X2 k (ix2 (Fin.ofNat 128 123) (y 1)) := by
  funext y
  unfold trip.sl.v243 trip.sl.v242
  exact (bc8 _ _ _ y).trans (row_v241 arg2 arg9 v0 X2 k _)

theorem cat2 (r3 : FVec Ideal S128x512 .f32) (h : Shape.Concatenates (List.map (·.1) ([⟨S8x512, fun y => r3 (ix2 (Fin.ofNat 128 3) (y 1))⟩, ⟨S8x512, fun y => r3 (ix2 (Fin.ofNat 128 11) (y 1))⟩, ⟨S8x512, fun y => r3 (ix2 (Fin.ofNat 128 19) (y 1))⟩, ⟨S8x512, fun y => r3 (ix2 (Fin.ofNat 128 27) (y 1))⟩, ⟨S8x512, fun y => r3 (ix2 (Fin.ofNat 128 35) (y 1))⟩, ⟨S8x512, fun y => r3 (ix2 (Fin.ofNat 128 43) (y 1))⟩, ⟨S8x512, fun y => r3 (ix2 (Fin.ofNat 128 51) (y 1))⟩, ⟨S8x512, fun y => r3 (ix2 (Fin.ofNat 128 59) (y 1))⟩, ⟨S8x512, fun y => r3 (ix2 (Fin.ofNat 128 67) (y 1))⟩, ⟨S8x512, fun y => r3 (ix2 (Fin.ofNat 128 75) (y 1))⟩, ⟨S8x512, fun y => r3 (ix2 (Fin.ofNat 128 83) (y 1))⟩, ⟨S8x512, fun y => r3 (ix2 (Fin.ofNat 128 91) (y 1))⟩, ⟨S8x512, fun y => r3 (ix2 (Fin.ofNat 128 99) (y 1))⟩, ⟨S8x512, fun y => r3 (ix2 (Fin.ofNat 128 107) (y 1))⟩, ⟨S8x512, fun y => r3 (ix2 (Fin.ofNat 128 115) (y 1))⟩, ⟨S8x512, fun y => r3 (ix2 (Fin.ofNat 128 123) (y 1))⟩] : List ((s : Shape) × (s.Idx → Ideal .f32)))) S128x512 0) (i : Fin 128) (l : Fin 512) :
    concatenate S128x512 0 [⟨S8x512, fun y => r3 (ix2 (Fin.ofNat 128 3) (y 1))⟩, ⟨S8x512, fun y => r3 (ix2 (Fin.ofNat 128 11) (y 1))⟩, ⟨S8x512, fun y => r3 (ix2 (Fin.ofNat 128 19) (y 1))⟩, ⟨S8x512, fun y => r3 (ix2 (Fin.ofNat 128 27) (y 1))⟩, ⟨S8x512, fun y => r3 (ix2 (Fin.ofNat 128 35) (y 1))⟩, ⟨S8x512, fun y => r3 (ix2 (Fin.ofNat 128 43) (y 1))⟩, ⟨S8x512, fun y => r3 (ix2 (Fin.ofNat 128 51) (y 1))⟩, ⟨S8x512, fun y => r3 (ix2 (Fin.ofNat 128 59) (y 1))⟩, ⟨S8x512, fun y => r3 (ix2 (Fin.ofNat 128 67) (y 1))⟩, ⟨S8x512, fun y => r3 (ix2 (Fin.ofNat 128 75) (y 1))⟩, ⟨S8x512, fun y => r3 (ix2 (Fin.ofNat 128 83) (y 1))⟩, ⟨S8x512, fun y => r3 (ix2 (Fin.ofNat 128 91) (y 1))⟩, ⟨S8x512, fun y => r3 (ix2 (Fin.ofNat 128 99) (y 1))⟩, ⟨S8x512, fun y => r3 (ix2 (Fin.ofNat 128 107) (y 1))⟩, ⟨S8x512, fun y => r3 (ix2 (Fin.ofNat 128 115) (y 1))⟩, ⟨S8x512, fun y => r3 (ix2 (Fin.ofNat 128 123) (y 1))⟩] h (ix2 i l) = r3 (ix2 (refrow 2 i) l) := by
  refine (concatenate_ofFn_apply (t := S128x512) (s₁ := S8x512) 0 (fun n : Fin 16 => fun y : S8x512.Idx => r3 (ix2 (Fin.ofNat 128 (8 * n.val + 3)) (y 1))) h rfl 8 rfl (ix2 i l)
    ⟨i.val / 8, by have := i.isLt; omega⟩ rfl (ix2 ⟨i.val % 8, Nat.mod_lt _ (by decide)⟩ l) rfl ?_).trans ?_
  · intro b hb
    match b with
    | ⟨0, _⟩ => exact absurd rfl hb
    | ⟨1, _⟩ => rfl
  · have h : ∀ i : Fin 128, Fin.ofNat 128 (8 * (i.val / 8) + 3) = refrow 2 i := by decide +kernel
    exact congrArg (fun z => r3 (ix2 z l)) (h i)

theorem ref2 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (i : Fin 128) (l : Fin 512) :
    trip.sl.v244 (F := Ideal) arg2 arg9 v0 X2 k (ix2 i l) = trip.sl.r_3 (F := Ideal) arg2 v0 X2 k (ix2 (refrow 2 i) l) := by
  unfold trip.sl.v244
  simp only [piece_v198, piece_v201, piece_v204, piece_v207, piece_v210, piece_v213, piece_v216, piece_v219, piece_v222, piece_v225, piece_v228, piece_v231, piece_v234, piece_v237, piece_v240, piece_v243]
  exact cat2 _ _ i l

theorem row_v278 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v278 (F := Ideal) arg2 arg9 v0 X2 k z = trip.sl.r_3 (F := Ideal) arg2 v0 X2 k (ix2 (Fin.ofNat 128 7) (z 1)) := by
  unfold trip.sl.v278 trip.sl.H9_1 trip.sl.v87
  exact row_read arg9 (trip.sl.r_3 (F := Ideal) arg2 v0 X2 k) 7 (by decide) _ _ _ z

theorem piece_v280 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v280 (F := Ideal) arg2 arg9 v0 X2 k = fun y => trip.sl.r_3 (F := Ideal) arg2 v0 X2 k (ix2 (Fin.ofNat 128 7) (y 1)) := by
  funext y
  unfold trip.sl.v280 trip.sl.v279
  exact (bc16 _ _ _ y).trans (row_v278 arg2 arg9 v0 X2 k _)

theorem row_v281 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v281 (F := Ideal) arg2 arg9 v0 X2 k z = trip.sl.r_3 (F := Ideal) arg2 v0 X2 k (ix2 (Fin.ofNat 128 23) (z 1)) := by
  unfold trip.sl.v281 trip.sl.H9_1 trip.sl.v87
  exact row_read arg9 (trip.sl.r_3 (F := Ideal) arg2 v0 X2 k) 23 (by decide) _ _ _ z

theorem piece_v283 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v283 (F := Ideal) arg2 arg9 v0 X2 k = fun y => trip.sl.r_3 (F := Ideal) arg2 v0 X2 k (ix2 (Fin.ofNat 128 23) (y 1)) := by
  funext y
  unfold trip.sl.v283 trip.sl.v282
  exact (bc16 _ _ _ y).trans (row_v281 arg2 arg9 v0 X2 k _)

theorem row_v284 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v284 (F := Ideal) arg2 arg9 v0 X2 k z = trip.sl.r_3 (F := Ideal) arg2 v0 X2 k (ix2 (Fin.ofNat 128 39) (z 1)) := by
  unfold trip.sl.v284 trip.sl.H9_1 trip.sl.v87
  exact row_read arg9 (trip.sl.r_3 (F := Ideal) arg2 v0 X2 k) 39 (by decide) _ _ _ z

theorem piece_v286 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v286 (F := Ideal) arg2 arg9 v0 X2 k = fun y => trip.sl.r_3 (F := Ideal) arg2 v0 X2 k (ix2 (Fin.ofNat 128 39) (y 1)) := by
  funext y
  unfold trip.sl.v286 trip.sl.v285
  exact (bc16 _ _ _ y).trans (row_v284 arg2 arg9 v0 X2 k _)

theorem row_v287 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v287 (F := Ideal) arg2 arg9 v0 X2 k z = trip.sl.r_3 (F := Ideal) arg2 v0 X2 k (ix2 (Fin.ofNat 128 55) (z 1)) := by
  unfold trip.sl.v287 trip.sl.H9_1 trip.sl.v87
  exact row_read arg9 (trip.sl.r_3 (F := Ideal) arg2 v0 X2 k) 55 (by decide) _ _ _ z

theorem piece_v289 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v289 (F := Ideal) arg2 arg9 v0 X2 k = fun y => trip.sl.r_3 (F := Ideal) arg2 v0 X2 k (ix2 (Fin.ofNat 128 55) (y 1)) := by
  funext y
  unfold trip.sl.v289 trip.sl.v288
  exact (bc16 _ _ _ y).trans (row_v287 arg2 arg9 v0 X2 k _)

theorem row_v290 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v290 (F := Ideal) arg2 arg9 v0 X2 k z = trip.sl.r_3 (F := Ideal) arg2 v0 X2 k (ix2 (Fin.ofNat 128 71) (z 1)) := by
  unfold trip.sl.v290 trip.sl.H9_1 trip.sl.v87
  exact row_read arg9 (trip.sl.r_3 (F := Ideal) arg2 v0 X2 k) 71 (by decide) _ _ _ z

theorem piece_v292 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v292 (F := Ideal) arg2 arg9 v0 X2 k = fun y => trip.sl.r_3 (F := Ideal) arg2 v0 X2 k (ix2 (Fin.ofNat 128 71) (y 1)) := by
  funext y
  unfold trip.sl.v292 trip.sl.v291
  exact (bc16 _ _ _ y).trans (row_v290 arg2 arg9 v0 X2 k _)

theorem row_v293 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v293 (F := Ideal) arg2 arg9 v0 X2 k z = trip.sl.r_3 (F := Ideal) arg2 v0 X2 k (ix2 (Fin.ofNat 128 87) (z 1)) := by
  unfold trip.sl.v293 trip.sl.H9_1 trip.sl.v87
  exact row_read arg9 (trip.sl.r_3 (F := Ideal) arg2 v0 X2 k) 87 (by decide) _ _ _ z

theorem piece_v295 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v295 (F := Ideal) arg2 arg9 v0 X2 k = fun y => trip.sl.r_3 (F := Ideal) arg2 v0 X2 k (ix2 (Fin.ofNat 128 87) (y 1)) := by
  funext y
  unfold trip.sl.v295 trip.sl.v294
  exact (bc16 _ _ _ y).trans (row_v293 arg2 arg9 v0 X2 k _)

theorem row_v296 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v296 (F := Ideal) arg2 arg9 v0 X2 k z = trip.sl.r_3 (F := Ideal) arg2 v0 X2 k (ix2 (Fin.ofNat 128 103) (z 1)) := by
  unfold trip.sl.v296 trip.sl.H9_1 trip.sl.v87
  exact row_read arg9 (trip.sl.r_3 (F := Ideal) arg2 v0 X2 k) 103 (by decide) _ _ _ z

theorem piece_v298 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v298 (F := Ideal) arg2 arg9 v0 X2 k = fun y => trip.sl.r_3 (F := Ideal) arg2 v0 X2 k (ix2 (Fin.ofNat 128 103) (y 1)) := by
  funext y
  unfold trip.sl.v298 trip.sl.v297
  exact (bc16 _ _ _ y).trans (row_v296 arg2 arg9 v0 X2 k _)

theorem row_v299 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v299 (F := Ideal) arg2 arg9 v0 X2 k z = trip.sl.r_3 (F := Ideal) arg2 v0 X2 k (ix2 (Fin.ofNat 128 119) (z 1)) := by
  unfold trip.sl.v299 trip.sl.H9_1 trip.sl.v87
  exact row_read arg9 (trip.sl.r_3 (F := Ideal) arg2 v0 X2 k) 119 (by decide) _ _ _ z

theorem piece_v301 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v301 (F := Ideal) arg2 arg9 v0 X2 k = fun y => trip.sl.r_3 (F := Ideal) arg2 v0 X2 k (ix2 (Fin.ofNat 128 119) (y 1)) := by
  funext y
  unfold trip.sl.v301 trip.sl.v300
  exact (bc16 _ _ _ y).trans (row_v299 arg2 arg9 v0 X2 k _)

theorem cat3 (r3 : FVec Ideal S128x512 .f32) (h : Shape.Concatenates (List.map (·.1) ([⟨S16x512, fun y => r3 (ix2 (Fin.ofNat 128 7) (y 1))⟩, ⟨S16x512, fun y => r3 (ix2 (Fin.ofNat 128 23) (y 1))⟩, ⟨S16x512, fun y => r3 (ix2 (Fin.ofNat 128 39) (y 1))⟩, ⟨S16x512, fun y => r3 (ix2 (Fin.ofNat 128 55) (y 1))⟩, ⟨S16x512, fun y => r3 (ix2 (Fin.ofNat 128 71) (y 1))⟩, ⟨S16x512, fun y => r3 (ix2 (Fin.ofNat 128 87) (y 1))⟩, ⟨S16x512, fun y => r3 (ix2 (Fin.ofNat 128 103) (y 1))⟩, ⟨S16x512, fun y => r3 (ix2 (Fin.ofNat 128 119) (y 1))⟩] : List ((s : Shape) × (s.Idx → Ideal .f32)))) S128x512 0) (i : Fin 128) (l : Fin 512) :
    concatenate S128x512 0 [⟨S16x512, fun y => r3 (ix2 (Fin.ofNat 128 7) (y 1))⟩, ⟨S16x512, fun y => r3 (ix2 (Fin.ofNat 128 23) (y 1))⟩, ⟨S16x512, fun y => r3 (ix2 (Fin.ofNat 128 39) (y 1))⟩, ⟨S16x512, fun y => r3 (ix2 (Fin.ofNat 128 55) (y 1))⟩, ⟨S16x512, fun y => r3 (ix2 (Fin.ofNat 128 71) (y 1))⟩, ⟨S16x512, fun y => r3 (ix2 (Fin.ofNat 128 87) (y 1))⟩, ⟨S16x512, fun y => r3 (ix2 (Fin.ofNat 128 103) (y 1))⟩, ⟨S16x512, fun y => r3 (ix2 (Fin.ofNat 128 119) (y 1))⟩] h (ix2 i l) = r3 (ix2 (refrow 3 i) l) := by
  refine (concatenate_ofFn_apply (t := S128x512) (s₁ := S16x512) 0 (fun n : Fin 8 => fun y : S16x512.Idx => r3 (ix2 (Fin.ofNat 128 (16 * n.val + 7)) (y 1))) h rfl 16 rfl (ix2 i l)
    ⟨i.val / 16, by have := i.isLt; omega⟩ rfl (ix2 ⟨i.val % 16, Nat.mod_lt _ (by decide)⟩ l) rfl ?_).trans ?_
  · intro b hb
    match b with
    | ⟨0, _⟩ => exact absurd rfl hb
    | ⟨1, _⟩ => rfl
  · have h : ∀ i : Fin 128, Fin.ofNat 128 (16 * (i.val / 16) + 7) = refrow 3 i := by decide +kernel
    exact congrArg (fun z => r3 (ix2 z l)) (h i)

theorem ref3 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (i : Fin 128) (l : Fin 512) :
    trip.sl.v302 (F := Ideal) arg2 arg9 v0 X2 k (ix2 i l) = trip.sl.r_3 (F := Ideal) arg2 v0 X2 k (ix2 (refrow 3 i) l) := by
  unfold trip.sl.v302
  simp only [piece_v280, piece_v283, piece_v286, piece_v289, piece_v292, piece_v295, piece_v298, piece_v301]
  exact cat3 _ _ i l

theorem row_v336 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v336 (F := Ideal) arg2 arg9 v0 X2 k z = trip.sl.r_3 (F := Ideal) arg2 v0 X2 k (ix2 (Fin.ofNat 128 15) (z 1)) := by
  unfold trip.sl.v336 trip.sl.H9_1 trip.sl.v87
  exact row_read arg9 (trip.sl.r_3 (F := Ideal) arg2 v0 X2 k) 15 (by decide) _ _ _ z

theorem piece_v338 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v338 (F := Ideal) arg2 arg9 v0 X2 k = fun y => trip.sl.r_3 (F := Ideal) arg2 v0 X2 k (ix2 (Fin.ofNat 128 15) (y 1)) := by
  funext y
  unfold trip.sl.v338 trip.sl.v337
  exact (bc32 _ _ _ y).trans (row_v336 arg2 arg9 v0 X2 k _)

theorem row_v339 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v339 (F := Ideal) arg2 arg9 v0 X2 k z = trip.sl.r_3 (F := Ideal) arg2 v0 X2 k (ix2 (Fin.ofNat 128 47) (z 1)) := by
  unfold trip.sl.v339 trip.sl.H9_1 trip.sl.v87
  exact row_read arg9 (trip.sl.r_3 (F := Ideal) arg2 v0 X2 k) 47 (by decide) _ _ _ z

theorem piece_v341 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v341 (F := Ideal) arg2 arg9 v0 X2 k = fun y => trip.sl.r_3 (F := Ideal) arg2 v0 X2 k (ix2 (Fin.ofNat 128 47) (y 1)) := by
  funext y
  unfold trip.sl.v341 trip.sl.v340
  exact (bc32 _ _ _ y).trans (row_v339 arg2 arg9 v0 X2 k _)

theorem row_v342 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v342 (F := Ideal) arg2 arg9 v0 X2 k z = trip.sl.r_3 (F := Ideal) arg2 v0 X2 k (ix2 (Fin.ofNat 128 79) (z 1)) := by
  unfold trip.sl.v342 trip.sl.H9_1 trip.sl.v87
  exact row_read arg9 (trip.sl.r_3 (F := Ideal) arg2 v0 X2 k) 79 (by decide) _ _ _ z

theorem piece_v344 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v344 (F := Ideal) arg2 arg9 v0 X2 k = fun y => trip.sl.r_3 (F := Ideal) arg2 v0 X2 k (ix2 (Fin.ofNat 128 79) (y 1)) := by
  funext y
  unfold trip.sl.v344 trip.sl.v343
  exact (bc32 _ _ _ y).trans (row_v342 arg2 arg9 v0 X2 k _)

theorem row_v345 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v345 (F := Ideal) arg2 arg9 v0 X2 k z = trip.sl.r_3 (F := Ideal) arg2 v0 X2 k (ix2 (Fin.ofNat 128 111) (z 1)) := by
  unfold trip.sl.v345 trip.sl.H9_1 trip.sl.v87
  exact row_read arg9 (trip.sl.r_3 (F := Ideal) arg2 v0 X2 k) 111 (by decide) _ _ _ z

theorem piece_v347 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v347 (F := Ideal) arg2 arg9 v0 X2 k = fun y => trip.sl.r_3 (F := Ideal) arg2 v0 X2 k (ix2 (Fin.ofNat 128 111) (y 1)) := by
  funext y
  unfold trip.sl.v347 trip.sl.v346
  exact (bc32 _ _ _ y).trans (row_v345 arg2 arg9 v0 X2 k _)

theorem cat4 (r3 : FVec Ideal S128x512 .f32) (h : Shape.Concatenates (List.map (·.1) ([⟨S32x512, fun y => r3 (ix2 (Fin.ofNat 128 15) (y 1))⟩, ⟨S32x512, fun y => r3 (ix2 (Fin.ofNat 128 47) (y 1))⟩, ⟨S32x512, fun y => r3 (ix2 (Fin.ofNat 128 79) (y 1))⟩, ⟨S32x512, fun y => r3 (ix2 (Fin.ofNat 128 111) (y 1))⟩] : List ((s : Shape) × (s.Idx → Ideal .f32)))) S128x512 0) (i : Fin 128) (l : Fin 512) :
    concatenate S128x512 0 [⟨S32x512, fun y => r3 (ix2 (Fin.ofNat 128 15) (y 1))⟩, ⟨S32x512, fun y => r3 (ix2 (Fin.ofNat 128 47) (y 1))⟩, ⟨S32x512, fun y => r3 (ix2 (Fin.ofNat 128 79) (y 1))⟩, ⟨S32x512, fun y => r3 (ix2 (Fin.ofNat 128 111) (y 1))⟩] h (ix2 i l) = r3 (ix2 (refrow 4 i) l) := by
  refine (concatenate_ofFn_apply (t := S128x512) (s₁ := S32x512) 0 (fun n : Fin 4 => fun y : S32x512.Idx => r3 (ix2 (Fin.ofNat 128 (32 * n.val + 15)) (y 1))) h rfl 32 rfl (ix2 i l)
    ⟨i.val / 32, by have := i.isLt; omega⟩ rfl (ix2 ⟨i.val % 32, Nat.mod_lt _ (by decide)⟩ l) rfl ?_).trans ?_
  · intro b hb
    match b with
    | ⟨0, _⟩ => exact absurd rfl hb
    | ⟨1, _⟩ => rfl
  · have h : ∀ i : Fin 128, Fin.ofNat 128 (32 * (i.val / 32) + 15) = refrow 4 i := by decide +kernel
    exact congrArg (fun z => r3 (ix2 z l)) (h i)

theorem ref4 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (i : Fin 128) (l : Fin 512) :
    trip.sl.v348 (F := Ideal) arg2 arg9 v0 X2 k (ix2 i l) = trip.sl.r_3 (F := Ideal) arg2 v0 X2 k (ix2 (refrow 4 i) l) := by
  unfold trip.sl.v348
  simp only [piece_v338, piece_v341, piece_v344, piece_v347]
  exact cat4 _ _ i l

theorem row_v382 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v382 (F := Ideal) arg2 arg9 v0 X2 k z = trip.sl.r_3 (F := Ideal) arg2 v0 X2 k (ix2 (Fin.ofNat 128 31) (z 1)) := by
  unfold trip.sl.v382 trip.sl.H9_1 trip.sl.v87
  exact row_read arg9 (trip.sl.r_3 (F := Ideal) arg2 v0 X2 k) 31 (by decide) _ _ _ z

theorem piece_v384 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v384 (F := Ideal) arg2 arg9 v0 X2 k = fun y => trip.sl.r_3 (F := Ideal) arg2 v0 X2 k (ix2 (Fin.ofNat 128 31) (y 1)) := by
  funext y
  unfold trip.sl.v384 trip.sl.v383
  exact (bc64 _ _ _ y).trans (row_v382 arg2 arg9 v0 X2 k _)

theorem row_v385 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v385 (F := Ideal) arg2 arg9 v0 X2 k z = trip.sl.r_3 (F := Ideal) arg2 v0 X2 k (ix2 (Fin.ofNat 128 95) (z 1)) := by
  unfold trip.sl.v385 trip.sl.H9_1 trip.sl.v87
  exact row_read arg9 (trip.sl.r_3 (F := Ideal) arg2 v0 X2 k) 95 (by decide) _ _ _ z

theorem piece_v387 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) :
    trip.sl.v387 (F := Ideal) arg2 arg9 v0 X2 k = fun y => trip.sl.r_3 (F := Ideal) arg2 v0 X2 k (ix2 (Fin.ofNat 128 95) (y 1)) := by
  funext y
  unfold trip.sl.v387 trip.sl.v386
  exact (bc64 _ _ _ y).trans (row_v385 arg2 arg9 v0 X2 k _)

theorem cat5 (r3 : FVec Ideal S128x512 .f32) (h : Shape.Concatenates (List.map (·.1) ([⟨S64x512, fun y => r3 (ix2 (Fin.ofNat 128 31) (y 1))⟩, ⟨S64x512, fun y => r3 (ix2 (Fin.ofNat 128 95) (y 1))⟩] : List ((s : Shape) × (s.Idx → Ideal .f32)))) S128x512 0) (i : Fin 128) (l : Fin 512) :
    concatenate S128x512 0 [⟨S64x512, fun y => r3 (ix2 (Fin.ofNat 128 31) (y 1))⟩, ⟨S64x512, fun y => r3 (ix2 (Fin.ofNat 128 95) (y 1))⟩] h (ix2 i l) = r3 (ix2 (refrow 5 i) l) := by
  refine (concatenate_ofFn_apply (t := S128x512) (s₁ := S64x512) 0 (fun n : Fin 2 => fun y : S64x512.Idx => r3 (ix2 (Fin.ofNat 128 (64 * n.val + 31)) (y 1))) h rfl 64 rfl (ix2 i l)
    ⟨i.val / 64, by have := i.isLt; omega⟩ rfl (ix2 ⟨i.val % 64, Nat.mod_lt _ (by decide)⟩ l) rfl ?_).trans ?_
  · intro b hb
    match b with
    | ⟨0, _⟩ => exact absurd rfl hb
    | ⟨1, _⟩ => rfl
  · have h : ∀ i : Fin 128, Fin.ofNat 128 (64 * (i.val / 64) + 31) = refrow 5 i := by decide +kernel
    exact congrArg (fun z => r3 (ix2 z l)) (h i)

theorem ref5 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (i : Fin 128) (l : Fin 512) :
    trip.sl.v388 (F := Ideal) arg2 arg9 v0 X2 k (ix2 i l) = trip.sl.r_3 (F := Ideal) arg2 v0 X2 k (ix2 (refrow 5 i) l) := by
  unfold trip.sl.v388
  simp only [piece_v384, piece_v387]
  exact cat5 _ _ i l

theorem row_v422 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (z) :
    trip.sl.v422 (F := Ideal) arg2 arg9 v0 X2 k z = trip.sl.r_3 (F := Ideal) arg2 v0 X2 k (ix2 (Fin.ofNat 128 63) (z 1)) := by
  unfold trip.sl.v422 trip.sl.H9_1 trip.sl.v87
  exact row_read arg9 (trip.sl.r_3 (F := Ideal) arg2 v0 X2 k) 63 (by decide) _ _ _ z

theorem ref6 (arg2 : Memref sig .tc .vmem S2048x512 .f32) (arg9 : Memref sig .tc .vmem S128x512 .f32) (v0 : Vec Ideal S2x512 .f32) (X2 : BufTy.Contents (Elt Ideal) arg2.view.ty) (k : Fin k0_t1_loop.trips) (i : Fin 128) (l : Fin 512) :
    trip.sl.v424 (F := Ideal) arg2 arg9 v0 X2 k (ix2 i l) = trip.sl.r_3 (F := Ideal) arg2 v0 X2 k (ix2 (refrow 6 i) l) := by
  unfold trip.sl.v424 trip.sl.v423
  refine (bc128 _ _ _ _).trans ((row_v422 arg2 arg9 v0 X2 k _).trans ?_)
  have h : ∀ i : Fin 128, Fin.ofNat 128 63 = refrow 6 i := by decide +kernel
  exact congrArg (fun z => trip.sl.r_3 (F := Ideal) arg2 v0 X2 k (ix2 z l)) (h i)

end

end Cert.KernelIdeal.Val

end
-- ==== Proof.Chunk.lean ====
/-
  One chunk of the kernel at exact arithmetic: its queries, keys, values and running log-decays, each head's scores, its
  outputs before the normalisation, and the state it leaves.
-/
module

public import proofs.«01_k».proof.Proof.Refs

@[expose] public section

set_option maxRecDepth 16384
set_option maxHeartbeats 400000

noncomputable section

namespace Cert.KernelIdeal.Val

open Cert.KernelIdeal Cert.KernelIdeal.Gen Cert.KernelIdeal.Hand Cert.Spec
open Idealize.ShloMosaic Idealize.ShloMosaic.Tactic

/-! ## One head's sequences, from the projected values -/

def qh (q : ℕ → Fin 512 → ℝ) (o : ℕ) (t : ℕ) (κ : Fin 128) : ℝ := qqv (q t (lane o κ))
def kh (a b : Fin 512 → ℝ) (f : ℕ → Fin 512 → ℝ) (o : ℕ) (t : ℕ) (κ : Fin 128) : ℝ := kkv (a (lane o κ)) (b (lane o κ)) (f t (lane o κ))
def lh (a b : Fin 512 → ℝ) (f : ℕ → Fin 512 → ℝ) (o : ℕ) (t : ℕ) (κ : Fin 128) : ℝ := lfv (a (lane o κ)) (b (lane o κ)) (f t (lane o κ))
def vh (v : ℕ → Fin 512 → ℝ) (o : ℕ) (t : ℕ) (d : Fin 128) : ℝ := v t (lane o d)

/-- The running log-decays of a chunk. -/
def cc (a b : Fin 512 → ℝ) (f : ℕ → Fin 512 → ℝ) (T : ℕ) (i : Fin 128) (l : Fin 512) : ℝ := ∑ s ∈ Finset.range (i.val + 1), lfv (a l) (b l) (f (T + s) l)

theorem cc_lane (a b : Fin 512 → ℝ) (f : ℕ → Fin 512 → ℝ) (T o : ℕ) (i κ : Fin 128) : cc a b f T i (lane o κ) = cum (lh a b f o) T i.val κ := rfl

theorem lh_nonpos (a b : Fin 512 → ℝ) (f : ℕ → Fin 512 → ℝ) (hf : ∀ t l, f t l ≤ 64) (o t : ℕ) (κ : Fin 128) : lh a b f o t κ ≤ 0 := lfv_nonpos _ _ _ (hf _ _)

/-- The decay of level `lv` at a row. -/
def ee (C : Fin 128 → Fin 512 → ℝ) (lv : ℕ) (i : Fin 128) (l : Fin 512) : ℝ := Real.exp (min (C i l - C (refrow lv i) l) (0 - (C i l - C (refrow lv i) l)))

section
set_option backward.isDefEq.respectTransparency false

/-- One level's step of one head's scores. -/
theorem level (o : ℕ) (ho : o + 128 ≤ 512) (hs : S128x512.Slices ![0, o] S128x128) (hb : FTy.bits .bf16 < FTy.bits .f32) (lv : ℕ) (r r1 r3 rf : FVec Ideal S128x512 .f32) (prev : FVec Ideal S128x128 .f32)
    (R K C : Fin 128 → Fin 512 → ℝ) (hr : ∀ i l, r (ix2 i l) = ((R i l : ℝ) : EReal)) (h1 : ∀ i l, r1 (ix2 i l) = ((K i l : ℝ) : EReal))
    (h3 : ∀ i l, r3 (ix2 i l) = ((C i l * (Real.log 2)⁻¹ : ℝ) : EReal)) (hm : ∀ i l, rf (ix2 i l) = r3 (ix2 (refrow lv i) l)) (i j : Fin 128) :
    select (cmpi CmpIPredicate.eq k0_pay106 (broadcast S128x128 (BitVec.ofNat 32 lv)))
      (matmul dot_S128x128_S128x128_S128x128_1_1_0_0_n_n none
        (extractStridedSlice S128x128 ![0, o] (truncf .bf16 (mulf r (exp2 (minimumf (subf r3 rf) (subf (broadcast S128x512 (FloatOps.ofBits (F := Ideal) FTy.f32 0#32)) (subf r3 rf))))) hb) hs)
        (extractStridedSlice S128x128 ![0, o] (truncf .bf16 (mulf r1 (exp2 (minimumf (subf r3 rf) (subf (broadcast S128x512 (FloatOps.ofBits (F := Ideal) FTy.f32 0#32)) (subf r3 rf))))) hb) hs)
        (constant S128x128 FTy.f32 0#32)) prev (ix2 i j)
      = if lvlN i j = BitVec.ofNat 32 lv then ((∑ κ, (R i (lane o κ) * ee C lv i (lane o κ)) * (K j (lane o κ) * ee C lv j (lane o κ)) : ℝ) : EReal) else prev (ix2 i j) := by
  have he := e_stage r3 rf C (fun i l => C (refrow lv i) l) h3 (fun i l => (hm i l).trans (h3 _ _))
  rw [sel_stage]
  rw [dot_stage _ _ (fun i κ => R i (lane o κ) * ee C lv i (lane o κ)) (fun j κ => K j (lane o κ) * ee C lv j (lane o κ))]
  · intro i κ
    rw [slice_stage o ho]
    show r (ix2 i (lane o κ)) * exp2 _ (ix2 i (lane o κ)) = _
    rw [he, hr, ← EReal.coe_mul]; rfl
  · intro i κ
    rw [slice_stage o ho]
    show r1 (ix2 i (lane o κ)) * exp2 _ (ix2 i (lane o κ)) = _
    rw [he, h1, ← EReal.coe_mul]; rfl

/-- The diagonal of one head's scores. -/
theorem diag (o : ℕ) (ho : o + 128 ≤ 512) (hs : S128x512.Slices ![0, o] S128x128) (hb : FTy.bits .bf16 < FTy.bits .f32) (r r1 : FVec Ideal S128x512 .f32)
    (R K : Fin 128 → Fin 512 → ℝ) (hr : ∀ i l, r (ix2 i l) = ((R i l : ℝ) : EReal)) (h1 : ∀ i l, r1 (ix2 i l) = ((K i l : ℝ) : EReal)) (i j : Fin 128) :
    select k0_pay107 (matmul dot_S128x128_S128x128_S128x128_1_1_0_0_n_n none (extractStridedSlice S128x128 ![0, o] (truncf .bf16 r hb) hs)
        (extractStridedSlice S128x128 ![0, o] (truncf .bf16 r1 hb) hs) (constant S128x128 FTy.f32 0#32)) (broadcast S128x128 (FloatOps.ofBits (F := Ideal) FTy.f32 0#32)) (ix2 i j)
      = if i = j then ((∑ κ, R i (lane o κ) * K j (lane o κ) : ℝ) : EReal) else ((0:ℝ):EReal) := by
  rw [diag_stage]
  rw [dot_stage _ _ (fun i κ => R i (lane o κ)) (fun j κ => K j (lane o κ))]
  · intro i κ
    rw [slice_stage o ho]
    exact hr _ _
  · intro i κ
    rw [slice_stage o ho]
    exact h1 _ _

end

section chunk
variable (arg1 arg2 arg3 : Memref sig .tc .vmem S2048x512 .f32) (arg8 : Memref sig .tc .vmem S4x128x128 .f32) (arg9 : Memref sig .tc .vmem S128x512 .f32)
  (v0 : Vec Ideal S2x512 .f32) (X1 : BufTy.Contents (Elt Ideal) arg1.view.ty) (X2 : BufTy.Contents (Elt Ideal) arg2.view.ty) (X3 : BufTy.Contents (Elt Ideal) arg3.view.ty)
  (k : Fin k0_t1_loop.trips) (f8 : BufTy.Contents (Elt Ideal) arg8.view.ty)
  (a b : Fin 512 → ℝ) (q f v : ℕ → Fin 512 → ℝ) (T : ℕ)

/-- A chunk's rows of an input window. -/
abbrev rows (arg : Memref sig .tc .vmem S2048x512 .f32) (X : BufTy.Contents (Elt Ideal) arg.view.ty) (k : Fin k0_t1_loop.trips) : FVec Ideal S128x512 .f32 :=
  View.readAt (Elt Ideal) arg.view (Rect.unit (s := S2048x512) (k0_off1 k) S128x512.size (k0_off1_inb k)).toLoadRect X

theorem r_val (hq : ∀ i l, rows arg1 X1 k (ix2 i l) = ((q (T + i.val) l : ℝ) : EReal)) (i : Fin 128) (l : Fin 512) :
    trip.sl.r (F := Ideal) arg1 X1 k (ix2 i l) = ((qqv (q (T + i.val) l) : ℝ) : EReal) := by
  unfold trip.sl.r
  exact pay1 _ (fun i l => q (T + i.val) l) hq i l

theorem r1_val (ha : ∀ l, v0 (ix2 0 l) = ((a l : ℝ) : EReal)) (hb : ∀ l, v0 (ix2 1 l) = ((b l : ℝ) : EReal))
    (hf : ∀ i l, rows arg2 X2 k (ix2 i l) = ((f (T + i.val) l : ℝ) : EReal)) (i : Fin 128) (l : Fin 512) :
    trip.sl.r_1 (F := Ideal) arg2 v0 X2 k (ix2 i l) = ((kkv (a l) (b l) (f (T + i.val) l) : ℝ) : EReal) := by
  unfold trip.sl.r_1
  exact pay5 v0 a b ha hb _ (fun i l => f (T + i.val) l) hf i l

theorem r2_val (hv : ∀ i l, rows arg3 X3 k (ix2 i l) = ((v (T + i.val) l : ℝ) : EReal)) (i : Fin 128) (l : Fin 512) :
    trip.sl.r_2 (F := Ideal) arg3 X3 k (ix2 i l) = ((v (T + i.val) l : ℝ) : EReal) := by
  unfold trip.sl.r_2
  exact hv i l

theorem r3_val (ha : ∀ l, v0 (ix2 0 l) = ((a l : ℝ) : EReal)) (hb : ∀ l, v0 (ix2 1 l) = ((b l : ℝ) : EReal))
    (hf : ∀ i l, rows arg2 X2 k (ix2 i l) = ((f (T + i.val) l : ℝ) : EReal)) (i : Fin 128) (l : Fin 512) :
    trip.sl.r_3 (F := Ideal) arg2 v0 X2 k (ix2 i l) = ((cc a b f T i l * (Real.log 2)⁻¹ : ℝ) : EReal) := by
  unfold trip.sl.r_3
  exact pay7 v0 a b ha hb _ f T hf i l

theorem diag0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v94 (F := Ideal) arg1 arg2 v0 X1 X2 k (ix2 i j) = if i = j then ((∑ κ, qqv (q (T + i.val) (lane 0 κ)) * kkv (a (lane 0 κ)) (b (lane 0 κ)) (f (T + j.val) (lane 0 κ)) : ℝ) : EReal) else ((0:ℝ):EReal) := by
  unfold trip.sl.v94 trip.sl.v93 trip.sl.cst_27 trip.sl.v92 trip.sl.cst_26 trip.sl.v91 trip.sl.v89 trip.sl.v90 trip.sl.v88
  exact diag 0 (by decide) _ _ _ _ (fun i l => qqv (q (T + i.val) l)) (fun i l => kkv (a l) (b l) (f (T + i.val) l)) (r_val arg1 X1 k q T hq) (r1_val arg2 v0 X2 k a b f T ha hb hf) i j

theorem lev0_0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v130 (F := Ideal) arg1 arg2 v0 rowIota X1 X2 k (ix2 i j) = if lvlN i j = BitVec.ofNat 32 0 then ((∑ κ, (qqv (q (T + i.val) (lane 0 κ)) * ee (cc a b f T) 0 i (lane 0 κ)) * (kkv (a (lane 0 κ)) (b (lane 0 κ)) (f (T + j.val) (lane 0 κ)) * ee (cc a b f T) 0 j (lane 0 κ)) : ℝ) : EReal)
      else trip.sl.v94 (F := Ideal) arg1 arg2 v0 X1 X2 k (ix2 i j) := by
  unfold trip.sl.v130 trip.sl.v129 trip.sl.cst_26 trip.sl.v128 trip.sl.v124 trip.sl.v123 trip.sl.v127 trip.sl.v122 trip.sl.v121 trip.sl.v120 trip.sl.v119 trip.sl.v118 trip.sl.v117 trip.sl.cst_27 trip.sl.v116 trip.sl.v125
  exact level 0 (by decide) _ _ 0 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref0 arg2 v0 X2 k) i j

theorem lev0_1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v177 (F := Ideal) arg1 arg2 v0 rowIota X1 X2 k (ix2 i j) = if lvlN i j = BitVec.ofNat 32 1 then ((∑ κ, (qqv (q (T + i.val) (lane 0 κ)) * ee (cc a b f T) 1 i (lane 0 κ)) * (kkv (a (lane 0 κ)) (b (lane 0 κ)) (f (T + j.val) (lane 0 κ)) * ee (cc a b f T) 1 j (lane 0 κ)) : ℝ) : EReal)
      else trip.sl.v130 (F := Ideal) arg1 arg2 v0 rowIota X1 X2 k (ix2 i j) := by
  unfold trip.sl.v177 trip.sl.v176 trip.sl.cst_26 trip.sl.v175 trip.sl.v171 trip.sl.v170 trip.sl.v174 trip.sl.v169 trip.sl.v168 trip.sl.v167 trip.sl.v166 trip.sl.v165 trip.sl.v117 trip.sl.cst_27 trip.sl.v163 trip.sl.v172
  exact level 0 (by decide) _ _ 1 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref1 arg2 v0 X2 k) i j

theorem lev0_2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v259 (F := Ideal) arg1 arg2 arg9 v0 rowIota X1 X2 k (ix2 i j) = if lvlN i j = BitVec.ofNat 32 2 then ((∑ κ, (qqv (q (T + i.val) (lane 0 κ)) * ee (cc a b f T) 2 i (lane 0 κ)) * (kkv (a (lane 0 κ)) (b (lane 0 κ)) (f (T + j.val) (lane 0 κ)) * ee (cc a b f T) 2 j (lane 0 κ)) : ℝ) : EReal)
      else trip.sl.v177 (F := Ideal) arg1 arg2 v0 rowIota X1 X2 k (ix2 i j) := by
  unfold trip.sl.v259 trip.sl.v258 trip.sl.cst_26 trip.sl.v257 trip.sl.v253 trip.sl.v252 trip.sl.v256 trip.sl.v251 trip.sl.v250 trip.sl.v249 trip.sl.v248 trip.sl.v247 trip.sl.v117 trip.sl.cst_27 trip.sl.v245 trip.sl.v254
  exact level 0 (by decide) _ _ 2 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref2 arg2 arg9 v0 X2 k) i j

theorem lev0_3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v317 (F := Ideal) arg1 arg2 arg9 v0 rowIota X1 X2 k (ix2 i j) = if lvlN i j = BitVec.ofNat 32 3 then ((∑ κ, (qqv (q (T + i.val) (lane 0 κ)) * ee (cc a b f T) 3 i (lane 0 κ)) * (kkv (a (lane 0 κ)) (b (lane 0 κ)) (f (T + j.val) (lane 0 κ)) * ee (cc a b f T) 3 j (lane 0 κ)) : ℝ) : EReal)
      else trip.sl.v259 (F := Ideal) arg1 arg2 arg9 v0 rowIota X1 X2 k (ix2 i j) := by
  unfold trip.sl.v317 trip.sl.v316 trip.sl.cst_26 trip.sl.v315 trip.sl.v311 trip.sl.v310 trip.sl.v314 trip.sl.v309 trip.sl.v308 trip.sl.v307 trip.sl.v306 trip.sl.v305 trip.sl.v117 trip.sl.cst_27 trip.sl.v303 trip.sl.v312
  exact level 0 (by decide) _ _ 3 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref3 arg2 arg9 v0 X2 k) i j

theorem lev0_4 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v363 (F := Ideal) arg1 arg2 arg9 v0 rowIota X1 X2 k (ix2 i j) = if lvlN i j = BitVec.ofNat 32 4 then ((∑ κ, (qqv (q (T + i.val) (lane 0 κ)) * ee (cc a b f T) 4 i (lane 0 κ)) * (kkv (a (lane 0 κ)) (b (lane 0 κ)) (f (T + j.val) (lane 0 κ)) * ee (cc a b f T) 4 j (lane 0 κ)) : ℝ) : EReal)
      else trip.sl.v317 (F := Ideal) arg1 arg2 arg9 v0 rowIota X1 X2 k (ix2 i j) := by
  unfold trip.sl.v363 trip.sl.v362 trip.sl.cst_26 trip.sl.v361 trip.sl.v357 trip.sl.v356 trip.sl.v360 trip.sl.v355 trip.sl.v354 trip.sl.v353 trip.sl.v352 trip.sl.v351 trip.sl.v117 trip.sl.cst_27 trip.sl.v349 trip.sl.v358
  exact level 0 (by decide) _ _ 4 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref4 arg2 arg9 v0 X2 k) i j

theorem lev0_5 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v403 (F := Ideal) arg1 arg2 arg9 v0 rowIota X1 X2 k (ix2 i j) = if lvlN i j = BitVec.ofNat 32 5 then ((∑ κ, (qqv (q (T + i.val) (lane 0 κ)) * ee (cc a b f T) 5 i (lane 0 κ)) * (kkv (a (lane 0 κ)) (b (lane 0 κ)) (f (T + j.val) (lane 0 κ)) * ee (cc a b f T) 5 j (lane 0 κ)) : ℝ) : EReal)
      else trip.sl.v363 (F := Ideal) arg1 arg2 arg9 v0 rowIota X1 X2 k (ix2 i j) := by
  unfold trip.sl.v403 trip.sl.v402 trip.sl.cst_26 trip.sl.v401 trip.sl.v397 trip.sl.v396 trip.sl.v400 trip.sl.v395 trip.sl.v394 trip.sl.v393 trip.sl.v392 trip.sl.v391 trip.sl.v117 trip.sl.cst_27 trip.sl.v389 trip.sl.v398
  exact level 0 (by decide) _ _ 5 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref5 arg2 arg9 v0 X2 k) i j

theorem lev0_6 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v439 (F := Ideal) arg1 arg2 arg9 v0 rowIota X1 X2 k (ix2 i j) = if lvlN i j = BitVec.ofNat 32 6 then ((∑ κ, (qqv (q (T + i.val) (lane 0 κ)) * ee (cc a b f T) 6 i (lane 0 κ)) * (kkv (a (lane 0 κ)) (b (lane 0 κ)) (f (T + j.val) (lane 0 κ)) * ee (cc a b f T) 6 j (lane 0 κ)) : ℝ) : EReal)
      else trip.sl.v403 (F := Ideal) arg1 arg2 arg9 v0 rowIota X1 X2 k (ix2 i j) := by
  unfold trip.sl.v439 trip.sl.v438 trip.sl.cst_26 trip.sl.v437 trip.sl.v433 trip.sl.v432 trip.sl.v436 trip.sl.v431 trip.sl.v430 trip.sl.v429 trip.sl.v428 trip.sl.v427 trip.sl.v117 trip.sl.cst_27 trip.sl.v425 trip.sl.v434
  exact level 0 (by decide) _ _ 6 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref6 arg2 arg9 v0 X2 k) i j

/-- The steps of the scores of head 0. -/
def sc0 : ℕ → Fin 128 → Fin 128 → EReal
  | 0, i, j => trip.sl.v94 (F := Ideal) arg1 arg2 v0 X1 X2 k (ix2 i j)
  | 1, i, j => trip.sl.v130 (F := Ideal) arg1 arg2 v0 rowIota X1 X2 k (ix2 i j)
  | 2, i, j => trip.sl.v177 (F := Ideal) arg1 arg2 v0 rowIota X1 X2 k (ix2 i j)
  | 3, i, j => trip.sl.v259 (F := Ideal) arg1 arg2 arg9 v0 rowIota X1 X2 k (ix2 i j)
  | 4, i, j => trip.sl.v317 (F := Ideal) arg1 arg2 arg9 v0 rowIota X1 X2 k (ix2 i j)
  | 5, i, j => trip.sl.v363 (F := Ideal) arg1 arg2 arg9 v0 rowIota X1 X2 k (ix2 i j)
  | 6, i, j => trip.sl.v403 (F := Ideal) arg1 arg2 arg9 v0 rowIota X1 X2 k (ix2 i j)
  | _, i, j => trip.sl.v439 (F := Ideal) arg1 arg2 arg9 v0 rowIota X1 X2 k (ix2 i j)

/-- The scores of head 0. -/
theorem score0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (h64 : ∀ t l, f t l ≤ 64) (i j : Fin 128) :
    trip.sl.v439 (F := Ideal) arg1 arg2 arg9 v0 rowIota X1 X2 k (ix2 i j) = ((if j.val ≤ i.val then ∑ κ, qh q 0 (T + i.val) κ * kh a b f 0 (T + j.val) κ * Real.exp (cum (lh a b f 0) T i.val κ - cum (lh a b f 0) T j.val κ) else 0 : ℝ) : EReal) := by
  refine scores (fun i κ => qh q 0 (T + i.val) κ) (fun j κ => kh a b f 0 (T + j.val) κ) (fun i κ => cum (lh a b f 0) T i.val κ)
    (fun κ i j hij => cum_anti (lh a b f 0) (lh_nonpos a b f h64 0) T κ hij) (fun lv i κ => ee (cc a b f T) lv i (lane 0 κ)) (fun lv i κ => rfl)
    (sc0 arg1 arg2 arg9 v0 X1 X2 k) (diag0 arg1 arg2 v0 X1 X2 k a b q f T ha hb hq hf) ?_ i j
  intro lv hlv
  match lv, hlv with
  | 0, _ => exact lev0_0 arg1 arg2 v0 X1 X2 k a b q f T ha hb hq hf
  | 1, _ => exact lev0_1 arg1 arg2 v0 X1 X2 k a b q f T ha hb hq hf
  | 2, _ => exact lev0_2 arg1 arg2 arg9 v0 X1 X2 k a b q f T ha hb hq hf
  | 3, _ => exact lev0_3 arg1 arg2 arg9 v0 X1 X2 k a b q f T ha hb hq hf
  | 4, _ => exact lev0_4 arg1 arg2 arg9 v0 X1 X2 k a b q f T ha hb hq hf
  | 5, _ => exact lev0_5 arg1 arg2 arg9 v0 X1 X2 k a b q f T ha hb hq hf
  | 6, _ => exact lev0_6 arg1 arg2 arg9 v0 X1 X2 k a b q f T ha hb hq hf

theorem diag1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v99 (F := Ideal) arg1 arg2 v0 X1 X2 k (ix2 i j) = if i = j then ((∑ κ, qqv (q (T + i.val) (lane 128 κ)) * kkv (a (lane 128 κ)) (b (lane 128 κ)) (f (T + j.val) (lane 128 κ)) : ℝ) : EReal) else ((0:ℝ):EReal) := by
  unfold trip.sl.v99 trip.sl.v93 trip.sl.cst_27 trip.sl.v97 trip.sl.cst_26 trip.sl.v96 trip.sl.v89 trip.sl.v95 trip.sl.v88
  exact diag 128 (by decide) _ _ _ _ (fun i l => qqv (q (T + i.val) l)) (fun i l => kkv (a l) (b l) (f (T + i.val) l)) (r_val arg1 X1 k q T hq) (r1_val arg2 v0 X2 k a b f T ha hb hf) i j

theorem lev1_0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v136 (F := Ideal) arg1 arg2 v0 rowIota X1 X2 k (ix2 i j) = if lvlN i j = BitVec.ofNat 32 0 then ((∑ κ, (qqv (q (T + i.val) (lane 128 κ)) * ee (cc a b f T) 0 i (lane 128 κ)) * (kkv (a (lane 128 κ)) (b (lane 128 κ)) (f (T + j.val) (lane 128 κ)) * ee (cc a b f T) 0 j (lane 128 κ)) : ℝ) : EReal)
      else trip.sl.v99 (F := Ideal) arg1 arg2 v0 X1 X2 k (ix2 i j) := by
  unfold trip.sl.v136 trip.sl.v135 trip.sl.cst_26 trip.sl.v134 trip.sl.v124 trip.sl.v123 trip.sl.v133 trip.sl.v122 trip.sl.v121 trip.sl.v120 trip.sl.v119 trip.sl.v118 trip.sl.v117 trip.sl.cst_27 trip.sl.v116 trip.sl.v125
  exact level 128 (by decide) _ _ 0 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref0 arg2 v0 X2 k) i j

theorem lev1_1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v183 (F := Ideal) arg1 arg2 v0 rowIota X1 X2 k (ix2 i j) = if lvlN i j = BitVec.ofNat 32 1 then ((∑ κ, (qqv (q (T + i.val) (lane 128 κ)) * ee (cc a b f T) 1 i (lane 128 κ)) * (kkv (a (lane 128 κ)) (b (lane 128 κ)) (f (T + j.val) (lane 128 κ)) * ee (cc a b f T) 1 j (lane 128 κ)) : ℝ) : EReal)
      else trip.sl.v136 (F := Ideal) arg1 arg2 v0 rowIota X1 X2 k (ix2 i j) := by
  unfold trip.sl.v183 trip.sl.v182 trip.sl.cst_26 trip.sl.v181 trip.sl.v171 trip.sl.v170 trip.sl.v180 trip.sl.v169 trip.sl.v168 trip.sl.v167 trip.sl.v166 trip.sl.v165 trip.sl.v117 trip.sl.cst_27 trip.sl.v163 trip.sl.v172
  exact level 128 (by decide) _ _ 1 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref1 arg2 v0 X2 k) i j

theorem lev1_2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v265 (F := Ideal) arg1 arg2 arg9 v0 rowIota X1 X2 k (ix2 i j) = if lvlN i j = BitVec.ofNat 32 2 then ((∑ κ, (qqv (q (T + i.val) (lane 128 κ)) * ee (cc a b f T) 2 i (lane 128 κ)) * (kkv (a (lane 128 κ)) (b (lane 128 κ)) (f (T + j.val) (lane 128 κ)) * ee (cc a b f T) 2 j (lane 128 κ)) : ℝ) : EReal)
      else trip.sl.v183 (F := Ideal) arg1 arg2 v0 rowIota X1 X2 k (ix2 i j) := by
  unfold trip.sl.v265 trip.sl.v264 trip.sl.cst_26 trip.sl.v263 trip.sl.v253 trip.sl.v252 trip.sl.v262 trip.sl.v251 trip.sl.v250 trip.sl.v249 trip.sl.v248 trip.sl.v247 trip.sl.v117 trip.sl.cst_27 trip.sl.v245 trip.sl.v254
  exact level 128 (by decide) _ _ 2 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref2 arg2 arg9 v0 X2 k) i j

theorem lev1_3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v323 (F := Ideal) arg1 arg2 arg9 v0 rowIota X1 X2 k (ix2 i j) = if lvlN i j = BitVec.ofNat 32 3 then ((∑ κ, (qqv (q (T + i.val) (lane 128 κ)) * ee (cc a b f T) 3 i (lane 128 κ)) * (kkv (a (lane 128 κ)) (b (lane 128 κ)) (f (T + j.val) (lane 128 κ)) * ee (cc a b f T) 3 j (lane 128 κ)) : ℝ) : EReal)
      else trip.sl.v265 (F := Ideal) arg1 arg2 arg9 v0 rowIota X1 X2 k (ix2 i j) := by
  unfold trip.sl.v323 trip.sl.v322 trip.sl.cst_26 trip.sl.v321 trip.sl.v311 trip.sl.v310 trip.sl.v320 trip.sl.v309 trip.sl.v308 trip.sl.v307 trip.sl.v306 trip.sl.v305 trip.sl.v117 trip.sl.cst_27 trip.sl.v303 trip.sl.v312
  exact level 128 (by decide) _ _ 3 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref3 arg2 arg9 v0 X2 k) i j

theorem lev1_4 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v369 (F := Ideal) arg1 arg2 arg9 v0 rowIota X1 X2 k (ix2 i j) = if lvlN i j = BitVec.ofNat 32 4 then ((∑ κ, (qqv (q (T + i.val) (lane 128 κ)) * ee (cc a b f T) 4 i (lane 128 κ)) * (kkv (a (lane 128 κ)) (b (lane 128 κ)) (f (T + j.val) (lane 128 κ)) * ee (cc a b f T) 4 j (lane 128 κ)) : ℝ) : EReal)
      else trip.sl.v323 (F := Ideal) arg1 arg2 arg9 v0 rowIota X1 X2 k (ix2 i j) := by
  unfold trip.sl.v369 trip.sl.v368 trip.sl.cst_26 trip.sl.v367 trip.sl.v357 trip.sl.v356 trip.sl.v366 trip.sl.v355 trip.sl.v354 trip.sl.v353 trip.sl.v352 trip.sl.v351 trip.sl.v117 trip.sl.cst_27 trip.sl.v349 trip.sl.v358
  exact level 128 (by decide) _ _ 4 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref4 arg2 arg9 v0 X2 k) i j

theorem lev1_5 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v409 (F := Ideal) arg1 arg2 arg9 v0 rowIota X1 X2 k (ix2 i j) = if lvlN i j = BitVec.ofNat 32 5 then ((∑ κ, (qqv (q (T + i.val) (lane 128 κ)) * ee (cc a b f T) 5 i (lane 128 κ)) * (kkv (a (lane 128 κ)) (b (lane 128 κ)) (f (T + j.val) (lane 128 κ)) * ee (cc a b f T) 5 j (lane 128 κ)) : ℝ) : EReal)
      else trip.sl.v369 (F := Ideal) arg1 arg2 arg9 v0 rowIota X1 X2 k (ix2 i j) := by
  unfold trip.sl.v409 trip.sl.v408 trip.sl.cst_26 trip.sl.v407 trip.sl.v397 trip.sl.v396 trip.sl.v406 trip.sl.v395 trip.sl.v394 trip.sl.v393 trip.sl.v392 trip.sl.v391 trip.sl.v117 trip.sl.cst_27 trip.sl.v389 trip.sl.v398
  exact level 128 (by decide) _ _ 5 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref5 arg2 arg9 v0 X2 k) i j

theorem lev1_6 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v445 (F := Ideal) arg1 arg2 arg9 v0 rowIota X1 X2 k (ix2 i j) = if lvlN i j = BitVec.ofNat 32 6 then ((∑ κ, (qqv (q (T + i.val) (lane 128 κ)) * ee (cc a b f T) 6 i (lane 128 κ)) * (kkv (a (lane 128 κ)) (b (lane 128 κ)) (f (T + j.val) (lane 128 κ)) * ee (cc a b f T) 6 j (lane 128 κ)) : ℝ) : EReal)
      else trip.sl.v409 (F := Ideal) arg1 arg2 arg9 v0 rowIota X1 X2 k (ix2 i j) := by
  unfold trip.sl.v445 trip.sl.v444 trip.sl.cst_26 trip.sl.v443 trip.sl.v433 trip.sl.v432 trip.sl.v442 trip.sl.v431 trip.sl.v430 trip.sl.v429 trip.sl.v428 trip.sl.v427 trip.sl.v117 trip.sl.cst_27 trip.sl.v425 trip.sl.v434
  exact level 128 (by decide) _ _ 6 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref6 arg2 arg9 v0 X2 k) i j

/-- The steps of the scores of head 1. -/
def sc1 : ℕ → Fin 128 → Fin 128 → EReal
  | 0, i, j => trip.sl.v99 (F := Ideal) arg1 arg2 v0 X1 X2 k (ix2 i j)
  | 1, i, j => trip.sl.v136 (F := Ideal) arg1 arg2 v0 rowIota X1 X2 k (ix2 i j)
  | 2, i, j => trip.sl.v183 (F := Ideal) arg1 arg2 v0 rowIota X1 X2 k (ix2 i j)
  | 3, i, j => trip.sl.v265 (F := Ideal) arg1 arg2 arg9 v0 rowIota X1 X2 k (ix2 i j)
  | 4, i, j => trip.sl.v323 (F := Ideal) arg1 arg2 arg9 v0 rowIota X1 X2 k (ix2 i j)
  | 5, i, j => trip.sl.v369 (F := Ideal) arg1 arg2 arg9 v0 rowIota X1 X2 k (ix2 i j)
  | 6, i, j => trip.sl.v409 (F := Ideal) arg1 arg2 arg9 v0 rowIota X1 X2 k (ix2 i j)
  | _, i, j => trip.sl.v445 (F := Ideal) arg1 arg2 arg9 v0 rowIota X1 X2 k (ix2 i j)

/-- The scores of head 1. -/
theorem score1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (h64 : ∀ t l, f t l ≤ 64) (i j : Fin 128) :
    trip.sl.v445 (F := Ideal) arg1 arg2 arg9 v0 rowIota X1 X2 k (ix2 i j) = ((if j.val ≤ i.val then ∑ κ, qh q 128 (T + i.val) κ * kh a b f 128 (T + j.val) κ * Real.exp (cum (lh a b f 128) T i.val κ - cum (lh a b f 128) T j.val κ) else 0 : ℝ) : EReal) := by
  refine scores (fun i κ => qh q 128 (T + i.val) κ) (fun j κ => kh a b f 128 (T + j.val) κ) (fun i κ => cum (lh a b f 128) T i.val κ)
    (fun κ i j hij => cum_anti (lh a b f 128) (lh_nonpos a b f h64 128) T κ hij) (fun lv i κ => ee (cc a b f T) lv i (lane 128 κ)) (fun lv i κ => rfl)
    (sc1 arg1 arg2 arg9 v0 X1 X2 k) (diag1 arg1 arg2 v0 X1 X2 k a b q f T ha hb hq hf) ?_ i j
  intro lv hlv
  match lv, hlv with
  | 0, _ => exact lev1_0 arg1 arg2 v0 X1 X2 k a b q f T ha hb hq hf
  | 1, _ => exact lev1_1 arg1 arg2 v0 X1 X2 k a b q f T ha hb hq hf
  | 2, _ => exact lev1_2 arg1 arg2 arg9 v0 X1 X2 k a b q f T ha hb hq hf
  | 3, _ => exact lev1_3 arg1 arg2 arg9 v0 X1 X2 k a b q f T ha hb hq hf
  | 4, _ => exact lev1_4 arg1 arg2 arg9 v0 X1 X2 k a b q f T ha hb hq hf
  | 5, _ => exact lev1_5 arg1 arg2 arg9 v0 X1 X2 k a b q f T ha hb hq hf
  | 6, _ => exact lev1_6 arg1 arg2 arg9 v0 X1 X2 k a b q f T ha hb hq hf

theorem diag2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v104 (F := Ideal) arg1 arg2 v0 X1 X2 k (ix2 i j) = if i = j then ((∑ κ, qqv (q (T + i.val) (lane 256 κ)) * kkv (a (lane 256 κ)) (b (lane 256 κ)) (f (T + j.val) (lane 256 κ)) : ℝ) : EReal) else ((0:ℝ):EReal) := by
  unfold trip.sl.v104 trip.sl.v93 trip.sl.cst_27 trip.sl.v102 trip.sl.cst_26 trip.sl.v101 trip.sl.v89 trip.sl.v100 trip.sl.v88
  exact diag 256 (by decide) _ _ _ _ (fun i l => qqv (q (T + i.val) l)) (fun i l => kkv (a l) (b l) (f (T + i.val) l)) (r_val arg1 X1 k q T hq) (r1_val arg2 v0 X2 k a b f T ha hb hf) i j

theorem lev2_0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v142 (F := Ideal) arg1 arg2 v0 rowIota X1 X2 k (ix2 i j) = if lvlN i j = BitVec.ofNat 32 0 then ((∑ κ, (qqv (q (T + i.val) (lane 256 κ)) * ee (cc a b f T) 0 i (lane 256 κ)) * (kkv (a (lane 256 κ)) (b (lane 256 κ)) (f (T + j.val) (lane 256 κ)) * ee (cc a b f T) 0 j (lane 256 κ)) : ℝ) : EReal)
      else trip.sl.v104 (F := Ideal) arg1 arg2 v0 X1 X2 k (ix2 i j) := by
  unfold trip.sl.v142 trip.sl.v141 trip.sl.cst_26 trip.sl.v140 trip.sl.v124 trip.sl.v123 trip.sl.v139 trip.sl.v122 trip.sl.v121 trip.sl.v120 trip.sl.v119 trip.sl.v118 trip.sl.v117 trip.sl.cst_27 trip.sl.v116 trip.sl.v125
  exact level 256 (by decide) _ _ 0 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref0 arg2 v0 X2 k) i j

theorem lev2_1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v189 (F := Ideal) arg1 arg2 v0 rowIota X1 X2 k (ix2 i j) = if lvlN i j = BitVec.ofNat 32 1 then ((∑ κ, (qqv (q (T + i.val) (lane 256 κ)) * ee (cc a b f T) 1 i (lane 256 κ)) * (kkv (a (lane 256 κ)) (b (lane 256 κ)) (f (T + j.val) (lane 256 κ)) * ee (cc a b f T) 1 j (lane 256 κ)) : ℝ) : EReal)
      else trip.sl.v142 (F := Ideal) arg1 arg2 v0 rowIota X1 X2 k (ix2 i j) := by
  unfold trip.sl.v189 trip.sl.v188 trip.sl.cst_26 trip.sl.v187 trip.sl.v171 trip.sl.v170 trip.sl.v186 trip.sl.v169 trip.sl.v168 trip.sl.v167 trip.sl.v166 trip.sl.v165 trip.sl.v117 trip.sl.cst_27 trip.sl.v163 trip.sl.v172
  exact level 256 (by decide) _ _ 1 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref1 arg2 v0 X2 k) i j

theorem lev2_2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v271 (F := Ideal) arg1 arg2 arg9 v0 rowIota X1 X2 k (ix2 i j) = if lvlN i j = BitVec.ofNat 32 2 then ((∑ κ, (qqv (q (T + i.val) (lane 256 κ)) * ee (cc a b f T) 2 i (lane 256 κ)) * (kkv (a (lane 256 κ)) (b (lane 256 κ)) (f (T + j.val) (lane 256 κ)) * ee (cc a b f T) 2 j (lane 256 κ)) : ℝ) : EReal)
      else trip.sl.v189 (F := Ideal) arg1 arg2 v0 rowIota X1 X2 k (ix2 i j) := by
  unfold trip.sl.v271 trip.sl.v270 trip.sl.cst_26 trip.sl.v269 trip.sl.v253 trip.sl.v252 trip.sl.v268 trip.sl.v251 trip.sl.v250 trip.sl.v249 trip.sl.v248 trip.sl.v247 trip.sl.v117 trip.sl.cst_27 trip.sl.v245 trip.sl.v254
  exact level 256 (by decide) _ _ 2 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref2 arg2 arg9 v0 X2 k) i j

theorem lev2_3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v329 (F := Ideal) arg1 arg2 arg9 v0 rowIota X1 X2 k (ix2 i j) = if lvlN i j = BitVec.ofNat 32 3 then ((∑ κ, (qqv (q (T + i.val) (lane 256 κ)) * ee (cc a b f T) 3 i (lane 256 κ)) * (kkv (a (lane 256 κ)) (b (lane 256 κ)) (f (T + j.val) (lane 256 κ)) * ee (cc a b f T) 3 j (lane 256 κ)) : ℝ) : EReal)
      else trip.sl.v271 (F := Ideal) arg1 arg2 arg9 v0 rowIota X1 X2 k (ix2 i j) := by
  unfold trip.sl.v329 trip.sl.v328 trip.sl.cst_26 trip.sl.v327 trip.sl.v311 trip.sl.v310 trip.sl.v326 trip.sl.v309 trip.sl.v308 trip.sl.v307 trip.sl.v306 trip.sl.v305 trip.sl.v117 trip.sl.cst_27 trip.sl.v303 trip.sl.v312
  exact level 256 (by decide) _ _ 3 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref3 arg2 arg9 v0 X2 k) i j

theorem lev2_4 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v375 (F := Ideal) arg1 arg2 arg9 v0 rowIota X1 X2 k (ix2 i j) = if lvlN i j = BitVec.ofNat 32 4 then ((∑ κ, (qqv (q (T + i.val) (lane 256 κ)) * ee (cc a b f T) 4 i (lane 256 κ)) * (kkv (a (lane 256 κ)) (b (lane 256 κ)) (f (T + j.val) (lane 256 κ)) * ee (cc a b f T) 4 j (lane 256 κ)) : ℝ) : EReal)
      else trip.sl.v329 (F := Ideal) arg1 arg2 arg9 v0 rowIota X1 X2 k (ix2 i j) := by
  unfold trip.sl.v375 trip.sl.v374 trip.sl.cst_26 trip.sl.v373 trip.sl.v357 trip.sl.v356 trip.sl.v372 trip.sl.v355 trip.sl.v354 trip.sl.v353 trip.sl.v352 trip.sl.v351 trip.sl.v117 trip.sl.cst_27 trip.sl.v349 trip.sl.v358
  exact level 256 (by decide) _ _ 4 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref4 arg2 arg9 v0 X2 k) i j

theorem lev2_5 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v415 (F := Ideal) arg1 arg2 arg9 v0 rowIota X1 X2 k (ix2 i j) = if lvlN i j = BitVec.ofNat 32 5 then ((∑ κ, (qqv (q (T + i.val) (lane 256 κ)) * ee (cc a b f T) 5 i (lane 256 κ)) * (kkv (a (lane 256 κ)) (b (lane 256 κ)) (f (T + j.val) (lane 256 κ)) * ee (cc a b f T) 5 j (lane 256 κ)) : ℝ) : EReal)
      else trip.sl.v375 (F := Ideal) arg1 arg2 arg9 v0 rowIota X1 X2 k (ix2 i j) := by
  unfold trip.sl.v415 trip.sl.v414 trip.sl.cst_26 trip.sl.v413 trip.sl.v397 trip.sl.v396 trip.sl.v412 trip.sl.v395 trip.sl.v394 trip.sl.v393 trip.sl.v392 trip.sl.v391 trip.sl.v117 trip.sl.cst_27 trip.sl.v389 trip.sl.v398
  exact level 256 (by decide) _ _ 5 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref5 arg2 arg9 v0 X2 k) i j

theorem lev2_6 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v451 (F := Ideal) arg1 arg2 arg9 v0 rowIota X1 X2 k (ix2 i j) = if lvlN i j = BitVec.ofNat 32 6 then ((∑ κ, (qqv (q (T + i.val) (lane 256 κ)) * ee (cc a b f T) 6 i (lane 256 κ)) * (kkv (a (lane 256 κ)) (b (lane 256 κ)) (f (T + j.val) (lane 256 κ)) * ee (cc a b f T) 6 j (lane 256 κ)) : ℝ) : EReal)
      else trip.sl.v415 (F := Ideal) arg1 arg2 arg9 v0 rowIota X1 X2 k (ix2 i j) := by
  unfold trip.sl.v451 trip.sl.v450 trip.sl.cst_26 trip.sl.v449 trip.sl.v433 trip.sl.v432 trip.sl.v448 trip.sl.v431 trip.sl.v430 trip.sl.v429 trip.sl.v428 trip.sl.v427 trip.sl.v117 trip.sl.cst_27 trip.sl.v425 trip.sl.v434
  exact level 256 (by decide) _ _ 6 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref6 arg2 arg9 v0 X2 k) i j

/-- The steps of the scores of head 2. -/
def sc2 : ℕ → Fin 128 → Fin 128 → EReal
  | 0, i, j => trip.sl.v104 (F := Ideal) arg1 arg2 v0 X1 X2 k (ix2 i j)
  | 1, i, j => trip.sl.v142 (F := Ideal) arg1 arg2 v0 rowIota X1 X2 k (ix2 i j)
  | 2, i, j => trip.sl.v189 (F := Ideal) arg1 arg2 v0 rowIota X1 X2 k (ix2 i j)
  | 3, i, j => trip.sl.v271 (F := Ideal) arg1 arg2 arg9 v0 rowIota X1 X2 k (ix2 i j)
  | 4, i, j => trip.sl.v329 (F := Ideal) arg1 arg2 arg9 v0 rowIota X1 X2 k (ix2 i j)
  | 5, i, j => trip.sl.v375 (F := Ideal) arg1 arg2 arg9 v0 rowIota X1 X2 k (ix2 i j)
  | 6, i, j => trip.sl.v415 (F := Ideal) arg1 arg2 arg9 v0 rowIota X1 X2 k (ix2 i j)
  | _, i, j => trip.sl.v451 (F := Ideal) arg1 arg2 arg9 v0 rowIota X1 X2 k (ix2 i j)

/-- The scores of head 2. -/
theorem score2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (h64 : ∀ t l, f t l ≤ 64) (i j : Fin 128) :
    trip.sl.v451 (F := Ideal) arg1 arg2 arg9 v0 rowIota X1 X2 k (ix2 i j) = ((if j.val ≤ i.val then ∑ κ, qh q 256 (T + i.val) κ * kh a b f 256 (T + j.val) κ * Real.exp (cum (lh a b f 256) T i.val κ - cum (lh a b f 256) T j.val κ) else 0 : ℝ) : EReal) := by
  refine scores (fun i κ => qh q 256 (T + i.val) κ) (fun j κ => kh a b f 256 (T + j.val) κ) (fun i κ => cum (lh a b f 256) T i.val κ)
    (fun κ i j hij => cum_anti (lh a b f 256) (lh_nonpos a b f h64 256) T κ hij) (fun lv i κ => ee (cc a b f T) lv i (lane 256 κ)) (fun lv i κ => rfl)
    (sc2 arg1 arg2 arg9 v0 X1 X2 k) (diag2 arg1 arg2 v0 X1 X2 k a b q f T ha hb hq hf) ?_ i j
  intro lv hlv
  match lv, hlv with
  | 0, _ => exact lev2_0 arg1 arg2 v0 X1 X2 k a b q f T ha hb hq hf
  | 1, _ => exact lev2_1 arg1 arg2 v0 X1 X2 k a b q f T ha hb hq hf
  | 2, _ => exact lev2_2 arg1 arg2 arg9 v0 X1 X2 k a b q f T ha hb hq hf
  | 3, _ => exact lev2_3 arg1 arg2 arg9 v0 X1 X2 k a b q f T ha hb hq hf
  | 4, _ => exact lev2_4 arg1 arg2 arg9 v0 X1 X2 k a b q f T ha hb hq hf
  | 5, _ => exact lev2_5 arg1 arg2 arg9 v0 X1 X2 k a b q f T ha hb hq hf
  | 6, _ => exact lev2_6 arg1 arg2 arg9 v0 X1 X2 k a b q f T ha hb hq hf

theorem diag3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v109 (F := Ideal) arg1 arg2 v0 X1 X2 k (ix2 i j) = if i = j then ((∑ κ, qqv (q (T + i.val) (lane 384 κ)) * kkv (a (lane 384 κ)) (b (lane 384 κ)) (f (T + j.val) (lane 384 κ)) : ℝ) : EReal) else ((0:ℝ):EReal) := by
  unfold trip.sl.v109 trip.sl.v93 trip.sl.cst_27 trip.sl.v107 trip.sl.cst_26 trip.sl.v106 trip.sl.v89 trip.sl.v105 trip.sl.v88
  exact diag 384 (by decide) _ _ _ _ (fun i l => qqv (q (T + i.val) l)) (fun i l => kkv (a l) (b l) (f (T + i.val) l)) (r_val arg1 X1 k q T hq) (r1_val arg2 v0 X2 k a b f T ha hb hf) i j

theorem lev3_0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v148 (F := Ideal) arg1 arg2 v0 rowIota X1 X2 k (ix2 i j) = if lvlN i j = BitVec.ofNat 32 0 then ((∑ κ, (qqv (q (T + i.val) (lane 384 κ)) * ee (cc a b f T) 0 i (lane 384 κ)) * (kkv (a (lane 384 κ)) (b (lane 384 κ)) (f (T + j.val) (lane 384 κ)) * ee (cc a b f T) 0 j (lane 384 κ)) : ℝ) : EReal)
      else trip.sl.v109 (F := Ideal) arg1 arg2 v0 X1 X2 k (ix2 i j) := by
  unfold trip.sl.v148 trip.sl.v147 trip.sl.cst_26 trip.sl.v146 trip.sl.v124 trip.sl.v123 trip.sl.v145 trip.sl.v122 trip.sl.v121 trip.sl.v120 trip.sl.v119 trip.sl.v118 trip.sl.v117 trip.sl.cst_27 trip.sl.v116 trip.sl.v125
  exact level 384 (by decide) _ _ 0 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref0 arg2 v0 X2 k) i j

theorem lev3_1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v195 (F := Ideal) arg1 arg2 v0 rowIota X1 X2 k (ix2 i j) = if lvlN i j = BitVec.ofNat 32 1 then ((∑ κ, (qqv (q (T + i.val) (lane 384 κ)) * ee (cc a b f T) 1 i (lane 384 κ)) * (kkv (a (lane 384 κ)) (b (lane 384 κ)) (f (T + j.val) (lane 384 κ)) * ee (cc a b f T) 1 j (lane 384 κ)) : ℝ) : EReal)
      else trip.sl.v148 (F := Ideal) arg1 arg2 v0 rowIota X1 X2 k (ix2 i j) := by
  unfold trip.sl.v195 trip.sl.v194 trip.sl.cst_26 trip.sl.v193 trip.sl.v171 trip.sl.v170 trip.sl.v192 trip.sl.v169 trip.sl.v168 trip.sl.v167 trip.sl.v166 trip.sl.v165 trip.sl.v117 trip.sl.cst_27 trip.sl.v163 trip.sl.v172
  exact level 384 (by decide) _ _ 1 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref1 arg2 v0 X2 k) i j

theorem lev3_2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v277 (F := Ideal) arg1 arg2 arg9 v0 rowIota X1 X2 k (ix2 i j) = if lvlN i j = BitVec.ofNat 32 2 then ((∑ κ, (qqv (q (T + i.val) (lane 384 κ)) * ee (cc a b f T) 2 i (lane 384 κ)) * (kkv (a (lane 384 κ)) (b (lane 384 κ)) (f (T + j.val) (lane 384 κ)) * ee (cc a b f T) 2 j (lane 384 κ)) : ℝ) : EReal)
      else trip.sl.v195 (F := Ideal) arg1 arg2 v0 rowIota X1 X2 k (ix2 i j) := by
  unfold trip.sl.v277 trip.sl.v276 trip.sl.cst_26 trip.sl.v275 trip.sl.v253 trip.sl.v252 trip.sl.v274 trip.sl.v251 trip.sl.v250 trip.sl.v249 trip.sl.v248 trip.sl.v247 trip.sl.v117 trip.sl.cst_27 trip.sl.v245 trip.sl.v254
  exact level 384 (by decide) _ _ 2 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref2 arg2 arg9 v0 X2 k) i j

theorem lev3_3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v335 (F := Ideal) arg1 arg2 arg9 v0 rowIota X1 X2 k (ix2 i j) = if lvlN i j = BitVec.ofNat 32 3 then ((∑ κ, (qqv (q (T + i.val) (lane 384 κ)) * ee (cc a b f T) 3 i (lane 384 κ)) * (kkv (a (lane 384 κ)) (b (lane 384 κ)) (f (T + j.val) (lane 384 κ)) * ee (cc a b f T) 3 j (lane 384 κ)) : ℝ) : EReal)
      else trip.sl.v277 (F := Ideal) arg1 arg2 arg9 v0 rowIota X1 X2 k (ix2 i j) := by
  unfold trip.sl.v335 trip.sl.v334 trip.sl.cst_26 trip.sl.v333 trip.sl.v311 trip.sl.v310 trip.sl.v332 trip.sl.v309 trip.sl.v308 trip.sl.v307 trip.sl.v306 trip.sl.v305 trip.sl.v117 trip.sl.cst_27 trip.sl.v303 trip.sl.v312
  exact level 384 (by decide) _ _ 3 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref3 arg2 arg9 v0 X2 k) i j

theorem lev3_4 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v381 (F := Ideal) arg1 arg2 arg9 v0 rowIota X1 X2 k (ix2 i j) = if lvlN i j = BitVec.ofNat 32 4 then ((∑ κ, (qqv (q (T + i.val) (lane 384 κ)) * ee (cc a b f T) 4 i (lane 384 κ)) * (kkv (a (lane 384 κ)) (b (lane 384 κ)) (f (T + j.val) (lane 384 κ)) * ee (cc a b f T) 4 j (lane 384 κ)) : ℝ) : EReal)
      else trip.sl.v335 (F := Ideal) arg1 arg2 arg9 v0 rowIota X1 X2 k (ix2 i j) := by
  unfold trip.sl.v381 trip.sl.v380 trip.sl.cst_26 trip.sl.v379 trip.sl.v357 trip.sl.v356 trip.sl.v378 trip.sl.v355 trip.sl.v354 trip.sl.v353 trip.sl.v352 trip.sl.v351 trip.sl.v117 trip.sl.cst_27 trip.sl.v349 trip.sl.v358
  exact level 384 (by decide) _ _ 4 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref4 arg2 arg9 v0 X2 k) i j

theorem lev3_5 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v421 (F := Ideal) arg1 arg2 arg9 v0 rowIota X1 X2 k (ix2 i j) = if lvlN i j = BitVec.ofNat 32 5 then ((∑ κ, (qqv (q (T + i.val) (lane 384 κ)) * ee (cc a b f T) 5 i (lane 384 κ)) * (kkv (a (lane 384 κ)) (b (lane 384 κ)) (f (T + j.val) (lane 384 κ)) * ee (cc a b f T) 5 j (lane 384 κ)) : ℝ) : EReal)
      else trip.sl.v381 (F := Ideal) arg1 arg2 arg9 v0 rowIota X1 X2 k (ix2 i j) := by
  unfold trip.sl.v421 trip.sl.v420 trip.sl.cst_26 trip.sl.v419 trip.sl.v397 trip.sl.v396 trip.sl.v418 trip.sl.v395 trip.sl.v394 trip.sl.v393 trip.sl.v392 trip.sl.v391 trip.sl.v117 trip.sl.cst_27 trip.sl.v389 trip.sl.v398
  exact level 384 (by decide) _ _ 5 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref5 arg2 arg9 v0 X2 k) i j

theorem lev3_6 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i j : Fin 128) :
    trip.sl.v457 (F := Ideal) arg1 arg2 arg9 v0 rowIota X1 X2 k (ix2 i j) = if lvlN i j = BitVec.ofNat 32 6 then ((∑ κ, (qqv (q (T + i.val) (lane 384 κ)) * ee (cc a b f T) 6 i (lane 384 κ)) * (kkv (a (lane 384 κ)) (b (lane 384 κ)) (f (T + j.val) (lane 384 κ)) * ee (cc a b f T) 6 j (lane 384 κ)) : ℝ) : EReal)
      else trip.sl.v421 (F := Ideal) arg1 arg2 arg9 v0 rowIota X1 X2 k (ix2 i j) := by
  unfold trip.sl.v457 trip.sl.v456 trip.sl.cst_26 trip.sl.v455 trip.sl.v433 trip.sl.v432 trip.sl.v454 trip.sl.v431 trip.sl.v430 trip.sl.v429 trip.sl.v428 trip.sl.v427 trip.sl.v117 trip.sl.cst_27 trip.sl.v425 trip.sl.v434
  exact level 384 (by decide) _ _ 6 _ _ _ _ _ (fun i l => qqv (q (T + i.val) l)) (fun i l => kkv (a l) (b l) (f (T + i.val) l)) (cc a b f T) (r_val arg1 X1 k q T hq) (r1_val arg2 v0 X2 k a b f T ha hb hf) (r3_val arg2 v0 X2 k a b f T ha hb hf) (ref6 arg2 arg9 v0 X2 k) i j

/-- The steps of the scores of head 3. -/
def sc3 : ℕ → Fin 128 → Fin 128 → EReal
  | 0, i, j => trip.sl.v109 (F := Ideal) arg1 arg2 v0 X1 X2 k (ix2 i j)
  | 1, i, j => trip.sl.v148 (F := Ideal) arg1 arg2 v0 rowIota X1 X2 k (ix2 i j)
  | 2, i, j => trip.sl.v195 (F := Ideal) arg1 arg2 v0 rowIota X1 X2 k (ix2 i j)
  | 3, i, j => trip.sl.v277 (F := Ideal) arg1 arg2 arg9 v0 rowIota X1 X2 k (ix2 i j)
  | 4, i, j => trip.sl.v335 (F := Ideal) arg1 arg2 arg9 v0 rowIota X1 X2 k (ix2 i j)
  | 5, i, j => trip.sl.v381 (F := Ideal) arg1 arg2 arg9 v0 rowIota X1 X2 k (ix2 i j)
  | 6, i, j => trip.sl.v421 (F := Ideal) arg1 arg2 arg9 v0 rowIota X1 X2 k (ix2 i j)
  | _, i, j => trip.sl.v457 (F := Ideal) arg1 arg2 arg9 v0 rowIota X1 X2 k (ix2 i j)

/-- The scores of head 3. -/
theorem score3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (h64 : ∀ t l, f t l ≤ 64) (i j : Fin 128) :
    trip.sl.v457 (F := Ideal) arg1 arg2 arg9 v0 rowIota X1 X2 k (ix2 i j) = ((if j.val ≤ i.val then ∑ κ, qh q 384 (T + i.val) κ * kh a b f 384 (T + j.val) κ * Real.exp (cum (lh a b f 384) T i.val κ - cum (lh a b f 384) T j.val κ) else 0 : ℝ) : EReal) := by
  refine scores (fun i κ => qh q 384 (T + i.val) κ) (fun j κ => kh a b f 384 (T + j.val) κ) (fun i κ => cum (lh a b f 384) T i.val κ)
    (fun κ i j hij => cum_anti (lh a b f 384) (lh_nonpos a b f h64 384) T κ hij) (fun lv i κ => ee (cc a b f T) lv i (lane 384 κ)) (fun lv i κ => rfl)
    (sc3 arg1 arg2 arg9 v0 X1 X2 k) (diag3 arg1 arg2 v0 X1 X2 k a b q f T ha hb hq hf) ?_ i j
  intro lv hlv
  match lv, hlv with
  | 0, _ => exact lev3_0 arg1 arg2 v0 X1 X2 k a b q f T ha hb hq hf
  | 1, _ => exact lev3_1 arg1 arg2 v0 X1 X2 k a b q f T ha hb hq hf
  | 2, _ => exact lev3_2 arg1 arg2 arg9 v0 X1 X2 k a b q f T ha hb hq hf
  | 3, _ => exact lev3_3 arg1 arg2 arg9 v0 X1 X2 k a b q f T ha hb hq hf
  | 4, _ => exact lev3_4 arg1 arg2 arg9 v0 X1 X2 k a b q f T ha hb hq hf
  | 5, _ => exact lev3_5 arg1 arg2 arg9 v0 X1 X2 k a b q f T ha hb hq hf
  | 6, _ => exact lev3_6 arg1 arg2 arg9 v0 X1 X2 k a b q f T ha hb hq hf

end chunk

end Cert.KernelIdeal.Val

end
-- ==== Proof.Heads.lean ====
/-
  One chunk of the kernel at exact arithmetic: each head's outputs, their normalisation, and the state the chunk leaves.
-/
module

public import proofs.«01_k».proof.Proof.Chunk

@[expose] public section

set_option maxRecDepth 16384
set_option maxHeartbeats 400000

noncomputable section

namespace Cert.KernelIdeal.Val

open Cert.KernelIdeal Cert.KernelIdeal.Gen Cert.KernelIdeal.Hand Cert.Spec
open Idealize.ShloMosaic Idealize.ShloMosaic.Tactic

/-- A row of one head's outputs, divided by the root of its mean square. -/
def normed (o : Fin 128 → ℝ) (d : Fin 128) : EReal :=
  ((o d : ℝ) : EReal) * Ideal.rsqrt (Ideal.div ((∑ e, o e * o e : ℝ) : EReal) (Ideal.ofBits .f32 0x43000000#32) + Ideal.ofBits .f32 0x358637BD#32)

section
set_option backward.isDefEq.respectTransparency false

theorem slice1_stage (o : ℕ) (ho : o + 128 ≤ 512) (hs : S1x512.Slices ![0, o] S1x128) (x : FVec Ideal S1x512 .f32) (κ : Fin 128) :
    extractStridedSlice S1x128 ![0, o] x hs (ix2 0 κ) = x (ix2 0 (lane o κ)) := by
  pointwise
  congr 1
  have := κ.isLt
  congr 1 <;> apply Fin.ext <;> simp [lane, Fin.ofNat] <;> omega

/-- One head's outputs before the normalisation: the scores against the values, and the decayed queries against the state. -/
theorem out_stage (o : ℕ) (ho : o + 128 ≤ 512) (hs : S128x512.Slices ![0, o] S128x128) (hb : FTy.bits .bf16 < FTy.bits .f32)
    (sc S : FVec Ideal S128x128 .f32) (r2 qe : FVec Ideal S128x512 .bf16) (SC SS : Fin 128 → Fin 128 → ℝ) (V QE : Fin 128 → Fin 512 → ℝ)
    (hsc : ∀ i j, sc (ix2 i j) = ((SC i j : ℝ) : EReal)) (hS : ∀ d κ, S (ix2 d κ) = ((SS d κ : ℝ) : EReal))
    (hv : ∀ i l, r2 (ix2 i l) = ((V i l : ℝ) : EReal)) (hq : ∀ i l, qe (ix2 i l) = ((QE i l : ℝ) : EReal)) (i d : Fin 128) :
    addf (matmul dot_S128x128_S128x128_S128x128_1_0_0_1_n_n none (truncf .bf16 sc hb) (extractStridedSlice S128x128 ![0, o] r2 hs) (constant S128x128 FTy.f32 0#32))
      (matmul dot_S128x128_S128x128_S128x128_1_1_0_0_n_n none (extractStridedSlice S128x128 ![0, o] qe hs) (truncf .bf16 S hb) (constant S128x128 FTy.f32 0#32)) (ix2 i d)
      = ((∑ j, SC i j * V j (lane o d) + ∑ κ, QE i (lane o κ) * SS d κ : ℝ) : EReal) := by
  show matmul (F := Ideal) dot_S128x128_S128x128_S128x128_1_0_0_1_n_n none (truncf .bf16 sc hb) _ _ (ix2 i d) + matmul (F := Ideal) dot_S128x128_S128x128_S128x128_1_1_0_0_n_n none _ (truncf .bf16 S hb) _ (ix2 i d) = _
  rw [dot_stage_nn (truncf .bf16 sc hb) _ SC (fun j d => V j (lane o d)) (fun i j => hsc i j) (fun j d => (slice_stage o ho hs r2 j d).trans (hv _ _)),
    dot_stage _ (truncf .bf16 S hb) (fun i κ => QE i (lane o κ)) SS (fun i κ => (slice_stage o ho hs qe i κ).trans (hq _ _)) (fun d κ => hS d κ), ← EReal.coe_add]

/-- One head's state after the chunk: the old one decayed, and the chunk's values against its decayed keys. -/
theorem state_stage (o : ℕ) (ho : o + 128 ≤ 512) (hs : S128x512.Slices ![0, o] S128x128) (hs1 : S1x512.Slices ![0, o] S1x128) (hbc : S1x128.Broadcasts S128x128)
    (S : FVec Ideal S128x128 .f32) (el : FVec Ideal S1x512 .f32) (r2 kw : FVec Ideal S128x512 .bf16) (SS : Fin 128 → Fin 128 → ℝ) (EL : Fin 512 → ℝ) (V KW : Fin 128 → Fin 512 → ℝ)
    (hS : ∀ d κ, S (ix2 d κ) = ((SS d κ : ℝ) : EReal)) (he : ∀ l, el (ix2 0 l) = ((EL l : ℝ) : EReal))
    (hv : ∀ i l, r2 (ix2 i l) = ((V i l : ℝ) : EReal)) (hk : ∀ i l, kw (ix2 i l) = ((KW i l : ℝ) : EReal)) (d κ : Fin 128) :
    addf (mulf S (broadcastTo S128x128 (extractStridedSlice S1x128 ![0, o] el hs1) hbc))
      (matmul dot_S128x128_S128x128_S128x128_0_0_1_1_n_n none (extractStridedSlice S128x128 ![0, o] r2 hs) (extractStridedSlice S128x128 ![0, o] kw hs) (constant S128x128 FTy.f32 0#32)) (ix2 d κ)
      = ((SS d κ * EL (lane o κ) + ∑ i, V i (lane o d) * KW i (lane o κ) : ℝ) : EReal) := by
  have hbr : broadcastTo S128x128 (extractStridedSlice S1x128 ![0, o] el hs1) hbc (ix2 d κ) = extractStridedSlice S1x128 ![0, o] el hs1 (ix2 0 κ) := by
    generalize extractStridedSlice S1x128 ![0, o] el hs1 = w
    pointwise
  show S (ix2 d κ) * broadcastTo S128x128 (extractStridedSlice S1x128 ![0, o] el hs1) hbc (ix2 d κ) + matmul (F := Ideal) dot_S128x128_S128x128_S128x128_0_0_1_1_n_n none _ _ _ (ix2 d κ) = _
  rw [dot_stage_tn _ _ (fun i d => V i (lane o d)) (fun i κ => KW i (lane o κ)) (fun i d => (slice_stage o ho hs r2 i d).trans (hv _ _)) (fun i κ => (slice_stage o ho hs kw i κ).trans (hk _ _)),
    hbr, slice1_stage o ho, he, hS, ← EReal.coe_mul, ← EReal.coe_add]

end

section chunk
variable (arg1 arg2 arg3 : Memref sig .tc .vmem S2048x512 .f32) (arg8 : Memref sig .tc .vmem S4x128x128 .f32) (arg9 : Memref sig .tc .vmem S128x512 .f32)
  (v0 : Vec Ideal S2x512 .f32) (X1 : BufTy.Contents (Elt Ideal) arg1.view.ty) (X2 : BufTy.Contents (Elt Ideal) arg2.view.ty) (X3 : BufTy.Contents (Elt Ideal) arg3.view.ty)
  (k : Fin k0_t1_loop.trips) (f8 : BufTy.Contents (Elt Ideal) arg8.view.ty)
  (a b : Fin 512 → ℝ) (q f v : ℕ → Fin 512 → ℝ) (T : ℕ)

theorem qe_val (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (i : Fin 128) (l : Fin 512) :
    trip.sl.v461 (F := Ideal) arg1 arg2 v0 X1 X2 k (ix2 i l) = ((qqv (q (T + i.val) l) * Real.exp (cc a b f T i l) : ℝ) : EReal) := by
  unfold trip.sl.v461 trip.sl.v460 trip.sl.v459
  show trip.sl.r (F := Ideal) arg1 X1 k (ix2 i l) * Ideal.exp2 (trip.sl.r_3 (F := Ideal) arg2 v0 X2 k (ix2 i l)) = _
  rw [r_val arg1 X1 k q T hq, r3_val arg2 v0 X2 k a b f T ha hb hf, exp2_scaled, ← EReal.coe_mul]

theorem last_val (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (l : Fin 512) :
    trip.sl.v458 (F := Ideal) arg2 v0 X2 k (ix2 0 l) = ((cc a b f T 127 l * (Real.log 2)⁻¹ : ℝ) : EReal) := by
  unfold trip.sl.v458
  rw [← r3_val arg2 v0 X2 k a b f T ha hb hf 127 l]
  generalize trip.sl.r_3 (F := Ideal) arg2 v0 X2 k = r3
  pointwise

theorem el_val (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (l : Fin 512) :
    trip.sl.v467 (F := Ideal) arg2 v0 X2 k (ix2 0 l) = ((Real.exp (cc a b f T 127 l) : ℝ) : EReal) := by
  unfold trip.sl.v467
  show Ideal.exp2 (trip.sl.v458 (F := Ideal) arg2 v0 X2 k (ix2 0 l)) = _
  rw [last_val arg2 v0 X2 k a b f T ha hb hf, exp2_scaled]

set_option backward.isDefEq.respectTransparency false in
theorem kw_val (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (i : Fin 128) (l : Fin 512) :
    trip.sl.v466 (F := Ideal) arg2 v0 X2 k (ix2 i l) = ((kkv (a l) (b l) (f (T + i.val) l) * Real.exp (cc a b f T 127 l - cc a b f T i l) : ℝ) : EReal) := by
  unfold trip.sl.v466 trip.sl.v465 trip.sl.v464 trip.sl.v463
  show trip.sl.r_1 (F := Ideal) arg2 v0 X2 k (ix2 i l) * Ideal.exp2 (trip.sl.v462 (F := Ideal) arg2 v0 X2 k (ix2 i l) - trip.sl.r_3 (F := Ideal) arg2 v0 X2 k (ix2 i l)) = _
  have h : trip.sl.v462 (F := Ideal) arg2 v0 X2 k (ix2 i l) = trip.sl.v458 (F := Ideal) arg2 v0 X2 k (ix2 0 l) := by
    unfold trip.sl.v462
    generalize trip.sl.v458 (F := Ideal) arg2 v0 X2 k = w
    pointwise
  rw [h, r1_val arg2 v0 X2 k a b f T ha hb hf, r3_val arg2 v0 X2 k a b f T ha hb hf, last_val arg2 v0 X2 k a b f T ha hb hf, ← EReal.coe_sub, ← sub_mul, exp2_scaled, ← EReal.coe_mul]

set_option backward.isDefEq.respectTransparency false in
theorem st_read0 (d κ : Fin 128) : trip.sl.v469 (F := Ideal) arg8 f8 (ix2 d κ) = arg8.view.read (Elt Ideal) f8 (ix3 0 d κ) := by
  unfold trip.sl.v469
  have hz : ∀ z : (Rect.unit (s := S4x128x128) ![0, 0, 0] S1x128x128.size inb_S4x128x128_S1x128x128_0_0_0).shape.Idx, (Rect.unit (s := S4x128x128) ![0, 0, 0] S1x128x128.size inb_S4x128x128_S1x128x128_0_0_0).idx z = ix3 0 (z 1) (z 2) := by
    intro z
    funext a
    match a with
    | ⟨0, _⟩ =>
      apply Fin.ext
      have h0 : (z 0).val < 1 := (z 0).isLt
      show 0 + 1 * (z 0).val = 0
      omega
    | ⟨1, _⟩ =>
      apply Fin.ext
      show 0 + 1 * (z 1).val = (z 1).val
      omega
    | ⟨2, _⟩ =>
      apply Fin.ext
      show 0 + 1 * (z 2).val = (z 2).val
      omega
  have hw : View.readAt (Elt Ideal) arg8.view (Rect.unit (s := S4x128x128) ![0, 0, 0] S1x128x128.size inb_S4x128x128_S1x128x128_0_0_0).toLoadRect f8 = fun z => arg8.view.read (Elt Ideal) f8 (ix3 0 (z 1) (z 2)) := by
    funext z
    rw [← hz z]; rfl
  rw [hw]
  pointwise

/-- The outputs of head 0 in a chunk, before the normalisation. -/
theorem out0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ d κ, trip.sl.v469 (F := Ideal) arg8 f8 (ix2 d κ) = ((state (kh a b f 0) (lh a b f 0) (vh v 0) T κ d : ℝ) : EReal)) (i d : Fin 128) :
    trip.sl.v476 (F := Ideal) arg1 arg2 arg3 arg8 arg9 v0 rowIota X1 X2 X3 k f8 (ix2 i d) = ((out (qh q 0) (kh a b f 0) (lh a b f 0) (vh v 0) (T + i.val) d : ℝ) : EReal) := by
  unfold trip.sl.v476 trip.sl.v475 trip.sl.v474 trip.sl.v473 trip.sl.v472 trip.sl.cst_26 trip.sl.v471 trip.sl.v470
  refine (out_stage 0 (by decide) _ _ _ _ _ _ _ _ (fun i l => v (T + i.val) l) (fun i l => qqv (q (T + i.val) l) * Real.exp (cc a b f T i l)) (score0 arg1 arg2 arg9 v0 X1 X2 k a b q f T ha hb hq hf h64) hS (r2_val arg3 X3 k v T hv) (qe_val arg1 arg2 v0 X1 X2 k a b q f T ha hb hq hf) i d).trans ?_
  rw [out_add (qh q 0) (kh a b f 0) (lh a b f 0) (vh v 0) T 128 i d]
  rfl

/-- The state of head 0 after a chunk. -/
theorem new0 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ d κ, trip.sl.v469 (F := Ideal) arg8 f8 (ix2 d κ) = ((state (kh a b f 0) (lh a b f 0) (vh v 0) T κ d : ℝ) : EReal)) (d κ : Fin 128) :
    trip.sl.v483 (F := Ideal) arg2 arg3 arg8 v0 X2 X3 k f8 (ix2 d κ) = ((state (kh a b f 0) (lh a b f 0) (vh v 0) (T + 128) κ d : ℝ) : EReal) := by
  unfold trip.sl.v483 trip.sl.v482 trip.sl.cst_26 trip.sl.v481 trip.sl.v471 trip.sl.v479 trip.sl.v478 trip.sl.v477
  refine (state_stage 0 (by decide) _ _ _ _ _ _ _ _ (fun l => Real.exp (cc a b f T 127 l)) (fun i l => v (T + i.val) l) (fun i l => kkv (a l) (b l) (f (T + i.val) l) * Real.exp (cc a b f T 127 l - cc a b f T i l)) hS (el_val arg2 v0 X2 k a b f T ha hb hf) (r2_val arg3 X3 k v T hv) (kw_val arg2 v0 X2 k a b f T ha hb hf) d κ).trans ?_
  rw [state_add (kh a b f 0) (lh a b f 0) (vh v 0) T 128 (by decide) κ d]
  congr 1
  refine congrArg₂ (· + ·) ?_ (Finset.sum_congr rfl fun i _ => ?_)
  · exact mul_comm _ _
  · exact mul_comm _ _

set_option backward.isDefEq.respectTransparency false in
theorem put0 (d κ : Fin 128) : trip.sl.v486 (F := Ideal) arg2 arg3 arg8 v0 X2 X3 k f8 (ix3 0 d κ) = trip.sl.v483 (F := Ideal) arg2 arg3 arg8 v0 X2 X3 k f8 (ix2 d κ) := by
  unfold trip.sl.v486
  generalize trip.sl.v483 (F := Ideal) arg2 arg3 arg8 v0 X2 X3 k f8 = w
  pointwise

set_option backward.isDefEq.respectTransparency false in
/-- The normalised outputs of head 0. -/
theorem nrm0 (O : Fin 128 → Fin 128 → ℝ) (hO : ∀ i d, trip.sl.v476 (F := Ideal) arg1 arg2 arg3 arg8 arg9 v0 rowIota X1 X2 X3 k f8 (ix2 i d) = ((O i d : ℝ) : EReal)) (i d : Fin 128) :
    trip.sl.v496 (F := Ideal) arg1 arg2 arg3 arg8 arg9 v0 rowIota X1 X2 X3 k f8 (ix2 i d) = normed (O i) d := by
  unfold trip.sl.v496 trip.sl.v495 trip.sl.v494 trip.sl.v493 trip.sl.v492 trip.sl.cst_143 trip.sl.v491 trip.sl.v490 trip.sl.cst_142 trip.sl.v489 trip.sl.v488 trip.sl.v487
  generalize trip.sl.v476 (F := Ideal) arg1 arg2 arg3 arg8 arg9 v0 rowIota X1 X2 X3 k f8 = x at hO ⊢
  pointwise
  simp only [hO, ← EReal.coe_mul, coe_sum]
  rfl

set_option backward.isDefEq.respectTransparency false in
theorem st_read1 (d κ : Fin 128) : trip.sl.v498 (F := Ideal) arg8 f8 (ix2 d κ) = arg8.view.read (Elt Ideal) f8 (ix3 1 d κ) := by
  unfold trip.sl.v498 trip.sl.v497
  have hz : ∀ z : (Rect.unit (s := S4x128x128) ![1, 0, 0] S1x128x128.size inb_S4x128x128_S1x128x128_1_0_0).shape.Idx, (Rect.unit (s := S4x128x128) ![1, 0, 0] S1x128x128.size inb_S4x128x128_S1x128x128_1_0_0).idx z = ix3 1 (z 1) (z 2) := by
    intro z
    funext a
    match a with
    | ⟨0, _⟩ =>
      apply Fin.ext
      have h0 : (z 0).val < 1 := (z 0).isLt
      show 1 + 1 * (z 0).val = 1
      omega
    | ⟨1, _⟩ =>
      apply Fin.ext
      show 0 + 1 * (z 1).val = (z 1).val
      omega
    | ⟨2, _⟩ =>
      apply Fin.ext
      show 0 + 1 * (z 2).val = (z 2).val
      omega
  have hw : View.readAt (Elt Ideal) arg8.view (Rect.unit (s := S4x128x128) ![1, 0, 0] S1x128x128.size inb_S4x128x128_S1x128x128_1_0_0).toLoadRect f8 = fun z => arg8.view.read (Elt Ideal) f8 (ix3 1 (z 1) (z 2)) := by
    funext z
    rw [← hz z]; rfl
  rw [hw]
  pointwise

/-- The outputs of head 1 in a chunk, before the normalisation. -/
theorem out1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ d κ, trip.sl.v498 (F := Ideal) arg8 f8 (ix2 d κ) = ((state (kh a b f 128) (lh a b f 128) (vh v 128) T κ d : ℝ) : EReal)) (i d : Fin 128) :
    trip.sl.v505 (F := Ideal) arg1 arg2 arg3 arg8 arg9 v0 rowIota X1 X2 X3 k f8 (ix2 i d) = ((out (qh q 128) (kh a b f 128) (lh a b f 128) (vh v 128) (T + i.val) d : ℝ) : EReal) := by
  unfold trip.sl.v505 trip.sl.v504 trip.sl.v503 trip.sl.v502 trip.sl.v501 trip.sl.cst_26 trip.sl.v500 trip.sl.v499
  refine (out_stage 128 (by decide) _ _ _ _ _ _ _ _ (fun i l => v (T + i.val) l) (fun i l => qqv (q (T + i.val) l) * Real.exp (cc a b f T i l)) (score1 arg1 arg2 arg9 v0 X1 X2 k a b q f T ha hb hq hf h64) hS (r2_val arg3 X3 k v T hv) (qe_val arg1 arg2 v0 X1 X2 k a b q f T ha hb hq hf) i d).trans ?_
  rw [out_add (qh q 128) (kh a b f 128) (lh a b f 128) (vh v 128) T 128 i d]
  rfl

/-- The state of head 1 after a chunk. -/
theorem new1 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ d κ, trip.sl.v498 (F := Ideal) arg8 f8 (ix2 d κ) = ((state (kh a b f 128) (lh a b f 128) (vh v 128) T κ d : ℝ) : EReal)) (d κ : Fin 128) :
    trip.sl.v512 (F := Ideal) arg2 arg3 arg8 v0 X2 X3 k f8 (ix2 d κ) = ((state (kh a b f 128) (lh a b f 128) (vh v 128) (T + 128) κ d : ℝ) : EReal) := by
  unfold trip.sl.v512 trip.sl.v511 trip.sl.cst_26 trip.sl.v510 trip.sl.v500 trip.sl.v508 trip.sl.v507 trip.sl.v506
  refine (state_stage 128 (by decide) _ _ _ _ _ _ _ _ (fun l => Real.exp (cc a b f T 127 l)) (fun i l => v (T + i.val) l) (fun i l => kkv (a l) (b l) (f (T + i.val) l) * Real.exp (cc a b f T 127 l - cc a b f T i l)) hS (el_val arg2 v0 X2 k a b f T ha hb hf) (r2_val arg3 X3 k v T hv) (kw_val arg2 v0 X2 k a b f T ha hb hf) d κ).trans ?_
  rw [state_add (kh a b f 128) (lh a b f 128) (vh v 128) T 128 (by decide) κ d]
  congr 1
  refine congrArg₂ (· + ·) ?_ (Finset.sum_congr rfl fun i _ => ?_)
  · exact mul_comm _ _
  · exact mul_comm _ _

set_option backward.isDefEq.respectTransparency false in
theorem put1 (d κ : Fin 128) : trip.sl.v515 (F := Ideal) arg2 arg3 arg8 v0 X2 X3 k f8 (ix3 0 d κ) = trip.sl.v512 (F := Ideal) arg2 arg3 arg8 v0 X2 X3 k f8 (ix2 d κ) := by
  unfold trip.sl.v515
  generalize trip.sl.v512 (F := Ideal) arg2 arg3 arg8 v0 X2 X3 k f8 = w
  pointwise

set_option backward.isDefEq.respectTransparency false in
/-- The normalised outputs of head 1. -/
theorem nrm1 (O : Fin 128 → Fin 128 → ℝ) (hO : ∀ i d, trip.sl.v505 (F := Ideal) arg1 arg2 arg3 arg8 arg9 v0 rowIota X1 X2 X3 k f8 (ix2 i d) = ((O i d : ℝ) : EReal)) (i d : Fin 128) :
    trip.sl.v525 (F := Ideal) arg1 arg2 arg3 arg8 arg9 v0 rowIota X1 X2 X3 k f8 (ix2 i d) = normed (O i) d := by
  unfold trip.sl.v525 trip.sl.v524 trip.sl.v523 trip.sl.v522 trip.sl.v492 trip.sl.cst_143 trip.sl.v520 trip.sl.v490 trip.sl.cst_142 trip.sl.v518 trip.sl.v517 trip.sl.v516
  generalize trip.sl.v505 (F := Ideal) arg1 arg2 arg3 arg8 arg9 v0 rowIota X1 X2 X3 k f8 = x at hO ⊢
  pointwise
  simp only [hO, ← EReal.coe_mul, coe_sum]
  rfl

set_option backward.isDefEq.respectTransparency false in
theorem st_read2 (d κ : Fin 128) : trip.sl.v527 (F := Ideal) arg8 f8 (ix2 d κ) = arg8.view.read (Elt Ideal) f8 (ix3 2 d κ) := by
  unfold trip.sl.v527 trip.sl.v526
  have hz : ∀ z : (Rect.unit (s := S4x128x128) ![2, 0, 0] S1x128x128.size inb_S4x128x128_S1x128x128_2_0_0).shape.Idx, (Rect.unit (s := S4x128x128) ![2, 0, 0] S1x128x128.size inb_S4x128x128_S1x128x128_2_0_0).idx z = ix3 2 (z 1) (z 2) := by
    intro z
    funext a
    match a with
    | ⟨0, _⟩ =>
      apply Fin.ext
      have h0 : (z 0).val < 1 := (z 0).isLt
      show 2 + 1 * (z 0).val = 2
      omega
    | ⟨1, _⟩ =>
      apply Fin.ext
      show 0 + 1 * (z 1).val = (z 1).val
      omega
    | ⟨2, _⟩ =>
      apply Fin.ext
      show 0 + 1 * (z 2).val = (z 2).val
      omega
  have hw : View.readAt (Elt Ideal) arg8.view (Rect.unit (s := S4x128x128) ![2, 0, 0] S1x128x128.size inb_S4x128x128_S1x128x128_2_0_0).toLoadRect f8 = fun z => arg8.view.read (Elt Ideal) f8 (ix3 2 (z 1) (z 2)) := by
    funext z
    rw [← hz z]; rfl
  rw [hw]
  pointwise

/-- The outputs of head 2 in a chunk, before the normalisation. -/
theorem out2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ d κ, trip.sl.v527 (F := Ideal) arg8 f8 (ix2 d κ) = ((state (kh a b f 256) (lh a b f 256) (vh v 256) T κ d : ℝ) : EReal)) (i d : Fin 128) :
    trip.sl.v534 (F := Ideal) arg1 arg2 arg3 arg8 arg9 v0 rowIota X1 X2 X3 k f8 (ix2 i d) = ((out (qh q 256) (kh a b f 256) (lh a b f 256) (vh v 256) (T + i.val) d : ℝ) : EReal) := by
  unfold trip.sl.v534 trip.sl.v533 trip.sl.v532 trip.sl.v531 trip.sl.v530 trip.sl.cst_26 trip.sl.v529 trip.sl.v528
  refine (out_stage 256 (by decide) _ _ _ _ _ _ _ _ (fun i l => v (T + i.val) l) (fun i l => qqv (q (T + i.val) l) * Real.exp (cc a b f T i l)) (score2 arg1 arg2 arg9 v0 X1 X2 k a b q f T ha hb hq hf h64) hS (r2_val arg3 X3 k v T hv) (qe_val arg1 arg2 v0 X1 X2 k a b q f T ha hb hq hf) i d).trans ?_
  rw [out_add (qh q 256) (kh a b f 256) (lh a b f 256) (vh v 256) T 128 i d]
  rfl

/-- The state of head 2 after a chunk. -/
theorem new2 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ d κ, trip.sl.v527 (F := Ideal) arg8 f8 (ix2 d κ) = ((state (kh a b f 256) (lh a b f 256) (vh v 256) T κ d : ℝ) : EReal)) (d κ : Fin 128) :
    trip.sl.v541 (F := Ideal) arg2 arg3 arg8 v0 X2 X3 k f8 (ix2 d κ) = ((state (kh a b f 256) (lh a b f 256) (vh v 256) (T + 128) κ d : ℝ) : EReal) := by
  unfold trip.sl.v541 trip.sl.v540 trip.sl.cst_26 trip.sl.v539 trip.sl.v529 trip.sl.v537 trip.sl.v536 trip.sl.v535
  refine (state_stage 256 (by decide) _ _ _ _ _ _ _ _ (fun l => Real.exp (cc a b f T 127 l)) (fun i l => v (T + i.val) l) (fun i l => kkv (a l) (b l) (f (T + i.val) l) * Real.exp (cc a b f T 127 l - cc a b f T i l)) hS (el_val arg2 v0 X2 k a b f T ha hb hf) (r2_val arg3 X3 k v T hv) (kw_val arg2 v0 X2 k a b f T ha hb hf) d κ).trans ?_
  rw [state_add (kh a b f 256) (lh a b f 256) (vh v 256) T 128 (by decide) κ d]
  congr 1
  refine congrArg₂ (· + ·) ?_ (Finset.sum_congr rfl fun i _ => ?_)
  · exact mul_comm _ _
  · exact mul_comm _ _

set_option backward.isDefEq.respectTransparency false in
theorem put2 (d κ : Fin 128) : trip.sl.v544 (F := Ideal) arg2 arg3 arg8 v0 X2 X3 k f8 (ix3 0 d κ) = trip.sl.v541 (F := Ideal) arg2 arg3 arg8 v0 X2 X3 k f8 (ix2 d κ) := by
  unfold trip.sl.v544
  generalize trip.sl.v541 (F := Ideal) arg2 arg3 arg8 v0 X2 X3 k f8 = w
  pointwise

set_option backward.isDefEq.respectTransparency false in
/-- The normalised outputs of head 2. -/
theorem nrm2 (O : Fin 128 → Fin 128 → ℝ) (hO : ∀ i d, trip.sl.v534 (F := Ideal) arg1 arg2 arg3 arg8 arg9 v0 rowIota X1 X2 X3 k f8 (ix2 i d) = ((O i d : ℝ) : EReal)) (i d : Fin 128) :
    trip.sl.v554 (F := Ideal) arg1 arg2 arg3 arg8 arg9 v0 rowIota X1 X2 X3 k f8 (ix2 i d) = normed (O i) d := by
  unfold trip.sl.v554 trip.sl.v553 trip.sl.v552 trip.sl.v551 trip.sl.v492 trip.sl.cst_143 trip.sl.v549 trip.sl.v490 trip.sl.cst_142 trip.sl.v547 trip.sl.v546 trip.sl.v545
  generalize trip.sl.v534 (F := Ideal) arg1 arg2 arg3 arg8 arg9 v0 rowIota X1 X2 X3 k f8 = x at hO ⊢
  pointwise
  simp only [hO, ← EReal.coe_mul, coe_sum]
  rfl

set_option backward.isDefEq.respectTransparency false in
theorem st_read3 (d κ : Fin 128) : trip.sl.v556 (F := Ideal) arg8 f8 (ix2 d κ) = arg8.view.read (Elt Ideal) f8 (ix3 3 d κ) := by
  unfold trip.sl.v556 trip.sl.v555
  have hz : ∀ z : (Rect.unit (s := S4x128x128) ![3, 0, 0] S1x128x128.size inb_S4x128x128_S1x128x128_3_0_0).shape.Idx, (Rect.unit (s := S4x128x128) ![3, 0, 0] S1x128x128.size inb_S4x128x128_S1x128x128_3_0_0).idx z = ix3 3 (z 1) (z 2) := by
    intro z
    funext a
    match a with
    | ⟨0, _⟩ =>
      apply Fin.ext
      have h0 : (z 0).val < 1 := (z 0).isLt
      show 3 + 1 * (z 0).val = 3
      omega
    | ⟨1, _⟩ =>
      apply Fin.ext
      show 0 + 1 * (z 1).val = (z 1).val
      omega
    | ⟨2, _⟩ =>
      apply Fin.ext
      show 0 + 1 * (z 2).val = (z 2).val
      omega
  have hw : View.readAt (Elt Ideal) arg8.view (Rect.unit (s := S4x128x128) ![3, 0, 0] S1x128x128.size inb_S4x128x128_S1x128x128_3_0_0).toLoadRect f8 = fun z => arg8.view.read (Elt Ideal) f8 (ix3 3 (z 1) (z 2)) := by
    funext z
    rw [← hz z]; rfl
  rw [hw]
  pointwise

/-- The outputs of head 3 in a chunk, before the normalisation. -/
theorem out3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ d κ, trip.sl.v556 (F := Ideal) arg8 f8 (ix2 d κ) = ((state (kh a b f 384) (lh a b f 384) (vh v 384) T κ d : ℝ) : EReal)) (i d : Fin 128) :
    trip.sl.v563 (F := Ideal) arg1 arg2 arg3 arg8 arg9 v0 rowIota X1 X2 X3 k f8 (ix2 i d) = ((out (qh q 384) (kh a b f 384) (lh a b f 384) (vh v 384) (T + i.val) d : ℝ) : EReal) := by
  unfold trip.sl.v563 trip.sl.v562 trip.sl.v561 trip.sl.v560 trip.sl.v559 trip.sl.cst_26 trip.sl.v558 trip.sl.v557
  refine (out_stage 384 (by decide) _ _ _ _ _ _ _ _ (fun i l => v (T + i.val) l) (fun i l => qqv (q (T + i.val) l) * Real.exp (cc a b f T i l)) (score3 arg1 arg2 arg9 v0 X1 X2 k a b q f T ha hb hq hf h64) hS (r2_val arg3 X3 k v T hv) (qe_val arg1 arg2 v0 X1 X2 k a b q f T ha hb hq hf) i d).trans ?_
  rw [out_add (qh q 384) (kh a b f 384) (lh a b f 384) (vh v 384) T 128 i d]
  rfl

/-- The state of head 3 after a chunk. -/
theorem new3 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ d κ, trip.sl.v556 (F := Ideal) arg8 f8 (ix2 d κ) = ((state (kh a b f 384) (lh a b f 384) (vh v 384) T κ d : ℝ) : EReal)) (d κ : Fin 128) :
    trip.sl.v570 (F := Ideal) arg2 arg3 arg8 v0 X2 X3 k f8 (ix2 d κ) = ((state (kh a b f 384) (lh a b f 384) (vh v 384) (T + 128) κ d : ℝ) : EReal) := by
  unfold trip.sl.v570 trip.sl.v569 trip.sl.cst_26 trip.sl.v568 trip.sl.v558 trip.sl.v566 trip.sl.v565 trip.sl.v564
  refine (state_stage 384 (by decide) _ _ _ _ _ _ _ _ (fun l => Real.exp (cc a b f T 127 l)) (fun i l => v (T + i.val) l) (fun i l => kkv (a l) (b l) (f (T + i.val) l) * Real.exp (cc a b f T 127 l - cc a b f T i l)) hS (el_val arg2 v0 X2 k a b f T ha hb hf) (r2_val arg3 X3 k v T hv) (kw_val arg2 v0 X2 k a b f T ha hb hf) d κ).trans ?_
  rw [state_add (kh a b f 384) (lh a b f 384) (vh v 384) T 128 (by decide) κ d]
  congr 1
  refine congrArg₂ (· + ·) ?_ (Finset.sum_congr rfl fun i _ => ?_)
  · exact mul_comm _ _
  · exact mul_comm _ _

set_option backward.isDefEq.respectTransparency false in
theorem put3 (d κ : Fin 128) : trip.sl.v573 (F := Ideal) arg2 arg3 arg8 v0 X2 X3 k f8 (ix3 0 d κ) = trip.sl.v570 (F := Ideal) arg2 arg3 arg8 v0 X2 X3 k f8 (ix2 d κ) := by
  unfold trip.sl.v573
  generalize trip.sl.v570 (F := Ideal) arg2 arg3 arg8 v0 X2 X3 k f8 = w
  pointwise

set_option backward.isDefEq.respectTransparency false in
/-- The normalised outputs of head 3. -/
theorem nrm3 (O : Fin 128 → Fin 128 → ℝ) (hO : ∀ i d, trip.sl.v563 (F := Ideal) arg1 arg2 arg3 arg8 arg9 v0 rowIota X1 X2 X3 k f8 (ix2 i d) = ((O i d : ℝ) : EReal)) (i d : Fin 128) :
    trip.sl.v583 (F := Ideal) arg1 arg2 arg3 arg8 arg9 v0 rowIota X1 X2 X3 k f8 (ix2 i d) = normed (O i) d := by
  unfold trip.sl.v583 trip.sl.v582 trip.sl.v581 trip.sl.v580 trip.sl.v492 trip.sl.cst_143 trip.sl.v578 trip.sl.v490 trip.sl.cst_142 trip.sl.v576 trip.sl.v575 trip.sl.v574
  generalize trip.sl.v563 (F := Ideal) arg1 arg2 arg3 arg8 arg9 v0 rowIota X1 X2 X3 k f8 = x at hO ⊢
  pointwise
  simp only [hO, ← EReal.coe_mul, coe_sum]
  rfl

end chunk

end Cert.KernelIdeal.Val

end
-- ==== Proof.KOut.lean ====
/-
  The kernel's output block at exact arithmetic: over the chunks of a block the state scratch holds the recurrence's state, and a
  row of the output is the gate's value times the weighted normalisation of the recurrence's row.
-/
module

public import proofs.«01_k».proof.Proof.Heads
public import proofs.«01_k».proof.Proof.Body
public import Idealize.ShloMosaic.Lib.VecWindow

@[expose] public section

set_option maxRecDepth 16384
set_option maxHeartbeats 400000

noncomputable section

namespace Cert.KernelIdeal.Val

open Cert.KernelIdeal Cert.KernelIdeal.Gen Cert.KernelIdeal.Hand Cert.Spec
open Idealize.ShloMosaic Idealize.ShloMosaic.Tactic

/-- Row `t` of the recurrence of the head whose lanes start at `o`. -/
def rowOut (a b : Fin 512 → ℝ) (q f v : ℕ → Fin 512 → ℝ) (o t : ℕ) : Fin 128 → ℝ :=
  fun d => out (qh q o) (kh a b f o) (lh a b f o) (vh v o) t d

/-- The lane of a column within its head. -/
def sub128 (l : Fin 512) : Fin 128 := ⟨l.val % 128, Nat.mod_lt _ (by decide)⟩

/-- An entry of the result: the gate `g` times its sigmoid, times the normalised row of the recurrence, times the weight `w`. -/
def entry (a b : Fin 512 → ℝ) (q f v : ℕ → Fin 512 → ℝ) (t : ℕ) (l : Fin 512) (g w : EReal) : EReal :=
  g * Ideal.div 1 (1 + Ideal.exp (-g)) * (normed (rowOut a b q f v (128 * (l.val / 128)) t) (sub128 l) * w)

set_option backward.isDefEq.respectTransparency false in
theorem k0_pay108_zero (y : S4x128x128.Idx) : k0_pay108 (F := Ideal) y = 0 := by
  unfold k0_pay108
  pointwise

section chunk
variable (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S4x128x128 .f32) (harg8 : arg8.IsWhole) (arg9 : Memref sig .tc .vmem S128x512 .f32) (harg9 : arg9.IsWhole)
  (v0 : Vec Ideal S2x512 .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X6 : BufTy.Contents (Elt Ideal) arg6.view.ty)
  (k : Fin k0_t1_loop.trips) (f8 : BufTy.Contents (Elt Ideal) arg8.view.ty)
  (a b : Fin 512 → ℝ) (q f v : ℕ → Fin 512 → ℝ) (T : ℕ)

/-- The state's four pieces as a trip writes them, one per head. -/
theorem trip_L8 : (trip (F := Ideal) Variants.none 0 none i arg1 harg1 arg2 harg2 arg3 harg3 arg4 harg4 arg5 harg5 arg6 harg6 arg7 harg7 arg8 harg8 arg9 harg9 v0 rowIota X1 X2 X3 X4 X6 k).2.1 f8
      = [⟨Rect.unit (s := S4x128x128) ![3, 0, 0] S1x128x128.size inb_S4x128x128_S1x128x128_3_0_0, trip.sl.v573 arg2 arg3 arg8 v0 X2 X3 k f8⟩, ⟨Rect.unit (s := S4x128x128) ![2, 0, 0] S1x128x128.size inb_S4x128x128_S1x128x128_2_0_0, trip.sl.v544 arg2 arg3 arg8 v0 X2 X3 k f8⟩, ⟨Rect.unit (s := S4x128x128) ![1, 0, 0] S1x128x128.size inb_S4x128x128_S1x128x128_1_0_0, trip.sl.v515 arg2 arg3 arg8 v0 X2 X3 k f8⟩, ⟨Rect.unit (s := S4x128x128) ![0, 0, 0] S1x128x128.size inb_S4x128x128_S1x128x128_0_0_0, trip.sl.v486 arg2 arg3 arg8 v0 X2 X3 k f8⟩] := rfl

theorem head0 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ (h : Fin 4) (d κ : Fin 128), arg8.view.read (Elt Ideal) f8 (ix3 h d κ) = ((state (kh a b f (128 * h.val)) (lh a b f (128 * h.val)) (vh v (128 * h.val)) T κ d : ℝ) : EReal)) (j d : Fin 128) :
    trip.sl.v496 (F := Ideal) arg1 arg2 arg3 arg8 arg9 v0 rowIota X1 X2 X3 k f8 (ix2 j d) = normed (rowOut a b q f v 0 (T + j.val)) d :=
  nrm0 arg1 arg2 arg3 arg8 arg9 v0 X1 X2 X3 k f8 (fun j => rowOut a b q f v 0 (T + j.val))
    (fun j d => out0 arg1 arg2 arg3 arg8 arg9 v0 X1 X2 X3 k f8 a b q f v T ha hb hq hf hv h64 (fun d κ => (st_read0 arg8 f8 d κ).trans (hS 0 d κ)) j d) j d

theorem next0 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ (h : Fin 4) (d κ : Fin 128), arg8.view.read (Elt Ideal) f8 (ix3 h d κ) = ((state (kh a b f (128 * h.val)) (lh a b f (128 * h.val)) (vh v (128 * h.val)) T κ d : ℝ) : EReal)) (d κ : Fin 128) :
    trip.sl.v486 (F := Ideal) arg2 arg3 arg8 v0 X2 X3 k f8 (ix3 0 d κ) = ((state (kh a b f 0) (lh a b f 0) (vh v 0) (T + 128) κ d : ℝ) : EReal) :=
  (put0 arg2 arg3 arg8 v0 X2 X3 k f8 d κ).trans
    (new0 arg2 arg3 arg8 v0 X2 X3 k f8 a b f v T ha hb hf hv (fun d κ => (st_read0 arg8 f8 d κ).trans (hS 0 d κ)) d κ)

theorem head1 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ (h : Fin 4) (d κ : Fin 128), arg8.view.read (Elt Ideal) f8 (ix3 h d κ) = ((state (kh a b f (128 * h.val)) (lh a b f (128 * h.val)) (vh v (128 * h.val)) T κ d : ℝ) : EReal)) (j d : Fin 128) :
    trip.sl.v525 (F := Ideal) arg1 arg2 arg3 arg8 arg9 v0 rowIota X1 X2 X3 k f8 (ix2 j d) = normed (rowOut a b q f v 128 (T + j.val)) d :=
  nrm1 arg1 arg2 arg3 arg8 arg9 v0 X1 X2 X3 k f8 (fun j => rowOut a b q f v 128 (T + j.val))
    (fun j d => out1 arg1 arg2 arg3 arg8 arg9 v0 X1 X2 X3 k f8 a b q f v T ha hb hq hf hv h64 (fun d κ => (st_read1 arg8 f8 d κ).trans (hS 1 d κ)) j d) j d

theorem next1 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ (h : Fin 4) (d κ : Fin 128), arg8.view.read (Elt Ideal) f8 (ix3 h d κ) = ((state (kh a b f (128 * h.val)) (lh a b f (128 * h.val)) (vh v (128 * h.val)) T κ d : ℝ) : EReal)) (d κ : Fin 128) :
    trip.sl.v515 (F := Ideal) arg2 arg3 arg8 v0 X2 X3 k f8 (ix3 0 d κ) = ((state (kh a b f 128) (lh a b f 128) (vh v 128) (T + 128) κ d : ℝ) : EReal) :=
  (put1 arg2 arg3 arg8 v0 X2 X3 k f8 d κ).trans
    (new1 arg2 arg3 arg8 v0 X2 X3 k f8 a b f v T ha hb hf hv (fun d κ => (st_read1 arg8 f8 d κ).trans (hS 1 d κ)) d κ)

theorem head2 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ (h : Fin 4) (d κ : Fin 128), arg8.view.read (Elt Ideal) f8 (ix3 h d κ) = ((state (kh a b f (128 * h.val)) (lh a b f (128 * h.val)) (vh v (128 * h.val)) T κ d : ℝ) : EReal)) (j d : Fin 128) :
    trip.sl.v554 (F := Ideal) arg1 arg2 arg3 arg8 arg9 v0 rowIota X1 X2 X3 k f8 (ix2 j d) = normed (rowOut a b q f v 256 (T + j.val)) d :=
  nrm2 arg1 arg2 arg3 arg8 arg9 v0 X1 X2 X3 k f8 (fun j => rowOut a b q f v 256 (T + j.val))
    (fun j d => out2 arg1 arg2 arg3 arg8 arg9 v0 X1 X2 X3 k f8 a b q f v T ha hb hq hf hv h64 (fun d κ => (st_read2 arg8 f8 d κ).trans (hS 2 d κ)) j d) j d

theorem next2 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ (h : Fin 4) (d κ : Fin 128), arg8.view.read (Elt Ideal) f8 (ix3 h d κ) = ((state (kh a b f (128 * h.val)) (lh a b f (128 * h.val)) (vh v (128 * h.val)) T κ d : ℝ) : EReal)) (d κ : Fin 128) :
    trip.sl.v544 (F := Ideal) arg2 arg3 arg8 v0 X2 X3 k f8 (ix3 0 d κ) = ((state (kh a b f 256) (lh a b f 256) (vh v 256) (T + 128) κ d : ℝ) : EReal) :=
  (put2 arg2 arg3 arg8 v0 X2 X3 k f8 d κ).trans
    (new2 arg2 arg3 arg8 v0 X2 X3 k f8 a b f v T ha hb hf hv (fun d κ => (st_read2 arg8 f8 d κ).trans (hS 2 d κ)) d κ)

theorem head3 (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ (h : Fin 4) (d κ : Fin 128), arg8.view.read (Elt Ideal) f8 (ix3 h d κ) = ((state (kh a b f (128 * h.val)) (lh a b f (128 * h.val)) (vh v (128 * h.val)) T κ d : ℝ) : EReal)) (j d : Fin 128) :
    trip.sl.v583 (F := Ideal) arg1 arg2 arg3 arg8 arg9 v0 rowIota X1 X2 X3 k f8 (ix2 j d) = normed (rowOut a b q f v 384 (T + j.val)) d :=
  nrm3 arg1 arg2 arg3 arg8 arg9 v0 X1 X2 X3 k f8 (fun j => rowOut a b q f v 384 (T + j.val))
    (fun j d => out3 arg1 arg2 arg3 arg8 arg9 v0 X1 X2 X3 k f8 a b q f v T ha hb hq hf hv h64 (fun d κ => (st_read3 arg8 f8 d κ).trans (hS 3 d κ)) j d) j d

theorem next3 (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ (h : Fin 4) (d κ : Fin 128), arg8.view.read (Elt Ideal) f8 (ix3 h d κ) = ((state (kh a b f (128 * h.val)) (lh a b f (128 * h.val)) (vh v (128 * h.val)) T κ d : ℝ) : EReal)) (d κ : Fin 128) :
    trip.sl.v573 (F := Ideal) arg2 arg3 arg8 v0 X2 X3 k f8 (ix3 0 d κ) = ((state (kh a b f 384) (lh a b f 384) (vh v 384) (T + 128) κ d : ℝ) : EReal) :=
  (put3 arg2 arg3 arg8 v0 X2 X3 k f8 d κ).trans
    (new3 arg2 arg3 arg8 v0 X2 X3 k f8 a b f v T ha hb hf hv (fun d κ => (st_read3 arg8 f8 d κ).trans (hS 3 d κ)) d κ)

/-- A trip takes the state of every head from `T` rows to `T + 128`. -/
theorem next_state (ha : ∀ l, v0 (ix2 0 l) = ((a l : ℝ) : EReal)) (hb : ∀ l, v0 (ix2 1 l) = ((b l : ℝ) : EReal)) (hf : ∀ i l, rows arg2 X2 k (ix2 i l) = ((f (T + i.val) l : ℝ) : EReal)) (hv : ∀ i l, rows arg3 X3 k (ix2 i l) = ((v (T + i.val) l : ℝ) : EReal)) (hS : ∀ (h : Fin 4) (d κ : Fin 128), arg8.view.read (Elt Ideal) f8 (ix3 h d κ) = ((state (kh a b f (128 * h.val)) (lh a b f (128 * h.val)) (vh v (128 * h.val)) T κ d : ℝ) : EReal)) (h : Fin 4) (d κ : Fin 128) :
    arg8.view.read (Elt Ideal) (arg8.view.writes (Elt Ideal) f8 ((trip (F := Ideal) Variants.none 0 none i arg1 harg1 arg2 harg2 arg3 harg3 arg4 harg4 arg5 harg5 arg6 harg6 arg7 harg7 arg8 harg8 arg9 harg9 v0 rowIota X1 X2 X3 X4 X6 k).2.1 f8)) (ix3 h d κ)
      = ((state (kh a b f (128 * h.val)) (lh a b f (128 * h.val)) (vh v (128 * h.val)) (T + 128) κ d : ℝ) : EReal) := by
  rw [trip_L8]
  match h with
  | ⟨0, _⟩ =>
    exact (View.read_writes_cons_unit_of_not_mem arg8.view _ _ _ _ _ (rfl : ![3, 0, 0] = ![3, 0, 0]) 0 (.inl (show 0 < 3 by decide))).trans <|
        (View.read_writes_cons_unit_of_not_mem arg8.view _ _ _ _ _ (rfl : ![2, 0, 0] = ![2, 0, 0]) 0 (.inl (show 0 < 2 by decide))).trans <|
        (View.read_writes_cons_unit_of_not_mem arg8.view _ _ _ _ _ (rfl : ![1, 0, 0] = ![1, 0, 0]) 0 (.inl (show 0 < 1 by decide))).trans <|
        (View.read_writes_cons_unit_of_mem arg8.view _ _ _ _ (ix3 (n0 := 4) (n1 := 128) (n2 := 128) 0 d κ) (ix3 (n0 := 1) (n1 := 128) (n2 := 128) 0 d κ) (rfl : ![0, 0, 0] = ![0, 0, 0]) (fun e => by
          match e with
          | ⟨0, _⟩ => rfl
          | ⟨1, _⟩ => exact (Nat.zero_add _).symm
          | ⟨2, _⟩ => exact (Nat.zero_add _).symm)).trans (next0 arg2 arg3 arg8 v0 X2 X3 k f8 a b f v T ha hb hf hv hS d κ)
  | ⟨1, _⟩ =>
    exact (View.read_writes_cons_unit_of_not_mem arg8.view _ _ _ _ _ (rfl : ![3, 0, 0] = ![3, 0, 0]) 0 (.inl (show 1 < 3 by decide))).trans <|
        (View.read_writes_cons_unit_of_not_mem arg8.view _ _ _ _ _ (rfl : ![2, 0, 0] = ![2, 0, 0]) 0 (.inl (show 1 < 2 by decide))).trans <|
        (View.read_writes_cons_unit_of_mem arg8.view _ _ _ _ (ix3 (n0 := 4) (n1 := 128) (n2 := 128) 1 d κ) (ix3 (n0 := 1) (n1 := 128) (n2 := 128) 0 d κ) (rfl : ![1, 0, 0] = ![1, 0, 0]) (fun e => by
          match e with
          | ⟨0, _⟩ => rfl
          | ⟨1, _⟩ => exact (Nat.zero_add _).symm
          | ⟨2, _⟩ => exact (Nat.zero_add _).symm)).trans (next1 arg2 arg3 arg8 v0 X2 X3 k f8 a b f v T ha hb hf hv hS d κ)
  | ⟨2, _⟩ =>
    exact (View.read_writes_cons_unit_of_not_mem arg8.view _ _ _ _ _ (rfl : ![3, 0, 0] = ![3, 0, 0]) 0 (.inl (show 2 < 3 by decide))).trans <|
        (View.read_writes_cons_unit_of_mem arg8.view _ _ _ _ (ix3 (n0 := 4) (n1 := 128) (n2 := 128) 2 d κ) (ix3 (n0 := 1) (n1 := 128) (n2 := 128) 0 d κ) (rfl : ![2, 0, 0] = ![2, 0, 0]) (fun e => by
          match e with
          | ⟨0, _⟩ => rfl
          | ⟨1, _⟩ => exact (Nat.zero_add _).symm
          | ⟨2, _⟩ => exact (Nat.zero_add _).symm)).trans (next2 arg2 arg3 arg8 v0 X2 X3 k f8 a b f v T ha hb hf hv hS d κ)
  | ⟨3, _⟩ =>
    exact (View.read_writes_cons_unit_of_mem arg8.view _ _ _ _ (ix3 (n0 := 4) (n1 := 128) (n2 := 128) 3 d κ) (ix3 (n0 := 1) (n1 := 128) (n2 := 128) 0 d κ) (rfl : ![3, 0, 0] = ![3, 0, 0]) (fun e => by
          match e with
          | ⟨0, _⟩ => rfl
          | ⟨1, _⟩ => exact (Nat.zero_add _).symm
          | ⟨2, _⟩ => exact (Nat.zero_add _).symm)).trans (next3 arg2 arg3 arg8 v0 X2 X3 k f8 a b f v T ha hb hf hv hS d κ)

/-- The heads' rows side by side. -/
theorem cat_row (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ (h : Fin 4) (d κ : Fin 128), arg8.view.read (Elt Ideal) f8 (ix3 h d κ) = ((state (kh a b f (128 * h.val)) (lh a b f (128 * h.val)) (vh v (128 * h.val)) T κ d : ℝ) : EReal)) (j : Fin 128) (l : Fin 512) :
    trip.sl.v584 (F := Ideal) arg1 arg2 arg3 arg8 arg9 v0 rowIota X1 X2 X3 k f8 (ix2 j l) = normed (rowOut a b q f v (128 * (l.val / 128)) (T + j.val)) (sub128 l) := by
  unfold trip.sl.v584
  have h0 := head0 arg1 arg2 arg3 arg8 arg9 v0 X1 X2 X3 k f8 a b q f v T ha hb hq hf hv h64 hS j
  have h1 := head1 arg1 arg2 arg3 arg8 arg9 v0 X1 X2 X3 k f8 a b q f v T ha hb hq hf hv h64 hS j
  have h2 := head2 arg1 arg2 arg3 arg8 arg9 v0 X1 X2 X3 k f8 a b q f v T ha hb hq hf hv h64 hS j
  have h3 := head3 arg1 arg2 arg3 arg8 arg9 v0 X1 X2 X3 k f8 a b q f v T ha hb hq hf hv h64 hS j
  generalize trip.sl.v496 (F := Ideal) arg1 arg2 arg3 arg8 arg9 v0 rowIota X1 X2 X3 k f8 = w0 at h0 ⊢
  generalize trip.sl.v525 (F := Ideal) arg1 arg2 arg3 arg8 arg9 v0 rowIota X1 X2 X3 k f8 = w1 at h1 ⊢
  generalize trip.sl.v554 (F := Ideal) arg1 arg2 arg3 arg8 arg9 v0 rowIota X1 X2 X3 k f8 = w2 at h2 ⊢
  generalize trip.sl.v583 (F := Ideal) arg1 arg2 arg3 arg8 arg9 v0 rowIota X1 X2 X3 k f8 = w3 at h3 ⊢
  have hl := l.isLt
  refine (concatenate_ofFn_apply (t := S128x512) (s₁ := S128x128) 1 (fun n : Fin 4 => ![w0, w1, w2, w3] n) _ rfl 128 rfl (ix2 j l)
    ⟨l.val / 128, by omega⟩ rfl (ix2 j (sub128 l)) rfl ?_).trans ?_
  · intro b hb
    match b with
    | ⟨0, _⟩ => rfl
    | ⟨1, _⟩ => exact absurd rfl hb
  · have hh : ∀ n : Fin 4, (![w0, w1, w2, w3] n) (ix2 j (sub128 l)) = normed (rowOut a b q f v (128 * n.val) (T + j.val)) (sub128 l) := by
      intro n
      match n with
      | ⟨0, _⟩ => exact h0 _
      | ⟨1, _⟩ => exact h1 _
      | ⟨2, _⟩ => exact h2 _
      | ⟨3, _⟩ => exact h3 _
    exact hh ⟨l.val / 128, by omega⟩

set_option backward.isDefEq.respectTransparency false in
/-- A row of the output block. -/
theorem out_row (ha : ∀ l, v0 (ix2 0 l) = ((a l : ℝ) : EReal)) (hb : ∀ l, v0 (ix2 1 l) = ((b l : ℝ) : EReal)) (hq : ∀ i l, rows arg1 X1 k (ix2 i l) = ((q (T + i.val) l : ℝ) : EReal)) (hf : ∀ i l, rows arg2 X2 k (ix2 i l) = ((f (T + i.val) l : ℝ) : EReal)) (hv : ∀ i l, rows arg3 X3 k (ix2 i l) = ((v (T + i.val) l : ℝ) : EReal)) (h64 : ∀ t l, f t l ≤ 64) (hS : ∀ (h : Fin 4) (d κ : Fin 128), arg8.view.read (Elt Ideal) f8 (ix3 h d κ) = ((state (kh a b f (128 * h.val)) (lh a b f (128 * h.val)) (vh v (128 * h.val)) T κ d : ℝ) : EReal)) (j : Fin 128) (l : Fin 512) :
    outTrip (F := Ideal) arg1 arg2 arg3 arg4 arg6 arg8 arg9 v0 rowIota X1 X2 X3 X4 X6 k f8 (ix2 j l)
      = entry a b q f v (T + j.val) l (rows arg4 X4 k (ix2 j l)) (arg6.view.read (Elt Ideal) X6 (ix2 0 l)) := by
  have hc := cat_row arg1 arg2 arg3 arg8 arg9 v0 X1 X2 X3 k f8 a b q f v T ha hb hq hf hv h64 hS j l
  unfold outTrip trip.sl.v600 trip.sl.v599 trip.sl.v598 trip.sl.v597 trip.sl.v595 trip.sl.v593 trip.sl.v592 trip.sl.v588 trip.sl.v587 trip.sl.v586
  unfold entry
  rw [← hc]
  generalize trip.sl.v584 (F := Ideal) arg1 arg2 arg3 arg8 arg9 v0 rowIota X1 X2 X3 k f8 = w
  have hr : View.readAt (Elt Ideal) arg6.view (Rect.unit (s := S1x512) ![0, 0] S1x512.size inb_S1x512_S1x512_0_0).toLoadRect X6 = arg6.view.read (Elt Ideal) X6 :=
    View.readAt_full arg6.view X6 inb_S1x512_S1x512_0_0
  rw [hr]
  generalize arg6.view.read (Elt Ideal) X6 = w6
  generalize hg : View.readAt (Elt Ideal) arg4.view (Rect.unit (s := S2048x512) (k0_off1 k) S128x512.size (k0_off1_inb k)).toLoadRect X4 = g
  have hg' : rows arg4 X4 k = g := hg
  rw [hg']
  have h1 : trip.sl.v594 (F := Ideal) (ix2 j l) = 1 := by
    unfold trip.sl.v594 trip.sl.cst_182
    pointwise
  have h0 : trip.sl.v117 (F := Ideal) (ix2 j l) = 0 := by
    unfold trip.sl.v117 trip.sl.cst_27
    pointwise
  pointwise
  rw [h1, h0, zero_sub]

/-- A row of a chunk of a window is the window's row at the chunk's offset. -/
theorem rows_at (arg : Memref sig .tc .vmem S2048x512 .f32) (X : BufTy.Contents (Elt Ideal) arg.view.ty) (k : Fin k0_t1_loop.trips) (j : Fin 128) (l : Fin 512) :
    rows arg X k (ix2 j l) = arg.view.read (Elt Ideal) X (ix2 ⟨128 * k.val + j.val, by have h1 : k.val < 16 := trips16 ▸ k.isLt; have := j.isLt; omega⟩ l) := by
  have h0 := congrFun (k0_off1_eq k) 0
  have h1 := congrFun (k0_off1_eq k) 1
  have hz : (Rect.unit (s := S2048x512) (k0_off1 k) S128x512.size (k0_off1_inb k)).idx (ix2 j l) = ix2 ⟨128 * k.val + j.val, by have h1 : k.val < 16 := trips16 ▸ k.isLt; have := j.isLt; omega⟩ l := funext fun e => Fin.ext ?_
  · rw [← hz]; rfl
  match e with
  | ⟨0, _⟩ =>
    show k0_off1 k 0 + 1 * j.val = 128 * k.val + j.val
    rw [h0]; show 128 * k.val + 1 * j.val = _; omega
  | ⟨1, _⟩ =>
    show k0_off1 k 1 + 1 * l.val = l.val
    rw [h1]; show 0 + 1 * l.val = _; omega

/-- The state scratch is zero when the first chunk starts. -/
theorem read_G0 (y : S4x128x128.Idx) : arg8.view.read (Elt Ideal) (G0 (F := Ideal) arg8) y = 0 := by
  unfold G0
  rw [View.read_writes_full]
  exact k0_pay108_zero y

variable (hX1 : ∀ (r : Fin 2048) l, arg1.view.read (Elt Ideal) X1 (ix2 r l) = ((q r.val l : ℝ) : EReal))
  (hX2 : ∀ (r : Fin 2048) l, arg2.view.read (Elt Ideal) X2 (ix2 r l) = ((f r.val l : ℝ) : EReal))
  (hX3 : ∀ (r : Fin 2048) l, arg3.view.read (Elt Ideal) X3 (ix2 r l) = ((v r.val l : ℝ) : EReal))

include hX2 hX3 in
/-- Before trip `k` the state scratch holds the recurrence's state after `128 k` rows. -/
theorem st8_read (ha : ∀ l, v0 (ix2 0 l) = ((a l : ℝ) : EReal)) (hb : ∀ l, v0 (ix2 1 l) = ((b l : ℝ) : EReal)) : ∀ k : ℕ, k ≤ 16 → ∀ (h : Fin 4) (d κ : Fin 128),
    arg8.view.read (Elt Ideal) (st8 i arg1 harg1 arg2 harg2 arg3 harg3 arg4 harg4 arg5 harg5 arg6 harg6 arg7 harg7 arg8 harg8 arg9 harg9 v0 rowIota X1 X2 X3 X4 X6 (G0 (F := Ideal) arg8) k) (ix3 h d κ)
      = ((state (kh a b f (128 * h.val)) (lh a b f (128 * h.val)) (vh v (128 * h.val)) (128 * k) κ d : ℝ) : EReal) := by
  intro k
  induction k with
  | zero =>
    intro _ h d κ
    rw [state_zero]
    exact (read_G0 arg8 _).trans c0
  | succ k ih =>
    intro hk h d κ
    have hk' : k < k0_t1_loop.trips := by rw [trips16]; omega
    rw [st8_succ 0 i arg1 harg1 arg2 harg2 arg3 harg3 arg4 harg4 arg5 harg5 arg6 harg6 arg7 harg7 arg8 harg8 arg9 harg9 v0 rowIota X1 X2 X3 X4 X6 (G0 (F := Ideal) arg8) ⟨k, hk'⟩]
    refine (next_state i arg1 harg1 arg2 harg2 arg3 harg3 arg4 harg4 arg5 harg5 arg6 harg6 arg7 harg7 arg8 harg8 arg9 harg9 v0 X1 X2 X3 X4 X6 ⟨k, hk'⟩ (st8 i arg1 harg1 arg2 harg2 arg3 harg3 arg4 harg4 arg5 harg5 arg6 harg6 arg7 harg7 arg8 harg8 arg9 harg9 v0 rowIota X1 X2 X3 X4 X6 (G0 (F := Ideal) arg8) k) a b f v (128 * k) ha hb
      (fun i l => (rows_at arg2 X2 ⟨k, hk'⟩ i l).trans (hX2 _ l)) (fun i l => (rows_at arg3 X3 ⟨k, hk'⟩ i l).trans (hX3 _ l)) (ih (by omega)) h d κ).trans ?_
    rw [show 128 * (k + 1) = 128 * k + 128 by omega]

include hX1 hX2 hX3 in
/-- The output block, entry by entry. -/
theorem outBlk_val (ha : ∀ l, v0 (ix2 0 l) = ((a l : ℝ) : EReal)) (hb : ∀ l, v0 (ix2 1 l) = ((b l : ℝ) : EReal)) (h64 : ∀ t l, f t l ≤ 64) (r : Fin 2048) (l : Fin 512) :
    outBlk (F := Ideal) i arg1 harg1 arg2 harg2 arg3 harg3 arg4 harg4 arg5 harg5 arg6 harg6 arg7 harg7 arg8 harg8 arg9 harg9 v0 rowIota X1 X2 X3 X4 X6 (ix2 r l)
      = entry a b q f v r.val l (arg4.view.read (Elt Ideal) X4 (ix2 r l)) (arg6.view.read (Elt Ideal) X6 (ix2 0 l)) := by
  have hr := r.isLt
  have hk : (chunkOf (ix2 r l)).val = r.val / 128 := rfl
  have hk2 : (chunkOf (ix2 r l)).val ≤ 16 := by rw [hk]; omega
  unfold outBlk
  generalize hK : chunkOf (ix2 r l) = K at hk hk2 ⊢
  have hy : rowIn (ix2 r l) = ix2 (⟨r.val % 128, Nat.mod_lt _ (by decide)⟩ : Fin 128) l := rfl
  rw [hy]
  refine (out_row arg1 arg2 arg3 arg4 arg6 arg8 arg9 v0 X1 X2 X3 X4 X6 K _ a b q f v (128 * K.val) ha hb
    (fun i l => (rows_at arg1 X1 K i l).trans (hX1 _ l)) (fun i l => (rows_at arg2 X2 K i l).trans (hX2 _ l)) (fun i l => (rows_at arg3 X3 K i l).trans (hX3 _ l)) h64
    (st8_read i arg1 harg1 arg2 harg2 arg3 harg3 arg4 harg4 arg5 harg5 arg6 harg6 arg7 harg7 arg8 harg8 arg9 harg9 v0 X1 X2 X3 X4 X6 a b f v hX2 hX3 ha hb K.val hk2) _ l).trans ?_
  rw [rows_at arg4 X4 K]
  have e : 128 * K.val + r.val % 128 = r.val := by rw [hk]; omega
  simp only [e]

end chunk

end Cert.KernelIdeal.Val

end
-- ==== Proof.KVal.lean ====
/-
  The kernel's result array at exact arithmetic, in closed form over its three arguments.
-/
module

public import proofs.«01_k».proof.Proof.KOut
public import Idealize.ShloMosaic.Lib.Pipeline.ValueKit

@[expose] public section

set_option maxRecDepth 16384
set_option maxHeartbeats 400000

noncomputable section

namespace Cert.KernelIdeal.Val

open Cert.KernelIdeal Cert.KernelIdeal.Gen Cert.KernelIdeal.Hand Cert.Spec
open Idealize.ShloMosaic Idealize.ShloMosaic.TcCoe Idealize.ShloMosaic.Tactic Idealize.SL.Sem
open Idealize.ShloMosaic.Pipeline (Dat Cfg Window)

/-- Row `t` of sequence `b`, 512 columns from `off` on, of the combined projection. -/
def col (A : FVec Ideal S16384x6912 .f32) (off b : ℕ) (t : ℕ) (l : Fin 512) : ℝ :=
  (A (ix2 (Fin.ofNat 16384 (2048 * b + t)) (Fin.ofNat 6912 (off + l.val)))).toReal

/-- A row of the raw lower bounds. -/
def bound (B : FVec Ideal S2x512 .f32) (i : Fin 2) (l : Fin 512) : ℝ := (B (ix2 i l)).toReal

/-- The result, entry by entry, over the combined projection, the raw lower bounds and the norm weights. -/
def result (A : FVec Ideal S16384x6912 .f32) (B W : FVec Ideal S2x512 .f32) : FVec Ideal S16384x512 .bf16 := fun y =>
  entry (bound B 0) (bound B 1) (col A 4608 ((y 0).val / 2048)) (col A 5120 ((y 0).val / 2048)) (col A 5632 ((y 0).val / 2048))
    ((y 0).val % 2048) (y 1) (A (ix2 (y 0) (Fin.ofNat 6912 (6144 + (y 1).val)))) (W (ix2 1 (y 1)))

/-- What the precondition gives: the columns read as queries, forget gates and values, and the lower bounds, are real numbers, and
    no forget-gate entry is above 64. -/
structure Good (A : FVec Ideal S16384x6912 .f32) (B : FVec Ideal S2x512 .f32) : Prop where
  real : ∀ (r : Fin 16384) (n : Fin 6912), 4608 ≤ n.val → n.val < 6144 → A (ix2 r n) = (((A (ix2 r n)).toReal : ℝ) : EReal)
  bnd : ∀ i l, B (ix2 i l) = (((B (ix2 i l)).toReal : ℝ) : EReal)
  le64 : ∀ (r : Fin 16384) (n : Fin 6912), 5120 ≤ n.val → n.val < 5632 → (A (ix2 r n)).toReal ≤ 64

variable (m : (ℓ : Loc nD τ sig) → Buf (Elt Ideal) ℓ)

theorem idx : ∀ t : Fin cfg0.N, win0_0.index t = ![t.val, 9] ∧ win0_1.index t = ![t.val, 10] ∧ win0_2.index t = ![t.val, 11] ∧ win0_3.index t = ![t.val, 12]
    ∧ win0_4.index t = ![0, 0] ∧ win0_5.index t = ![0, 0] ∧ win0_6.index t = ![t.val, 0] :=
  (by decide +kernel : ∀ t : Fin grid0.N, _)

/-- A block of the queries at coordinates. -/
theorem blk0 (c : Dev nD) (t : Fin cfg0.N) (r : Fin 2048) (l : Fin 512) :
    X0_0 m c t (ix2 r l) = (m ((c : Thread nD τ).loc main_arg0)) (ix2 (Fin.ofNat 16384 (2048 * t.val + r.val)) (Fin.ofNat 6912 (4608 + l.val))) := by
  have ht : t.val < 8 := lt_of_lt_of_eq t.isLt (by decide)
  have hr := r.isLt
  have hl := l.isLt
  unfold X0_0
  unfold Pipeline.Window.fill
  rw [dif_pos (moved0_0 t _)]
  refine (congrFun (V_main_arg0 m c) _).trans (congrArg (m ((c : Thread nD τ).loc main_arg0)) (funext fun a => Fin.ext ?_))
  match a with
  | ⟨0, _⟩ =>
    show _ = (2048 * t.val + r.val) % 16384
    blk_simp [idx t]
    show t.val * 2048 + r.val = _
    omega
  | ⟨1, _⟩ =>
    show _ = (4608 + l.val) % 6912
    blk_simp [idx t]
    show 9 * 512 + l.val = _
    omega

/-- A block of the forget gates at coordinates. -/
theorem blk1 (c : Dev nD) (t : Fin cfg0.N) (r : Fin 2048) (l : Fin 512) :
    X0_1 m c t (ix2 r l) = (m ((c : Thread nD τ).loc main_arg0)) (ix2 (Fin.ofNat 16384 (2048 * t.val + r.val)) (Fin.ofNat 6912 (5120 + l.val))) := by
  have ht : t.val < 8 := lt_of_lt_of_eq t.isLt (by decide)
  have hr := r.isLt
  have hl := l.isLt
  unfold X0_1
  unfold Pipeline.Window.fill
  rw [dif_pos (moved0_1 t _)]
  refine (congrFun (V_main_arg0 m c) _).trans (congrArg (m ((c : Thread nD τ).loc main_arg0)) (funext fun a => Fin.ext ?_))
  match a with
  | ⟨0, _⟩ =>
    show _ = (2048 * t.val + r.val) % 16384
    blk_simp [idx t]
    show t.val * 2048 + r.val = _
    omega
  | ⟨1, _⟩ =>
    show _ = (5120 + l.val) % 6912
    blk_simp [idx t]
    show 10 * 512 + l.val = _
    omega

/-- A block of the values at coordinates. -/
theorem blk2 (c : Dev nD) (t : Fin cfg0.N) (r : Fin 2048) (l : Fin 512) :
    X0_2 m c t (ix2 r l) = (m ((c : Thread nD τ).loc main_arg0)) (ix2 (Fin.ofNat 16384 (2048 * t.val + r.val)) (Fin.ofNat 6912 (5632 + l.val))) := by
  have ht : t.val < 8 := lt_of_lt_of_eq t.isLt (by decide)
  have hr := r.isLt
  have hl := l.isLt
  unfold X0_2
  unfold Pipeline.Window.fill
  rw [dif_pos (moved0_2 t _)]
  refine (congrFun (V_main_arg0 m c) _).trans (congrArg (m ((c : Thread nD τ).loc main_arg0)) (funext fun a => Fin.ext ?_))
  match a with
  | ⟨0, _⟩ =>
    show _ = (2048 * t.val + r.val) % 16384
    blk_simp [idx t]
    show t.val * 2048 + r.val = _
    omega
  | ⟨1, _⟩ =>
    show _ = (5632 + l.val) % 6912
    blk_simp [idx t]
    show 11 * 512 + l.val = _
    omega

/-- A block of the output gate at coordinates. -/
theorem blk3 (c : Dev nD) (t : Fin cfg0.N) (r : Fin 2048) (l : Fin 512) :
    X0_3 m c t (ix2 r l) = (m ((c : Thread nD τ).loc main_arg0)) (ix2 (Fin.ofNat 16384 (2048 * t.val + r.val)) (Fin.ofNat 6912 (6144 + l.val))) := by
  have ht : t.val < 8 := lt_of_lt_of_eq t.isLt (by decide)
  have hr := r.isLt
  have hl := l.isLt
  unfold X0_3
  unfold Pipeline.Window.fill
  rw [dif_pos (moved0_3 t _)]
  refine (congrFun (V_main_arg0 m c) _).trans (congrArg (m ((c : Thread nD τ).loc main_arg0)) (funext fun a => Fin.ext ?_))
  match a with
  | ⟨0, _⟩ =>
    show _ = (2048 * t.val + r.val) % 16384
    blk_simp [idx t]
    show t.val * 2048 + r.val = _
    omega
  | ⟨1, _⟩ =>
    show _ = (6144 + l.val) % 6912
    blk_simp [idx t]
    show 12 * 512 + l.val = _
    omega

/-- The lower bounds' window is the whole array. -/
theorem blk4 (c : Dev nD) (t : Fin cfg0.N) (i : Fin 2) (l : Fin 512) : iblk m c 4 t (ix2 i l) = (m ((c : Thread nD τ).loc main_arg1)) (ix2 i l) := by
  unfold iblk
  refine (congrFun (V_main_arg1 m c) _).trans (congrArg (m ((c : Thread nD τ).loc main_arg1)) (funext fun a => Fin.ext ?_))
  match a with
  | ⟨0, _⟩ =>
    show _ = i.val
    blk_simp [idx t]
  | ⟨1, _⟩ =>
    show _ = l.val
    blk_simp [idx t]

set_option backward.isDefEq.respectTransparency false in
/-- The norm weights' operand is row 1 of the weights. -/
theorem weights (c : Dev nD) (l : Fin 512) : V m c main_v2 (ix2 0 l) = (m ((c : Thread nD τ).loc main_arg2)) (ix2 1 l) := by
  entry_read
  pointwise

/-- The norm weights' window is row 1 of the weights. -/
theorem blk5 (c : Dev nD) (t : Fin cfg0.N) (l : Fin 512) : iblk m c 5 t (ix2 0 l) = (m ((c : Thread nD τ).loc main_arg2)) (ix2 1 l) := by
  refine Eq.trans ?_ (weights m c l)
  unfold iblk
  refine congrArg (V m c main_v2) (funext fun a => Fin.ext ?_)
  match a with
  | ⟨0, _⟩ =>
    show _ = (0 : Fin 1).val
    blk_simp [idx t]
  | ⟨1, _⟩ =>
    show _ = l.val
    blk_simp [idx t]

/-- What the body leaves at a grid point, entry by entry. -/
theorem outAt_val (c : Dev nD) (t : Fin cfg0.N) (h : Good (m ((c : Thread nD τ).loc main_arg0)) (m ((c : Thread nD τ).loc main_arg1))) (r : Fin 2048) (l : Fin 512) :
    outAt m c t (ix2 r l) = entry (bound (m ((c : Thread nD τ).loc main_arg1)) 0) (bound (m ((c : Thread nD τ).loc main_arg1)) 1)
      (col (m ((c : Thread nD τ).loc main_arg0)) 4608 t.val) (col (m ((c : Thread nD τ).loc main_arg0)) 5120 t.val) (col (m ((c : Thread nD τ).loc main_arg0)) 5632 t.val)
      r.val l ((m ((c : Thread nD τ).loc main_arg0)) (ix2 (Fin.ofNat 16384 (2048 * t.val + r.val)) (Fin.ofNat 6912 (6144 + l.val)))) ((m ((c : Thread nD τ).loc main_arg2)) (ix2 1 l)) := by
  have hcol : ∀ (off : ℕ), 4608 ≤ off → off + 512 ≤ 6144 → ∀ (n : ℕ) (l : Fin 512),
      (m ((c : Thread nD τ).loc main_arg0)) (ix2 (Fin.ofNat 16384 (2048 * t.val + n)) (Fin.ofNat 6912 (off + l.val))) = ((col (m ((c : Thread nD τ).loc main_arg0)) off t.val n l : ℝ) : EReal) := by
    intro off h1 h2 n l
    have hl := l.isLt
    have hv : (Fin.ofNat 6912 (off + l.val)).val = off + l.val := Nat.mod_eq_of_lt (by omega)
    exact h.real _ _ (by omega) (by omega)
  have hlb : ∀ i l, (ms0_4 t).view.readAt (Elt Ideal) (Rect.unit (s := S2x512) ![0, 0] S2x512.size inb_S2x512_S2x512_0_0).toLoadRect ((ms0_4 t).view.rep (iblk m c 4 t)) (ix2 i l)
      = ((bound (m ((c : Thread nD τ).loc main_arg1)) i l : ℝ) : EReal) := by
    intro i l
    rw [View.readAt_full]
    exact (congrFun (View.read_rep _ _) _).trans ((blk4 m c t i l).trans (h.bnd i l))
  unfold outAt
  refine (outBlk_val _ _ _ _ _ _ _ _ _ _ _ _ _ _ _ _ _ _ _ _ _ _ _ _ _
    (bound (m ((c : Thread nD τ).loc main_arg1)) 0) (bound (m ((c : Thread nD τ).loc main_arg1)) 1)
      (col (m ((c : Thread nD τ).loc main_arg0)) 4608 t.val) (col (m ((c : Thread nD τ).loc main_arg0)) 5120 t.val) (col (m ((c : Thread nD τ).loc main_arg0)) 5632 t.val)
    (fun r l => (congrFun (View.read_rep _ _) _).trans ((blk0 m c t r l).trans (hcol 4608 (by decide) (by decide) r.val l)))
    (fun r l => (congrFun (View.read_rep _ _) _).trans ((blk1 m c t r l).trans (hcol 5120 (by decide) (by decide) r.val l)))
    (fun r l => (congrFun (View.read_rep _ _) _).trans ((blk2 m c t r l).trans (hcol 5632 (by decide) (by decide) r.val l)))
    (hlb 0) (hlb 1) ?_ r l).trans ?_
  · intro n l
    have hl := l.isLt
    have hv : (Fin.ofNat 6912 (5120 + l.val)).val = 5120 + l.val := Nat.mod_eq_of_lt (by omega)
    exact h.le64 _ _ (by omega) (by omega)
  · rw [congrFun (View.read_rep _ _) _, congrFun (View.read_rep _ _) _]
    exact congrArg₂ (entry _ _ _ _ _ _ _) (blk3 m c t r l) (blk5 m c t l)

/-- An entry of the closed form at the row and lane of a block. -/
theorem result_at (A : FVec Ideal S16384x6912 .f32) (B W : FVec Ideal S2x512 .f32) (t : ℕ) (r : Fin 2048) (l : Fin 512) (z : S16384x512.Idx)
    (e0 : (z 0).val = 2048 * t + r.val) (e1 : (z 1).val = l.val) (ht : t < 8) :
    entry (bound B 0) (bound B 1) (col A 4608 t) (col A 5120 t) (col A 5632 t) r.val l
      (A (ix2 (Fin.ofNat 16384 (2048 * t + r.val)) (Fin.ofNat 6912 (6144 + l.val)))) (W (ix2 1 l)) = result A B W z := by
  have hr := r.isLt
  have h1 : (z 0).val / 2048 = t := by omega
  have h2 : (z 0).val % 2048 = r.val := by omega
  have h3 : z 1 = l := Fin.ext e1
  have h4 : z 0 = Fin.ofNat 16384 (2048 * t + r.val) := Fin.ext (by rw [e0]; exact (Nat.mod_eq_of_lt (by omega)).symm)
  unfold result
  rw [h1, h2, h3, h4]

/-- The result array after the run. -/
theorem final (c : Dev nD) (h : Good (m ((c : Thread nD τ).loc main_arg0)) (m ((c : Thread nD τ).loc main_arg1))) :
    (dats m 0 c).arrAt 6 (cfgs 0).N = result (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have ht : t.val < 8 := lt_of_lt_of_eq t.isLt (by decide)
  have h0 : (y 0).val < 2048 := (y 0).isLt
  have e0 : ((((cfg0.win 6).blk t).view.emb y) 0 : ℕ) = 2048 * t.val + (y 0).val := by
    blk_simp [idx t]
    omega
  have e1 : ((((cfg0.win 6).blk t).view.emb y) 1 : ℕ) = (y 1).val := by
    blk_simp [idx t]
  have hy : (y : S2048x512.Idx) = ix2 (⟨(y 0).val, h0⟩ : Fin 2048) (⟨(y 1).val, (y 1).isLt⟩ : Fin 512) := eq_ix2 (n0 := 2048) (n1 := 512) y
  refine (congrArg (outAt m c t) hy).trans ((outAt_val m c t h _ _).trans ?_)
  exact result_at _ _ _ _ _ _ _ e0 e1 ht

end Cert.KernelIdeal.Val

end
-- ==== Proof.RefWin.lean ====
/-
  A host running sum at exact arithmetic: a window sum over an axis padded low by one less than its length is the sum of the entries
  up to and including each.
-/
module

public import Idealize.ShloMosaic.PureOps.Ideal
public import Idealize.ShloMosaic.Lib.Pointwise
public import proofs.«01_k».proof.Proof.Math

@[expose] public section

set_option maxRecDepth 16384
set_option maxHeartbeats 400000

noncomputable section

namespace Cert.Spec

open Idealize.ShloMosaic Idealize.ShloMosaic.Tactic

/-- A fold that adds the entries of a list is the list's sum. -/
theorem foldl_add {ι M : Type*} [AddCommMonoid M] (g : ι → M) : ∀ (l : List ι) (a : M), l.foldl (fun r n => r + g n) a = a + (l.map g).sum
  | [], a => (add_zero a).symm
  | n :: l, a => by rw [List.foldl_cons, foldl_add g l, List.map_cons, List.sum_cons, add_assoc]

/-- The window sum from zero as a sum over the window's positions, the padding counting as zero. -/
theorem window_sum {s t : Shape} (window strides lo hi : Fin s.rank → Nat) (x : s.Idx → EReal) (h : s.ReduceWindows window strides lo hi t) (j : t.Idx) :
    Ideal.hostReduceWindowAdd window strides lo hi h x 0 j
      = ∑ w : (⟨s.rank, window⟩ : Shape).Idx, (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0) := by
  unfold Ideal.hostReduceWindowAdd Host.reduceWindow
  refine (foldl_add _ _ _).trans ?_
  rw [zero_add, ← Fin.sum_univ_def]
  refine Eq.trans (Finset.sum_congr rfl fun n _ => ?_) (Equiv.sum_comp (⟨s.rank, window⟩ : Shape).rowMajor.symm (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))
  by_cases hin : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

/-- Sliding a window of `M + 1` positions, padded low by `M`, to position `i` sums the entries up to `i`. -/
theorem slide {A : Type*} [AddCommMonoid A] (M i : ℕ) (hi : i ≤ M) (f : ℕ → A) :
    ∑ r : Fin (M + 1), (if M ≤ i + r.val then f (i + r.val - M) else 0) = ∑ s ∈ Finset.range (i + 1), f s := by
  rw [Fin.sum_univ_eq_sum_range (fun r => if M ≤ i + r then f (i + r - M) else 0), show M + 1 = (M - i) + (i + 1) by omega, Finset.sum_range_add,
    Finset.sum_eq_zero, zero_add]
  · refine Finset.sum_congr rfl fun s hs => ?_
    have := Finset.mem_range.mp hs
    rw [if_pos (by omega)]
    congr 1; omega
  · intro s hs
    have := Finset.mem_range.mp hs
    rw [if_neg (by omega)]

/-- The running sum along the third of four axes. -/
theorem cumsum4 {B H M C : ℕ} (x : (⟨4, ![B, H, M + 1, C]⟩ : Shape).Idx → EReal)
    (h : (⟨4, ![B, H, M + 1, C]⟩ : Shape).ReduceWindows (![1, 1, M + 1, 1] : Fin 4 → ℕ) ![1, 1, 1, 1] ![0, 0, M, 0] ![0, 0, 0, 0] (⟨4, ![B, H, M + 1, C]⟩ : Shape))
    (b : Fin B) (g : Fin H) (i : Fin (M + 1)) (c : Fin C) :
    Ideal.hostReduceWindowAdd (s := ⟨4, ![B, H, M + 1, C]⟩) ![1, 1, M + 1, 1] ![1, 1, 1, 1] ![0, 0, M, 0] ![0, 0, 0, 0] h x 0 (ix4 b g i c)
      = ∑ s ∈ Finset.range (i.val + 1), x (ix4 b g (Fin.ofNat (M + 1) s) c) := by
  have hi := i.isLt
  rw [window_sum]
  refine (sum_idx4 (n0 := 1) (n1 := 1) (n2 := M + 1) (n3 := 1) _).trans ?_
  simp only [Fin.sum_univ_one]
  refine Eq.trans (Finset.sum_congr rfl fun r _ => ?_) (slide M i.val (by omega) (fun s => x (ix4 b g (Fin.ofNat (M + 1) s) c)))
  have hr := r.isLt
  split
  · next hin =>
    have h2 := hin 2
    change M ≤ i.val * 1 + r.val ∧ i.val * 1 + r.val - M < M + 1 at h2
    rw [if_pos (by omega)]
    refine congrArg x (funext fun a => Fin.ext ?_)
    match a with
    | ⟨0, _⟩ => show b.val * 1 + 0 - 0 = b.val; omega
    | ⟨1, _⟩ => show g.val * 1 + 0 - 0 = g.val; omega
    | ⟨2, _⟩ =>
      show i.val * 1 + r.val - M = (i.val + r.val - M) % (M + 1)
      rw [Nat.mod_eq_of_lt (by omega)]; omega
    | ⟨3, _⟩ => show c.val * 1 + 0 - 0 = c.val; omega
  · next hin =>
    rw [if_neg fun hle => hin fun a => by
      match a with
      | ⟨0, _⟩ => exact ⟨Nat.zero_le _, show b.val * 1 + 0 - 0 < B by have := b.isLt; omega⟩
      | ⟨1, _⟩ => exact ⟨Nat.zero_le _, show g.val * 1 + 0 - 0 < H by have := g.isLt; omega⟩
      | ⟨2, _⟩ => exact ⟨show M ≤ i.val * 1 + r.val by omega, show i.val * 1 + r.val - M < M + 1 by omega⟩
      | ⟨3, _⟩ => exact ⟨Nat.zero_le _, show c.val * 1 + 0 - 0 < C by have := c.isLt; omega⟩]

/-- The running sum along the first of two axes. -/
theorem cumsum2 {M C : ℕ} (x : (⟨2, ![M + 1, C]⟩ : Shape).Idx → EReal)
    (h : (⟨2, ![M + 1, C]⟩ : Shape).ReduceWindows (![M + 1, 1] : Fin 2 → ℕ) ![1, 1] ![M, 0] ![0, 0] (⟨2, ![M + 1, C]⟩ : Shape))
    (i : Fin (M + 1)) (c : Fin C) :
    Ideal.hostReduceWindowAdd (s := ⟨2, ![M + 1, C]⟩) ![M + 1, 1] ![1, 1] ![M, 0] ![0, 0] h x 0 (ix2 i c)
      = ∑ s ∈ Finset.range (i.val + 1), x (ix2 (Fin.ofNat (M + 1) s) c) := by
  have hi := i.isLt
  rw [window_sum]
  refine (sum_idx2 (n0 := M + 1) (n1 := 1) _).trans ?_
  simp only [Fin.sum_univ_one]
  refine Eq.trans (Finset.sum_congr rfl fun r _ => ?_) (slide M i.val (by omega) (fun s => x (ix2 (Fin.ofNat (M + 1) s) c)))
  have hr := r.isLt
  split
  · next hin =>
    have h2 := hin 0
    change M ≤ i.val * 1 + r.val ∧ i.val * 1 + r.val - M < M + 1 at h2
    rw [if_pos (by omega)]
    refine congrArg x (funext fun a => Fin.ext ?_)
    match a with
    | ⟨0, _⟩ =>
      show i.val * 1 + r.val - M = (i.val + r.val - M) % (M + 1)
      rw [Nat.mod_eq_of_lt (by omega)]; omega
    | ⟨1, _⟩ => show c.val * 1 + 0 - 0 = c.val; omega
  · next hin =>
    rw [if_neg fun hle => hin fun a => by
      match a with
      | ⟨0, _⟩ => exact ⟨show M ≤ i.val * 1 + r.val by omega, show i.val * 1 + r.val - M < M + 1 by omega⟩
      | ⟨1, _⟩ => exact ⟨Nat.zero_le _, show c.val * 1 + 0 - 0 < C by have := c.isLt; omega⟩]

end Cert.Spec

end
-- ==== Proof.RefRun.lean ====
/-
  The reference's run: its arguments end unchanged and every counter at zero, beside its result at the fold of its operations.
-/
module

public import proofs.«01_k».proof.Proof.Gen.ReferenceIdeal.Run
public import Idealize.ShloMosaic.Lib.Quiescent

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- An argument of the program. -/
def IsArg (b : Ref sig .tc) : Prop := b = main_arg0 ∨ b = main_arg1 ∨ b = main_arg2

/-- The buffers the operations of `hostOps0_9` write, in order. -/
abbrev hostOps0_9_W : List (Ref sig .tc) := [main_v87, main_v88, main_v89, main_cst_11, main_v90, main_v91, main_cst_12, main_v92, main_v93, main_cst_13, main_v94, main_v95, main_v96, main_v97, main_v98, main_v99, main_v100, main_v101, main_v102]
theorem hostOps0_9_writes : (hostOps0_9 : List (HloOp τ sig (Elt F))).Forall fun op => op.writes ⊆ (hostOps0_9_W.map (Proc.devRef (τ := τ) .tc)).toFinset :=
  StableHlo.forall_writes_sub_of_map rfl
/-- The buffers the operations of `hostOps0_10` write, in order. -/
abbrev hostOps0_10_W : List (Ref sig .tc) := [main_call12_v0, main_call12_v1, main_call12_cst, main_call12_v2, main_call12_v3, main_call12_cst_0, main_call12_v4, main_call12_v5, main_v103]
theorem hostOps0_10_writes : (hostOps0_10 : List (HloOp τ sig (Elt F))).Forall fun op => op.writes ⊆ (hostOps0_10_W.map (Proc.devRef (τ := τ) .tc)).toFinset :=
  StableHlo.forall_writes_sub_of_map rfl
/-- The buffers the operations of `hostOps0_11` write, in order. -/
abbrev hostOps0_11_W : List (Ref sig .tc) := [main_v104, main_v105, main_v106]
theorem hostOps0_11_writes : (hostOps0_11 : List (HloOp τ sig (Elt F))).Forall fun op => op.writes ⊆ (hostOps0_11_W.map (Proc.devRef (τ := τ) .tc)).toFinset :=
  StableHlo.forall_writes_sub_of_map rfl
theorem keep_hostOps0 {b : Ref sig .tc} (hb : IsArg b) (X : Valuation τ sig (Elt F)) : after hostOps0 X (Proc.devRef .tc b) = X (Proc.devRef .tc b) :=
  after_of_writes_sub hostOps0 X hostOps0_writes (by rcases hb with rfl | rfl | rfl <;> decide +kernel)
theorem keep_hostOps0_1 {b : Ref sig .tc} (hb : IsArg b) (X : Valuation τ sig (Elt F)) : after hostOps0_1 X (Proc.devRef .tc b) = X (Proc.devRef .tc b) :=
  after_of_writes_sub hostOps0_1 X hostOps0_1_writes (by rcases hb with rfl | rfl | rfl <;> decide +kernel)
theorem keep_hostOps0_2 {b : Ref sig .tc} (hb : IsArg b) (X : Valuation τ sig (Elt F)) : after hostOps0_2 X (Proc.devRef .tc b) = X (Proc.devRef .tc b) :=
  after_of_writes_sub hostOps0_2 X hostOps0_2_writes (by rcases hb with rfl | rfl | rfl <;> decide +kernel)
theorem keep_hostOps0_3 {b : Ref sig .tc} (hb : IsArg b) (X : Valuation τ sig (Elt F)) : after hostOps0_3 X (Proc.devRef .tc b) = X (Proc.devRef .tc b) :=
  after_of_writes_sub hostOps0_3 X hostOps0_3_writes (by rcases hb with rfl | rfl | rfl <;> decide +kernel)
theorem keep_hostOps0_4 {b : Ref sig .tc} (hb : IsArg b) (X : Valuation τ sig (Elt F)) : after hostOps0_4 X (Proc.devRef .tc b) = X (Proc.devRef .tc b) :=
  after_of_writes_sub hostOps0_4 X hostOps0_4_writes (by rcases hb with rfl | rfl | rfl <;> decide +kernel)
theorem keep_hostOps0_5 {b : Ref sig .tc} (hb : IsArg b) (X : Valuation τ sig (Elt F)) : after hostOps0_5 X (Proc.devRef .tc b) = X (Proc.devRef .tc b) :=
  after_of_writes_sub hostOps0_5 X hostOps0_5_writes (by rcases hb with rfl | rfl | rfl <;> decide +kernel)
theorem keep_hostOps0_6 {b : Ref sig .tc} (hb : IsArg b) (X : Valuation τ sig (Elt F)) : after hostOps0_6 X (Proc.devRef .tc b) = X (Proc.devRef .tc b) :=
  after_of_writes_sub hostOps0_6 X hostOps0_6_writes (by rcases hb with rfl | rfl | rfl <;> decide +kernel)
theorem keep_hostOps0_7 {b : Ref sig .tc} (hb : IsArg b) (X : Valuation τ sig (Elt F)) : after hostOps0_7 X (Proc.devRef .tc b) = X (Proc.devRef .tc b) :=
  after_of_writes_sub hostOps0_7 X hostOps0_7_writes (by rcases hb with rfl | rfl | rfl <;> decide +kernel)
theorem keep_hostOps0_8 {b : Ref sig .tc} (hb : IsArg b) (X : Valuation τ sig (Elt F)) : after hostOps0_8 X (Proc.devRef .tc b) = X (Proc.devRef .tc b) :=
  after_of_writes_sub hostOps0_8 X hostOps0_8_writes (by rcases hb with rfl | rfl | rfl <;> decide +kernel)
theorem keep_while0Ops0 {b : Ref sig .tc} (hb : IsArg b) (X : Valuation τ sig (Elt F)) : after while0Ops0 X (Proc.devRef .tc b) = X (Proc.devRef .tc b) :=
  after_of_writes_sub while0Ops0 X while0Ops0_writes (by rcases hb with rfl | rfl | rfl <;> decide +kernel)
theorem keep_while0Ops0_1 {b : Ref sig .tc} (hb : IsArg b) (X : Valuation τ sig (Elt F)) : after while0Ops0_1 X (Proc.devRef .tc b) = X (Proc.devRef .tc b) :=
  after_of_writes_sub while0Ops0_1 X while0Ops0_1_writes (by rcases hb with rfl | rfl | rfl <;> decide +kernel)
theorem keep_while0Ops0_2 {b : Ref sig .tc} (hb : IsArg b) (X : Valuation τ sig (Elt F)) : after while0Ops0_2 X (Proc.devRef .tc b) = X (Proc.devRef .tc b) :=
  after_of_writes_sub while0Ops0_2 X while0Ops0_2_writes (by rcases hb with rfl | rfl | rfl <;> decide +kernel)
theorem keep_while0Ops0_3 {b : Ref sig .tc} (hb : IsArg b) (X : Valuation τ sig (Elt F)) : after while0Ops0_3 X (Proc.devRef .tc b) = X (Proc.devRef .tc b) :=
  after_of_writes_sub while0Ops0_3 X while0Ops0_3_writes (by rcases hb with rfl | rfl | rfl <;> decide +kernel)
theorem keep_while0Ops0_4 {b : Ref sig .tc} (hb : IsArg b) (X : Valuation τ sig (Elt F)) : after while0Ops0_4 X (Proc.devRef .tc b) = X (Proc.devRef .tc b) :=
  after_of_writes_sub while0Ops0_4 X while0Ops0_4_writes (by rcases hb with rfl | rfl | rfl <;> decide +kernel)
theorem keep_while0Ops0_5 {b : Ref sig .tc} (hb : IsArg b) (X : Valuation τ sig (Elt F)) : after while0Ops0_5 X (Proc.devRef .tc b) = X (Proc.devRef .tc b) :=
  after_of_writes_sub while0Ops0_5 X while0Ops0_5_writes (by rcases hb with rfl | rfl | rfl <;> decide +kernel)
theorem keep_while0Ops0_6 {b : Ref sig .tc} (hb : IsArg b) (X : Valuation τ sig (Elt F)) : after while0Ops0_6 X (Proc.devRef .tc b) = X (Proc.devRef .tc b) :=
  after_of_writes_sub while0Ops0_6 X while0Ops0_6_writes (by rcases hb with rfl | rfl | rfl <;> decide +kernel)
theorem keep_while0Ops0_7 {b : Ref sig .tc} (hb : IsArg b) (X : Valuation τ sig (Elt F)) : after while0Ops0_7 X (Proc.devRef .tc b) = X (Proc.devRef .tc b) :=
  after_of_writes_sub while0Ops0_7 X while0Ops0_7_writes (by rcases hb with rfl | rfl | rfl <;> decide +kernel)
theorem keep_while0Ops0_8 {b : Ref sig .tc} (hb : IsArg b) (X : Valuation τ sig (Elt F)) : after while0Ops0_8 X (Proc.devRef .tc b) = X (Proc.devRef .tc b) :=
  after_of_writes_sub while0Ops0_8 X while0Ops0_8_writes (by rcases hb with rfl | rfl | rfl <;> decide +kernel)
theorem keep_while0Ops0_9 {b : Ref sig .tc} (hb : IsArg b) (X : Valuation τ sig (Elt F)) : after while0Ops0_9 X (Proc.devRef .tc b) = X (Proc.devRef .tc b) :=
  after_of_writes_sub while0Ops0_9 X while0Ops0_9_writes (by rcases hb with rfl | rfl | rfl <;> decide +kernel)
theorem keep_while0Ops0_10 {b : Ref sig .tc} (hb : IsArg b) (X : Valuation τ sig (Elt F)) : after while0Ops0_10 X (Proc.devRef .tc b) = X (Proc.devRef .tc b) :=
  after_of_writes_sub while0Ops0_10 X while0Ops0_10_writes (by rcases hb with rfl | rfl | rfl <;> decide +kernel)
theorem keep_while0Ops0_11 {b : Ref sig .tc} (hb : IsArg b) (X : Valuation τ sig (Elt F)) : after while0Ops0_11 X (Proc.devRef .tc b) = X (Proc.devRef .tc b) :=
  after_of_writes_sub while0Ops0_11 X while0Ops0_11_writes (by rcases hb with rfl | rfl | rfl <;> decide +kernel)
theorem keep_hostOps0_9 {b : Ref sig .tc} (hb : IsArg b) (X : Valuation τ sig (Elt F)) : after hostOps0_9 X (Proc.devRef .tc b) = X (Proc.devRef .tc b) :=
  after_of_writes_sub hostOps0_9 X hostOps0_9_writes (by rcases hb with rfl | rfl | rfl <;> decide +kernel)
theorem keep_hostOps0_10 {b : Ref sig .tc} (hb : IsArg b) (X : Valuation τ sig (Elt F)) : after hostOps0_10 X (Proc.devRef .tc b) = X (Proc.devRef .tc b) :=
  after_of_writes_sub hostOps0_10 X hostOps0_10_writes (by rcases hb with rfl | rfl | rfl <;> decide +kernel)
theorem keep_hostOps0_11 {b : Ref sig .tc} (hb : IsArg b) (X : Valuation τ sig (Elt F)) : after hostOps0_11 X (Proc.devRef .tc b) = X (Proc.devRef .tc b) :=
  after_of_writes_sub hostOps0_11 X hostOps0_11_writes (by rcases hb with rfl | rfl | rfl <;> decide +kernel)
theorem keep_condOps {b : Ref sig .tc} (hb : IsArg b) (X : Valuation τ sig (Elt F)) : after condOps X (Proc.devRef .tc b) = X (Proc.devRef .tc b) :=
  after_of_writes_sub condOps X condOps_writes (by rcases hb with rfl | rfl | rfl <;> decide +kernel)
theorem keep_preI {b : Ref sig .tc} (hb : IsArg b) (X : Valuation τ sig (Elt F)) : afterL preI X (Proc.devRef .tc b) = X (Proc.devRef .tc b) := by
  simp only [afterL_cons, afterL_nil]
  rw [keep_hostOps0_8 hb, keep_hostOps0_7 hb, keep_hostOps0_6 hb, keep_hostOps0_5 hb, keep_hostOps0_4 hb, keep_hostOps0_3 hb, keep_hostOps0_2 hb, keep_hostOps0_1 hb, keep_hostOps0 hb]
theorem keep_bodyI {b : Ref sig .tc} (hb : IsArg b) (X : Valuation τ sig (Elt F)) : afterL bodyI X (Proc.devRef .tc b) = X (Proc.devRef .tc b) := by
  simp only [afterL_cons, afterL_nil]
  rw [keep_while0Ops0_11 hb, keep_while0Ops0_10 hb, keep_while0Ops0_9 hb, keep_while0Ops0_8 hb, keep_while0Ops0_7 hb, keep_while0Ops0_6 hb, keep_while0Ops0_5 hb, keep_while0Ops0_4 hb, keep_while0Ops0_3 hb, keep_while0Ops0_2 hb, keep_while0Ops0_1 hb, keep_while0Ops0 hb]
theorem keep_postI {b : Ref sig .tc} (hb : IsArg b) (X : Valuation τ sig (Elt F)) : afterL postI X (Proc.devRef .tc b) = X (Proc.devRef .tc b) := by
  simp only [afterL_cons, afterL_nil]
  rw [keep_hostOps0_11 hb, keep_hostOps0_10 hb, keep_hostOps0_9 hb]

/-- No operation writes an argument, so every trip finds it as launched. -/
theorem keep_atK {b : Ref sig .tc} (hb : IsArg b) (c : Dev nD) : ∀ k, atK m k c (Proc.devRef .tc b) = m ((c.tc : Thread nD τ).loc b)
  | 0 => keep_preI hb _
  | k + 1 => by
    rw [show atK m (k + 1) c = afterL bodyI (after condOps (atK m k c)) from rfl, keep_bodyI hb, keep_condOps hb, keep_atK hb c k]

theorem keep_final {b : Ref sig .tc} (hb : IsArg b) (c : Dev nD) :
    finalContents condOps preI bodyI postI 32 m c (Proc.devRef .tc b) = m ((c.tc : Thread nD τ).loc b) := by
  rw [show finalContents condOps preI bodyI postI 32 m c = afterL postI (after condOps (atK m 32 c)) from rfl,
    keep_postI hb, keep_condOps hb, keep_atK m hb]

/-- The result buffer of the reference at the end of its run. -/
def refOut (c : Dev nD) : Buf (Elt F) ((c.tc : Thread nD τ).loc main_v106) :=
  afterL postI (after condOps (atK m 32 c)) (Proc.devRef .tc main_v106)

/-- The reference runs to its result, its arguments unchanged. -/
theorem run : θ_run (defs (F := F)) (onTc (τ := τ) (main (F := F))) ⟨m, fun _ => 0, ρ⟩ (fun r => ∀ c : Dev nD,
      r.2.mem ((c.tc : Thread nD τ).loc main_v106) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨h c main_v106 rfl,
    (h c main_arg0 rfl).trans (keep_final m (.inl rfl) c), (h c main_arg1 rfl).trans (keep_final m (.inr (.inl rfl)) c),
    (h c main_arg2 rfl).trans (keep_final m (.inr (.inr rfl)) c)⟩) (run_fold m ρ)

/-- The frame: the arguments end unchanged, every counter at zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, Idealize.ShloMosaic.sem_eq_zero_of_no_sems (by decide) r.2⟩) (run m ρ)

end Cert.ReferenceIdeal.Hand

end
-- ==== Proof.RefStep.lean ====
/-
  One trip of the reference's loop at exact arithmetic: a chunk of 64 rows of the recurrence.
-/
module

public import proofs.«01_k».proof.Proof.RefWin
public import proofs.«01_k».proof.Proof.RefRun
public import Idealize.ShloMosaic.Lib.Pointwise

@[expose] public section

set_option maxRecDepth 16384
set_option maxHeartbeats 400000

noncomputable section

namespace Cert.ReferenceIdeal.Val

open Cert.ReferenceIdeal Cert.ReferenceIdeal.Gen Cert.ReferenceIdeal.Value Cert.ReferenceIdeal.Hand Cert.Spec
open Idealize.ShloMosaic Idealize.ShloMosaic.Tactic Idealize.ShloMosaic.TcCoe Idealize.ShloMosaic.StableHlo

theorem ofBits_zero : Ideal.ofBits FTy.f32 0#32 = ((0 : ℝ) : EReal) := by simp [Ideal.ofBits, Ideal.ieee]

/-- A cast of reals commutes with a finite sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A running sum of real entries. -/
theorem sum_rows (x : FVec Ideal S8x4x64x128 .f32) (b : Fin 8) (g : Fin 4) (i : Fin 64) (c : Fin 128) (f : ℕ → ℝ) (hs : ∀ s : Fin 64, x (ix4 b g s c) = ((f s.val : ℝ) : EReal)) :
    ∑ s ∈ Finset.range (i.val + 1), x (ix4 b g (Fin.ofNat 64 s) c) = ((∑ s ∈ Finset.range (i.val + 1), f s : ℝ) : EReal) := by
  rw [← coe_sum]
  refine Finset.sum_congr rfl fun s hs' => (hs (Fin.ofNat 64 s)).trans ?_
  have h1 := Finset.mem_range.mp hs'
  have h2 : i.val < 64 := i.isLt
  rw [show (Fin.ofNat 64 s).val = s from Nat.mod_eq_of_lt (by omega)]

/-- A masked product of a score's term, on reals. -/
theorem masked {q k ci cj : EReal} {m : BitVec 1} {q' k' ci' cj' : ℝ} {p : Prop} [Decidable p] (hq : q = ((q' : ℝ) : EReal)) (hk : k = ((k' : ℝ) : EReal))
    (hi : ci = ((ci' : ℝ) : EReal)) (hj : cj = ((cj' : ℝ) : EReal)) (hm : m = if p then 1#1 else 0#1) :
    Scalar.select m (q * k * Ideal.exp (Scalar.select m (ci - cj) 0)) 0 = (((if p then q' * k' * Real.exp (ci' - cj') else 0 : ℝ)) : EReal) := by
  subst hq hk hi hj hm
  rw [← EReal.coe_sub, ← EReal.coe_mul]
  by_cases h : p
  · rw [if_pos h, if_pos h, show ∀ a b : EReal, Scalar.select 1#1 a b = a from fun _ _ => rfl, show ∀ a b : EReal, Scalar.select 1#1 a b = a from fun _ _ => rfl, Ideal.exp_coe, ← EReal.coe_mul]
  · rw [if_neg h, if_neg h, show ∀ a b : EReal, Scalar.select 0#1 a b = b from fun _ _ => rfl, EReal.coe_zero]

section
set_option backward.isDefEq.respectTransparency false

/-- Chunk `k` of a blocked operand. -/
theorem chunk_apply {α : Type} (X : S32x8x4x64x128.Idx → α) (k : Fin 32) (start : Fin 5 → Int) (h0 : start 0 = k.val) (h1 : start 1 = 0) (h2 : start 2 = 0) (h3 : start 3 = 0) (h4 : start 4 = 0)
    (hf) (hc) (b : Fin 8) (g : Fin 4) (i : Fin 64) (c : Fin 128) :
    shapeCast S8x4x64x128 (Host.dynamicSlice S1x8x4x64x128 X start hf) hc (ix4 b g i c) = X (ix5 k b g i c) := by
  have hk := k.isLt
  have e0 : Host.clampedStart S32x8x4x64x128 S1x8x4x64x128 rfl start 0 = k.val := Host.clampedStart_of_le _ _ 0 k.val h0 (show k.val + 1 ≤ 32 by omega)
  have e1 : Host.clampedStart S32x8x4x64x128 S1x8x4x64x128 rfl start 1 = 0 := Host.clampedStart_of_le _ _ 1 0 h1 (by decide)
  have e2 : Host.clampedStart S32x8x4x64x128 S1x8x4x64x128 rfl start 2 = 0 := Host.clampedStart_of_le _ _ 2 0 h2 (by decide)
  have e3 : Host.clampedStart S32x8x4x64x128 S1x8x4x64x128 rfl start 3 = 0 := Host.clampedStart_of_le _ _ 3 0 h3 (by decide)
  have e4 : Host.clampedStart S32x8x4x64x128 S1x8x4x64x128 rfl start 4 = 0 := Host.clampedStart_of_le _ _ 4 0 h4 (by decide)
  pointwise
  simp only [e0, e1, e2, e3, e4, zero_add, Fin.eta]

/-- A store of chunk `k` into the blocked result. -/
theorem upd_apply {α : Type} (X : S32x8x4x64x128.Idx → α) (U : S8x4x64x128.Idx → α) (k : Fin 32) (start : Fin 5 → Int) (h0 : start 0 = k.val) (h1 : start 1 = 0) (h2 : start 2 = 0) (h3 : start 3 = 0) (h4 : start 4 = 0)
    (hf) (hc) (n : Fin 32) (b : Fin 8) (g : Fin 4) (i : Fin 64) (c : Fin 128) :
    Host.dynamicUpdateSlice X (broadcastInDim S1x8x4x64x128 ![1, 2, 3, 4] hc U) start hf (ix5 n b g i c) = if n = k then U (ix4 b g i c) else X (ix5 n b g i c) := by
  have hk := k.isLt
  have e0 : Host.clampedStart S32x8x4x64x128 S1x8x4x64x128 rfl start 0 = k.val := Host.clampedStart_of_le _ _ 0 k.val h0 (show k.val + 1 ≤ 32 by omega)
  have e1 : Host.clampedStart S32x8x4x64x128 S1x8x4x64x128 rfl start 1 = 0 := Host.clampedStart_of_le _ _ 1 0 h1 (by decide)
  have e2 : Host.clampedStart S32x8x4x64x128 S1x8x4x64x128 rfl start 2 = 0 := Host.clampedStart_of_le _ _ 2 0 h2 (by decide)
  have e3 : Host.clampedStart S32x8x4x64x128 S1x8x4x64x128 rfl start 3 = 0 := Host.clampedStart_of_le _ _ 3 0 h3 (by decide)
  have e4 : Host.clampedStart S32x8x4x64x128 S1x8x4x64x128 rfl start 4 = 0 := Host.clampedStart_of_le _ _ 4 0 h4 (by decide)
  have hb := b.isLt; have hg := g.isLt; have hi := i.isLt; have hc' := c.isLt
  pointwise
  simp only [e0, e1, e2, e3, e4, Nat.sub_zero, Fin.eta]
  by_cases hn : n = k
  · subst hn
    rw [if_pos rfl, dif_pos (by omega)]
  · have hn' : n.val ≠ k.val := fun h => hn (Fin.ext h)
    rw [if_neg hn, dif_neg (by omega)]

end

/-- What the loop's buffers hold before trip `k`: the blocked operands, the causal mask, the state after `64 k` rows, and the rows of the
    chunks before. -/
structure Inv (V0 : Valuation τ sig (Elt Ideal)) (Q K L W : Fin 8 → Fin 4 → ℕ → Fin 128 → ℝ) (k : ℕ) : Prop where
  ctr : V0 (Proc.devRef .tc main_v86_5) = fun _ => Scf.iv 0#32 1#32 k
  hq : ∀ n b g i c, (V0 (Proc.devRef .tc main_v86_0) : FVec Ideal S32x8x4x64x128 .f32) (ix5 n b g i c) = ((Q b g (64 * n.val + i.val) c : ℝ) : EReal)
  hk : ∀ n b g i c, (V0 (Proc.devRef .tc main_v86_1) : FVec Ideal S32x8x4x64x128 .f32) (ix5 n b g i c) = ((K b g (64 * n.val + i.val) c : ℝ) : EReal)
  hv : ∀ n b g i c, (V0 (Proc.devRef .tc main_v86_2) : FVec Ideal S32x8x4x64x128 .f32) (ix5 n b g i c) = ((W b g (64 * n.val + i.val) c : ℝ) : EReal)
  hl : ∀ n b g i c, (V0 (Proc.devRef .tc main_v86_3) : FVec Ideal S32x8x4x64x128 .f32) (ix5 n b g i c) = ((L b g (64 * n.val + i.val) c : ℝ) : EReal)
  mask : ∀ i j, (V0 (Proc.devRef .tc main_v86_4) : IVec S64x64x1 1) (ix3 i j 0) = if j ≤ i then 1#1 else 0#1
  st : ∀ b g κ d, (V0 (Proc.devRef .tc main_v86_6) : FVec Ideal S8x4x128x128 .f32) (ix4 b g κ d) = ((state (K b g) (L b g) (W b g) (64 * k) κ d : ℝ) : EReal)
  out : ∀ n b g i d, n.val < k → (V0 (Proc.devRef .tc main_v86_7) : FVec Ideal S32x8x4x64x128 .f32) (ix5 n b g i d)
    = ((out (Q b g) (K b g) (L b g) (W b g) (64 * n.val + i.val) d : ℝ) : EReal)

section trip
variable (V0 : Valuation τ sig (Elt Ideal)) (Q K L W : Fin 8 → Fin 4 → ℕ → Fin 128 → ℝ) (k : ℕ) (hk : k < 32) (I : Inv V0 Q K L W k)

/-- The counter as a start index. -/
theorem start_ctr (hk : k < 32) : (Scf.iv 0#32 1#32 k).toInt = (k : Int) := by
  have : ∀ k : Fin 32, (Scf.iv 0#32 1#32 k.val).toInt = (k.val : Int) := by decide +kernel
  exact this ⟨k, hk⟩

include Q K L W hk I

theorem r107 (b g i c) : res_main_while0b_v107 V0 (ix4 (n0 := 8) (n1 := 4) (n2 := 64) (n3 := 128) b g i c) = ((Q b g (64 * k + i.val) c : ℝ) : EReal) := by
  unfold res_main_while0b_v107
  rw [I.ctr]
  exact (chunk_apply _ ⟨k, hk⟩ _ (start_ctr k hk) rfl rfl rfl rfl _ _ b g i c).trans (I.hq ⟨k, hk⟩ b g i c)

theorem r108 (b g i c) : res_main_while0b_v108 V0 (ix4 (n0 := 8) (n1 := 4) (n2 := 64) (n3 := 128) b g i c) = ((K b g (64 * k + i.val) c : ℝ) : EReal) := by
  unfold res_main_while0b_v108
  rw [I.ctr]
  exact (chunk_apply _ ⟨k, hk⟩ _ (start_ctr k hk) rfl rfl rfl rfl _ _ b g i c).trans (I.hk ⟨k, hk⟩ b g i c)

theorem r109 (b g i c) : res_main_while0b_v109 V0 (ix4 (n0 := 8) (n1 := 4) (n2 := 64) (n3 := 128) b g i c) = ((W b g (64 * k + i.val) c : ℝ) : EReal) := by
  unfold res_main_while0b_v109
  rw [I.ctr]
  exact (chunk_apply _ ⟨k, hk⟩ _ (start_ctr k hk) rfl rfl rfl rfl _ _ b g i c).trans (I.hv ⟨k, hk⟩ b g i c)

/-- The running sums of a chunk's log decays. -/
theorem r111 (b g i c) : res_main_while0b_v111 V0 (ix4 (n0 := 8) (n1 := 4) (n2 := 64) (n3 := 128) b g i c) = ((cum (L b g) (64 * k) i.val c : ℝ) : EReal) := by
  unfold res_main_while0b_v111
  rw [I.ctr]
  unfold Host.reduceWindowAdd
  rw [Ideal.hostReduceWindowAdd_def]
  have hz : broadcastInDim S_ ![] bcast_S_S_ (constant (F := Ideal) S_ FTy.f32 0x00000000#32) (Shape.Idx.first h_S_) = 0 := ofBits_zero
  rw [hz]
  refine (cumsum4 (B := 8) (H := 4) (M := 63) (C := 128) _ _ b g i c).trans ?_
  have hs : ∀ s : Fin 64, shapeCast S8x4x64x128 (Host.dynamicSlice S1x8x4x64x128 (V0 (Proc.devRef .tc main_v86_3) : FVec Ideal S32x8x4x64x128 .f32)
      (fun k_1 => (((![fun _ => Scf.iv 0#32 1#32 k, constantI S_ 32 0#32, constantI S_ 32 0#32, constantI S_ 32 0#32, constantI S_ 32 0#32] : Fin 5 → (⟨S_, .i32⟩ : BufTy).Contents (Elt Ideal))) k_1 (Shape.Idx.first h_S_)).toInt) sliceFits_S32x8x4x64x128_S1x8x4x64x128) shapeCasts_S1x8x4x64x128_S8x4x64x128 (ix4 b g s c)
        = ((L b g (64 * k + s.val) c : ℝ) : EReal) := fun s =>
    (chunk_apply _ ⟨k, hk⟩ _ (start_ctr k hk) rfl rfl rfl rfl _ _ b g s c).trans (I.hl ⟨k, hk⟩ b g s c)
  exact sum_rows _ b g i c (fun s => L b g (64 * k + s) c) hs

set_option backward.isDefEq.respectTransparency false in
theorem r112 (b g c) : res_main_while0b_v112 V0 (ix4 (n0 := 8) (n1 := 4) (n2 := 1) (n3 := 128) b g 0 c) = ((cum (L b g) (64 * k) 63 c : ℝ) : EReal) := by
  have h := r111 V0 Q K L W k hk I b g 63 c
  unfold res_main_while0b_v112
  generalize res_main_while0b_v111 V0 = x at h ⊢
  refine Eq.trans ?_ h
  pointwise

set_option backward.isDefEq.respectTransparency false in
/-- The state after the trip. -/
theorem state_next (b g κ d) : step_main_v86_6 V0 (ix4 (n0 := 8) (n1 := 4) (n2 := 128) (n3 := 128) b g κ d) = ((state (K b g) (L b g) (W b g) (64 * (k + 1)) κ d : ℝ) : EReal) := by
  have h112 := r112 V0 Q K L W k hk I
  have h111 := r111 V0 Q K L W k hk I
  have h108 := r108 V0 Q K L W k hk I
  have h109 := r109 V0 Q K L W k hk I
  have h6 := I.st
  unfold step_main_v86_6
  generalize res_main_while0b_v111 V0 = x111 at h111 ⊢
  generalize res_main_while0b_v112 V0 = x112 at h112 ⊢
  generalize res_main_while0b_v108 V0 = x108 at h108 ⊢
  generalize res_main_while0b_v109 V0 = x109 at h109 ⊢
  generalize V0 (Proc.devRef .tc main_v86_6) = x6 at h6 ⊢
  simp only [id_eq]
  pointwise
  simp only [h112, h111, h108, h109, h6, ← EReal.coe_sub, Ideal.exp_coe, ← EReal.coe_mul, coe_sum, ← EReal.coe_add]
  rw [show 64 * (k + 1) = 64 * k + 64 from rfl, state_add _ _ _ (64 * k) 64 (by decide)]

set_option backward.isDefEq.respectTransparency false in
/-- The chunk's rows of the recurrence. -/
theorem out_next (n b g i d) (hn : n.val < k + 1) : step_main_v86_7 V0 (ix5 (n0 := 32) (n1 := 8) (n2 := 4) (n3 := 64) (n4 := 128) n b g i d) = ((out (Q b g) (K b g) (L b g) (W b g) (64 * n.val + i.val) d : ℝ) : EReal) := by
  have h107 := r107 V0 Q K L W k hk I
  have h111 := r111 V0 Q K L W k hk I
  have h108 := r108 V0 Q K L W k hk I
  have h109 := r109 V0 Q K L W k hk I
  have h6 := I.st
  have hm := I.mask
  unfold step_main_v86_7
  rw [I.ctr]
  refine (upd_apply _ _ ⟨k, hk⟩ _ (start_ctr k hk) rfl rfl rfl rfl _ _ n b g i d).trans ?_
  split
  swap
  · next hne => exact I.out n b g i d (by have : n.val ≠ k := fun h => hne (Fin.ext h); omega)
  next he =>
  subst he
  generalize res_main_while0b_v111 V0 = x111 at h111 ⊢
  generalize res_main_while0b_v107 V0 = x107 at h107 ⊢
  generalize res_main_while0b_v108 V0 = x108 at h108 ⊢
  generalize res_main_while0b_v109 V0 = x109 at h109 ⊢
  generalize V0 (Proc.devRef .tc main_v86_6) = x6 at h6 ⊢
  generalize V0 (Proc.devRef .tc main_v86_4) = x4 at hm ⊢
  simp only [id_eq]
  pointwise
  have hx := fun (x : Fin 64) (c : Fin 128) => masked (h107 b g i c) (h108 b g x c) (h111 b g i c) (h111 b g x c) (hm i x)
  simp only [hx]
  simp only [h107, h111, h109, h6, Ideal.exp_coe, coe_sum, ← EReal.coe_mul, ← EReal.coe_add]
  rw [out_add _ _ _ _ (64 * k) 64 i d]
  congr 3
  funext x
  by_cases h : x ≤ i
  · have h' : x.val ≤ i.val := h
    simp only [if_pos h, if_pos h']
  · have h' : ¬ x.val ≤ i.val := h
    simp only [if_neg h, if_neg h', Finset.sum_const_zero]

omit I in
/-- The loop's buffers after a trip. -/
theorem Inv.next (V1 : Valuation τ sig (Elt Ideal)) (hV : Agree V1 (STEP V0)) (hc : V1 (Proc.devRef .tc main_v86_5) = fun _ => Scf.iv 0#32 1#32 (k + 1)) (I : Inv V0 Q K L W k) : Inv V1 Q K L W (k + 1) where
  ctr := hc
  hq := fun n b g i c => (congrFun ((hV main_v86_0 (by decide)).trans (STEP_main_v86_0 V0)) _).trans (I.hq n b g i c)
  hk := fun n b g i c => (congrFun ((hV main_v86_1 (by decide)).trans (STEP_main_v86_1 V0)) _).trans (I.hk n b g i c)
  hv := fun n b g i c => (congrFun ((hV main_v86_2 (by decide)).trans (STEP_main_v86_2 V0)) _).trans (I.hv n b g i c)
  hl := fun n b g i c => (congrFun ((hV main_v86_3 (by decide)).trans (STEP_main_v86_3 V0)) _).trans (I.hl n b g i c)
  mask := fun i j => (congrFun ((hV main_v86_4 (by decide)).trans (STEP_main_v86_4 V0)) _).trans (I.mask i j)
  st := fun b g κ d => (congrFun ((hV main_v86_6 (by decide)).trans (STEP_main_v86_6 V0)) _).trans (state_next V0 Q K L W k hk I b g κ d)
  out := fun n b g i d hn => (congrFun ((hV main_v86_7 (by decide)).trans (STEP_main_v86_7 V0)) _).trans (out_next V0 Q K L W k hk I n b g i d hn)

end trip

/-- The loop's buffers before every trip. -/
theorem inv_atK (m : (ℓ : Loc nD τ sig) → Buf (Elt Ideal) ℓ) (c : Dev nD) (Q K L W : Fin 8 → Fin 4 → ℕ → Fin 128 → ℝ) (I : Inv (entryContents preI m c) Q K L W 0) :
    ∀ k, k ≤ 32 → Inv (atK m k c) Q K L W k
  | 0, _ => I
  | k + 1, h => Inv.next (atK m k c) Q K L W k (by omega) (atK m (k + 1) c) (trip_agree _) (atK_ctr m c (k + 1)) (inv_atK m c Q K L W I k (by omega))

end Cert.ReferenceIdeal.Val

end
-- ==== Proof.RefPre.lean ====
/-
  What the reference's operations before its loop leave, at exact arithmetic.
-/
module

public import proofs.«01_k».proof.Proof.RefStep
public import proofs.«01_k».proof.Proof.KVal

@[expose] public section

set_option maxRecDepth 16384
set_option maxHeartbeats 400000

noncomputable section

namespace Cert.ReferenceIdeal.Val

open Cert.ReferenceIdeal Cert.ReferenceIdeal.Gen Cert.ReferenceIdeal.Value Cert.ReferenceIdeal.Hand Cert.Spec
open Cert.KernelIdeal.Val (lane scale qqv qh kh lh vh ofBits_eps ofBits_scale edivc emin emax c0 c1)
open Idealize.ShloMosaic Idealize.ShloMosaic.Tactic Idealize.ShloMosaic.TcCoe Idealize.ShloMosaic.StableHlo

/-- The logarithm of one plus a real above -1. -/
theorem log1p_pos (x : ℝ) (h : 0 < 1 + x) : Ideal.log1p ((x : ℝ) : EReal) = ((Real.log (1 + x) : ℝ) : EReal) := by
  unfold Ideal.log1p
  rw [c1, ← EReal.coe_add, Ideal.log_coe, if_neg (not_le.mpr h)]

theorem ofBits_bot : Ideal.ofBits FTy.f32 0xFF800000#32 = ⊥ := by simp [Ideal.ofBits, Ideal.ieee]

theorem fold_two (f : Fin 2 → EReal) : Finset.fold max ⊥ f Finset.univ = max (f 0) (f 1) := by
  rw [show (Finset.univ : Finset (Fin 2)) = {0, 1} from rfl]
  simp

theorem lane_eq (g : Fin 4) (c : Fin 128) (h : g.val * 128 + c.val < 512) : (⟨g.val * 128 + c.val, h⟩ : Fin 512) = lane (128 * g.val) c := by
  apply Fin.ext
  show g.val * 128 + c.val = (128 * g.val + c.val) % 512
  omega

theorem abs_coe (x : ℝ) : FloatOps.absf (F := Ideal) (φ := FTy.f32) ((x : ℝ) : EReal) = ((|x| : ℝ) : EReal) := by
  show max ((x : ℝ) : EReal) (-((x : ℝ) : EReal)) = _
  rw [← EReal.coe_neg, emax]
  rfl

/-- The mask of the lower triangle. -/
theorem tril (i j : Fin 64) : IntOp.cmpi CmpIPredicate.sge (IntOp.addi (BitVec.ofNat 32 i.val) 0#32) (BitVec.ofNat 32 j.val) = if j ≤ i then 1#1 else 0#1 := by
  revert i j
  decide +kernel

section pre
set_option backward.isDefEq.respectTransparency false
variable (X : Valuation τ sig (Elt Ideal))

theorem s0 (a b : Fin 512 → ℝ) (ha : ∀ l, (X (Proc.devRef .tc main_arg1) : FVec Ideal S2x512 .f32) (ix2 0 l) = ((a l : ℝ) : EReal))
    (hb : ∀ l, (X (Proc.devRef .tc main_arg1) : FVec Ideal S2x512 .f32) (ix2 1 l) = ((b l : ℝ) : EReal)) (i : Fin 2) (l : Fin 512) :
    (after hostOps0 X (Proc.devRef .tc main_v10) : FVec Ideal S2x512 .f32) (ix2 i l)
      = ((Real.exp ((if i = 0 then a l else b l) - max (a l) (b l)) / (Real.exp (a l - max (a l) (b l)) + Real.exp (b l - max (a l) (b l))) : ℝ) : EReal) := by
  after_reads_simp
  generalize X (Proc.devRef .tc main_arg1) = x at ha hb ⊢
  pointwise
  simp only [ofBits_bot, fold_two, bot_sup_eq, Fin.sum_univ_two, ha, hb, emax, ← EReal.coe_sub, Ideal.exp_coe, ← EReal.coe_add, max_eq_right bot_le]
  rw [show x (ix2 i l) = (((if i = 0 then a l else b l) : ℝ) : EReal) from ?_, ← EReal.coe_sub, Ideal.exp_coe, edivc _ _ (by positivity)]
  match i with
  | ⟨0, _⟩ => exact ha l
  | ⟨1, _⟩ => exact hb l

theorem s1 (p : Fin 2 → Fin 512 → ℝ) (hp : ∀ i l, (X (Proc.devRef .tc main_v10) : FVec Ideal S2x512 .f32) (ix2 i l) = ((p i l : ℝ) : EReal)) (i : Fin 2) (l : Fin 512) :
    (after hostOps0_1 X (Proc.devRef .tc main_v11) : FVec Ideal S2x512 .f32) (ix2 i l) = ((if i = 0 then p 0 l else p 0 l + p 1 l : ℝ) : EReal) := by
  after_reads_simp
  generalize X (Proc.devRef .tc main_v10) = x at hp ⊢
  simp only [TRef.toBuf, TRef.ofBuf, cast_eq]
  unfold Host.reduceWindowAdd
  rw [Ideal.hostReduceWindowAdd_def]
  have hz : broadcastInDim S_ ![] bcast_S_S_ (constant (F := Ideal) S_ FTy.f32 0x00000000#32) (Shape.Idx.first h_S_) = 0 := ofBits_zero
  rw [hz]
  refine (cumsum2 (M := 1) (C := 512) _ _ i l).trans ?_
  match i with
  | ⟨0, _⟩ =>
    refine (Finset.sum_range_one _).trans ?_
    exact hp 0 l
  | ⟨1, _⟩ =>
    refine (Finset.sum_range_succ _ 1).trans ?_
    rw [Finset.sum_range_one]
    refine (congrArg₂ (fun u v : EReal => u + v) (hp 0 l) (hp 1 l)).trans ?_
    exact (EReal.coe_add _ _).symm

theorem s2_bound (p r : Fin 2 → Fin 512 → ℝ) (hp : ∀ i l, (X (Proc.devRef .tc main_v10) : FVec Ideal S2x512 .f32) (ix2 i l) = ((p i l : ℝ) : EReal))
    (hr : ∀ i l, (X (Proc.devRef .tc main_v11) : FVec Ideal S2x512 .f32) (ix2 i l) = ((r i l : ℝ) : EReal)) (l : Fin 512) :
    (after hostOps0_2 X (Proc.devRef .tc main_v28) : FVec Ideal S512 .f32) (ix1 l) = ((max (r 1 l - p 0 l) 0 : ℝ) : EReal) := by
  after_reads_simp
  generalize X (Proc.devRef .tc main_v10) = x at hp ⊢
  generalize X (Proc.devRef .tc main_v11) = y at hr ⊢
  pointwise
  rw [hr, hp, ← EReal.coe_sub, ← EReal.coe_zero, emax]

theorem s2_w (l : Fin 512) :
    (after hostOps0_2 X (Proc.devRef .tc main_v30) : FVec Ideal S512 .f32) (ix1 l) = (X (Proc.devRef .tc main_arg2) : FVec Ideal S2x512 .f32) (ix2 1 l) := by
  after_reads_simp
  generalize X (Proc.devRef .tc main_arg2) = x
  pointwise

theorem s2_q (b : Fin 8) (t : Fin 2048) (l : Fin 512) :
    (after hostOps0_2 X (Proc.devRef .tc main_v20) : FVec Ideal S8x2048x512 .f32) (ix3 b t l)
      = (X (Proc.devRef .tc main_arg0) : FVec Ideal S16384x6912 .f32) (ix2 (Fin.ofNat 16384 (2048 * b.val + t.val)) (Fin.ofNat 6912 (4608 + l.val))) := by
  after_reads_simp
  generalize X (Proc.devRef .tc main_arg0) = x
  pointwise
  have hb := b.isLt; have ht := t.isLt; have hl := l.isLt
  congr 2 <;> apply Fin.ext <;> simp only [Fin.val_ofNat] <;> omega

theorem s2_f (b : Fin 8) (t : Fin 2048) (l : Fin 512) :
    (after hostOps0_2 X (Proc.devRef .tc main_v22) : FVec Ideal S8x2048x512 .f32) (ix3 b t l)
      = (X (Proc.devRef .tc main_arg0) : FVec Ideal S16384x6912 .f32) (ix2 (Fin.ofNat 16384 (2048 * b.val + t.val)) (Fin.ofNat 6912 (5120 + l.val))) := by
  after_reads_simp
  generalize X (Proc.devRef .tc main_arg0) = x
  pointwise
  have hb := b.isLt; have ht := t.isLt; have hl := l.isLt
  congr 2 <;> apply Fin.ext <;> simp only [Fin.val_ofNat] <;> omega

theorem s2_v (b : Fin 8) (t : Fin 2048) (l : Fin 512) :
    (after hostOps0_2 X (Proc.devRef .tc main_v24) : FVec Ideal S8x2048x512 .f32) (ix3 b t l)
      = (X (Proc.devRef .tc main_arg0) : FVec Ideal S16384x6912 .f32) (ix2 (Fin.ofNat 16384 (2048 * b.val + t.val)) (Fin.ofNat 6912 (5632 + l.val))) := by
  after_reads_simp
  generalize X (Proc.devRef .tc main_arg0) = x
  pointwise
  have hb := b.isLt; have ht := t.isLt; have hl := l.isLt
  congr 2 <;> apply Fin.ext <;> simp only [Fin.val_ofNat] <;> omega

theorem s2_g (b : Fin 8) (t : Fin 2048) (l : Fin 512) :
    (after hostOps0_2 X (Proc.devRef .tc main_v26) : FVec Ideal S8x2048x512 .f32) (ix3 b t l)
      = (X (Proc.devRef .tc main_arg0) : FVec Ideal S16384x6912 .f32) (ix2 (Fin.ofNat 16384 (2048 * b.val + t.val)) (Fin.ofNat 6912 (6144 + l.val))) := by
  after_reads_simp
  generalize X (Proc.devRef .tc main_arg0) = x
  pointwise
  have hb := b.isLt; have ht := t.isLt; have hl := l.isLt
  congr 2 <;> apply Fin.ext <;> simp only [Fin.val_ofNat] <;> omega

theorem s3 (q : Fin 8 → ℕ → Fin 512 → ℝ) (hq : ∀ b (t : Fin 2048) l, (X (Proc.devRef .tc main_v20) : FVec Ideal S8x2048x512 .f32) (ix3 b t l) = ((q b t.val l : ℝ) : EReal))
    (b : Fin 8) (t : Fin 2048) (l : Fin 512) :
    (after hostOps0_3 X (Proc.devRef .tc main_v31) : FVec Ideal S8x2048x512 .f32) (ix3 b t l) = ((q b t.val l * sg (q b t.val l) : ℝ) : EReal) := by
  after_reads_simp
  generalize X (Proc.devRef .tc main_v20) = x at hq ⊢
  simp only [TRef.toBuf, TRef.ofBuf, cast_eq]
  pointwise
  rw [hq, ← EReal.coe_neg, Ideal.exp_coe, c1, ← EReal.coe_add, edivc _ _ (one_add_exp_pos _).ne', ← EReal.coe_mul]
  rfl

theorem s4_q (q : Fin 8 → ℕ → Fin 512 → ℝ) (hq : ∀ b (t : Fin 2048) l, (X (Proc.devRef .tc main_v31) : FVec Ideal S8x2048x512 .f32) (ix3 b t l) = ((q b t.val l : ℝ) : EReal))
    (b : Fin 8) (t : Fin 2048) (g : Fin 4) (c : Fin 128) :
    (after hostOps0_4 X (Proc.devRef .tc main_v34) : FVec Ideal S8x2048x4x128 .f32) (ix4 b t g c) = ((q b t.val (lane (128 * g.val) c) * scale : ℝ) : EReal) := by
  after_reads_simp
  generalize X (Proc.devRef .tc main_v31) = x at hq ⊢
  pointwise
  have hg := g.isLt; have hc := c.isLt
  rw [hq, ofBits_scale, ← EReal.coe_mul]
  congr 3
  apply Fin.ext
  show g.val * 128 + c.val = (128 * g.val + c.val) % 512
  omega

theorem s4_l (p : Fin 512 → ℝ) (hp : ∀ l, (X (Proc.devRef .tc main_v28) : FVec Ideal S512 .f32) (ix1 l) = ((p l : ℝ) : EReal)) (l : Fin 512) :
    (after hostOps0_4 X (Proc.devRef .tc main_v37) : FVec Ideal S512 .f32) (ix1 l) = ((Real.log (max (p l) eps) : ℝ) : EReal) := by
  after_reads_simp
  generalize X (Proc.devRef .tc main_v28) = x at hp ⊢
  pointwise
  rw [hp, ofBits_eps, emax, Ideal.log_coe, if_neg (not_le.mpr (lt_max_of_lt_right eps_pos))]

theorem s4_m (p : Fin 512 → ℝ) (hp : ∀ l, (X (Proc.devRef .tc main_v28) : FVec Ideal S512 .f32) (ix1 l) = ((p l : ℝ) : EReal)) (h1 : ∀ l, p l < 1) (l : Fin 512) :
    (after hostOps0_4 X (Proc.devRef .tc main_v39) : FVec Ideal S512 .f32) (ix1 l) = ((Real.log (1 - p l) : ℝ) : EReal) := by
  after_reads_simp
  generalize X (Proc.devRef .tc main_v28) = x at hp ⊢
  pointwise
  rw [hp, ← EReal.coe_neg, log1p_pos _ (by linarith [h1 l]), sub_eq_add_neg]

theorem s5 (f : Fin 8 → ℕ → Fin 512 → ℝ) (hf : ∀ b (t : Fin 2048) l, (X (Proc.devRef .tc main_v22) : FVec Ideal S8x2048x512 .f32) (ix3 b t l) = ((f b t.val l : ℝ) : EReal))
    (b : Fin 8) (t : Fin 2048) (l : Fin 512) :
    (after hostOps0_5 X (Proc.devRef .tc main_v40) : FVec Ideal S8x2048x512 .f32) (ix3 b t l)
      = ((-(max (-(f b t.val l)) 0 + Real.log (1 + Real.exp (-|-(f b t.val l) - 0|))) : ℝ) : EReal) := by
  after_reads_simp
  generalize X (Proc.devRef .tc main_v22) = x at hf ⊢
  simp only [TRef.toBuf, TRef.ofBuf, cast_eq]
  pointwise
  rw [if_neg (not_not.mpr rfl), hf, ← EReal.coe_neg, abs_coe, ← EReal.coe_neg, Ideal.exp_coe, log1p_pos _ (one_add_exp_pos _), c0, emax, ← EReal.coe_add, ← EReal.coe_neg]

theorem s6_l (pl pm : Fin 512 → ℝ) (u : Fin 8 → ℕ → Fin 512 → ℝ) (hl : ∀ l, (X (Proc.devRef .tc main_v37) : FVec Ideal S512 .f32) (ix1 l) = ((pl l : ℝ) : EReal))
    (hm : ∀ l, (X (Proc.devRef .tc main_v39) : FVec Ideal S512 .f32) (ix1 l) = ((pm l : ℝ) : EReal))
    (hu : ∀ b (t : Fin 2048) l, (X (Proc.devRef .tc main_v40) : FVec Ideal S8x2048x512 .f32) (ix3 b t l) = ((u b t.val l : ℝ) : EReal))
    (b : Fin 8) (t : Fin 2048) (g : Fin 4) (c : Fin 128) :
    (after hostOps0_6 X (Proc.devRef .tc main_v70) : FVec Ideal S8x2048x4x128 .f32) (ix4 b t g c)
      = (((fun l => max (pl l) (pm l + u b t.val l) + Real.log (1 + Real.exp (-|pl l - (pm l + u b t.val l)|))) (lane (128 * g.val) c) : ℝ) : EReal) := by
  after_reads_simp
  generalize X (Proc.devRef .tc main_v37) = x at hl ⊢
  generalize X (Proc.devRef .tc main_v39) = y at hm ⊢
  generalize X (Proc.devRef .tc main_v40) = z at hu ⊢
  pointwise
  rw [if_neg (not_not.mpr rfl), lane_eq, hl, hm, hu, ← EReal.coe_add, ← EReal.coe_sub, abs_coe, ← EReal.coe_neg, Ideal.exp_coe, log1p_pos _ (one_add_exp_pos _), emax, ← EReal.coe_add]

theorem s6_k (p : Fin 512 → ℝ) (f : Fin 8 → ℕ → Fin 512 → ℝ) (hp : ∀ l, (X (Proc.devRef .tc main_v28) : FVec Ideal S512 .f32) (ix1 l) = ((p l : ℝ) : EReal))
    (hf : ∀ b (t : Fin 2048) l, (X (Proc.devRef .tc main_v22) : FVec Ideal S8x2048x512 .f32) (ix3 b t l) = ((f b t.val l : ℝ) : EReal))
    (b : Fin 8) (t : Fin 2048) (g : Fin 4) (c : Fin 128) :
    (after hostOps0_6 X (Proc.devRef .tc main_v71) : FVec Ideal S8x2048x4x128 .f32) (ix4 b t g c)
      = (((1 - p (lane (128 * g.val) c)) * sg (-(f b t.val (lane (128 * g.val) c))) : ℝ) : EReal) := by
  after_reads_simp
  generalize X (Proc.devRef .tc main_v28) = x at hp ⊢
  generalize X (Proc.devRef .tc main_v22) = y at hf ⊢
  pointwise
  rw [lane_eq, hp, hf, ← EReal.coe_neg, ← EReal.coe_neg, Ideal.exp_coe, c1, ← EReal.coe_sub, ← EReal.coe_add, edivc _ _ (one_add_exp_pos _).ne', ← EReal.coe_mul]
  rfl

theorem s6_v (v : Fin 8 → ℕ → Fin 512 → ℝ) (hv : ∀ b (t : Fin 2048) l, (X (Proc.devRef .tc main_v24) : FVec Ideal S8x2048x512 .f32) (ix3 b t l) = ((v b t.val l : ℝ) : EReal))
    (b : Fin 8) (t : Fin 2048) (g : Fin 4) (c : Fin 128) :
    (after hostOps0_6 X (Proc.devRef .tc main_v72) : FVec Ideal S8x2048x4x128 .f32) (ix4 b t g c) = ((v b t.val (lane (128 * g.val) c) : ℝ) : EReal) := by
  after_reads_simp
  generalize X (Proc.devRef .tc main_v24) = x at hv ⊢
  pointwise
  rw [lane_eq, hv]

theorem s6_one (i j : Fin 64) : (after hostOps0_6 X (Proc.devRef .tc main_v73) : IVec S64x64 1) (ix2 i j) = 1#1 := by
  after_reads_simp
  pointwise

theorem s7 (h : ∀ i j, (X (Proc.devRef .tc main_v73) : IVec S64x64 1) (ix2 i j) = 1#1) (i j : Fin 64) :
    (after hostOps0_7 X (Proc.devRef .tc main_v74) : IVec S64x64 1) (ix2 i j) = if j ≤ i then 1#1 else 0#1 := by
  after_reads_simp
  generalize X (Proc.devRef .tc main_v73) = x at h ⊢
  simp only [TRef.toBuf, TRef.ofBuf, cast_eq]
  pointwise
  rw [h, tril i j]
  by_cases hij : j ≤ i
  · rw [if_pos hij]; rfl
  · rw [if_neg hij]; rfl

theorem s8_q (q : Fin 8 → ℕ → Fin 4 → Fin 128 → ℝ) (hq : ∀ b (t : Fin 2048) g c, (X (Proc.devRef .tc main_v34) : FVec Ideal S8x2048x4x128 .f32) (ix4 b t g c) = ((q b t.val g c : ℝ) : EReal))
    (n : Fin 32) (b : Fin 8) (g : Fin 4) (i : Fin 64) (c : Fin 128) :
    (after hostOps0_8 X (Proc.devRef .tc main_v86_0) : FVec Ideal S32x8x4x64x128 .f32) (ix5 n b g i c) = ((q b (64 * n.val + i.val) g c : ℝ) : EReal) := by
  after_reads_simp
  generalize X (Proc.devRef .tc main_v34) = x at hq ⊢
  simp only [id_eq]
  pointwise
  have e : n.val * 64 + i.val = 64 * n.val + i.val := by omega
  refine (hq b ⟨n.val * 64 + i.val, by have := n.isLt; have := i.isLt; omega⟩ g c).trans ?_
  show ((q b (n.val * 64 + i.val) g c : ℝ) : EReal) = _
  rw [e]

theorem s8_k (q : Fin 8 → ℕ → Fin 4 → Fin 128 → ℝ) (hq : ∀ b (t : Fin 2048) g c, (X (Proc.devRef .tc main_v71) : FVec Ideal S8x2048x4x128 .f32) (ix4 b t g c) = ((q b t.val g c : ℝ) : EReal))
    (n : Fin 32) (b : Fin 8) (g : Fin 4) (i : Fin 64) (c : Fin 128) :
    (after hostOps0_8 X (Proc.devRef .tc main_v86_1) : FVec Ideal S32x8x4x64x128 .f32) (ix5 n b g i c) = ((q b (64 * n.val + i.val) g c : ℝ) : EReal) := by
  after_reads_simp
  generalize X (Proc.devRef .tc main_v71) = x at hq ⊢
  simp only [id_eq]
  pointwise
  have e : n.val * 64 + i.val = 64 * n.val + i.val := by omega
  refine (hq b ⟨n.val * 64 + i.val, by have := n.isLt; have := i.isLt; omega⟩ g c).trans ?_
  show ((q b (n.val * 64 + i.val) g c : ℝ) : EReal) = _
  rw [e]

theorem s8_v (q : Fin 8 → ℕ → Fin 4 → Fin 128 → ℝ) (hq : ∀ b (t : Fin 2048) g c, (X (Proc.devRef .tc main_v72) : FVec Ideal S8x2048x4x128 .f32) (ix4 b t g c) = ((q b t.val g c : ℝ) : EReal))
    (n : Fin 32) (b : Fin 8) (g : Fin 4) (i : Fin 64) (c : Fin 128) :
    (after hostOps0_8 X (Proc.devRef .tc main_v86_2) : FVec Ideal S32x8x4x64x128 .f32) (ix5 n b g i c) = ((q b (64 * n.val + i.val) g c : ℝ) : EReal) := by
  after_reads_simp
  generalize X (Proc.devRef .tc main_v72) = x at hq ⊢
  simp only [id_eq]
  pointwise
  have e : n.val * 64 + i.val = 64 * n.val + i.val := by omega
  refine (hq b ⟨n.val * 64 + i.val, by have := n.isLt; have := i.isLt; omega⟩ g c).trans ?_
  show ((q b (n.val * 64 + i.val) g c : ℝ) : EReal) = _
  rw [e]

theorem s8_l (q : Fin 8 → ℕ → Fin 4 → Fin 128 → ℝ) (hq : ∀ b (t : Fin 2048) g c, (X (Proc.devRef .tc main_v70) : FVec Ideal S8x2048x4x128 .f32) (ix4 b t g c) = ((q b t.val g c : ℝ) : EReal))
    (n : Fin 32) (b : Fin 8) (g : Fin 4) (i : Fin 64) (c : Fin 128) :
    (after hostOps0_8 X (Proc.devRef .tc main_v86_3) : FVec Ideal S32x8x4x64x128 .f32) (ix5 n b g i c) = ((q b (64 * n.val + i.val) g c : ℝ) : EReal) := by
  after_reads_simp
  generalize X (Proc.devRef .tc main_v70) = x at hq ⊢
  simp only [id_eq]
  pointwise
  have e : n.val * 64 + i.val = 64 * n.val + i.val := by omega
  refine (hq b ⟨n.val * 64 + i.val, by have := n.isLt; have := i.isLt; omega⟩ g c).trans ?_
  show ((q b (n.val * 64 + i.val) g c : ℝ) : EReal) = _
  rw [e]

theorem s8_mask (h : ∀ i j, (X (Proc.devRef .tc main_v74) : IVec S64x64 1) (ix2 i j) = if j ≤ i then 1#1 else 0#1) (i j : Fin 64) :
    (after hostOps0_8 X (Proc.devRef .tc main_v86_4) : IVec S64x64x1 1) (ix3 i j 0) = if j ≤ i then 1#1 else 0#1 := by
  after_reads_simp
  generalize X (Proc.devRef .tc main_v74) = x at h ⊢
  simp only [id_eq]
  pointwise
  exact h i j

theorem s8_state (b : Fin 8) (g : Fin 4) (κ d : Fin 128) :
    (after hostOps0_8 X (Proc.devRef .tc main_v86_6) : FVec Ideal S8x4x128x128 .f32) (ix4 b g κ d) = ((0 : ℝ) : EReal) := by
  after_reads_simp
  simp only [id_eq]
  pointwise
  rfl

end pre

end Cert.ReferenceIdeal.Val

end
-- ==== Proof.RefPost.lean ====
/-
  The reference's operations after its loop, at exact arithmetic.
-/
module

public import proofs.«01_k».proof.Proof.RefPre
public import proofs.«01_k».proof.Proof.KVal

@[expose] public section

set_option maxRecDepth 16384
set_option maxHeartbeats 400000

noncomputable section

namespace Cert.ReferenceIdeal.Val

open Cert.ReferenceIdeal Cert.ReferenceIdeal.Gen Cert.ReferenceIdeal.Value Cert.ReferenceIdeal.Hand Cert.Spec
open Idealize.ShloMosaic Idealize.ShloMosaic.Tactic Idealize.ShloMosaic.TcCoe Idealize.ShloMosaic.StableHlo

open Cert.KernelIdeal.Val (normed sub128 c0 c1)

section post
set_option backward.isDefEq.respectTransparency false
variable (X : Valuation τ sig (Elt Ideal))

theorem s9 (O : Fin 8 → Fin 4 → ℕ → Fin 128 → ℝ) (w : Fin 512 → EReal) (hO : ∀ n b g i d, (X (Proc.devRef .tc main_v86_7) : FVec Ideal S32x8x4x64x128 .f32) (ix5 n b g i d) = ((O b g (64 * n.val + i.val) d : ℝ) : EReal))
    (hw : ∀ l, (X (Proc.devRef .tc main_v30) : FVec Ideal S512 .f32) (ix1 l) = w l) (b : Fin 8) (t : Fin 2048) (l : Fin 512) :
    (after hostOps0_9 X (Proc.devRef .tc main_v102) : FVec Ideal S8x2048x512 .f32) (ix3 b t l)
      = normed (O b ⟨l.val / 128, by have := l.isLt; omega⟩ t.val) (sub128 l) * w l := by
  after_reads_simp
  generalize X (Proc.devRef .tc main_v86_7) = x at hO ⊢
  generalize X (Proc.devRef .tc main_v30) = y at hw ⊢
  pointwise
  have hx : ∀ d, x (ix5 ⟨t.val / 64, by have := t.isLt; omega⟩ b ⟨l.val / 128, by have := l.isLt; omega⟩ ⟨t.val % 64, by omega⟩ d) = ((O b ⟨l.val / 128, by have := l.isLt; omega⟩ t.val d : ℝ) : EReal) := by
    intro d
    refine (hO _ b _ _ d).trans ?_
    show ((O b _ (64 * (t.val / 64) + t.val % 64) d : ℝ) : EReal) = _
    rw [Nat.div_add_mod]
  simp only [hx, hw, ← EReal.coe_mul, coe_sum]
  rfl

theorem s10 (b : Fin 8) (t : Fin 2048) (l : Fin 512) (g : EReal) (hg : (X (Proc.devRef .tc main_v26) : FVec Ideal S8x2048x512 .f32) (ix3 b t l) = g) :
    (after hostOps0_10 X (Proc.devRef .tc main_v103) : FVec Ideal S8x2048x512 .f32) (ix3 b t l) = g * Ideal.div 1 (1 + Ideal.exp (-g)) := by
  after_reads_simp
  generalize X (Proc.devRef .tc main_v26) = x at hg ⊢
  simp only [TRef.toBuf, TRef.ofBuf, cast_eq]
  pointwise
  rw [hg]

theorem s11 (r : Fin 16384) (l : Fin 512) (u v : EReal)
    (hu : (X (Proc.devRef .tc main_v103) : FVec Ideal S8x2048x512 .f32) (ix3 ⟨r.val / 2048, by have := r.isLt; omega⟩ ⟨r.val % 2048, by omega⟩ l) = u)
    (hv : (X (Proc.devRef .tc main_v102) : FVec Ideal S8x2048x512 .f32) (ix3 ⟨r.val / 2048, by have := r.isLt; omega⟩ ⟨r.val % 2048, by omega⟩ l) = v) :
    (after hostOps0_11 X (Proc.devRef .tc main_v106) : FVec Ideal S16384x512 .bf16) (ix2 r l) = u * v := by
  after_reads_simp
  generalize X (Proc.devRef .tc main_v103) = x at hu ⊢
  generalize X (Proc.devRef .tc main_v102) = y at hv ⊢
  pointwise
  rw [hu, hv]

end post

end Cert.ReferenceIdeal.Val

end
-- ==== Proof.RefVal.lean ====
/-
  The reference's result at exact arithmetic: the same function of the arguments as the kernel's.
-/
module

public import proofs.«01_k».proof.Proof.RefPost
public import proofs.«01_k».proof.Proof.KVal

@[expose] public section

set_option maxRecDepth 16384
set_option maxHeartbeats 400000

noncomputable section

namespace Cert.ReferenceIdeal.Val

open Cert.ReferenceIdeal Cert.ReferenceIdeal.Gen Cert.ReferenceIdeal.Value Cert.ReferenceIdeal.Hand Cert.Spec
open Idealize.ShloMosaic Idealize.ShloMosaic.Tactic Idealize.ShloMosaic.TcCoe Idealize.ShloMosaic.StableHlo

open Cert.KernelIdeal.Val (col bound result entry rowOut Good normed sub128 lane scale qqv qh kh lh vh c0 c1)

/-- The queries, keys, log decays and values of a sequence's head, as functions of the arguments. -/
def hq (A : FVec Ideal S16384x6912 .f32) (b : Fin 8) (g : Fin 4) : ℕ → Fin 128 → ℝ := qh (col A 4608 b.val) (128 * g.val)
def hk (A : FVec Ideal S16384x6912 .f32) (B : FVec Ideal S2x512 .f32) (b : Fin 8) (g : Fin 4) : ℕ → Fin 128 → ℝ := kh (bound B 0) (bound B 1) (col A 5120 b.val) (128 * g.val)
def hl (A : FVec Ideal S16384x6912 .f32) (B : FVec Ideal S2x512 .f32) (b : Fin 8) (g : Fin 4) : ℕ → Fin 128 → ℝ := lh (bound B 0) (bound B 1) (col A 5120 b.val) (128 * g.val)
def hv (A : FVec Ideal S16384x6912 .f32) (b : Fin 8) (g : Fin 4) : ℕ → Fin 128 → ℝ := vh (col A 5632 b.val) (128 * g.val)

/-- The weight of a column of the kernel's result, and the gate of an entry of it. -/
def gate (A : FVec Ideal S16384x6912 .f32) (b : Fin 8) (t : ℕ) (l : Fin 512) : EReal := A (ix2 (Fin.ofNat 16384 (2048 * b.val + t)) (Fin.ofNat 6912 (6144 + l.val)))

section chain
variable (X : Valuation τ sig (Elt Ideal)) (A : FVec Ideal S16384x6912 .f32) (B W : FVec Ideal S2x512 .f32)

/-- A column block's entry is real. -/
theorem col_real (G : Good A B) (off : ℕ) (h0 : 4608 ≤ off) (h1 : off + 512 ≤ 6144) (b : Fin 8) (t : Fin 2048) (l : Fin 512) :
    A (ix2 (Fin.ofNat 16384 (2048 * b.val + t.val)) (Fin.ofNat 6912 (off + l.val))) = ((col A off b.val t.val l : ℝ) : EReal) := by
  have e : (Fin.ofNat 6912 (off + l.val)).val = off + l.val := Nat.mod_eq_of_lt (by have := l.isLt; omega)
  have hl := l.isLt
  exact G.real _ _ (by omega) (by omega)

/-- What the operations before the loop leave. -/
theorem pre_chain (hA : X (Proc.devRef .tc main_arg0) = A) (hB : X (Proc.devRef .tc main_arg1) = B) (hW : X (Proc.devRef .tc main_arg2) = W) (G : Good A B)
    (Y0 : Valuation τ sig (Elt Ideal)) (Y1 : Valuation τ sig (Elt Ideal)) (Y2 : Valuation τ sig (Elt Ideal)) (Y3 : Valuation τ sig (Elt Ideal)) (Y4 : Valuation τ sig (Elt Ideal)) (Y5 : Valuation τ sig (Elt Ideal)) (Y6 : Valuation τ sig (Elt Ideal)) (Y7 : Valuation τ sig (Elt Ideal)) (Y8 : Valuation τ sig (Elt Ideal))
    (e0 : Y0 = after hostOps0 X) (e1 : Y1 = after hostOps0_1 Y0) (e2 : Y2 = after hostOps0_2 Y1) (e3 : Y3 = after hostOps0_3 Y2) (e4 : Y4 = after hostOps0_4 Y3) (e5 : Y5 = after hostOps0_5 Y4) (e6 : Y6 = after hostOps0_6 Y5) (e7 : Y7 = after hostOps0_7 Y6) (e8 : Y8 = after hostOps0_8 Y7)
    (hc : Y8 (Proc.devRef .tc main_v86_5) = fun _ => Scf.iv 0#32 1#32 0) :
    Inv Y8 (hq A) (hk A B) (hl A B) (hv A) 0
      ∧ (∀ b (t : Fin 2048) l, (Y8 (Proc.devRef .tc main_v26) : FVec Ideal S8x2048x512 .f32) (ix3 b t l) = gate A b t.val l)
      ∧ (∀ l, (Y8 (Proc.devRef .tc main_v30) : FVec Ideal S512 .f32) (ix1 l) = W (ix2 1 l)) := by
  have hA1 : Y1 (Proc.devRef .tc main_arg0) = A := by rw [e1, keep_hostOps0_1 (.inl rfl), e0, keep_hostOps0 (.inl rfl), hA]
  have hW1 : Y1 (Proc.devRef .tc main_arg2) = W := by rw [e1, keep_hostOps0_1 (.inr (.inr rfl)), e0, keep_hostOps0 (.inr (.inr rfl)), hW]
  have k10_1 : Y1 (Proc.devRef .tc main_v10) = Y0 (Proc.devRef .tc main_v10) := by
    rw [e1]; exact after_of_writes_sub hostOps0_1 _ hostOps0_1_writes (by decide +kernel)
  have k22_3 : Y3 (Proc.devRef .tc main_v22) = Y2 (Proc.devRef .tc main_v22) := by
    rw [e3]; exact after_of_writes_sub hostOps0_3 _ hostOps0_3_writes (by decide +kernel)
  have k22_4 : Y4 (Proc.devRef .tc main_v22) = Y3 (Proc.devRef .tc main_v22) := by
    rw [e4]; exact after_of_writes_sub hostOps0_4 _ hostOps0_4_writes (by decide +kernel)
  have k22_5 : Y5 (Proc.devRef .tc main_v22) = Y4 (Proc.devRef .tc main_v22) := by
    rw [e5]; exact after_of_writes_sub hostOps0_5 _ hostOps0_5_writes (by decide +kernel)
  have k24_3 : Y3 (Proc.devRef .tc main_v24) = Y2 (Proc.devRef .tc main_v24) := by
    rw [e3]; exact after_of_writes_sub hostOps0_3 _ hostOps0_3_writes (by decide +kernel)
  have k24_4 : Y4 (Proc.devRef .tc main_v24) = Y3 (Proc.devRef .tc main_v24) := by
    rw [e4]; exact after_of_writes_sub hostOps0_4 _ hostOps0_4_writes (by decide +kernel)
  have k24_5 : Y5 (Proc.devRef .tc main_v24) = Y4 (Proc.devRef .tc main_v24) := by
    rw [e5]; exact after_of_writes_sub hostOps0_5 _ hostOps0_5_writes (by decide +kernel)
  have k28_3 : Y3 (Proc.devRef .tc main_v28) = Y2 (Proc.devRef .tc main_v28) := by
    rw [e3]; exact after_of_writes_sub hostOps0_3 _ hostOps0_3_writes (by decide +kernel)
  have k28_4 : Y4 (Proc.devRef .tc main_v28) = Y3 (Proc.devRef .tc main_v28) := by
    rw [e4]; exact after_of_writes_sub hostOps0_4 _ hostOps0_4_writes (by decide +kernel)
  have k28_5 : Y5 (Proc.devRef .tc main_v28) = Y4 (Proc.devRef .tc main_v28) := by
    rw [e5]; exact after_of_writes_sub hostOps0_5 _ hostOps0_5_writes (by decide +kernel)
  have k26_3 : Y3 (Proc.devRef .tc main_v26) = Y2 (Proc.devRef .tc main_v26) := by
    rw [e3]; exact after_of_writes_sub hostOps0_3 _ hostOps0_3_writes (by decide +kernel)
  have k26_4 : Y4 (Proc.devRef .tc main_v26) = Y3 (Proc.devRef .tc main_v26) := by
    rw [e4]; exact after_of_writes_sub hostOps0_4 _ hostOps0_4_writes (by decide +kernel)
  have k26_5 : Y5 (Proc.devRef .tc main_v26) = Y4 (Proc.devRef .tc main_v26) := by
    rw [e5]; exact after_of_writes_sub hostOps0_5 _ hostOps0_5_writes (by decide +kernel)
  have k26_6 : Y6 (Proc.devRef .tc main_v26) = Y5 (Proc.devRef .tc main_v26) := by
    rw [e6]; exact after_of_writes_sub hostOps0_6 _ hostOps0_6_writes (by decide +kernel)
  have k26_7 : Y7 (Proc.devRef .tc main_v26) = Y6 (Proc.devRef .tc main_v26) := by
    rw [e7]; exact after_of_writes_sub hostOps0_7 _ hostOps0_7_writes (by decide +kernel)
  have k26_8 : Y8 (Proc.devRef .tc main_v26) = Y7 (Proc.devRef .tc main_v26) := by
    rw [e8]; exact after_of_writes_sub hostOps0_8 _ hostOps0_8_writes (by decide +kernel)
  have k30_3 : Y3 (Proc.devRef .tc main_v30) = Y2 (Proc.devRef .tc main_v30) := by
    rw [e3]; exact after_of_writes_sub hostOps0_3 _ hostOps0_3_writes (by decide +kernel)
  have k30_4 : Y4 (Proc.devRef .tc main_v30) = Y3 (Proc.devRef .tc main_v30) := by
    rw [e4]; exact after_of_writes_sub hostOps0_4 _ hostOps0_4_writes (by decide +kernel)
  have k30_5 : Y5 (Proc.devRef .tc main_v30) = Y4 (Proc.devRef .tc main_v30) := by
    rw [e5]; exact after_of_writes_sub hostOps0_5 _ hostOps0_5_writes (by decide +kernel)
  have k30_6 : Y6 (Proc.devRef .tc main_v30) = Y5 (Proc.devRef .tc main_v30) := by
    rw [e6]; exact after_of_writes_sub hostOps0_6 _ hostOps0_6_writes (by decide +kernel)
  have k30_7 : Y7 (Proc.devRef .tc main_v30) = Y6 (Proc.devRef .tc main_v30) := by
    rw [e7]; exact after_of_writes_sub hostOps0_7 _ hostOps0_7_writes (by decide +kernel)
  have k30_8 : Y8 (Proc.devRef .tc main_v30) = Y7 (Proc.devRef .tc main_v30) := by
    rw [e8]; exact after_of_writes_sub hostOps0_8 _ hostOps0_8_writes (by decide +kernel)
  have k34_5 : Y5 (Proc.devRef .tc main_v34) = Y4 (Proc.devRef .tc main_v34) := by
    rw [e5]; exact after_of_writes_sub hostOps0_5 _ hostOps0_5_writes (by decide +kernel)
  have k34_6 : Y6 (Proc.devRef .tc main_v34) = Y5 (Proc.devRef .tc main_v34) := by
    rw [e6]; exact after_of_writes_sub hostOps0_6 _ hostOps0_6_writes (by decide +kernel)
  have k34_7 : Y7 (Proc.devRef .tc main_v34) = Y6 (Proc.devRef .tc main_v34) := by
    rw [e7]; exact after_of_writes_sub hostOps0_7 _ hostOps0_7_writes (by decide +kernel)
  have k37_5 : Y5 (Proc.devRef .tc main_v37) = Y4 (Proc.devRef .tc main_v37) := by
    rw [e5]; exact after_of_writes_sub hostOps0_5 _ hostOps0_5_writes (by decide +kernel)
  have k39_5 : Y5 (Proc.devRef .tc main_v39) = Y4 (Proc.devRef .tc main_v39) := by
    rw [e5]; exact after_of_writes_sub hostOps0_5 _ hostOps0_5_writes (by decide +kernel)
  have k70_7 : Y7 (Proc.devRef .tc main_v70) = Y6 (Proc.devRef .tc main_v70) := by
    rw [e7]; exact after_of_writes_sub hostOps0_7 _ hostOps0_7_writes (by decide +kernel)
  have k71_7 : Y7 (Proc.devRef .tc main_v71) = Y6 (Proc.devRef .tc main_v71) := by
    rw [e7]; exact after_of_writes_sub hostOps0_7 _ hostOps0_7_writes (by decide +kernel)
  have k72_7 : Y7 (Proc.devRef .tc main_v72) = Y6 (Proc.devRef .tc main_v72) := by
    rw [e7]; exact after_of_writes_sub hostOps0_7 _ hostOps0_7_writes (by decide +kernel)
  let a : Fin 512 → ℝ := bound B 0
  let b' : Fin 512 → ℝ := bound B 1
  let pr : Fin 2 → Fin 512 → ℝ := fun i l => Real.exp ((if i = 0 then a l else b' l) - max (a l) (b' l)) / (Real.exp (a l - max (a l) (b' l)) + Real.exp (b' l - max (a l) (b' l)))
  have h10 : ∀ i l, (Y0 (Proc.devRef .tc main_v10) : FVec Ideal S2x512 .f32) (ix2 i l) = ((pr i l : ℝ) : EReal) := by
    intro i l
    rw [e0]
    exact s0 X a b' (fun l => by rw [hB]; exact G.bnd 0 l) (fun l => by rw [hB]; exact G.bnd 1 l) i l
  have h11 : ∀ i l, (Y1 (Proc.devRef .tc main_v11) : FVec Ideal S2x512 .f32) (ix2 i l) = ((if i = 0 then pr 0 l else pr 0 l + pr 1 l : ℝ) : EReal) := by
    intro i l
    rw [e1]
    exact s1 Y0 pr h10 i l
  have hlb : ∀ l, max ((if (1 : Fin 2) = 0 then pr 0 l else pr 0 l + pr 1 l) - pr 0 l) 0 = lb (a l) (b' l) := by
    intro l
    rw [if_neg (by decide), add_sub_cancel_left]
    exact max_eq_left (lb_pos _ _).le
  have h28 : ∀ l, (Y2 (Proc.devRef .tc main_v28) : FVec Ideal S512 .f32) (ix1 l) = ((lb (a l) (b' l) : ℝ) : EReal) := by
    intro l
    rw [e2]
    refine (s2_bound Y1 pr (fun i l => if i = 0 then pr 0 l else pr 0 l + pr 1 l) (fun i l => by rw [k10_1]; exact h10 i l) h11 l).trans ?_
    exact congrArg _ (hlb l)
  have h30 : ∀ l, (Y2 (Proc.devRef .tc main_v30) : FVec Ideal S512 .f32) (ix1 l) = W (ix2 1 l) := by
    intro l
    rw [e2]
    refine (s2_w Y1 l).trans ?_
    rw [hW1]
  have h20 : ∀ b (t : Fin 2048) l, (Y2 (Proc.devRef .tc main_v20) : FVec Ideal S8x2048x512 .f32) (ix3 b t l) = ((col A 4608 b.val t.val l : ℝ) : EReal) := by
    intro b t l
    rw [e2]
    refine (s2_q Y1 b t l).trans ?_
    rw [hA1]
    exact col_real A B G 4608 (by decide) (by decide) b t l
  have h22 : ∀ b (t : Fin 2048) l, (Y2 (Proc.devRef .tc main_v22) : FVec Ideal S8x2048x512 .f32) (ix3 b t l) = ((col A 5120 b.val t.val l : ℝ) : EReal) := by
    intro b t l
    rw [e2]
    refine (s2_f Y1 b t l).trans ?_
    rw [hA1]
    exact col_real A B G 5120 (by decide) (by decide) b t l
  have h24 : ∀ b (t : Fin 2048) l, (Y2 (Proc.devRef .tc main_v24) : FVec Ideal S8x2048x512 .f32) (ix3 b t l) = ((col A 5632 b.val t.val l : ℝ) : EReal) := by
    intro b t l
    rw [e2]
    refine (s2_v Y1 b t l).trans ?_
    rw [hA1]
    exact col_real A B G 5632 (by decide) (by decide) b t l
  have h26 : ∀ b (t : Fin 2048) l, (Y2 (Proc.devRef .tc main_v26) : FVec Ideal S8x2048x512 .f32) (ix3 b t l) = gate A b t.val l := by
    intro b t l
    rw [e2]
    refine (s2_g Y1 b t l).trans ?_
    rw [hA1]
    rfl
  have h31 : ∀ b (t : Fin 2048) l, (Y3 (Proc.devRef .tc main_v31) : FVec Ideal S8x2048x512 .f32) (ix3 b t l) = ((col A 4608 b.val t.val l * sg (col A 4608 b.val t.val l) : ℝ) : EReal) := by
    intro b t l
    rw [e3]
    exact s3 Y2 (fun b => col A 4608 b.val) h20 b t l
  have h34 : ∀ b (t : Fin 2048) g c, (Y4 (Proc.devRef .tc main_v34) : FVec Ideal S8x2048x4x128 .f32) (ix4 b t g c) = ((hq A b g t.val c : ℝ) : EReal) := by
    intro b t g c
    rw [e4]
    exact s4_q Y3 (fun b t l => col A 4608 b.val t l * sg (col A 4608 b.val t l)) h31 b t g c
  have h37 : ∀ l, (Y4 (Proc.devRef .tc main_v37) : FVec Ideal S512 .f32) (ix1 l) = ((Real.log (max (lb (a l) (b' l)) eps) : ℝ) : EReal) := by
    intro l
    rw [e4]
    exact s4_l Y3 (fun l => lb (a l) (b' l)) (fun l => by rw [k28_3]; exact h28 l) l
  have h39 : ∀ l, (Y4 (Proc.devRef .tc main_v39) : FVec Ideal S512 .f32) (ix1 l) = ((Real.log (1 - lb (a l) (b' l)) : ℝ) : EReal) := by
    intro l
    rw [e4]
    exact s4_m Y3 (fun l => lb (a l) (b' l)) (fun l => by rw [k28_3]; exact h28 l) (fun l => lb_lt_one _ _) l
  let u : Fin 8 → ℕ → Fin 512 → ℝ := fun b t l => -(max (-(col A 5120 b.val t l)) 0 + Real.log (1 + Real.exp (-|-(col A 5120 b.val t l) - 0|)))
  have h40 : ∀ b (t : Fin 2048) l, (Y5 (Proc.devRef .tc main_v40) : FVec Ideal S8x2048x512 .f32) (ix3 b t l) = ((u b t.val l : ℝ) : EReal) := by
    intro b t l
    rw [e5]
    exact s5 Y4 (fun b => col A 5120 b.val) (fun b t l => by rw [k22_4, k22_3]; exact h22 b t l) b t l
  have h70 : ∀ b (t : Fin 2048) g c, (Y6 (Proc.devRef .tc main_v70) : FVec Ideal S8x2048x4x128 .f32) (ix4 b t g c) = ((hl A B b g t.val c : ℝ) : EReal) := by
    intro b t g c
    rw [e6]
    refine (s6_l Y5 (fun l => Real.log (max (lb (a l) (b' l)) eps)) (fun l => Real.log (1 - lb (a l) (b' l))) u
      (fun l => by rw [k37_5]; exact h37 l) (fun l => by rw [k39_5]; exact h39 l) h40 b t g c).trans ?_
    exact congrArg _ (lfv_ref _ _ _)
  have h71 : ∀ b (t : Fin 2048) g c, (Y6 (Proc.devRef .tc main_v71) : FVec Ideal S8x2048x4x128 .f32) (ix4 b t g c) = ((hk A B b g t.val c : ℝ) : EReal) := by
    intro b t g c
    rw [e6]
    exact s6_k Y5 (fun l => lb (a l) (b' l)) (fun b => col A 5120 b.val) (fun l => by rw [k28_5, k28_4, k28_3]; exact h28 l)
      (fun b t l => by rw [k22_5, k22_4, k22_3]; exact h22 b t l) b t g c
  have h72 : ∀ b (t : Fin 2048) g c, (Y6 (Proc.devRef .tc main_v72) : FVec Ideal S8x2048x4x128 .f32) (ix4 b t g c) = ((hv A b g t.val c : ℝ) : EReal) := by
    intro b t g c
    rw [e6]
    exact s6_v Y5 (fun b => col A 5632 b.val) (fun b t l => by rw [k24_5, k24_4, k24_3]; exact h24 b t l) b t g c
  have h74 : ∀ i j, (Y7 (Proc.devRef .tc main_v74) : IVec S64x64 1) (ix2 i j) = if j ≤ i then 1#1 else 0#1 := by
    intro i j
    rw [e7]
    exact s7 Y6 (fun i j => by rw [e6]; exact s6_one Y5 i j) i j
  refine ⟨⟨hc, ?_, ?_, ?_, ?_, ?_, ?_, ?_⟩, ?_, ?_⟩
  · intro n b g i c
    rw [e8]
    exact s8_q Y7 (fun b t g c => hq A b g t c) (fun b t g c => by rw [k34_7, k34_6, k34_5]; exact h34 b t g c) n b g i c
  · intro n b g i c
    rw [e8]
    exact s8_k Y7 (fun b t g c => hk A B b g t c) (fun b t g c => by rw [k71_7]; exact h71 b t g c) n b g i c
  · intro n b g i c
    rw [e8]
    exact s8_v Y7 (fun b t g c => hv A b g t c) (fun b t g c => by rw [k72_7]; exact h72 b t g c) n b g i c
  · intro n b g i c
    rw [e8]
    exact s8_l Y7 (fun b t g c => hl A B b g t c) (fun b t g c => by rw [k70_7]; exact h70 b t g c) n b g i c
  · intro i j
    rw [e8]
    exact s8_mask Y7 h74 i j
  · intro b g κ d
    rw [e8]
    refine (s8_state Y7 b g κ d).trans ?_
    rw [Nat.mul_zero, state_zero]
  · intro n b g i d hn
    exact absurd hn (Nat.not_lt_zero _)
  · intro b t l
    rw [k26_8, k26_7, k26_6, k26_5, k26_4, k26_3]
    exact h26 b t l
  · intro l
    rw [k30_8, k30_7, k30_6, k30_5, k30_4, k30_3]
    exact h30 l

end chain

end Cert.ReferenceIdeal.Val

end
-- ==== Proof.RefEnd.lean ====
/-
  The reference's result is the kernel's function of the arguments.
-/
module

public import proofs.«01_k».proof.Proof.RefVal
public import proofs.«01_k».proof.Proof.KVal

@[expose] public section

set_option maxRecDepth 16384
set_option maxHeartbeats 400000

noncomputable section

namespace Cert.ReferenceIdeal.Val

open Cert.ReferenceIdeal Cert.ReferenceIdeal.Gen Cert.ReferenceIdeal.Value Cert.ReferenceIdeal.Hand Cert.Spec
open Idealize.ShloMosaic Idealize.ShloMosaic.Tactic Idealize.ShloMosaic.TcCoe Idealize.ShloMosaic.StableHlo

open Cert.KernelIdeal.Val (col bound result entry rowOut Good normed sub128 lane qh kh lh vh)

/-- What the loop reads besides its carried buffers: the gate and the weight. -/
def IsSide (b : Ref sig .tc) : Prop := b = main_v26 ∨ b = main_v30

theorem side_while0Ops0 {b : Ref sig .tc} (hb : IsSide b) (X : Valuation τ sig (Elt Ideal)) : after while0Ops0 X (Proc.devRef .tc b) = X (Proc.devRef .tc b) :=
  after_of_writes_sub while0Ops0 X while0Ops0_writes (by rcases hb with rfl | rfl <;> decide +kernel)
theorem side_while0Ops0_1 {b : Ref sig .tc} (hb : IsSide b) (X : Valuation τ sig (Elt Ideal)) : after while0Ops0_1 X (Proc.devRef .tc b) = X (Proc.devRef .tc b) :=
  after_of_writes_sub while0Ops0_1 X while0Ops0_1_writes (by rcases hb with rfl | rfl <;> decide +kernel)
theorem side_while0Ops0_2 {b : Ref sig .tc} (hb : IsSide b) (X : Valuation τ sig (Elt Ideal)) : after while0Ops0_2 X (Proc.devRef .tc b) = X (Proc.devRef .tc b) :=
  after_of_writes_sub while0Ops0_2 X while0Ops0_2_writes (by rcases hb with rfl | rfl <;> decide +kernel)
theorem side_while0Ops0_3 {b : Ref sig .tc} (hb : IsSide b) (X : Valuation τ sig (Elt Ideal)) : after while0Ops0_3 X (Proc.devRef .tc b) = X (Proc.devRef .tc b) :=
  after_of_writes_sub while0Ops0_3 X while0Ops0_3_writes (by rcases hb with rfl | rfl <;> decide +kernel)
theorem side_while0Ops0_4 {b : Ref sig .tc} (hb : IsSide b) (X : Valuation τ sig (Elt Ideal)) : after while0Ops0_4 X (Proc.devRef .tc b) = X (Proc.devRef .tc b) :=
  after_of_writes_sub while0Ops0_4 X while0Ops0_4_writes (by rcases hb with rfl | rfl <;> decide +kernel)
theorem side_while0Ops0_5 {b : Ref sig .tc} (hb : IsSide b) (X : Valuation τ sig (Elt Ideal)) : after while0Ops0_5 X (Proc.devRef .tc b) = X (Proc.devRef .tc b) :=
  after_of_writes_sub while0Ops0_5 X while0Ops0_5_writes (by rcases hb with rfl | rfl <;> decide +kernel)
theorem side_while0Ops0_6 {b : Ref sig .tc} (hb : IsSide b) (X : Valuation τ sig (Elt Ideal)) : after while0Ops0_6 X (Proc.devRef .tc b) = X (Proc.devRef .tc b) :=
  after_of_writes_sub while0Ops0_6 X while0Ops0_6_writes (by rcases hb with rfl | rfl <;> decide +kernel)
theorem side_while0Ops0_7 {b : Ref sig .tc} (hb : IsSide b) (X : Valuation τ sig (Elt Ideal)) : after while0Ops0_7 X (Proc.devRef .tc b) = X (Proc.devRef .tc b) :=
  after_of_writes_sub while0Ops0_7 X while0Ops0_7_writes (by rcases hb with rfl | rfl <;> decide +kernel)
theorem side_while0Ops0_8 {b : Ref sig .tc} (hb : IsSide b) (X : Valuation τ sig (Elt Ideal)) : after while0Ops0_8 X (Proc.devRef .tc b) = X (Proc.devRef .tc b) :=
  after_of_writes_sub while0Ops0_8 X while0Ops0_8_writes (by rcases hb with rfl | rfl <;> decide +kernel)
theorem side_while0Ops0_9 {b : Ref sig .tc} (hb : IsSide b) (X : Valuation τ sig (Elt Ideal)) : after while0Ops0_9 X (Proc.devRef .tc b) = X (Proc.devRef .tc b) :=
  after_of_writes_sub while0Ops0_9 X while0Ops0_9_writes (by rcases hb with rfl | rfl <;> decide +kernel)
theorem side_while0Ops0_10 {b : Ref sig .tc} (hb : IsSide b) (X : Valuation τ sig (Elt Ideal)) : after while0Ops0_10 X (Proc.devRef .tc b) = X (Proc.devRef .tc b) :=
  after_of_writes_sub while0Ops0_10 X while0Ops0_10_writes (by rcases hb with rfl | rfl <;> decide +kernel)
theorem side_while0Ops0_11 {b : Ref sig .tc} (hb : IsSide b) (X : Valuation τ sig (Elt Ideal)) : after while0Ops0_11 X (Proc.devRef .tc b) = X (Proc.devRef .tc b) :=
  after_of_writes_sub while0Ops0_11 X while0Ops0_11_writes (by rcases hb with rfl | rfl <;> decide +kernel)
theorem side_condOps {b : Ref sig .tc} (hb : IsSide b) (X : Valuation τ sig (Elt Ideal)) : after condOps X (Proc.devRef .tc b) = X (Proc.devRef .tc b) :=
  after_of_writes_sub condOps X condOps_writes (by rcases hb with rfl | rfl <;> decide +kernel)
theorem side_hostOps0_9 {b : Ref sig .tc} (hb : IsSide b) (X : Valuation τ sig (Elt Ideal)) : after hostOps0_9 X (Proc.devRef .tc b) = X (Proc.devRef .tc b) :=
  after_of_writes_sub hostOps0_9 X hostOps0_9_writes (by rcases hb with rfl | rfl <;> decide +kernel)
theorem side_hostOps0_10 {b : Ref sig .tc} (hb : IsSide b) (X : Valuation τ sig (Elt Ideal)) : after hostOps0_10 X (Proc.devRef .tc b) = X (Proc.devRef .tc b) :=
  after_of_writes_sub hostOps0_10 X hostOps0_10_writes (by rcases hb with rfl | rfl <;> decide +kernel)
theorem side_bodyI {b : Ref sig .tc} (hb : IsSide b) (X : Valuation τ sig (Elt Ideal)) : afterL bodyI X (Proc.devRef .tc b) = X (Proc.devRef .tc b) := by
  simp only [afterL_cons, afterL_nil]
  rw [side_while0Ops0_11 hb, side_while0Ops0_10 hb, side_while0Ops0_9 hb, side_while0Ops0_8 hb, side_while0Ops0_7 hb, side_while0Ops0_6 hb, side_while0Ops0_5 hb, side_while0Ops0_4 hb, side_while0Ops0_3 hb, side_while0Ops0_2 hb, side_while0Ops0_1 hb, side_while0Ops0 hb]

theorem side_atK (m : (ℓ : Loc nD τ sig) → Buf (Elt Ideal) ℓ) {b : Ref sig .tc} (hb : IsSide b) (c : Dev nD) :
    ∀ k, atK m k c (Proc.devRef .tc b) = entryContents preI m c (Proc.devRef .tc b)
  | 0 => rfl
  | k + 1 => by
    rw [show atK m (k + 1) c = afterL bodyI (after condOps (atK m k c)) from rfl, side_bodyI hb, side_condOps hb, side_atK m hb c k]

/-- What the operations after the loop leave. -/
theorem post_chain (X Y9 Y10 Y11 : Valuation τ sig (Elt Ideal)) (e9 : Y9 = after hostOps0_9 X) (e10 : Y10 = after hostOps0_10 Y9) (e11 : Y11 = after hostOps0_11 Y10)
    (A : FVec Ideal S16384x6912 .f32) (B W : FVec Ideal S2x512 .f32)
    (hO : ∀ n b g i d, (X (Proc.devRef .tc main_v86_7) : FVec Ideal S32x8x4x64x128 .f32) (ix5 n b g i d) = ((out (hq A b g) (hk A B b g) (hl A B b g) (hv A b g) (64 * n.val + i.val) d : ℝ) : EReal))
    (hg : ∀ b (t : Fin 2048) l, (X (Proc.devRef .tc main_v26) : FVec Ideal S8x2048x512 .f32) (ix3 b t l) = gate A b t.val l)
    (hw : ∀ l, (X (Proc.devRef .tc main_v30) : FVec Ideal S512 .f32) (ix1 l) = W (ix2 1 l)) :
    (Y11 (Proc.devRef .tc main_v106) : FVec Ideal S16384x512 .bf16) = result A B W := by
  have k26 : Y9 (Proc.devRef .tc main_v26) = X (Proc.devRef .tc main_v26) := by rw [e9]; exact side_hostOps0_9 (.inl rfl) X
  have k102 : Y10 (Proc.devRef .tc main_v102) = Y9 (Proc.devRef .tc main_v102) := by
    rw [e10]; exact after_of_writes_sub hostOps0_10 _ hostOps0_10_writes (by decide +kernel)
  have h102 : ∀ (b : Fin 8) (t : Fin 2048) (l : Fin 512), (Y10 (Proc.devRef .tc main_v102) : FVec Ideal S8x2048x512 .f32) (ix3 b t l)
      = normed (out (hq A b ⟨l.val / 128, by have := l.isLt; omega⟩) (hk A B b ⟨l.val / 128, by have := l.isLt; omega⟩) (hl A B b ⟨l.val / 128, by have := l.isLt; omega⟩) (hv A b ⟨l.val / 128, by have := l.isLt; omega⟩) t.val) (sub128 l) * W (ix2 1 l) := by
    intro b t l
    rw [k102, e9]
    exact s9 X (fun b g => out (hq A b g) (hk A B b g) (hl A B b g) (hv A b g)) (fun l => W (ix2 1 l)) hO hw b t l
  have h103 : ∀ (b : Fin 8) (t : Fin 2048) (l : Fin 512), (Y10 (Proc.devRef .tc main_v103) : FVec Ideal S8x2048x512 .f32) (ix3 b t l)
      = gate A b t.val l * Ideal.div 1 (1 + Ideal.exp (-gate A b t.val l)) := by
    intro b t l
    rw [e10]
    exact s10 Y9 b t l (gate A b t.val l) (by rw [k26]; exact hg b t l)
  funext y
  rw [eq_ix2 (n0 := 16384) (n1 := 512) y, e11]
  generalize hr : y 0 = r
  generalize hl' : y 1 = l
  have hrl : r.val < 16384 := r.isLt
  have hll : l.val < 512 := l.isLt
  refine (s11 Y10 r l _ _ (h103 _ _ l) (h102 _ _ l)).trans ?_
  have hgate : gate A ⟨r.val / 2048, by omega⟩ (r.val % 2048) l = A (ix2 r (Fin.ofNat 6912 (6144 + l.val))) := by
    have e : (Fin.ofNat 16384 (2048 * (r.val / 2048) + r.val % 2048)) = r := by
      apply Fin.ext
      rw [Nat.div_add_mod]
      exact Nat.mod_eq_of_lt hrl
    show A (ix2 (Fin.ofNat 16384 (2048 * (r.val / 2048) + r.val % 2048)) _) = _
    rw [e]
  show gate A ⟨r.val / 2048, by omega⟩ (r.val % 2048) l * Ideal.div 1 (1 + Ideal.exp (-(gate A ⟨r.val / 2048, by omega⟩ (r.val % 2048) l)))
    * (normed (out (hq A ⟨r.val / 2048, by omega⟩ ⟨l.val / 128, by omega⟩) (hk A B ⟨r.val / 2048, by omega⟩ ⟨l.val / 128, by omega⟩) (hl A B ⟨r.val / 2048, by omega⟩ ⟨l.val / 128, by omega⟩) (hv A ⟨r.val / 2048, by omega⟩ ⟨l.val / 128, by omega⟩) (r.val % 2048)) (sub128 l) * W (ix2 1 l)) = _
  rw [hgate]
  rfl

/-- The reference ends with the kernel's function of its arguments. -/
theorem refOut_eq (m : (ℓ : Loc nD τ sig) → Buf (Elt Ideal) ℓ) (c : Dev nD) (A : FVec Ideal S16384x6912 .f32) (B W : FVec Ideal S2x512 .f32)
    (hA : m ((c.tc : Thread nD τ).loc main_arg0) = A) (hB : m ((c.tc : Thread nD τ).loc main_arg1) = B) (hW : m ((c.tc : Thread nD τ).loc main_arg2) = W) (G : Good A B) :
    refOut m c = result A B W := by
  have hE : entryContents preI m c = after hostOps0_8 (after hostOps0_7 (after hostOps0_6 (after hostOps0_5 (after hostOps0_4 (after hostOps0_3 (after hostOps0_2 (after hostOps0_1 (after hostOps0 (fun r => m (c, r)))))))))) := rfl
  obtain ⟨I, hg, hw⟩ := pre_chain (fun r => m (c, r)) A B W hA hB hW G _ _ _ _ _ _ _ _ _ rfl rfl rfl rfl rfl rfl rfl rfl hE (atK_ctr m c 0)
  have I32 := inv_atK m c (hq A) (hk A B) (hl A B) (hv A) I 32 le_rfl
  unfold refOut
  refine post_chain (after condOps (atK m 32 c)) _ _ _ rfl rfl rfl A B W ?_ ?_ ?_
  · intro n b g i d
    rw [cond_keeps (atK m 32 c) main_v86_7 (by decide)]
    exact I32.out n b g i d n.isLt
  · intro b t l
    rw [side_condOps (.inl rfl), side_atK m (.inl rfl) c 32]
    exact hg b t l
  · intro l
    rw [side_condOps (.inr rfl), side_atK m (.inr rfl) c 32]
    exact hw l

end Cert.ReferenceIdeal.Val

end
-- ==== Proof.Pre.lean ====
/-
  What the precondition says of the arguments: the queries, gates, values and lower bounds are real, the gates at most 64.
-/
module

public import proofs.«01_k».proof.Defs
public import proofs.«01_k».proof.Proof.KVal
public import Idealize.ShloMosaic.Lib.Decide
public import Idealize.ShloMosaic.Lib.Affine

@[expose] public section

set_option maxRecDepth 16384
set_option maxHeartbeats 400000

noncomputable section

namespace Cert.Pre_in_range

open Idealize.ShloMosaic Idealize.ShloMosaic.Tactic

/-- The shape relations of the precondition's operations. -/
instance facts : Facts where
  slices_S16384x6912_S16384x1536_0_4608 := by decide
  bcast_S_S16384x1536 := by decide
  reducesTo_S16384x1536_S_d0_1 := by decide
  h_S_ := by decide
  bcast_S_S2x512 := by decide
  reducesTo_S2x512_S_d0_1 := by decide
  slices_S16384x6912_S16384x512_0_5120 := by decide
  bcast_S_S16384x512 := by decide
  reducesTo_S16384x512_S_d0_1 := by decide

theorem and_one (a b : BitVec 1) : IntOp.andi a b = 1#1 ↔ a = 1#1 ∧ b = 1#1 := by
  revert a b; decide

/-- A conjunction over a list is true only where every member is. -/
theorem foldl_and {ι : Type*} (x : ι → BitVec 1) (l : List ι) (a : BitVec 1) (h : l.foldl (fun r n => IntOp.andi r (x n)) a = 1#1) : a = 1#1 ∧ ∀ n ∈ l, x n = 1#1 := by
  induction l generalizing a with
  | nil => exact ⟨h, by simp⟩
  | cons b l ih =>
    obtain ⟨h1, h2⟩ := ih _ h
    obtain ⟨h3, h4⟩ := (and_one _ _).mp h1
    refine ⟨h3, fun n hn => ?_⟩
    rcases List.mem_cons.mp hn with rfl | hn
    · exact h4
    · exact h2 n hn

/-- A conjunction over all entries is true only where every entry is. -/
theorem all_of_reduce {s u : Shape} {axes : List (Fin s.rank)} (x : s.Idx → BitVec 1) (init : u.Idx → BitVec 1) (h : s.ReducesTo axes S_) (hu : 0 < u.numel) (j : S_.Idx)
    (e : Host.reduce IntOp.andi x init h hu j = 1#1) (i : s.Idx) : x i = 1#1 := by
  have h1 := (foldl_and (fun n => x (s.rowMajor.symm n)) _ _ e).2 (s.rowMajor i) (List.mem_filter.mpr ⟨List.mem_finRange _, by
    rw [decide_eq_true_eq]
    funext a
    exact a.elim0⟩)
  simpa using h1

theorem ofBits_top : Ideal.ofBits FTy.f32 0x7F800000#32 = ⊤ := by simp [Ideal.ofBits, Ideal.ieee]
theorem ofBits_64 : Ideal.ofBits FTy.f32 0x42800000#32 = ((64 : ℝ) : EReal) := by
  simp [Ideal.ofBits, Ideal.ieee, -EReal.coe_mul]; norm_num

theorem of_bool (p : Prop) [Decidable p] (h : BitVec.ofBool (decide p) = 1#1) : p := by
  by_contra hp
  rw [decide_eq_false hp] at h
  exact absurd h (by decide)

/-- A value of finite magnitude is a real. -/
theorem real_of_abs (x : EReal) (h : FloatOps.absf (F := Ideal) (φ := FTy.f32) x < (⊤ : EReal)) : x = ((x.toReal : ℝ) : EReal) := by
  have h' : max x (-x) < ⊤ := h
  obtain ⟨h1, h2⟩ := max_lt_iff.mp h'
  refine (EReal.coe_toReal h1.ne fun hb => ?_).symm
  rw [hb, EReal.neg_bot] at h2
  exact lt_irrefl _ h2

set_option backward.isDefEq.respectTransparency false in
/-- The precondition's three parts. -/
theorem parts (A : FVec Ideal S16384x6912 .f32) (B W : FVec Ideal S2x512 .f32) (h : fn (F := Ideal) A B W = fun _ => 1#1) :
    (∀ (r : Fin 16384) (n : Fin 1536), FloatOps.absf (F := Ideal) (φ := FTy.f32) (A (ix2 r ⟨4608 + n.val, by have := n.isLt; omega⟩)) < (⊤ : EReal))
      ∧ (∀ (i : Fin 2) (l : Fin 512), FloatOps.absf (F := Ideal) (φ := FTy.f32) (B (ix2 i l)) < (⊤ : EReal))
      ∧ (∀ (r : Fin 16384) (n : Fin 512), (A (ix2 r ⟨5120 + n.val, by have := n.isLt; omega⟩) : EReal) ≤ ((64 : ℝ) : EReal)) := by
  have h0 := congrFun h ix0
  obtain ⟨h1, h2⟩ := (and_one _ _).mp h0
  obtain ⟨h3, h4⟩ := (and_one _ _).mp h1
  refine ⟨fun r n => ?_, fun i l => ?_, fun r n => ?_⟩
  · have := all_of_reduce _ _ _ _ _ h3 (ix2 r n)
    revert this
    pointwise
    rw [ofBits_top]
    exact of_bool _
  · have := all_of_reduce _ _ _ _ _ h4 (ix2 i l)
    revert this
    pointwise
    rw [ofBits_top]
    exact of_bool _
  · have := all_of_reduce _ _ _ _ _ h2 (ix2 r n)
    revert this
    pointwise
    rw [ofBits_64]
    exact of_bool _

/-- Under the precondition the kernel's arguments are good. -/
theorem good (A : FVec Ideal S16384x6912 .f32) (B W : FVec Ideal S2x512 .f32) (h : fn (F := Ideal) A B W = fun _ => 1#1) : Cert.KernelIdeal.Val.Good A B := by
  obtain ⟨h1, h2, h3⟩ := parts A B W h
  have hr : ∀ (r : Fin 16384) (n : Fin 6912), 4608 ≤ n.val → n.val < 6144 → A (ix2 r n) = (((A (ix2 r n) : EReal).toReal : ℝ) : EReal) := by
    intro r n ha hb
    have e : (⟨4608 + (n.val - 4608), by have := n.isLt; omega⟩ : Fin 6912) = n := Fin.ext (by show 4608 + (n.val - 4608) = n.val; omega)
    have := real_of_abs _ (h1 r ⟨n.val - 4608, by omega⟩)
    rwa [e] at this
  refine ⟨hr, fun i l => real_of_abs _ (h2 i l), fun r n ha hb => ?_⟩
  have e : (⟨5120 + (n.val - 5120), by have := n.isLt; omega⟩ : Fin 6912) = n := Fin.ext (by show 5120 + (n.val - 5120) = n.val; omega)
  have h4 := h3 r ⟨n.val - 5120, by omega⟩
  rw [e, hr r n (by omega) (by omega)] at h4
  exact EReal.coe_le_coe_iff.mp h4

end Cert.Pre_in_range

end
-- ==== Proof.In.P0.lean ====
/-
  The in-projection of layer 0 at exact arithmetic: the array the call leaves, in the reference's own term.
-/
module

public import proofs.«01_k».proof.Proof.Gen.InProj0Ideal.Frame
public import proofs.«01_k».proof.Proof.Gen.InProj0Ideal.Value
public import proofs.«01_k».proof.Proof.Gen.ReferenceIn0Ideal
public import proofs.«01_k».proof.Proof.Gen.ReferenceIn0Ideal.Run
public import Idealize.ShloMosaic.Lib.Pipeline.ValueKit

@[expose] public section

set_option maxRecDepth 16384
set_option maxHeartbeats 400000

noncomputable section

namespace Cert.InProj0Ideal.Value

open Cert.InProj0Ideal Cert.InProj0Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result over its two arguments: the rows times layer 0's weights. -/
abbrev product (X : FVec Ideal S16384x2048 .bf16) (W : FVec Ideal S2x6912x2048 .bf16) : FVec Ideal S16384x6912 .f32 :=
  Host.dotGeneral (F := Ideal) Cert.ReferenceIn0Ideal.dot_S16384x2048_S2048x6912_S16384x6912_1_0_0_1_n_n none
    (extf .f32 X Cert.ReferenceIn0Ideal.Gen.bitsLt_bf16_f32)
    (extf .f32 (shapeCast _ (extractStridedSlice Cert.ReferenceIn0Ideal.S1x2048x6912 ![0, 0, 0]
      (transpose Cert.ReferenceIn0Ideal.S2x2048x6912 [0, 2, 1] W Cert.ReferenceIn0Ideal.Gen.transposes_S2x6912x2048_S2x2048x6912_0_2_1)
      Cert.ReferenceIn0Ideal.Gen.slices_S2x2048x6912_S1x2048x6912_0_0_0) Cert.ReferenceIn0Ideal.Gen.shapeCasts_S1x2048x6912_S2048x6912)
      Cert.ReferenceIn0Ideal.Gen.bitsLt_bf16_f32)

/-- Which block each window holds at a grid point: sixteen row blocks for each of three column blocks. -/
theorem idx : ∀ t : Fin cfg0.N, win0_0.index t = ![t.val % 16, 0] ∧ win0_1.index t = ![0, t.val / 16, 0]
    ∧ win0_2.index t = ![t.val % 16, t.val / 16] :=
  (by decide +kernel : ∀ t : Fin grid0.N, _)

set_option backward.isDefEq.respectTransparency false in
/-- What a grid point stores, entry by entry, is the reference's product at the entry's place in the array. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The call's result array after the run is the reference's product of its two arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProj0Ideal.Value

end
-- ==== Proof.In.P1.lean ====
/-
  The in-projection of layer 1 at exact arithmetic: the array the call leaves, in the reference's own term.
-/
module

public import proofs.«01_k».proof.Proof.Gen.InProj1Ideal.Frame
public import proofs.«01_k».proof.Proof.Gen.InProj1Ideal.Value
public import proofs.«01_k».proof.Proof.Gen.ReferenceIn1Ideal
public import proofs.«01_k».proof.Proof.Gen.ReferenceIn1Ideal.Run
public import Idealize.ShloMosaic.Lib.Pipeline.ValueKit

@[expose] public section

set_option maxRecDepth 16384
set_option maxHeartbeats 400000

noncomputable section

namespace Cert.InProj1Ideal.Value

open Cert.InProj1Ideal Cert.InProj1Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result over its two arguments: the rows times layer 1's weights. -/
abbrev product (X : FVec Ideal S16384x2048 .bf16) (W : FVec Ideal S2x6912x2048 .bf16) : FVec Ideal S16384x6912 .f32 :=
  Host.dotGeneral (F := Ideal) Cert.ReferenceIn1Ideal.dot_S16384x2048_S2048x6912_S16384x6912_1_0_0_1_n_n none
    (extf .f32 X Cert.ReferenceIn1Ideal.Gen.bitsLt_bf16_f32)
    (extf .f32 (shapeCast _ (extractStridedSlice Cert.ReferenceIn1Ideal.S1x2048x6912 ![1, 0, 0]
      (transpose Cert.ReferenceIn1Ideal.S2x2048x6912 [0, 2, 1] W Cert.ReferenceIn1Ideal.Gen.transposes_S2x6912x2048_S2x2048x6912_0_2_1)
      Cert.ReferenceIn1Ideal.Gen.slices_S2x2048x6912_S1x2048x6912_1_0_0) Cert.ReferenceIn1Ideal.Gen.shapeCasts_S1x2048x6912_S2048x6912)
      Cert.ReferenceIn1Ideal.Gen.bitsLt_bf16_f32)

/-- Which block each window holds at a grid point: sixteen row blocks for each of three column blocks. -/
theorem idx : ∀ t : Fin cfg0.N, win0_0.index t = ![t.val % 16, 0] ∧ win0_1.index t = ![1, t.val / 16, 0]
    ∧ win0_2.index t = ![t.val % 16, t.val / 16] :=
  (by decide +kernel : ∀ t : Fin grid0.N, _)

set_option backward.isDefEq.respectTransparency false in
/-- What a grid point stores, entry by entry, is the reference's product at the entry's place in the array. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The call's result array after the run is the reference's product of its two arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProj1Ideal.Value

end
-- ==== Proof.Out.H0.lean ====
/-
  The out-projection of layer 0 at exact arithmetic: the arrays the call leaves, in the reference's own terms.
-/
module

public import proofs.«01_k».proof.Proof.Gen.OutProj0Ideal.Frame
public import proofs.«01_k».proof.Proof.Gen.OutProj0Ideal.Value
public import proofs.«01_k».proof.Proof.Gen.ReferenceOut0Ideal
public import proofs.«01_k».proof.Proof.Gen.ReferenceOut0Ideal.Run
public import Idealize.ShloMosaic.Lib.Pipeline.ValueKit

@[expose] public section

set_option maxRecDepth 16384
set_option maxHeartbeats 400000

noncomputable section

namespace Cert.OutProj0Ideal.Value

open Cert.OutProj0Ideal Cert.OutProj0Ideal.Gen
open Idealize.ShloMosaic Idealize.ShloMosaic.TcCoe Idealize.SL.Sem
open Idealize.ShloMosaic.Pipeline (Dat)

variable (m : (ℓ : Loc nD τ sig) → Buf (Elt Ideal) ℓ)

/-- The reference's residual rows: the rows `h` plus the three mixers' rows beside each other times layer 0's weights. -/
def hOut (A : FVec Ideal S16384x512 .bf16) (B : FVec Ideal S16384x1024 .bf16) (C : FVec Ideal S16384x512 .bf16) (H : FVec Ideal S16384x2048 .f32)
    (W : FVec Ideal S2x2048x2048 .f32) : FVec Ideal S16384x2048 .f32 :=
  addf H (Host.dotGeneral (F := Ideal) Cert.ReferenceOut0Ideal.dot_S16384x2048_S2048x2048_S16384x2048_1_0_0_1_n_n none
    (extf .f32 (concatenate S16384x2048 1 [⟨S16384x512, A⟩, ⟨S16384x1024, B⟩, ⟨S16384x512, C⟩] Cert.ReferenceOut0Ideal.Gen.concatenates_S16384x512_S16384x1024_S16384x512_S16384x2048_d1 : FVec Ideal S16384x2048 .bf16) Cert.ReferenceOut0Ideal.Gen.bitsLt_bf16_f32)
    (shapeCast _ (extractStridedSlice Cert.ReferenceOut0Ideal.S1x2048x2048 ![0, 0, 0] W Cert.ReferenceOut0Ideal.Gen.slices_S2x2048x2048_S1x2048x2048_0_0_0) Cert.ReferenceOut0Ideal.Gen.shapeCasts_S1x2048x2048_S2048x2048))

/-- Which block each window holds at a grid point: thirty-two row blocks, the weights whole. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The residual rows of the memory's arguments. -/
abbrev hOf (c : Dev nD) : FVec Ideal S16384x2048 .f32 :=
  hOut (m ((c : Thread nD τ).loc main_arg0)) (m ((c : Thread nD τ).loc main_arg1)) (m ((c : Thread nD τ).loc main_arg2)) (m ((c : Thread nD τ).loc main_arg3)) (m ((c : Thread nD τ).loc main_arg4))

/-- The projection's weights as the call finds them: layer 0's, rounded. -/
theorem v20_eq (c : Dev nD) : V m c main_v20 = (truncf .bf16 (shapeCast _ (extractStridedSlice S1x2048x2048 ![0, 0, 0] (m ((c : Thread nD τ).loc main_arg4)) slices_S2x2048x2048_S1x2048x2048_0_0_0) shapeCasts_S1x2048x2048_S2048x2048 : FVec Ideal S2048x2048 .f32) bitsLt_bf16_f32 : FVec Ideal S2048x2048 .bf16) := by
  unfold V; simp only [List.flatten_cons, List.flatten_nil, List.append_nil, List.cons_append, List.nil_append]; after_results <;> rfl

/-- The norm's weights as the call finds them: layer 0's, as a row. -/
theorem v23_eq (c : Dev nD) : V m c main_v23 = (broadcastInDim S1x2048 ![1] bcast_S2048_S1x2048_1 (shapeCast _ (extractStridedSlice S1x2048 ![0, 0] (m ((c : Thread nD τ).loc main_arg5)) slices_S2x2048_S1x2048_0_0) shapeCasts_S1x2048_S2048 : FVec Ideal S2048 .f32) : FVec Ideal S1x2048 .f32) := by
  unfold V; simp only [List.flatten_cons, List.flatten_nil, List.append_nil, List.cons_append, List.nil_append]; after_results <;> rfl

/-- The router's weights, the groups' beside the experts', in 128 lanes. -/
def wR (G : FVec Ideal S2x2048x4 .f32) (E : FVec Ideal S2x2048x32 .f32) : FVec Ideal S2048x128 .f32 :=
  pad S2048x128 ![0, 0] ![0, 92] ![0, 0] (concatenate S2048x36 1
    [⟨S2048x4, (shapeCast _ (extractStridedSlice S1x2048x4 ![0, 0, 0] G slices_S2x2048x4_S1x2048x4_0_0_0) shapeCasts_S1x2048x4_S2048x4 : FVec Ideal S2048x4 .f32)⟩,
     ⟨S2048x32, (shapeCast _ (extractStridedSlice S1x2048x32 ![0, 0, 0] E slices_S2x2048x32_S1x2048x32_0_0_0) shapeCasts_S1x2048x32_S2048x32 : FVec Ideal S2048x32 .f32)⟩]
     concatenates_S2048x4_S2048x32_S2048x36_d1) (sitofp .f32 (constantI S_ 32 0#32) : FVec Ideal S_ .f32) pads_S2048x36_S2048x128_000_0920 h_S_

/-- The router's weights as the call finds them: their rounded value beside what the rounding leaves. -/
theorem v10_eq (c : Dev nD) : V m c main_v10 = (concatenate S2048x256 1
    [⟨S2048x128, (truncf .bf16 (wR (m ((c : Thread nD τ).loc main_arg6)) (m ((c : Thread nD τ).loc main_arg8))) bitsLt_bf16_f32 : FVec Ideal S2048x128 .bf16)⟩,
     ⟨S2048x128, (truncf .bf16 (subf (wR (m ((c : Thread nD τ).loc main_arg6)) (m ((c : Thread nD τ).loc main_arg8)))
        (extf .f32 (truncf .bf16 (wR (m ((c : Thread nD τ).loc main_arg6)) (m ((c : Thread nD τ).loc main_arg8))) bitsLt_bf16_f32 : FVec Ideal S2048x128 .bf16) bitsLt_bf16_f32)) bitsLt_bf16_f32 : FVec Ideal S2048x128 .bf16)⟩]
     concatenates_S2048x128_S2048x128_S2048x256_d1 : FVec Ideal S2048x256 .bf16) := by
  unfold V; simp only [List.flatten_cons, List.flatten_nil, List.append_nil, List.cons_append, List.nil_append]; after_results <;> rfl

/-- The router's biases, the groups' beside the experts', in 128 lanes, as the call finds them. -/
theorem v17_eq (c : Dev nD) : V m c main_v17 = (pad S1x128 ![0, 0] ![0, 92] ![0, 0] (broadcastInDim S1x36 ![1] bcast_S36_S1x36_1 (concatenate S36 0
    [⟨S4, (shapeCast _ (extractStridedSlice S1x4 ![0, 0] (m ((c : Thread nD τ).loc main_arg7)) slices_S2x4_S1x4_0_0) shapeCasts_S1x4_S4 : FVec Ideal S4 .f32)⟩,
     ⟨S32, (shapeCast _ (extractStridedSlice S1x32 ![0, 0] (m ((c : Thread nD τ).loc main_arg9)) slices_S2x32_S1x32_0_0) shapeCasts_S1x32_S32 : FVec Ideal S32 .f32)⟩]
     concatenates_S4_S32_S36_d0 : FVec Ideal S36 .f32) : FVec Ideal S1x36 .f32) (sitofp .f32 (constantI S_ 32 0#32) : FVec Ideal S_ .f32) pads_S1x36_S1x128_000_0920 h_S_ : FVec Ideal S1x128 .f32) := by
  unfold V; simp only [List.flatten_cons, List.flatten_nil, List.append_nil, List.cons_append, List.nil_append]; after_results <;> rfl

set_option backward.isDefEq.respectTransparency false in
/-- The upper half of a block's residual rows. -/
theorem h_lo (c : Dev nD) (t : Fin cfg0.N) (i : S256x2048.Idx) (j : S16384x2048.Idx) (h0 : (j 0 : ℕ) = t.val * 512 + (i 0 : ℕ)) (h1 : (j 1 : ℕ) = (i 1 : ℕ)) :
    k0_pay5 (F := Ideal) (View.ld (iblk m c 0 t) r0_0) (View.ld (iblk m c 1 t) r0_1) (View.ld (iblk m c 2 t) r0_0) (View.ld (iblk m c 4 t) r0_2) (View.ld (iblk m c 3 t) r0_5) i
      = hOf m c j := by
  pointwise [k0_pay5, hOut]
  blk_point [iblk, idx t]
  all_goals (rw [v20_eq]; pointwise; blk_ext [idx t])

set_option backward.isDefEq.respectTransparency false in
/-- The lower half of a block's residual rows. -/
theorem h_hi (c : Dev nD) (t : Fin cfg0.N) (i : S256x2048.Idx) (j : S16384x2048.Idx) (h0 : (j 0 : ℕ) = t.val * 512 + 256 + (i 0 : ℕ)) (h1 : (j 1 : ℕ) = (i 1 : ℕ)) :
    k0_pay9 (F := Ideal) (k0_pay12 (iblk m c 0 t) (iblk m c 1 t) (iblk m c 2 t) (iblk m c 3 t) (iblk m c 4 t) (iblk m c 5 t) (iblk m c 6 t) (iblk m c 7 t)) (View.ld (iblk m c 3 t) r0_11) i
      = hOf m c j := by
  pointwise [k0_pay9, k0_pay12, k0_pay4, hOut]
  blk_point [iblk, idx t]
  all_goals (rw [v20_eq]; pointwise; blk_ext [idx t])

end Cert.OutProj0Ideal.Value

end
-- ==== Proof.Out.Math.lean ====
/-
  Facts about extended reals for the out-projection: a normed entry is a real, and a real minus itself is nothing.
-/
module

public import Idealize.ShloMosaic.PureOps.Ideal
public import Idealize.ShloMosaic.Lib.Decide

@[expose] public section

namespace Cert.OutMath

open Idealize.ShloMosaic

/-- An entry of a row times the reciprocal root of the row's mean square is a real, whatever the row holds: where the squares add up
    to infinity the root is zero. -/
theorem normed_real {n : ℕ} (x : Fin n → EReal) (d e : ℝ) (hd : 0 < d) (he : 0 < e) (j : Fin n) :
    ∃ r : ℝ, x j * Ideal.rsqrt (Ideal.div (∑ k, x k * x k) (d : EReal) + (e : EReal)) = (r : EReal) := by
  have hsq : ∀ k, 0 ≤ x k * x k := fun k => by
    induction x k using EReal.rec with
    | bot => simp
    | top => simp
    | coe a => exact_mod_cast mul_self_nonneg a
  have hle : x j * x j ≤ ∑ k, x k * x k := Finset.single_le_sum (fun k _ => hsq k) (Finset.mem_univ j)
  have h0 : 0 ≤ ∑ k, x k * x k := Finset.sum_nonneg fun k _ => hsq k
  generalize hs : ∑ k, x k * x k = s at hle h0
  induction s using EReal.rec with
  | bot => exact absurd h0 (by simp)
  | top =>
    refine ⟨0, ?_⟩
    rw [Ideal.div_coe hd.ne', EReal.top_mul_of_pos (by exact_mod_cast one_div_pos.mpr hd), EReal.top_add_coe, Ideal.rsqrt_top, mul_zero, EReal.coe_zero]
  | coe s =>
    have hs0 : 0 ≤ s := by exact_mod_cast h0
    have hx : ∃ a : ℝ, x j = (a : EReal) := by
      induction hj : x j using EReal.rec with
      | bot => rw [hj] at hle; simp at hle
      | top => rw [hj] at hle; simp at hle
      | coe a => exact ⟨a, rfl⟩
    obtain ⟨a, ha⟩ := hx
    have hp : 0 < s * (1 / d) + e := by have := mul_nonneg hs0 (one_div_pos.mpr hd).le; linarith
    refine ⟨a * (Real.sqrt (s * (1 / d) + e))⁻¹, ?_⟩
    rw [Ideal.div_coe hd.ne', ← EReal.coe_mul, ← EReal.coe_add, Ideal.rsqrt_coe, if_neg (not_lt.mpr hp.le), if_neg hp.ne', ha, ← EReal.coe_mul]

/-- A real minus itself is nothing. -/
theorem sub_self_real {x : EReal} (h : ∃ r : ℝ, x = (r : EReal)) : x - x = 0 := by
  obtain ⟨r, rfl⟩ := h
  rw [← EReal.coe_sub, sub_self, EReal.coe_zero]

theorem ofBits_2048 : Ideal.ofBits FTy.f32 1157627904#32 = ((2048 : ℝ) : EReal) := by
  simp [Ideal.ofBits, Ideal.ieee, -EReal.coe_mul]; norm_num

/-- The norm's small term is a positive real. -/
theorem ofBits_eps : ∃ e : ℝ, 0 < e ∧ Ideal.ofBits FTy.f32 897988541#32 = (e : EReal) := by
  refine ⟨_, ?_, by simp [Ideal.ofBits, Ideal.ieee, -EReal.coe_mul]; rfl⟩
  positivity

end Cert.OutMath
-- ==== Proof.Out.U0.lean ====
/-
  The out-projection of layer 0 at exact arithmetic: the array of residual rows, the normed rows and the router's logits.
-/
module

public import proofs.«01_k».proof.Proof.Gen.OutProj0Ideal.Frame
public import proofs.«01_k».proof.Proof.Gen.OutProj0Ideal.Value
public import proofs.«01_k».proof.Proof.Gen.ReferenceOut0Ideal
public import proofs.«01_k».proof.Proof.Gen.ReferenceOut0Ideal.Run
public import proofs.«01_k».proof.Proof.Out.H0
public import proofs.«01_k».proof.Proof.Out.Math
public import Idealize.ShloMosaic.Lib.Pipeline.ValueKit

@[expose] public section

set_option maxRecDepth 16384
set_option maxHeartbeats 400000

noncomputable section

namespace Cert.OutProj0Ideal.Value

open Cert.OutProj0Ideal Cert.OutProj0Ideal.Gen
open Idealize.ShloMosaic Idealize.ShloMosaic.TcCoe Idealize.SL.Sem
open Idealize.ShloMosaic.Pipeline (Dat)

variable (m : (ℓ : Loc nD τ sig) → Buf (Elt Ideal) ℓ)

set_option backward.isDefEq.respectTransparency false in
/-- What a grid point leaves of the residual rows is the reference's, entry by entry. -/
theorem point_h (c : Dev nD) (t : Fin cfg0.N) (y : S512x2048.Idx) :
    out0_8 (F := Ideal) (iblk m c 0 t) (iblk m c 1 t) (iblk m c 2 t) (iblk m c 3 t) (iblk m c 4 t) (iblk m c 5 t) (iblk m c 6 t) (iblk m c 7 t) y
      = hOf m c (((cfg0.win 8).blk t).view.emb y) := by
  canon_tiles x h
  case piece0 => exact h_hi m c t x _ (by blk_simp [idx t]; omega) (by blk_simp [idx t]; omega)
  case piece1 => exact h_lo m c t x _ (by blk_simp [idx t]; omega) (by blk_simp [idx t]; omega)

/-- The array of residual rows after the run is the reference's. -/
theorem final_h (c : Dev nD) : (dats m 0 c).arrAt 8 (cfgs 0).N = hOf m c := by
  refine (dats m 0 c).arrAt_eq_of_covers 8 _ (by decide +kernel) fun t _ y => ?_
  blk_simp
  rw [after0_8]
  exact point_h m c t y

/-- The reference's norm of rows. -/
def uOut (X : FVec Ideal S16384x2048 .f32) (N : FVec Ideal S2x2048 .f32) : FVec Ideal S16384x2048 .f32 :=
  mulf (mulf X (broadcastInDim S16384x2048 ![0, 1] Cert.ReferenceOut0Ideal.Gen.bcast_S16384x1_S16384x2048_0_1 (Host.rsqrt (addf (Host.divf
    (broadcastInDim Cert.ReferenceOut0Ideal.S16384x1 ![0] Cert.ReferenceOut0Ideal.Gen.bcast_S16384_S16384x1_0 (Host.reduceAdd (mulf X X) (constant Cert.ReferenceOut0Ideal.S_ .f32 0x00000000#32) Cert.ReferenceOut0Ideal.Gen.reducesTo_S16384x2048_S16384_d1 Cert.ReferenceOut0Ideal.Gen.h_S_))
    (broadcastInDim Cert.ReferenceOut0Ideal.S16384x1 ![] Cert.ReferenceOut0Ideal.Gen.bcast_S_S16384x1 (constant Cert.ReferenceOut0Ideal.S_ .f32 0x45000000#32)))
    (broadcastInDim Cert.ReferenceOut0Ideal.S16384x1 ![] Cert.ReferenceOut0Ideal.Gen.bcast_S_S16384x1 (constant Cert.ReferenceOut0Ideal.S_ .f32 0x358637BD#32))))))
    (broadcastInDim S16384x2048 ![0, 1] Cert.ReferenceOut0Ideal.Gen.bcast_S1x2048_S16384x2048_0_1 (broadcastInDim S1x2048 ![1] Cert.ReferenceOut0Ideal.Gen.bcast_S2048_S1x2048_1
      (shapeCast _ (extractStridedSlice S1x2048 ![0, 0] N Cert.ReferenceOut0Ideal.Gen.slices_S2x2048_S1x2048_0_0) Cert.ReferenceOut0Ideal.Gen.shapeCasts_S1x2048_S2048 : FVec Ideal S2048 .f32)))

set_option backward.isDefEq.respectTransparency false in
/-- The upper half of a block's normed rows. -/
theorem u_lo (c : Dev nD) (t : Fin cfg0.N) (i : S256x2048.Idx) (j : S16384x2048.Idx) (h0 : (j 0 : ℕ) = t.val * 512 + (i 0 : ℕ)) (h1 : (j 1 : ℕ) = (i 1 : ℕ)) :
    k0_pay13 (F := Ideal) (iblk m c 0 t) (iblk m c 1 t) (iblk m c 2 t) (iblk m c 3 t) (iblk m c 4 t) (iblk m c 5 t) (iblk m c 6 t) (iblk m c 7 t) i
      = uOut (hOf m c) (m ((c : Thread nD τ).loc main_arg5)) j := by
  pointwise [k0_pay13, k0_pay6, uOut]
  reads_congr
  · exact h_lo m c t _ _ h0 h1
  · exact h_lo m c t _ _ h0 rfl
  · blk_simp [iblk]; rw [v23_eq]; pointwise; blk_ext [idx t]

set_option backward.isDefEq.respectTransparency false in
/-- The lower half of a block's normed rows. -/
theorem u_hi (c : Dev nD) (t : Fin cfg0.N) (i : S256x2048.Idx) (j : S16384x2048.Idx) (h0 : (j 0 : ℕ) = t.val * 512 + 256 + (i 0 : ℕ)) (h1 : (j 1 : ℕ) = (i 1 : ℕ)) :
    k0_pay1 (F := Ideal) (k0_pay14 (iblk m c 0 t) (iblk m c 1 t) (iblk m c 2 t) (iblk m c 3 t) (iblk m c 4 t) (iblk m c 5 t) (iblk m c 6 t) (iblk m c 7 t))
        (k0_pay15 (iblk m c 0 t) (iblk m c 1 t) (iblk m c 2 t) (iblk m c 3 t) (iblk m c 4 t) (iblk m c 5 t) (iblk m c 6 t) (iblk m c 7 t)) i
      = uOut (hOf m c) (m ((c : Thread nD τ).loc main_arg5)) j := by
  pointwise [k0_pay1, k0_pay14, k0_pay15, k0_pay10, k0_pay11, uOut]
  reads_congr
  · exact h_hi m c t _ _ h0 h1
  · exact h_hi m c t _ _ h0 rfl
  · blk_simp [iblk]; rw [v23_eq]; pointwise; blk_ext [idx t]

/-- What a grid point leaves of the normed rows is the reference's, entry by entry. -/
theorem point_u (c : Dev nD) (t : Fin cfg0.N) (y : S512x2048.Idx) :
    out0_9 (F := Ideal) (iblk m c 0 t) (iblk m c 1 t) (iblk m c 2 t) (iblk m c 3 t) (iblk m c 4 t) (iblk m c 5 t) (iblk m c 6 t) (iblk m c 7 t) y
      = uOut (hOf m c) (m ((c : Thread nD τ).loc main_arg5)) (((cfg0.win 9).blk t).view.emb y) := by
  canon_tiles x h
  case piece0 => exact u_hi m c t x _ (by blk_simp [idx t]; omega) (by blk_simp [idx t]; omega)
  case piece1 => exact u_lo m c t x _ (by blk_simp [idx t]; omega) (by blk_simp [idx t]; omega)

/-- The array of normed rows after the run is the reference's. -/
theorem final_u (c : Dev nD) : (dats m 0 c).arrAt 9 (cfgs 0).N
    = (truncf .bf16 (uOut (hOf m c) (m ((c : Thread nD τ).loc main_arg5))) bitsLt_bf16_f32 : FVec Ideal S16384x2048 .bf16) := by
  refine (dats m 0 c).arrAt_eq_of_covers 9 _ (by decide +kernel) fun t _ y => ?_
  blk_simp
  rw [after0_9]
  exact point_u m c t y

end Cert.OutProj0Ideal.Value

end
-- ==== Proof.Out.L0.lean ====
/-
  The out-projection of layer 0 at exact arithmetic: the router's logits.
-/
module

public import proofs.«01_k».proof.Proof.Gen.OutProj0Ideal.Frame
public import proofs.«01_k».proof.Proof.Gen.OutProj0Ideal.Value
public import proofs.«01_k».proof.Proof.Gen.ReferenceOut0Ideal
public import proofs.«01_k».proof.Proof.Gen.ReferenceOut0Ideal.Run
public import proofs.«01_k».proof.Proof.Out.U0
public import proofs.«01_k».proof.Proof.Out.Math
public import Idealize.ShloMosaic.Lib.Pipeline.ValueKit

@[expose] public section

set_option maxRecDepth 16384
set_option maxHeartbeats 400000

noncomputable section

namespace Cert.OutProj0Ideal.Value

open Cert.OutProj0Ideal Cert.OutProj0Ideal.Gen
open Idealize.ShloMosaic Idealize.ShloMosaic.TcCoe Idealize.SL.Sem
open Idealize.ShloMosaic.Pipeline (Dat)

variable (m : (ℓ : Loc nD τ sig) → Buf (Elt Ideal) ℓ)

/-- The reference's router logits in 128 lanes. -/
def lOut (U : FVec Ideal S16384x2048 .f32) (G : FVec Ideal S2x2048x4 .f32) (g : FVec Ideal S2x4 .f32) (E : FVec Ideal S2x2048x32 .f32) (e : FVec Ideal S2x32 .f32) :
    FVec Ideal S16384x128 .f32 :=
  pad S16384x128 ![0, 0] ![0, 92] ![0, 0] (concatenate Cert.ReferenceOut0Ideal.S16384x36 1
    [⟨Cert.ReferenceOut0Ideal.S16384x4, (addf (Host.dotGeneral Cert.ReferenceOut0Ideal.dot_S16384x2048_S2048x4_S16384x4_1_0_0_1_n_n none U
        (shapeCast _ (extractStridedSlice S1x2048x4 ![0, 0, 0] G Cert.ReferenceOut0Ideal.Gen.slices_S2x2048x4_S1x2048x4_0_0_0) Cert.ReferenceOut0Ideal.Gen.shapeCasts_S1x2048x4_S2048x4))
        (broadcastInDim Cert.ReferenceOut0Ideal.S16384x4 ![0, 1] Cert.ReferenceOut0Ideal.Gen.bcast_S1x4_S16384x4_0_1 (broadcastInDim S1x4 ![1] Cert.ReferenceOut0Ideal.Gen.bcast_S4_S1x4_1
          (shapeCast _ (extractStridedSlice S1x4 ![0, 0] g Cert.ReferenceOut0Ideal.Gen.slices_S2x4_S1x4_0_0) Cert.ReferenceOut0Ideal.Gen.shapeCasts_S1x4_S4))) : FVec Ideal Cert.ReferenceOut0Ideal.S16384x4 .f32)⟩,
     ⟨Cert.ReferenceOut0Ideal.S16384x32, (addf (Host.dotGeneral Cert.ReferenceOut0Ideal.dot_S16384x2048_S2048x32_S16384x32_1_0_0_1_n_n none U
        (shapeCast _ (extractStridedSlice S1x2048x32 ![0, 0, 0] E Cert.ReferenceOut0Ideal.Gen.slices_S2x2048x32_S1x2048x32_0_0_0) Cert.ReferenceOut0Ideal.Gen.shapeCasts_S1x2048x32_S2048x32))
        (broadcastInDim Cert.ReferenceOut0Ideal.S16384x32 ![0, 1] Cert.ReferenceOut0Ideal.Gen.bcast_S1x32_S16384x32_0_1 (broadcastInDim S1x32 ![1] Cert.ReferenceOut0Ideal.Gen.bcast_S32_S1x32_1
          (shapeCast _ (extractStridedSlice S1x32 ![0, 0] e Cert.ReferenceOut0Ideal.Gen.slices_S2x32_S1x32_0_0) Cert.ReferenceOut0Ideal.Gen.shapeCasts_S1x32_S32))) : FVec Ideal Cert.ReferenceOut0Ideal.S16384x32 .f32)⟩]
    Cert.ReferenceOut0Ideal.Gen.concatenates_S16384x4_S16384x32_S16384x36_d1) (sitofp .f32 (constantI S_ 32 0#32)) Cert.ReferenceOut0Ideal.Gen.pads_S16384x36_S16384x128_000_0920 Cert.ReferenceOut0Ideal.Gen.h_S_

/-- The reference's third result is those logits. -/
theorem res_eq (m' : (ℓ : Loc Cert.ReferenceOut0Ideal.nD Cert.ReferenceOut0Ideal.τ Cert.ReferenceOut0Ideal.sig) → Buf (Elt Ideal) ℓ) (c : Dev Cert.ReferenceOut0Ideal.nD) :
    Cert.ReferenceOut0Ideal.Value.res_main_v39 m' c = lOut (uOut (hOut (m' ((c.tc : Thread Cert.ReferenceOut0Ideal.nD Cert.ReferenceOut0Ideal.τ).loc Cert.ReferenceOut0Ideal.main_arg0)) (m' ((c.tc : Thread Cert.ReferenceOut0Ideal.nD Cert.ReferenceOut0Ideal.τ).loc Cert.ReferenceOut0Ideal.main_arg1)) (m' ((c.tc : Thread Cert.ReferenceOut0Ideal.nD Cert.ReferenceOut0Ideal.τ).loc Cert.ReferenceOut0Ideal.main_arg2))
        (m' ((c.tc : Thread Cert.ReferenceOut0Ideal.nD Cert.ReferenceOut0Ideal.τ).loc Cert.ReferenceOut0Ideal.main_arg3)) (m' ((c.tc : Thread Cert.ReferenceOut0Ideal.nD Cert.ReferenceOut0Ideal.τ).loc Cert.ReferenceOut0Ideal.main_arg4))) (m' ((c.tc : Thread Cert.ReferenceOut0Ideal.nD Cert.ReferenceOut0Ideal.τ).loc Cert.ReferenceOut0Ideal.main_arg5)))
      (m' ((c.tc : Thread Cert.ReferenceOut0Ideal.nD Cert.ReferenceOut0Ideal.τ).loc Cert.ReferenceOut0Ideal.main_arg6)) (m' ((c.tc : Thread Cert.ReferenceOut0Ideal.nD Cert.ReferenceOut0Ideal.τ).loc Cert.ReferenceOut0Ideal.main_arg7)) (m' ((c.tc : Thread Cert.ReferenceOut0Ideal.nD Cert.ReferenceOut0Ideal.τ).loc Cert.ReferenceOut0Ideal.main_arg8)) (m' ((c.tc : Thread Cert.ReferenceOut0Ideal.nD Cert.ReferenceOut0Ideal.τ).loc Cert.ReferenceOut0Ideal.main_arg9)) := rfl

/-- The router's biases, the groups' beside the experts', in 128 lanes. -/
def bR (g : FVec Ideal S2x4 .f32) (e : FVec Ideal S2x32 .f32) : FVec Ideal S1x128 .f32 :=
  pad S1x128 ![0, 0] ![0, 92] ![0, 0] (broadcastInDim S1x36 ![1] bcast_S36_S1x36_1 (concatenate S36 0
    [⟨S4, (shapeCast _ (extractStridedSlice S1x4 ![0, 0] g slices_S2x4_S1x4_0_0) shapeCasts_S1x4_S4 : FVec Ideal S4 .f32)⟩,
     ⟨S32, (shapeCast _ (extractStridedSlice S1x32 ![0, 0] e slices_S2x32_S1x32_0_0) shapeCasts_S1x32_S32 : FVec Ideal S32 .f32)⟩]
     concatenates_S4_S32_S36_d0 : FVec Ideal S36 .f32) : FVec Ideal S1x36 .f32) (sitofp .f32 (constantI S_ 32 0#32) : FVec Ideal S_ .f32) pads_S1x36_S1x128_000_0920 h_S_

/-- The integer zero, as a float, is zero. -/
theorem sitofp_zero : (FloatOps.sitofp FTy.f32 0#32 : Ideal .f32) = (0 : EReal) := by
  show ((((0#32 : BitVec 32).toInt : ℤ) : ℝ) : EReal) = 0
  simp

set_option backward.isDefEq.respectTransparency false in
/-- The router's weights are reals where the layer's parts of the two arrays they come from hold reals. -/
theorem wR_real (G : FVec Ideal S2x2048x4 .f32) (E : FVec Ideal S2x2048x32 .f32) (hG : ∀ (k : Fin 2048) (n : Fin 4), ∃ r : ℝ, G (ix3 0 k n) = ((r : ℝ) : EReal)) (hE : ∀ (k : Fin 2048) (n : Fin 32), ∃ r : ℝ, E (ix3 0 k n) = ((r : ℝ) : EReal))
    (k : Fin 2048) (n : Fin 128) : ∃ r : ℝ, wR G E (ix2 k n) = ((r : ℝ) : EReal) := by
  pointwise [wR]
  split_ifs <;> first | exact hG _ _ | exact hE _ _ | exact ⟨0, sitofp_zero⟩ | exact absurd rfl ‹_›

set_option backward.isDefEq.respectTransparency false in
/-- A logit of the reference: a row's product with a column of the router's weights, plus the bias. -/
theorem lOut_at (U : FVec Ideal S16384x2048 .f32) (G : FVec Ideal S2x2048x4 .f32) (g : FVec Ideal S2x4 .f32) (E : FVec Ideal S2x2048x32 .f32) (e : FVec Ideal S2x32 .f32) (r : Fin 16384) (n : Fin 128) :
    lOut U G g E e (ix2 r n) = (∑ k : Fin 2048, (U (ix2 r k) : EReal) * wR G E (ix2 k n)) + bR g e (ix2 0 n) := by
  pointwise [lOut, wR, bR]
  split_ifs <;> first | rfl | (rw [sitofp_zero]; simp)

set_option backward.isDefEq.respectTransparency false in
/-- The logits of half a block, from normed rows that are reals: the parts that the roundings leave add nothing. -/
theorem l_core (u : FVec Ideal S256x2048 .f32) (w : FVec Ideal S2048x256 .bf16) (b : FVec Ideal S1x128 .f32)
    (U : FVec Ideal S16384x2048 .f32) (G : FVec Ideal S2x2048x4 .f32) (g : FVec Ideal S2x4 .f32) (E : FVec Ideal S2x2048x32 .f32) (e : FVec Ideal S2x32 .f32)
    (i : S256x128.Idx) (j : S16384x128.Idx) (h1 : (j 1 : ℕ) = (i 1 : ℕ)) (hu : ∀ k : Fin 2048, u (ix2 (i 0) k) = U (ix2 (j 0) k))
    (hU : ∀ k : Fin 2048, ∃ r : ℝ, U (ix2 (j 0) k) = ((r : ℝ) : EReal))
    (hw : ∀ (k : Fin 2048) (n : Fin 128), w (ix2 k ⟨n.val, by have := n.isLt; omega⟩) = wR G E (ix2 k n))
    (hw' : ∀ (k : Fin 2048) (n : Fin 128), w (ix2 k ⟨128 + n.val, by have := n.isLt; omega⟩) = (wR G E (ix2 k n) - wR G E (ix2 k n) : EReal))
    (hb : ∀ n : Fin 128, b (ix2 0 n) = bR g e (ix2 0 n))
    (hG : ∀ (k : Fin 2048) (n : Fin 4), ∃ r : ℝ, G (ix3 0 k n) = ((r : ℝ) : EReal)) (hE : ∀ (k : Fin 2048) (n : Fin 32), ∃ r : ℝ, E (ix3 0 k n) = ((r : ℝ) : EReal)) :
    k0_pay8 (F := Ideal) u (View.ld w r0_7) (View.ld w r0_8) (View.ld b r0_9) i = lOut U G g E e j := by
  have ej : j = ix2 (j 0) (i 1) := by blk_ext []
  rw [ej, lOut_at]
  pointwise [k0_pay8, k0_pay7]
  have a1 : ∀ k : Fin 2048, (u (ix2 (i 0) k) : EReal) * w (ix2 k ⟨(i 1 : ℕ), by have := (i 1).isLt; exact lt_trans this (by decide)⟩) = U (ix2 (j 0) k) * wR G E (ix2 k (i 1)) :=
    fun k => by rw [hu k]; exact congrArg _ (hw k (i 1))
  have a2 : ∀ k : Fin 2048, (u (ix2 (i 0) k) : EReal) * w (ix2 k ⟨128 + (i 1 : ℕ), by have : (i 1 : ℕ) < 128 := (i 1).isLt; omega⟩) = 0 :=
    fun k => by
      have := hw' k (i 1)
      rw [Cert.OutMath.sub_self_real (wR_real G E hG hE k (i 1))] at this
      exact (congrArg (fun z : EReal => (u (ix2 (i 0) k) : EReal) * z) this).trans (mul_zero _)
  have a3 : ∀ k : Fin 2048, ((u (ix2 (i 0) k) : EReal) - u (ix2 (i 0) k)) * w (ix2 k ⟨(i 1 : ℕ), by have := (i 1).isLt; exact lt_trans this (by decide)⟩) = 0 :=
    fun k => by
      have : (u (ix2 (i 0) k) : EReal) - u (ix2 (i 0) k) = 0 := Cert.OutMath.sub_self_real (by rw [hu k]; exact hU k)
      rw [this, zero_mul]
  rw [Finset.sum_congr rfl fun k _ => a1 k, Finset.sum_congr rfl fun k _ => a2 k, Finset.sum_congr rfl fun k _ => a3 k, Finset.sum_const_zero, add_zero, add_zero]
  exact congrArg _ (hb (i 1))

/-- The block of the router's weights is the whole array. -/
theorem iblk6 (c : Dev nD) (t : Fin cfg0.N) : iblk m c 6 t = V m c main_v10 := by blk_ext! [iblk, idx t]
/-- The block of the router's biases is the whole array. -/
theorem iblk7 (c : Dev nD) (t : Fin cfg0.N) : iblk m c 7 t = V m c main_v17 := by blk_ext! [iblk, idx t]

set_option backward.isDefEq.respectTransparency false in
/-- The first 128 columns of the router's weights as the call finds them are the weights. -/
theorem v10_lo (c : Dev nD) (k : Fin 2048) (n : Fin 128) : (V m c main_v10 : FVec Ideal S2048x256 .bf16) (ix2 k ⟨n.val, by have := n.isLt; omega⟩)
    = wR (m ((c : Thread nD τ).loc main_arg6)) (m ((c : Thread nD τ).loc main_arg8)) (ix2 k n) := by
  rw [v10_eq]
  generalize wR (m ((c : Thread nD τ).loc main_arg6)) (m ((c : Thread nD τ).loc main_arg8)) = w
  pointwise

set_option backward.isDefEq.respectTransparency false in
/-- The last 128 columns are the weights minus themselves. -/
theorem v10_hi (c : Dev nD) (k : Fin 2048) (n : Fin 128) : (V m c main_v10 : FVec Ideal S2048x256 .bf16) (ix2 k ⟨128 + n.val, by have := n.isLt; omega⟩)
    = (wR (m ((c : Thread nD τ).loc main_arg6)) (m ((c : Thread nD τ).loc main_arg8)) (ix2 k n) - wR (m ((c : Thread nD τ).loc main_arg6)) (m ((c : Thread nD τ).loc main_arg8)) (ix2 k n) : EReal) := by
  rw [v10_eq]
  generalize wR (m ((c : Thread nD τ).loc main_arg6)) (m ((c : Thread nD τ).loc main_arg8)) = w
  pointwise

set_option backward.isDefEq.respectTransparency false in
/-- A normed row of the reference holds reals where the norm's weights do. -/
theorem uOut_real (X : FVec Ideal S16384x2048 .f32) (N : FVec Ideal S2x2048 .f32) (hN : ∀ k : Fin 2048, ∃ r : ℝ, N (ix2 0 k) = ((r : ℝ) : EReal)) (r : Fin 16384) (k : Fin 2048) :
    ∃ a : ℝ, uOut X N (ix2 r k) = ((a : ℝ) : EReal) := by
  pointwise [uOut]
  obtain ⟨e, he, hee⟩ := Cert.OutMath.ofBits_eps
  rw [Cert.OutMath.ofBits_2048, hee]
  obtain ⟨a, ha⟩ := Cert.OutMath.normed_real (fun k => X (ix2 r k)) 2048 e (by norm_num) he k
  obtain ⟨b, hb⟩ := hN k
  exact ⟨a * b, by rw [EReal.coe_mul]; exact congrArg₂ (fun x y : EReal => x * y) ha hb⟩

/-- The layer's weights of the norm and of the router are reals. -/
structure Good (N : FVec Ideal S2x2048 .f32) (G : FVec Ideal S2x2048x4 .f32) (E : FVec Ideal S2x2048x32 .f32) : Prop where
  norm : ∀ k : Fin 2048, ∃ r : ℝ, N (ix2 0 k) = ((r : ℝ) : EReal)
  group : ∀ (k : Fin 2048) (n : Fin 4), ∃ r : ℝ, G (ix3 0 k n) = ((r : ℝ) : EReal)
  expert : ∀ (k : Fin 2048) (n : Fin 32), ∃ r : ℝ, E (ix3 0 k n) = ((r : ℝ) : EReal)

/-- The logits of the memory's arguments. -/
abbrev lOf (c : Dev nD) : FVec Ideal S16384x128 .f32 :=
  lOut (uOut (hOf m c) (m ((c : Thread nD τ).loc main_arg5))) (m ((c : Thread nD τ).loc main_arg6)) (m ((c : Thread nD τ).loc main_arg7)) (m ((c : Thread nD τ).loc main_arg8)) (m ((c : Thread nD τ).loc main_arg9))

/-- What a grid point leaves of the logits is the reference's, entry by entry. -/
theorem point_l (c : Dev nD) (H : Good (m ((c : Thread nD τ).loc main_arg5)) (m ((c : Thread nD τ).loc main_arg6)) (m ((c : Thread nD τ).loc main_arg8))) (t : Fin cfg0.N) (y : S512x128.Idx) :
    out0_10 (F := Ideal) (iblk m c 0 t) (iblk m c 1 t) (iblk m c 2 t) (iblk m c 3 t) (iblk m c 4 t) (iblk m c 5 t) (iblk m c 6 t) (iblk m c 7 t) y
      = lOf m c (((cfg0.win 10).blk t).view.emb y) := by
  canon_tiles x h
  case piece0 =>
    refine l_core (k0_pay1 (F := Ideal) (k0_pay14 (iblk m c 0 t) (iblk m c 1 t) (iblk m c 2 t) (iblk m c 3 t) (iblk m c 4 t) (iblk m c 5 t) (iblk m c 6 t) (iblk m c 7 t))
      (k0_pay15 (iblk m c 0 t) (iblk m c 1 t) (iblk m c 2 t) (iblk m c 3 t) (iblk m c 4 t) (iblk m c 5 t) (iblk m c 6 t) (iblk m c 7 t)))
      (iblk m c 6 t) (iblk m c 7 t) _ _ _ _ _ x _ (by blk_simp [idx t]; omega) (fun k => u_hi m c t _ _ (by blk_simp [idx t]; omega) rfl) (fun k => uOut_real _ _ H.norm _ k)
      ?_ ?_ ?_ H.group H.expert
    · rw [iblk6]; exact v10_lo m c
    · rw [iblk6]; exact v10_hi m c
    · rw [iblk7, v17_eq]; exact fun n => rfl
  case piece1 =>
    refine l_core (k0_pay13 (F := Ideal) (iblk m c 0 t) (iblk m c 1 t) (iblk m c 2 t) (iblk m c 3 t) (iblk m c 4 t) (iblk m c 5 t) (iblk m c 6 t) (iblk m c 7 t))
      (iblk m c 6 t) (iblk m c 7 t) _ _ _ _ _ x _ (by blk_simp [idx t]; omega) (fun k => u_lo m c t _ _ (by blk_simp [idx t]; omega) rfl) (fun k => uOut_real _ _ H.norm _ k)
      ?_ ?_ ?_ H.group H.expert
    · rw [iblk6]; exact v10_lo m c
    · rw [iblk6]; exact v10_hi m c
    · rw [iblk7, v17_eq]; exact fun n => rfl

/-- The array of logits after the run is the reference's. -/
theorem final_l (c : Dev nD) (H : Good (m ((c : Thread nD τ).loc main_arg5)) (m ((c : Thread nD τ).loc main_arg6)) (m ((c : Thread nD τ).loc main_arg8))) :
    (dats m 0 c).arrAt 10 (cfgs 0).N = lOf m c := by
  refine (dats m 0 c).arrAt_eq_of_covers 10 _ (by decide +kernel) fun t _ y => ?_
  blk_simp
  rw [after0_10]
  exact point_l m c H t y

end Cert.OutProj0Ideal.Value

end
-- ==== Proof.Out.H1.lean ====
/-
  The out-projection of layer 1 at exact arithmetic: the arrays the call leaves, in the reference's own terms.
-/
module

public import proofs.«01_k».proof.Proof.Gen.OutProj1Ideal.Frame
public import proofs.«01_k».proof.Proof.Gen.OutProj1Ideal.Value
public import proofs.«01_k».proof.Proof.Gen.ReferenceOut1Ideal
public import proofs.«01_k».proof.Proof.Gen.ReferenceOut1Ideal.Run
public import Idealize.ShloMosaic.Lib.Pipeline.ValueKit

@[expose] public section

set_option maxRecDepth 16384
set_option maxHeartbeats 400000

noncomputable section

namespace Cert.OutProj1Ideal.Value

open Cert.OutProj1Ideal Cert.OutProj1Ideal.Gen
open Idealize.ShloMosaic Idealize.ShloMosaic.TcCoe Idealize.SL.Sem
open Idealize.ShloMosaic.Pipeline (Dat)

variable (m : (ℓ : Loc nD τ sig) → Buf (Elt Ideal) ℓ)

/-- The reference's residual rows: the rows `h` plus the three mixers' rows beside each other times layer 1's weights. -/
def hOut (A : FVec Ideal S16384x512 .bf16) (B : FVec Ideal S16384x1024 .bf16) (C : FVec Ideal S16384x512 .bf16) (H : FVec Ideal S16384x2048 .f32)
    (W : FVec Ideal S2x2048x2048 .f32) : FVec Ideal S16384x2048 .f32 :=
  addf H (Host.dotGeneral (F := Ideal) Cert.ReferenceOut1Ideal.dot_S16384x2048_S2048x2048_S16384x2048_1_0_0_1_n_n none
    (extf .f32 (concatenate S16384x2048 1 [⟨S16384x512, A⟩, ⟨S16384x1024, B⟩, ⟨S16384x512, C⟩] Cert.ReferenceOut1Ideal.Gen.concatenates_S16384x512_S16384x1024_S16384x512_S16384x2048_d1 : FVec Ideal S16384x2048 .bf16) Cert.ReferenceOut1Ideal.Gen.bitsLt_bf16_f32)
    (shapeCast _ (extractStridedSlice Cert.ReferenceOut1Ideal.S1x2048x2048 ![1, 0, 0] W Cert.ReferenceOut1Ideal.Gen.slices_S2x2048x2048_S1x2048x2048_1_0_0) Cert.ReferenceOut1Ideal.Gen.shapeCasts_S1x2048x2048_S2048x2048))

/-- Which block each window holds at a grid point: thirty-two row blocks, the weights whole. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The residual rows of the memory's arguments. -/
abbrev hOf (c : Dev nD) : FVec Ideal S16384x2048 .f32 :=
  hOut (m ((c : Thread nD τ).loc main_arg0)) (m ((c : Thread nD τ).loc main_arg1)) (m ((c : Thread nD τ).loc main_arg2)) (m ((c : Thread nD τ).loc main_arg3)) (m ((c : Thread nD τ).loc main_arg4))

/-- The projection's weights as the call finds them: layer 1's, rounded. -/
theorem v20_eq (c : Dev nD) : V m c main_v20 = (truncf .bf16 (shapeCast _ (extractStridedSlice S1x2048x2048 ![1, 0, 0] (m ((c : Thread nD τ).loc main_arg4)) slices_S2x2048x2048_S1x2048x2048_1_0_0) shapeCasts_S1x2048x2048_S2048x2048 : FVec Ideal S2048x2048 .f32) bitsLt_bf16_f32 : FVec Ideal S2048x2048 .bf16) := by
  unfold V; simp only [List.flatten_cons, List.flatten_nil, List.append_nil, List.cons_append, List.nil_append]; after_results <;> rfl

/-- The norm's weights as the call finds them: layer 1's, as a row. -/
theorem v23_eq (c : Dev nD) : V m c main_v23 = (broadcastInDim S1x2048 ![1] bcast_S2048_S1x2048_1 (shapeCast _ (extractStridedSlice S1x2048 ![1, 0] (m ((c : Thread nD τ).loc main_arg5)) slices_S2x2048_S1x2048_1_0) shapeCasts_S1x2048_S2048 : FVec Ideal S2048 .f32) : FVec Ideal S1x2048 .f32) := by
  unfold V; simp only [List.flatten_cons, List.flatten_nil, List.append_nil, List.cons_append, List.nil_append]; after_results <;> rfl

/-- The router's weights, the groups' beside the experts', in 128 lanes. -/
def wR (G : FVec Ideal S2x2048x4 .f32) (E : FVec Ideal S2x2048x32 .f32) : FVec Ideal S2048x128 .f32 :=
  pad S2048x128 ![0, 0] ![0, 92] ![0, 0] (concatenate S2048x36 1
    [⟨S2048x4, (shapeCast _ (extractStridedSlice S1x2048x4 ![1, 0, 0] G slices_S2x2048x4_S1x2048x4_1_0_0) shapeCasts_S1x2048x4_S2048x4 : FVec Ideal S2048x4 .f32)⟩,
     ⟨S2048x32, (shapeCast _ (extractStridedSlice S1x2048x32 ![1, 0, 0] E slices_S2x2048x32_S1x2048x32_1_0_0) shapeCasts_S1x2048x32_S2048x32 : FVec Ideal S2048x32 .f32)⟩]
     concatenates_S2048x4_S2048x32_S2048x36_d1) (sitofp .f32 (constantI S_ 32 0#32) : FVec Ideal S_ .f32) pads_S2048x36_S2048x128_000_0920 h_S_

/-- The router's weights as the call finds them: their rounded value beside what the rounding leaves. -/
theorem v10_eq (c : Dev nD) : V m c main_v10 = (concatenate S2048x256 1
    [⟨S2048x128, (truncf .bf16 (wR (m ((c : Thread nD τ).loc main_arg6)) (m ((c : Thread nD τ).loc main_arg8))) bitsLt_bf16_f32 : FVec Ideal S2048x128 .bf16)⟩,
     ⟨S2048x128, (truncf .bf16 (subf (wR (m ((c : Thread nD τ).loc main_arg6)) (m ((c : Thread nD τ).loc main_arg8)))
        (extf .f32 (truncf .bf16 (wR (m ((c : Thread nD τ).loc main_arg6)) (m ((c : Thread nD τ).loc main_arg8))) bitsLt_bf16_f32 : FVec Ideal S2048x128 .bf16) bitsLt_bf16_f32)) bitsLt_bf16_f32 : FVec Ideal S2048x128 .bf16)⟩]
     concatenates_S2048x128_S2048x128_S2048x256_d1 : FVec Ideal S2048x256 .bf16) := by
  unfold V; simp only [List.flatten_cons, List.flatten_nil, List.append_nil, List.cons_append, List.nil_append]; after_results <;> rfl

/-- The router's biases, the groups' beside the experts', in 128 lanes, as the call finds them. -/
theorem v17_eq (c : Dev nD) : V m c main_v17 = (pad S1x128 ![0, 0] ![0, 92] ![0, 0] (broadcastInDim S1x36 ![1] bcast_S36_S1x36_1 (concatenate S36 0
    [⟨S4, (shapeCast _ (extractStridedSlice S1x4 ![1, 0] (m ((c : Thread nD τ).loc main_arg7)) slices_S2x4_S1x4_1_0) shapeCasts_S1x4_S4 : FVec Ideal S4 .f32)⟩,
     ⟨S32, (shapeCast _ (extractStridedSlice S1x32 ![1, 0] (m ((c : Thread nD τ).loc main_arg9)) slices_S2x32_S1x32_1_0) shapeCasts_S1x32_S32 : FVec Ideal S32 .f32)⟩]
     concatenates_S4_S32_S36_d0 : FVec Ideal S36 .f32) : FVec Ideal S1x36 .f32) (sitofp .f32 (constantI S_ 32 0#32) : FVec Ideal S_ .f32) pads_S1x36_S1x128_000_0920 h_S_ : FVec Ideal S1x128 .f32) := by
  unfold V; simp only [List.flatten_cons, List.flatten_nil, List.append_nil, List.cons_append, List.nil_append]; after_results <;> rfl

set_option backward.isDefEq.respectTransparency false in
/-- The upper half of a block's residual rows. -/
theorem h_lo (c : Dev nD) (t : Fin cfg0.N) (i : S256x2048.Idx) (j : S16384x2048.Idx) (h0 : (j 0 : ℕ) = t.val * 512 + (i 0 : ℕ)) (h1 : (j 1 : ℕ) = (i 1 : ℕ)) :
    k0_pay5 (F := Ideal) (View.ld (iblk m c 0 t) r0_0) (View.ld (iblk m c 1 t) r0_1) (View.ld (iblk m c 2 t) r0_0) (View.ld (iblk m c 4 t) r0_2) (View.ld (iblk m c 3 t) r0_5) i
      = hOf m c j := by
  pointwise [k0_pay5, hOut]
  blk_point [iblk, idx t]
  all_goals (rw [v20_eq]; pointwise; blk_ext [idx t])

set_option backward.isDefEq.respectTransparency false in
/-- The lower half of a block's residual rows. -/
theorem h_hi (c : Dev nD) (t : Fin cfg0.N) (i : S256x2048.Idx) (j : S16384x2048.Idx) (h0 : (j 0 : ℕ) = t.val * 512 + 256 + (i 0 : ℕ)) (h1 : (j 1 : ℕ) = (i 1 : ℕ)) :
    k0_pay9 (F := Ideal) (k0_pay12 (iblk m c 0 t) (iblk m c 1 t) (iblk m c 2 t) (iblk m c 3 t) (iblk m c 4 t) (iblk m c 5 t) (iblk m c 6 t) (iblk m c 7 t)) (View.ld (iblk m c 3 t) r0_11) i
      = hOf m c j := by
  pointwise [k0_pay9, k0_pay12, k0_pay4, hOut]
  blk_point [iblk, idx t]
  all_goals (rw [v20_eq]; pointwise; blk_ext [idx t])

end Cert.OutProj1Ideal.Value

end
-- ==== Proof.Out.U1.lean ====
/-
  The out-projection of layer 1 at exact arithmetic: the array of residual rows, the normed rows and the router's logits.
-/
module

public import proofs.«01_k».proof.Proof.Gen.OutProj1Ideal.Frame
public import proofs.«01_k».proof.Proof.Gen.OutProj1Ideal.Value
public import proofs.«01_k».proof.Proof.Gen.ReferenceOut1Ideal
public import proofs.«01_k».proof.Proof.Gen.ReferenceOut1Ideal.Run
public import proofs.«01_k».proof.Proof.Out.H1
public import proofs.«01_k».proof.Proof.Out.Math
public import Idealize.ShloMosaic.Lib.Pipeline.ValueKit

@[expose] public section

set_option maxRecDepth 16384
set_option maxHeartbeats 400000

noncomputable section

namespace Cert.OutProj1Ideal.Value

open Cert.OutProj1Ideal Cert.OutProj1Ideal.Gen
open Idealize.ShloMosaic Idealize.ShloMosaic.TcCoe Idealize.SL.Sem
open Idealize.ShloMosaic.Pipeline (Dat)

variable (m : (ℓ : Loc nD τ sig) → Buf (Elt Ideal) ℓ)

set_option backward.isDefEq.respectTransparency false in
/-- What a grid point leaves of the residual rows is the reference's, entry by entry. -/
theorem point_h (c : Dev nD) (t : Fin cfg0.N) (y : S512x2048.Idx) :
    out0_8 (F := Ideal) (iblk m c 0 t) (iblk m c 1 t) (iblk m c 2 t) (iblk m c 3 t) (iblk m c 4 t) (iblk m c 5 t) (iblk m c 6 t) (iblk m c 7 t) y
      = hOf m c (((cfg0.win 8).blk t).view.emb y) := by
  canon_tiles x h
  case piece0 => exact h_hi m c t x _ (by blk_simp [idx t]; omega) (by blk_simp [idx t]; omega)
  case piece1 => exact h_lo m c t x _ (by blk_simp [idx t]; omega) (by blk_simp [idx t]; omega)

/-- The array of residual rows after the run is the reference's. -/
theorem final_h (c : Dev nD) : (dats m 0 c).arrAt 8 (cfgs 0).N = hOf m c := by
  refine (dats m 0 c).arrAt_eq_of_covers 8 _ (by decide +kernel) fun t _ y => ?_
  blk_simp
  rw [after0_8]
  exact point_h m c t y

/-- The reference's norm of rows. -/
def uOut (X : FVec Ideal S16384x2048 .f32) (N : FVec Ideal S2x2048 .f32) : FVec Ideal S16384x2048 .f32 :=
  mulf (mulf X (broadcastInDim S16384x2048 ![0, 1] Cert.ReferenceOut1Ideal.Gen.bcast_S16384x1_S16384x2048_0_1 (Host.rsqrt (addf (Host.divf
    (broadcastInDim Cert.ReferenceOut1Ideal.S16384x1 ![0] Cert.ReferenceOut1Ideal.Gen.bcast_S16384_S16384x1_0 (Host.reduceAdd (mulf X X) (constant Cert.ReferenceOut1Ideal.S_ .f32 0x00000000#32) Cert.ReferenceOut1Ideal.Gen.reducesTo_S16384x2048_S16384_d1 Cert.ReferenceOut1Ideal.Gen.h_S_))
    (broadcastInDim Cert.ReferenceOut1Ideal.S16384x1 ![] Cert.ReferenceOut1Ideal.Gen.bcast_S_S16384x1 (constant Cert.ReferenceOut1Ideal.S_ .f32 0x45000000#32)))
    (broadcastInDim Cert.ReferenceOut1Ideal.S16384x1 ![] Cert.ReferenceOut1Ideal.Gen.bcast_S_S16384x1 (constant Cert.ReferenceOut1Ideal.S_ .f32 0x358637BD#32))))))
    (broadcastInDim S16384x2048 ![0, 1] Cert.ReferenceOut1Ideal.Gen.bcast_S1x2048_S16384x2048_0_1 (broadcastInDim S1x2048 ![1] Cert.ReferenceOut1Ideal.Gen.bcast_S2048_S1x2048_1
      (shapeCast _ (extractStridedSlice S1x2048 ![1, 0] N Cert.ReferenceOut1Ideal.Gen.slices_S2x2048_S1x2048_1_0) Cert.ReferenceOut1Ideal.Gen.shapeCasts_S1x2048_S2048 : FVec Ideal S2048 .f32)))

set_option backward.isDefEq.respectTransparency false in
/-- The upper half of a block's normed rows. -/
theorem u_lo (c : Dev nD) (t : Fin cfg0.N) (i : S256x2048.Idx) (j : S16384x2048.Idx) (h0 : (j 0 : ℕ) = t.val * 512 + (i 0 : ℕ)) (h1 : (j 1 : ℕ) = (i 1 : ℕ)) :
    k0_pay13 (F := Ideal) (iblk m c 0 t) (iblk m c 1 t) (iblk m c 2 t) (iblk m c 3 t) (iblk m c 4 t) (iblk m c 5 t) (iblk m c 6 t) (iblk m c 7 t) i
      = uOut (hOf m c) (m ((c : Thread nD τ).loc main_arg5)) j := by
  pointwise [k0_pay13, k0_pay6, uOut]
  reads_congr
  · exact h_lo m c t _ _ h0 h1
  · exact h_lo m c t _ _ h0 rfl
  · blk_simp [iblk]; rw [v23_eq]; pointwise; blk_ext [idx t]

set_option backward.isDefEq.respectTransparency false in
/-- The lower half of a block's normed rows. -/
theorem u_hi (c : Dev nD) (t : Fin cfg0.N) (i : S256x2048.Idx) (j : S16384x2048.Idx) (h0 : (j 0 : ℕ) = t.val * 512 + 256 + (i 0 : ℕ)) (h1 : (j 1 : ℕ) = (i 1 : ℕ)) :
    k0_pay1 (F := Ideal) (k0_pay14 (iblk m c 0 t) (iblk m c 1 t) (iblk m c 2 t) (iblk m c 3 t) (iblk m c 4 t) (iblk m c 5 t) (iblk m c 6 t) (iblk m c 7 t))
        (k0_pay15 (iblk m c 0 t) (iblk m c 1 t) (iblk m c 2 t) (iblk m c 3 t) (iblk m c 4 t) (iblk m c 5 t) (iblk m c 6 t) (iblk m c 7 t)) i
      = uOut (hOf m c) (m ((c : Thread nD τ).loc main_arg5)) j := by
  pointwise [k0_pay1, k0_pay14, k0_pay15, k0_pay10, k0_pay11, uOut]
  reads_congr
  · exact h_hi m c t _ _ h0 h1
  · exact h_hi m c t _ _ h0 rfl
  · blk_simp [iblk]; rw [v23_eq]; pointwise; blk_ext [idx t]

/-- What a grid point leaves of the normed rows is the reference's, entry by entry. -/
theorem point_u (c : Dev nD) (t : Fin cfg0.N) (y : S512x2048.Idx) :
    out0_9 (F := Ideal) (iblk m c 0 t) (iblk m c 1 t) (iblk m c 2 t) (iblk m c 3 t) (iblk m c 4 t) (iblk m c 5 t) (iblk m c 6 t) (iblk m c 7 t) y
      = uOut (hOf m c) (m ((c : Thread nD τ).loc main_arg5)) (((cfg0.win 9).blk t).view.emb y) := by
  canon_tiles x h
  case piece0 => exact u_hi m c t x _ (by blk_simp [idx t]; omega) (by blk_simp [idx t]; omega)
  case piece1 => exact u_lo m c t x _ (by blk_simp [idx t]; omega) (by blk_simp [idx t]; omega)

/-- The array of normed rows after the run is the reference's. -/
theorem final_u (c : Dev nD) : (dats m 0 c).arrAt 9 (cfgs 0).N
    = (truncf .bf16 (uOut (hOf m c) (m ((c : Thread nD τ).loc main_arg5))) bitsLt_bf16_f32 : FVec Ideal S16384x2048 .bf16) := by
  refine (dats m 0 c).arrAt_eq_of_covers 9 _ (by decide +kernel) fun t _ y => ?_
  blk_simp
  rw [after0_9]
  exact point_u m c t y

end Cert.OutProj1Ideal.Value

end
-- ==== Proof.Out.L1.lean ====
/-
  The out-projection of layer 1 at exact arithmetic: the router's logits.
-/
module

public import proofs.«01_k».proof.Proof.Gen.OutProj1Ideal.Frame
public import proofs.«01_k».proof.Proof.Gen.OutProj1Ideal.Value
public import proofs.«01_k».proof.Proof.Gen.ReferenceOut1Ideal
public import proofs.«01_k».proof.Proof.Gen.ReferenceOut1Ideal.Run
public import proofs.«01_k».proof.Proof.Out.U1
public import proofs.«01_k».proof.Proof.Out.Math
public import Idealize.ShloMosaic.Lib.Pipeline.ValueKit

@[expose] public section

set_option maxRecDepth 16384
set_option maxHeartbeats 400000

noncomputable section

namespace Cert.OutProj1Ideal.Value

open Cert.OutProj1Ideal Cert.OutProj1Ideal.Gen
open Idealize.ShloMosaic Idealize.ShloMosaic.TcCoe Idealize.SL.Sem
open Idealize.ShloMosaic.Pipeline (Dat)

variable (m : (ℓ : Loc nD τ sig) → Buf (Elt Ideal) ℓ)

/-- The reference's router logits in 128 lanes. -/
def lOut (U : FVec Ideal S16384x2048 .f32) (G : FVec Ideal S2x2048x4 .f32) (g : FVec Ideal S2x4 .f32) (E : FVec Ideal S2x2048x32 .f32) (e : FVec Ideal S2x32 .f32) :
    FVec Ideal S16384x128 .f32 :=
  pad S16384x128 ![0, 0] ![0, 92] ![0, 0] (concatenate Cert.ReferenceOut1Ideal.S16384x36 1
    [⟨Cert.ReferenceOut1Ideal.S16384x4, (addf (Host.dotGeneral Cert.ReferenceOut1Ideal.dot_S16384x2048_S2048x4_S16384x4_1_0_0_1_n_n none U
        (shapeCast _ (extractStridedSlice S1x2048x4 ![1, 0, 0] G Cert.ReferenceOut1Ideal.Gen.slices_S2x2048x4_S1x2048x4_1_0_0) Cert.ReferenceOut1Ideal.Gen.shapeCasts_S1x2048x4_S2048x4))
        (broadcastInDim Cert.ReferenceOut1Ideal.S16384x4 ![0, 1] Cert.ReferenceOut1Ideal.Gen.bcast_S1x4_S16384x4_0_1 (broadcastInDim S1x4 ![1] Cert.ReferenceOut1Ideal.Gen.bcast_S4_S1x4_1
          (shapeCast _ (extractStridedSlice S1x4 ![1, 0] g Cert.ReferenceOut1Ideal.Gen.slices_S2x4_S1x4_1_0) Cert.ReferenceOut1Ideal.Gen.shapeCasts_S1x4_S4))) : FVec Ideal Cert.ReferenceOut1Ideal.S16384x4 .f32)⟩,
     ⟨Cert.ReferenceOut1Ideal.S16384x32, (addf (Host.dotGeneral Cert.ReferenceOut1Ideal.dot_S16384x2048_S2048x32_S16384x32_1_0_0_1_n_n none U
        (shapeCast _ (extractStridedSlice S1x2048x32 ![1, 0, 0] E Cert.ReferenceOut1Ideal.Gen.slices_S2x2048x32_S1x2048x32_1_0_0) Cert.ReferenceOut1Ideal.Gen.shapeCasts_S1x2048x32_S2048x32))
        (broadcastInDim Cert.ReferenceOut1Ideal.S16384x32 ![0, 1] Cert.ReferenceOut1Ideal.Gen.bcast_S1x32_S16384x32_0_1 (broadcastInDim S1x32 ![1] Cert.ReferenceOut1Ideal.Gen.bcast_S32_S1x32_1
          (shapeCast _ (extractStridedSlice S1x32 ![1, 0] e Cert.ReferenceOut1Ideal.Gen.slices_S2x32_S1x32_1_0) Cert.ReferenceOut1Ideal.Gen.shapeCasts_S1x32_S32))) : FVec Ideal Cert.ReferenceOut1Ideal.S16384x32 .f32)⟩]
    Cert.ReferenceOut1Ideal.Gen.concatenates_S16384x4_S16384x32_S16384x36_d1) (sitofp .f32 (constantI S_ 32 0#32)) Cert.ReferenceOut1Ideal.Gen.pads_S16384x36_S16384x128_000_0920 Cert.ReferenceOut1Ideal.Gen.h_S_

/-- The reference's third result is those logits. -/
theorem res_eq (m' : (ℓ : Loc Cert.ReferenceOut1Ideal.nD Cert.ReferenceOut1Ideal.τ Cert.ReferenceOut1Ideal.sig) → Buf (Elt Ideal) ℓ) (c : Dev Cert.ReferenceOut1Ideal.nD) :
    Cert.ReferenceOut1Ideal.Value.res_main_v39 m' c = lOut (uOut (hOut (m' ((c.tc : Thread Cert.ReferenceOut1Ideal.nD Cert.ReferenceOut1Ideal.τ).loc Cert.ReferenceOut1Ideal.main_arg0)) (m' ((c.tc : Thread Cert.ReferenceOut1Ideal.nD Cert.ReferenceOut1Ideal.τ).loc Cert.ReferenceOut1Ideal.main_arg1)) (m' ((c.tc : Thread Cert.ReferenceOut1Ideal.nD Cert.ReferenceOut1Ideal.τ).loc Cert.ReferenceOut1Ideal.main_arg2))
        (m' ((c.tc : Thread Cert.ReferenceOut1Ideal.nD Cert.ReferenceOut1Ideal.τ).loc Cert.ReferenceOut1Ideal.main_arg3)) (m' ((c.tc : Thread Cert.ReferenceOut1Ideal.nD Cert.ReferenceOut1Ideal.τ).loc Cert.ReferenceOut1Ideal.main_arg4))) (m' ((c.tc : Thread Cert.ReferenceOut1Ideal.nD Cert.ReferenceOut1Ideal.τ).loc Cert.ReferenceOut1Ideal.main_arg5)))
      (m' ((c.tc : Thread Cert.ReferenceOut1Ideal.nD Cert.ReferenceOut1Ideal.τ).loc Cert.ReferenceOut1Ideal.main_arg6)) (m' ((c.tc : Thread Cert.ReferenceOut1Ideal.nD Cert.ReferenceOut1Ideal.τ).loc Cert.ReferenceOut1Ideal.main_arg7)) (m' ((c.tc : Thread Cert.ReferenceOut1Ideal.nD Cert.ReferenceOut1Ideal.τ).loc Cert.ReferenceOut1Ideal.main_arg8)) (m' ((c.tc : Thread Cert.ReferenceOut1Ideal.nD Cert.ReferenceOut1Ideal.τ).loc Cert.ReferenceOut1Ideal.main_arg9)) := rfl

/-- The router's biases, the groups' beside the experts', in 128 lanes. -/
def bR (g : FVec Ideal S2x4 .f32) (e : FVec Ideal S2x32 .f32) : FVec Ideal S1x128 .f32 :=
  pad S1x128 ![0, 0] ![0, 92] ![0, 0] (broadcastInDim S1x36 ![1] bcast_S36_S1x36_1 (concatenate S36 0
    [⟨S4, (shapeCast _ (extractStridedSlice S1x4 ![1, 0] g slices_S2x4_S1x4_1_0) shapeCasts_S1x4_S4 : FVec Ideal S4 .f32)⟩,
     ⟨S32, (shapeCast _ (extractStridedSlice S1x32 ![1, 0] e slices_S2x32_S1x32_1_0) shapeCasts_S1x32_S32 : FVec Ideal S32 .f32)⟩]
     concatenates_S4_S32_S36_d0 : FVec Ideal S36 .f32) : FVec Ideal S1x36 .f32) (sitofp .f32 (constantI S_ 32 0#32) : FVec Ideal S_ .f32) pads_S1x36_S1x128_000_0920 h_S_

/-- The integer zero, as a float, is zero. -/
theorem sitofp_zero : (FloatOps.sitofp FTy.f32 0#32 : Ideal .f32) = (0 : EReal) := by
  show ((((0#32 : BitVec 32).toInt : ℤ) : ℝ) : EReal) = 0
  simp

set_option backward.isDefEq.respectTransparency false in
/-- The router's weights are reals where the layer's parts of the two arrays they come from hold reals. -/
theorem wR_real (G : FVec Ideal S2x2048x4 .f32) (E : FVec Ideal S2x2048x32 .f32) (hG : ∀ (k : Fin 2048) (n : Fin 4), ∃ r : ℝ, G (ix3 1 k n) = ((r : ℝ) : EReal)) (hE : ∀ (k : Fin 2048) (n : Fin 32), ∃ r : ℝ, E (ix3 1 k n) = ((r : ℝ) : EReal))
    (k : Fin 2048) (n : Fin 128) : ∃ r : ℝ, wR G E (ix2 k n) = ((r : ℝ) : EReal) := by
  pointwise [wR]
  split_ifs <;> first | exact hG _ _ | exact hE _ _ | exact ⟨0, sitofp_zero⟩ | exact absurd rfl ‹_›

set_option backward.isDefEq.respectTransparency false in
/-- A logit of the reference: a row's product with a column of the router's weights, plus the bias. -/
theorem lOut_at (U : FVec Ideal S16384x2048 .f32) (G : FVec Ideal S2x2048x4 .f32) (g : FVec Ideal S2x4 .f32) (E : FVec Ideal S2x2048x32 .f32) (e : FVec Ideal S2x32 .f32) (r : Fin 16384) (n : Fin 128) :
    lOut U G g E e (ix2 r n) = (∑ k : Fin 2048, (U (ix2 r k) : EReal) * wR G E (ix2 k n)) + bR g e (ix2 0 n) := by
  pointwise [lOut, wR, bR]
  split_ifs <;> first | rfl | (rw [sitofp_zero]; simp)

set_option backward.isDefEq.respectTransparency false in
/-- The logits of half a block, from normed rows that are reals: the parts that the roundings leave add nothing. -/
theorem l_core (u : FVec Ideal S256x2048 .f32) (w : FVec Ideal S2048x256 .bf16) (b : FVec Ideal S1x128 .f32)
    (U : FVec Ideal S16384x2048 .f32) (G : FVec Ideal S2x2048x4 .f32) (g : FVec Ideal S2x4 .f32) (E : FVec Ideal S2x2048x32 .f32) (e : FVec Ideal S2x32 .f32)
    (i : S256x128.Idx) (j : S16384x128.Idx) (h1 : (j 1 : ℕ) = (i 1 : ℕ)) (hu : ∀ k : Fin 2048, u (ix2 (i 0) k) = U (ix2 (j 0) k))
    (hU : ∀ k : Fin 2048, ∃ r : ℝ, U (ix2 (j 0) k) = ((r : ℝ) : EReal))
    (hw : ∀ (k : Fin 2048) (n : Fin 128), w (ix2 k ⟨n.val, by have := n.isLt; omega⟩) = wR G E (ix2 k n))
    (hw' : ∀ (k : Fin 2048) (n : Fin 128), w (ix2 k ⟨128 + n.val, by have := n.isLt; omega⟩) = (wR G E (ix2 k n) - wR G E (ix2 k n) : EReal))
    (hb : ∀ n : Fin 128, b (ix2 0 n) = bR g e (ix2 0 n))
    (hG : ∀ (k : Fin 2048) (n : Fin 4), ∃ r : ℝ, G (ix3 1 k n) = ((r : ℝ) : EReal)) (hE : ∀ (k : Fin 2048) (n : Fin 32), ∃ r : ℝ, E (ix3 1 k n) = ((r : ℝ) : EReal)) :
    k0_pay8 (F := Ideal) u (View.ld w r0_7) (View.ld w r0_8) (View.ld b r0_9) i = lOut U G g E e j := by
  have ej : j = ix2 (j 0) (i 1) := by blk_ext []
  rw [ej, lOut_at]
  pointwise [k0_pay8, k0_pay7]
  have a1 : ∀ k : Fin 2048, (u (ix2 (i 0) k) : EReal) * w (ix2 k ⟨(i 1 : ℕ), by have := (i 1).isLt; exact lt_trans this (by decide)⟩) = U (ix2 (j 0) k) * wR G E (ix2 k (i 1)) :=
    fun k => by rw [hu k]; exact congrArg _ (hw k (i 1))
  have a2 : ∀ k : Fin 2048, (u (ix2 (i 0) k) : EReal) * w (ix2 k ⟨128 + (i 1 : ℕ), by have : (i 1 : ℕ) < 128 := (i 1).isLt; omega⟩) = 0 :=
    fun k => by
      have := hw' k (i 1)
      rw [Cert.OutMath.sub_self_real (wR_real G E hG hE k (i 1))] at this
      exact (congrArg (fun z : EReal => (u (ix2 (i 0) k) : EReal) * z) this).trans (mul_zero _)
  have a3 : ∀ k : Fin 2048, ((u (ix2 (i 0) k) : EReal) - u (ix2 (i 0) k)) * w (ix2 k ⟨(i 1 : ℕ), by have := (i 1).isLt; exact lt_trans this (by decide)⟩) = 0 :=
    fun k => by
      have : (u (ix2 (i 0) k) : EReal) - u (ix2 (i 0) k) = 0 := Cert.OutMath.sub_self_real (by rw [hu k]; exact hU k)
      rw [this, zero_mul]
  rw [Finset.sum_congr rfl fun k _ => a1 k, Finset.sum_congr rfl fun k _ => a2 k, Finset.sum_congr rfl fun k _ => a3 k, Finset.sum_const_zero, add_zero, add_zero]
  exact congrArg _ (hb (i 1))

/-- The block of the router's weights is the whole array. -/
theorem iblk6 (c : Dev nD) (t : Fin cfg0.N) : iblk m c 6 t = V m c main_v10 := by blk_ext! [iblk, idx t]
/-- The block of the router's biases is the whole array. -/
theorem iblk7 (c : Dev nD) (t : Fin cfg0.N) : iblk m c 7 t = V m c main_v17 := by blk_ext! [iblk, idx t]

set_option backward.isDefEq.respectTransparency false in
/-- The first 128 columns of the router's weights as the call finds them are the weights. -/
theorem v10_lo (c : Dev nD) (k : Fin 2048) (n : Fin 128) : (V m c main_v10 : FVec Ideal S2048x256 .bf16) (ix2 k ⟨n.val, by have := n.isLt; omega⟩)
    = wR (m ((c : Thread nD τ).loc main_arg6)) (m ((c : Thread nD τ).loc main_arg8)) (ix2 k n) := by
  rw [v10_eq]
  generalize wR (m ((c : Thread nD τ).loc main_arg6)) (m ((c : Thread nD τ).loc main_arg8)) = w
  pointwise

set_option backward.isDefEq.respectTransparency false in
/-- The last 128 columns are the weights minus themselves. -/
theorem v10_hi (c : Dev nD) (k : Fin 2048) (n : Fin 128) : (V m c main_v10 : FVec Ideal S2048x256 .bf16) (ix2 k ⟨128 + n.val, by have := n.isLt; omega⟩)
    = (wR (m ((c : Thread nD τ).loc main_arg6)) (m ((c : Thread nD τ).loc main_arg8)) (ix2 k n) - wR (m ((c : Thread nD τ).loc main_arg6)) (m ((c : Thread nD τ).loc main_arg8)) (ix2 k n) : EReal) := by
  rw [v10_eq]
  generalize wR (m ((c : Thread nD τ).loc main_arg6)) (m ((c : Thread nD τ).loc main_arg8)) = w
  pointwise

set_option backward.isDefEq.respectTransparency false in
/-- A normed row of the reference holds reals where the norm's weights do. -/
theorem uOut_real (X : FVec Ideal S16384x2048 .f32) (N : FVec Ideal S2x2048 .f32) (hN : ∀ k : Fin 2048, ∃ r : ℝ, N (ix2 1 k) = ((r : ℝ) : EReal)) (r : Fin 16384) (k : Fin 2048) :
    ∃ a : ℝ, uOut X N (ix2 r k) = ((a : ℝ) : EReal) := by
  pointwise [uOut]
  obtain ⟨e, he, hee⟩ := Cert.OutMath.ofBits_eps
  rw [Cert.OutMath.ofBits_2048, hee]
  obtain ⟨a, ha⟩ := Cert.OutMath.normed_real (fun k => X (ix2 r k)) 2048 e (by norm_num) he k
  obtain ⟨b, hb⟩ := hN k
  exact ⟨a * b, by rw [EReal.coe_mul]; exact congrArg₂ (fun x y : EReal => x * y) ha hb⟩

/-- The layer's weights of the norm and of the router are reals. -/
structure Good (N : FVec Ideal S2x2048 .f32) (G : FVec Ideal S2x2048x4 .f32) (E : FVec Ideal S2x2048x32 .f32) : Prop where
  norm : ∀ k : Fin 2048, ∃ r : ℝ, N (ix2 1 k) = ((r : ℝ) : EReal)
  group : ∀ (k : Fin 2048) (n : Fin 4), ∃ r : ℝ, G (ix3 1 k n) = ((r : ℝ) : EReal)
  expert : ∀ (k : Fin 2048) (n : Fin 32), ∃ r : ℝ, E (ix3 1 k n) = ((r : ℝ) : EReal)

/-- The logits of the memory's arguments. -/
abbrev lOf (c : Dev nD) : FVec Ideal S16384x128 .f32 :=
  lOut (uOut (hOf m c) (m ((c : Thread nD τ).loc main_arg5))) (m ((c : Thread nD τ).loc main_arg6)) (m ((c : Thread nD τ).loc main_arg7)) (m ((c : Thread nD τ).loc main_arg8)) (m ((c : Thread nD τ).loc main_arg9))

/-- What a grid point leaves of the logits is the reference's, entry by entry. -/
theorem point_l (c : Dev nD) (H : Good (m ((c : Thread nD τ).loc main_arg5)) (m ((c : Thread nD τ).loc main_arg6)) (m ((c : Thread nD τ).loc main_arg8))) (t : Fin cfg0.N) (y : S512x128.Idx) :
    out0_10 (F := Ideal) (iblk m c 0 t) (iblk m c 1 t) (iblk m c 2 t) (iblk m c 3 t) (iblk m c 4 t) (iblk m c 5 t) (iblk m c 6 t) (iblk m c 7 t) y
      = lOf m c (((cfg0.win 10).blk t).view.emb y) := by
  canon_tiles x h
  case piece0 =>
    refine l_core (k0_pay1 (F := Ideal) (k0_pay14 (iblk m c 0 t) (iblk m c 1 t) (iblk m c 2 t) (iblk m c 3 t) (iblk m c 4 t) (iblk m c 5 t) (iblk m c 6 t) (iblk m c 7 t))
      (k0_pay15 (iblk m c 0 t) (iblk m c 1 t) (iblk m c 2 t) (iblk m c 3 t) (iblk m c 4 t) (iblk m c 5 t) (iblk m c 6 t) (iblk m c 7 t)))
      (iblk m c 6 t) (iblk m c 7 t) _ _ _ _ _ x _ (by blk_simp [idx t]; omega) (fun k => u_hi m c t _ _ (by blk_simp [idx t]; omega) rfl) (fun k => uOut_real _ _ H.norm _ k)
      ?_ ?_ ?_ H.group H.expert
    · rw [iblk6]; exact v10_lo m c
    · rw [iblk6]; exact v10_hi m c
    · rw [iblk7, v17_eq]; exact fun n => rfl
  case piece1 =>
    refine l_core (k0_pay13 (F := Ideal) (iblk m c 0 t) (iblk m c 1 t) (iblk m c 2 t) (iblk m c 3 t) (iblk m c 4 t) (iblk m c 5 t) (iblk m c 6 t) (iblk m c 7 t))
      (iblk m c 6 t) (iblk m c 7 t) _ _ _ _ _ x _ (by blk_simp [idx t]; omega) (fun k => u_lo m c t _ _ (by blk_simp [idx t]; omega) rfl) (fun k => uOut_real _ _ H.norm _ k)
      ?_ ?_ ?_ H.group H.expert
    · rw [iblk6]; exact v10_lo m c
    · rw [iblk6]; exact v10_hi m c
    · rw [iblk7, v17_eq]; exact fun n => rfl

/-- The array of logits after the run is the reference's. -/
theorem final_l (c : Dev nD) (H : Good (m ((c : Thread nD τ).loc main_arg5)) (m ((c : Thread nD τ).loc main_arg6)) (m ((c : Thread nD τ).loc main_arg8))) :
    (dats m 0 c).arrAt 10 (cfgs 0).N = lOf m c := by
  refine (dats m 0 c).arrAt_eq_of_covers 10 _ (by decide +kernel) fun t _ y => ?_
  blk_simp
  rw [after0_10]
  exact point_l m c H t y

end Cert.OutProj1Ideal.Value

end
-- ==== Proof.Out.Pre.lean ====
/-
  What the out-projections' preconditions say of the arguments: the layer's weights of the norm and of the router are reals.
-/
module

public import proofs.«01_k».proof.Defs
public import proofs.«01_k».proof.Proof.Pre

@[expose] public section

set_option maxRecDepth 16384
set_option maxHeartbeats 400000

noncomputable section

open Idealize.ShloMosaic Idealize.ShloMosaic.Tactic
open Cert.Pre_in_range (and_one all_of_reduce ofBits_top of_bool real_of_abs)

namespace Cert.Pre_finite0

/-- The shape relations of the precondition's operations, for layer 0. -/
instance facts : Facts where
  slices_S2x2048_S1x2048_0_0 := by decide
  bcast_S_S1x2048 := by decide
  reducesTo_S1x2048_S_d0_1 := by decide
  h_S_ := by decide
  slices_S2x2048x4_S1x2048x4_0_0_0 := by decide
  bcast_S_S1x2048x4 := by decide
  reducesTo_S1x2048x4_S_d0_1_2 := by decide
  slices_S2x2048x32_S1x2048x32_0_0_0 := by decide
  bcast_S_S1x2048x32 := by decide
  reducesTo_S1x2048x32_S_d0_1_2 := by decide

set_option backward.isDefEq.respectTransparency false in
/-- The precondition's three parts, for layer 0. -/
theorem parts (A : FVec Ideal S16384x512 .bf16) (B : FVec Ideal S16384x1024 .bf16) (C : FVec Ideal S16384x512 .bf16) (H : FVec Ideal S16384x2048 .f32)
    (W : FVec Ideal S2x2048x2048 .f32) (N : FVec Ideal S2x2048 .f32) (G : FVec Ideal S2x2048x4 .f32) (g : FVec Ideal S2x4 .f32)
    (E : FVec Ideal S2x2048x32 .f32) (e : FVec Ideal S2x32 .f32) (h : fn (F := Ideal) A B C H W N G g E e = fun _ => 1#1) :
    (∀ k : Fin 2048, ∃ r : ℝ, N (ix2 0 k) = ((r : ℝ) : EReal)) ∧ (∀ (k : Fin 2048) (n : Fin 4), ∃ r : ℝ, G (ix3 0 k n) = ((r : ℝ) : EReal))
      ∧ (∀ (k : Fin 2048) (n : Fin 32), ∃ r : ℝ, E (ix3 0 k n) = ((r : ℝ) : EReal)) := by
  have h0 := congrFun h ix0
  obtain ⟨h1, h2⟩ := (and_one _ _).mp h0
  obtain ⟨h3, h4⟩ := (and_one _ _).mp h1
  refine ⟨fun k => ⟨_, real_of_abs _ ?_⟩, fun k n => ⟨_, real_of_abs _ ?_⟩, fun k n => ⟨_, real_of_abs _ ?_⟩⟩
  · have := all_of_reduce _ _ _ _ _ h3 (ix2 0 k)
    revert this
    pointwise
    rw [ofBits_top]
    exact of_bool _
  · have := all_of_reduce _ _ _ _ _ h4 (ix3 0 k n)
    revert this
    pointwise
    rw [ofBits_top]
    exact of_bool _
  · have := all_of_reduce _ _ _ _ _ h2 (ix3 0 k n)
    revert this
    pointwise
    rw [ofBits_top]
    exact of_bool _

end Cert.Pre_finite0

namespace Cert.Pre_finite1

/-- The shape relations of the precondition's operations, for layer 1. -/
instance facts : Facts where
  slices_S2x2048_S1x2048_1_0 := by decide
  bcast_S_S1x2048 := by decide
  reducesTo_S1x2048_S_d0_1 := by decide
  h_S_ := by decide
  slices_S2x2048x4_S1x2048x4_1_0_0 := by decide
  bcast_S_S1x2048x4 := by decide
  reducesTo_S1x2048x4_S_d0_1_2 := by decide
  slices_S2x2048x32_S1x2048x32_1_0_0 := by decide
  bcast_S_S1x2048x32 := by decide
  reducesTo_S1x2048x32_S_d0_1_2 := by decide

set_option backward.isDefEq.respectTransparency false in
/-- The precondition's three parts, for layer 1. -/
theorem parts (A : FVec Ideal S16384x512 .bf16) (B : FVec Ideal S16384x1024 .bf16) (C : FVec Ideal S16384x512 .bf16) (H : FVec Ideal S16384x2048 .f32)
    (W : FVec Ideal S2x2048x2048 .f32) (N : FVec Ideal S2x2048 .f32) (G : FVec Ideal S2x2048x4 .f32) (g : FVec Ideal S2x4 .f32)
    (E : FVec Ideal S2x2048x32 .f32) (e : FVec Ideal S2x32 .f32) (h : fn (F := Ideal) A B C H W N G g E e = fun _ => 1#1) :
    (∀ k : Fin 2048, ∃ r : ℝ, N (ix2 1 k) = ((r : ℝ) : EReal)) ∧ (∀ (k : Fin 2048) (n : Fin 4), ∃ r : ℝ, G (ix3 1 k n) = ((r : ℝ) : EReal))
      ∧ (∀ (k : Fin 2048) (n : Fin 32), ∃ r : ℝ, E (ix3 1 k n) = ((r : ℝ) : EReal)) := by
  have h0 := congrFun h ix0
  obtain ⟨h1, h2⟩ := (and_one _ _).mp h0
  obtain ⟨h3, h4⟩ := (and_one _ _).mp h1
  refine ⟨fun k => ⟨_, real_of_abs _ ?_⟩, fun k n => ⟨_, real_of_abs _ ?_⟩, fun k n => ⟨_, real_of_abs _ ?_⟩⟩
  · have := all_of_reduce _ _ _ _ _ h3 (ix2 0 k)
    revert this
    pointwise
    rw [ofBits_top]
    exact of_bool _
  · have := all_of_reduce _ _ _ _ _ h4 (ix3 0 k n)
    revert this
    pointwise
    rw [ofBits_top]
    exact of_bool _
  · have := all_of_reduce _ _ _ _ _ h2 (ix3 0 k n)
    revert this
    pointwise
    rw [ofBits_top]
    exact of_bool _

end Cert.Pre_finite1

end
-- ==== Proof.lean ====
/-
  The claims of this certificate, assembled: each frame from its program's run, the named constant's statement, and the
  equality of each call's and its reference's results at exact arithmetic.
-/
module

public import proofs.«01_k».proof.Defs
public import proofs.«01_k».proof.Proof.Body
public import proofs.«01_k».proof.Proof.Bits.Body
public import proofs.«01_k».proof.Proof.KVal
public import proofs.«01_k».proof.Proof.RefEnd
public import proofs.«01_k».proof.Proof.Pre
public import proofs.«01_k».proof.Proof.In.P0
public import proofs.«01_k».proof.Proof.In.P1
public import proofs.«01_k».proof.Proof.Gen.InProj0.Frame
public import proofs.«01_k».proof.Proof.Gen.InProj1.Frame
public import proofs.«01_k».proof.Proof.Out.L0
public import proofs.«01_k».proof.Proof.Out.L1
public import proofs.«01_k».proof.Proof.Out.Pre
public import proofs.«01_k».proof.Proof.Gen.OutProj0.Frame
public import proofs.«01_k».proof.Proof.Gen.OutProj1.Frame

@[expose] public section

noncomputable section

namespace Cert.Proof

open Idealize.ShloMosaic Idealize.SL.Sem

/-- The kernel over hardware floats runs from every memory, its arguments unchanged and every counter back at zero. -/
theorem frame_Kernel : Cert.quiescent_Kernel := fun m g _ => Cert.Kernel.Hand.frame_run m g
/-- The same of the kernel at exact arithmetic. -/
theorem frame_KernelIdeal : Cert.quiescent_KernelIdeal := fun m g _ => Cert.KernelIdeal.Hand.frame_run m g
theorem frame_KernelIdeal_pre : Cert.quiescent_KernelIdeal_pre_in_range := fun m g _ => Cert.KernelIdeal.Hand.frame_run m g
/-- The same of the reference at exact arithmetic. -/
theorem frame_ReferenceIdeal : Cert.quiescent_ReferenceIdeal := fun m g _ => Cert.ReferenceIdeal.Hand.frame_run m g
theorem frame_ReferenceIdeal_pre : Cert.quiescent_ReferenceIdeal_pre_in_range := fun m g _ => Cert.ReferenceIdeal.Hand.frame_run m g
/-- The named constant is the one the kernel prints, rounded. -/
theorem preserves : Cert.preserves_Kernel_KernelIdeal := IdealRules.named_const.statement _ _ _ _ _ rfl

/-- The kernel's run at exact arithmetic: its result is the recurrence's normed and gated output. -/
theorem kernel_run (m : (ℓ : Loc Cert.KernelIdeal.nD Cert.KernelIdeal.τ Cert.KernelIdeal.sig) → Buf (Elt Ideal) ℓ) (g : Dev Cert.KernelIdeal.nD → PrngReg)
    (G : ∀ c : Dev Cert.KernelIdeal.nD, Cert.KernelIdeal.Val.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3)
        = Cert.KernelIdeal.Val.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun r h c => ⟨((h.1 c).1 6).trans (Cert.KernelIdeal.Val.final m c (G c)),
    ((h.1 c).1 3).trans (((Cert.KernelIdeal.Hand.dats m 0 c).arrAt_in 3 rfl _).trans ((Cert.KernelIdeal.Hand.A_eq m c 3).trans (Cert.KernelIdeal.Gen.V_main_arg0 m c))),
    ((h.1 c).1 4).trans (((Cert.KernelIdeal.Hand.dats m 0 c).arrAt_in 4 rfl _).trans ((Cert.KernelIdeal.Hand.A_eq m c 4).trans (Cert.KernelIdeal.Gen.V_main_arg1 m c))),
    ((h.1 c).2 Cert.KernelIdeal.main_arg2 (Pipeline.mem_restRefs_of Cert.KernelIdeal.main_arg2 (by decide) (by decide))).trans (Cert.KernelIdeal.Gen.V_main_arg2 m c)⟩) (Cert.KernelIdeal.Hand.run_main m g)

/-- At exact arithmetic the kernel and the reference end with equal results. -/
theorem algebraic : Cert.algebraic_KernelIdeal_ReferenceIdeal_pre_in_range := by
  intro m g m' g' hpre hargs
  have G : ∀ c : Dev Cert.KernelIdeal.nD, Cert.KernelIdeal.Val.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
    fun c => Cert.Pre_in_range.good _ _ _ (hpre c)
  refine ⟨_, kernel_run m g G, (θ_run _ _ _).mono (fun r h c => ⟨(h c).1.trans ?_, (h c).2⟩) (Cert.ReferenceIdeal.Hand.run m' g')⟩
  exact Cert.ReferenceIdeal.Val.refOut_eq m' c _ _ _ (hargs c).1 (hargs c).2.1 (hargs c).2.2 (G c)

/-- The in-projection of layer 0 over hardware floats runs from every memory, its arguments unchanged and every counter at zero. -/
theorem frame_InProj0 : Cert.quiescent_InProj0 := fun m g _ => Cert.InProj0.Gen.frame m g
/-- The same of it at exact arithmetic. -/
theorem frame_InProj0Ideal : Cert.quiescent_InProj0Ideal := fun m g _ => Cert.InProj0Ideal.Gen.frame m g
/-- The same of its reference at exact arithmetic. -/
theorem frame_ReferenceIn0Ideal : Cert.quiescent_ReferenceIn0Ideal := fun m g _ =>
  (θ_run _ _ _).mono (fun r h => ⟨fun c => (h c).2, sem_eq_zero_of_no_sems (by decide) r.2⟩) (Cert.ReferenceIn0Ideal.Value.run m g)

/-- At exact arithmetic the in-projection of layer 0 and its reference end with equal results. -/
theorem algebraic_InProj0 : Cert.algebraic_InProj0Ideal_ReferenceIn0Ideal := by
  intro m g m' g' _ hargs
  refine ⟨_, Cert.InProj0Ideal.Value.run_blocks m g,
    (θ_run _ _ _).mono (fun r h c => ⟨(h c).1.trans ?_, (h c).2⟩) (Cert.ReferenceIn0Ideal.Value.run m' g')⟩
  rw [(hargs c).1, (hargs c).2]
  exact (Cert.InProj0Ideal.Value.final m c).symm

/-- The in-projection of layer 1 over hardware floats runs from every memory, its arguments unchanged and every counter at zero. -/
theorem frame_InProj1 : Cert.quiescent_InProj1 := fun m g _ => Cert.InProj1.Gen.frame m g
/-- The same of it at exact arithmetic. -/
theorem frame_InProj1Ideal : Cert.quiescent_InProj1Ideal := fun m g _ => Cert.InProj1Ideal.Gen.frame m g
/-- The same of its reference at exact arithmetic. -/
theorem frame_ReferenceIn1Ideal : Cert.quiescent_ReferenceIn1Ideal := fun m g _ =>
  (θ_run _ _ _).mono (fun r h => ⟨fun c => (h c).2, sem_eq_zero_of_no_sems (by decide) r.2⟩) (Cert.ReferenceIn1Ideal.Value.run m g)

/-- At exact arithmetic the in-projection of layer 1 and its reference end with equal results. -/
theorem algebraic_InProj1 : Cert.algebraic_InProj1Ideal_ReferenceIn1Ideal := by
  intro m g m' g' _ hargs
  refine ⟨_, Cert.InProj1Ideal.Value.run_blocks m g,
    (θ_run _ _ _).mono (fun r h c => ⟨(h c).1.trans ?_, (h c).2⟩) (Cert.ReferenceIn1Ideal.Value.run m' g')⟩
  rw [(hargs c).1, (hargs c).2]
  exact (Cert.InProj1Ideal.Value.final m c).symm

/-- The out-projection of layer 0 over hardware floats runs from every memory, its arguments unchanged and every counter at zero. -/
theorem frame_OutProj0 : Cert.quiescent_OutProj0 := fun m g _ => Cert.OutProj0.Gen.frame m g
/-- The same of it at exact arithmetic. -/
theorem frame_OutProj0Ideal : Cert.quiescent_OutProj0Ideal := fun m g _ => Cert.OutProj0Ideal.Gen.frame m g
theorem frame_OutProj0Ideal_pre : Cert.quiescent_OutProj0Ideal_pre_finite0 := fun m g _ => Cert.OutProj0Ideal.Gen.frame m g
/-- The same of its reference at exact arithmetic. -/
theorem frame_ReferenceOut0Ideal : Cert.quiescent_ReferenceOut0Ideal := fun m g _ =>
  (θ_run _ _ _).mono (fun r h => ⟨fun c => (h c).2.2.2, sem_eq_zero_of_no_sems (by decide) r.2⟩) (Cert.ReferenceOut0Ideal.Value.run m g)
theorem frame_ReferenceOut0Ideal_pre : Cert.quiescent_ReferenceOut0Ideal_pre_finite0 := fun m g _ => frame_ReferenceOut0Ideal m g trivial

/-- At exact arithmetic the out-projection of layer 0 and its reference end with equal results: the residual rows, the normed rows and
    the router's logits. -/
theorem algebraic_OutProj0 : Cert.algebraic_OutProj0Ideal_ReferenceOut0Ideal_pre_finite0 := by
  intro m g m' g' hpre hargs
  refine ⟨_, _, _, Cert.OutProj0Ideal.Value.run_blocks m g,
    (θ_run _ _ _).mono (fun r h c => ⟨(h c).1.trans ?_, (h c).2.1.trans ?_, (h c).2.2.1.trans ?_, (h c).2.2.2⟩) (Cert.ReferenceOut0Ideal.Value.run m' g')⟩
  all_goals obtain ⟨e0, e1, e2, e3, e4, e5, e6, e7, e8, e9⟩ := hargs c
  · rw [e0, e1, e2, e3, e4]
    exact (Cert.OutProj0Ideal.Value.final_h m c).symm
  · rw [e0, e1, e2, e3, e4, e5]
    exact (Cert.OutProj0Ideal.Value.final_u m c).symm
  · rw [Cert.OutProj0Ideal.Value.res_eq m' c, e0, e1, e2, e3, e4, e5, e6, e7, e8, e9]
    obtain ⟨hN, hG, hE⟩ := Cert.Pre_finite0.parts _ _ _ _ _ _ _ _ _ _ (hpre c)
    exact (Cert.OutProj0Ideal.Value.final_l m c ⟨hN, hG, hE⟩).symm

/-- The out-projection of layer 1 over hardware floats runs from every memory, its arguments unchanged and every counter at zero. -/
theorem frame_OutProj1 : Cert.quiescent_OutProj1 := fun m g _ => Cert.OutProj1.Gen.frame m g
/-- The same of it at exact arithmetic. -/
theorem frame_OutProj1Ideal : Cert.quiescent_OutProj1Ideal := fun m g _ => Cert.OutProj1Ideal.Gen.frame m g
theorem frame_OutProj1Ideal_pre : Cert.quiescent_OutProj1Ideal_pre_finite1 := fun m g _ => Cert.OutProj1Ideal.Gen.frame m g
/-- The same of its reference at exact arithmetic. -/
theorem frame_ReferenceOut1Ideal : Cert.quiescent_ReferenceOut1Ideal := fun m g _ =>
  (θ_run _ _ _).mono (fun r h => ⟨fun c => (h c).2.2.2, sem_eq_zero_of_no_sems (by decide) r.2⟩) (Cert.ReferenceOut1Ideal.Value.run m g)
theorem frame_ReferenceOut1Ideal_pre : Cert.quiescent_ReferenceOut1Ideal_pre_finite1 := fun m g _ => frame_ReferenceOut1Ideal m g trivial

/-- At exact arithmetic the out-projection of layer 1 and its reference end with equal results: the residual rows, the normed rows and
    the router's logits. -/
theorem algebraic_OutProj1 : Cert.algebraic_OutProj1Ideal_ReferenceOut1Ideal_pre_finite1 := by
  intro m g m' g' hpre hargs
  refine ⟨_, _, _, Cert.OutProj1Ideal.Value.run_blocks m g,
    (θ_run _ _ _).mono (fun r h c => ⟨(h c).1.trans ?_, (h c).2.1.trans ?_, (h c).2.2.1.trans ?_, (h c).2.2.2⟩) (Cert.ReferenceOut1Ideal.Value.run m' g')⟩
  all_goals obtain ⟨e0, e1, e2, e3, e4, e5, e6, e7, e8, e9⟩ := hargs c
  · rw [e0, e1, e2, e3, e4]
    exact (Cert.OutProj1Ideal.Value.final_h m c).symm
  · rw [e0, e1, e2, e3, e4, e5]
    exact (Cert.OutProj1Ideal.Value.final_u m c).symm
  · rw [Cert.OutProj1Ideal.Value.res_eq m' c, e0, e1, e2, e3, e4, e5, e6, e7, e8, e9]
    obtain ⟨hN, hG, hE⟩ := Cert.Pre_finite1.parts _ _ _ _ _ _ _ _ _ _ (hpre c)
    exact (Cert.OutProj1Ideal.Value.final_l m c ⟨hN, hG, hE⟩).symm

theorem claim : Cert.Claim := ⟨Cert.Kernel.Gen.facts, Cert.KernelIdeal.Gen.facts, Cert.ReferenceIdeal.Gen.facts,
  Cert.InProj0.Gen.facts, Cert.InProj0Ideal.Gen.facts, Cert.ReferenceIn0Ideal.Gen.facts,
  Cert.InProj1.Gen.facts, Cert.InProj1Ideal.Gen.facts, Cert.ReferenceIn1Ideal.Gen.facts,
  Cert.OutProj0.Gen.facts, Cert.OutProj0Ideal.Gen.facts, Cert.ReferenceOut0Ideal.Gen.facts,
  Cert.OutProj1.Gen.facts, Cert.OutProj1Ideal.Gen.facts, Cert.ReferenceOut1Ideal.Gen.facts, Cert.Pre_in_range.facts, Cert.Pre_finite0.facts, Cert.Pre_finite1.facts,
  frame_Kernel, frame_KernelIdeal, frame_KernelIdeal_pre, frame_ReferenceIdeal, frame_ReferenceIdeal_pre,
  frame_InProj0, frame_InProj0Ideal, frame_ReferenceIn0Ideal, frame_InProj1, frame_InProj1Ideal, frame_ReferenceIn1Ideal,
  frame_OutProj0, frame_OutProj0Ideal, frame_OutProj0Ideal_pre, frame_ReferenceOut0Ideal, frame_ReferenceOut0Ideal_pre,
  frame_OutProj1, frame_OutProj1Ideal, frame_OutProj1Ideal_pre, frame_ReferenceOut1Ideal, frame_ReferenceOut1Ideal_pre,
  preserves, algebraic, trivial, algebraic_InProj0, trivial, algebraic_InProj1, trivial, algebraic_OutProj0, trivial, algebraic_OutProj1⟩

end Cert.Proof

end
